-- ==== Defs.lean ====
def Pre_Hgrn2 (m : (ℓ : Loc Cert.Hgrn2.nD Cert.Hgrn2.τ Cert.Hgrn2.sig) → Buf (Elt Bits) ℓ) : Prop :=
  True

def Pre_Hgrn2Ideal (m : (ℓ : Loc Cert.Hgrn2Ideal.nD Cert.Hgrn2Ideal.τ Cert.Hgrn2Ideal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_WGate (m : (ℓ : Loc Cert.WGate.nD Cert.WGate.τ Cert.WGate.sig) → Buf (Elt Bits) ℓ) : Prop :=
  True

def Pre_WGateIdeal (m : (ℓ : Loc Cert.WGateIdeal.nD Cert.WGateIdeal.τ Cert.WGateIdeal.sig) → Buf (Elt Ideal) ℓ) : Prop :=
  True

def Pre_WGateRefIdeal (m : (ℓ : Loc Cert.WGateRefIdeal.nD Cert.WGateRefIdeal.τ Cert.WGateRefIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_WPle (m : (ℓ : Loc Cert.WPle.nD Cert.WPle.τ Cert.WPle.sig) → Buf (Elt Bits) ℓ) : Prop :=
  True

def Pre_WPleIdeal (m : (ℓ : Loc Cert.WPleIdeal.nD Cert.WPleIdeal.τ Cert.WPleIdeal.sig) → Buf (Elt Ideal) ℓ) : Prop :=
  True

def Pre_WPleRefIdeal (m : (ℓ : Loc Cert.WPleRefIdeal.nD Cert.WPleRefIdeal.τ Cert.WPleRefIdeal.sig) → Buf (Elt Ideal) ℓ) : Prop :=
  True

def Pre_WProj (m : (ℓ : Loc Cert.WProj.nD Cert.WProj.τ Cert.WProj.sig) → Buf (Elt Bits) ℓ) : Prop :=
  True

def Pre_WProjIdeal (m : (ℓ : Loc Cert.WProjIdeal.nD Cert.WProjIdeal.τ Cert.WProjIdeal.sig) → Buf (Elt Ideal) ℓ) : Prop :=
  True

def Pre_WProjRefIdeal (m : (ℓ : Loc Cert.WProjRefIdeal.nD Cert.WProjRefIdeal.τ Cert.WProjRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_WIn0 (m : (ℓ : Loc Cert.WIn0.nD Cert.WIn0.τ Cert.WIn0.sig) → Buf (Elt Bits) ℓ) : Prop :=
  True

def Pre_WIn0Ideal (m : (ℓ : Loc Cert.WIn0Ideal.nD Cert.WIn0Ideal.τ Cert.WIn0Ideal.sig) → Buf (Elt Ideal) ℓ) : Prop :=
  True

def Pre_WIn0RefIdeal (m : (ℓ : Loc Cert.WIn0RefIdeal.nD Cert.WIn0RefIdeal.τ Cert.WIn0RefIdeal.sig) → Buf (Elt Ideal) ℓ) : Prop :=
  True

def Pre_WIn1 (m : (ℓ : Loc Cert.WIn1.nD Cert.WIn1.τ Cert.WIn1.sig) → Buf (Elt Bits) ℓ) : Prop :=
  True

def Pre_WIn1Ideal (m : (ℓ : Loc Cert.WIn1Ideal.nD Cert.WIn1Ideal.τ Cert.WIn1Ideal.sig) → Buf (Elt Ideal) ℓ) : Prop :=
  True

def Pre_WIn1RefIdeal (m : (ℓ : Loc Cert.WIn1RefIdeal.nD Cert.WIn1RefIdeal.τ Cert.WIn1RefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_HgFwd (m : (ℓ : Loc Cert.HgFwd.nD Cert.HgFwd.τ Cert.HgFwd.sig) → Buf (Elt Bits) ℓ) : Prop :=
  True

def Pre_HgFwdIdeal (m : (ℓ : Loc Cert.HgFwdIdeal.nD Cert.HgFwdIdeal.τ Cert.HgFwdIdeal.sig) → Buf (Elt Ideal) ℓ) : Prop :=
  True

def Pre_MlFwd (m : (ℓ : Loc Cert.MlFwd.nD Cert.MlFwd.τ Cert.MlFwd.sig) → Buf (Elt Bits) ℓ) : Prop :=
  True

def Pre_MlFwdIdeal (m : (ℓ : Loc Cert.MlFwdIdeal.nD Cert.MlFwdIdeal.τ Cert.MlFwdIdeal.sig) → Buf (Elt Ideal) ℓ) : Prop :=
  True

def quiescent_Hgrn2 [hHgrn2 : Cert.Hgrn2.Facts] : Prop :=
  ∀ (m : (ℓ : Loc Cert.Hgrn2.nD Cert.Hgrn2.τ Cert.Hgrn2.sig) → Buf (Elt Bits) ℓ) (g : Dev Cert.Hgrn2.nD → PrngReg), Pre_Hgrn2 m →
    θ_run (Cert.Hgrn2.defs (F := Bits)) (onTc (τ := Cert.Hgrn2.τ) (Cert.Hgrn2.main (F := Bits))) ⟨m, fun _ => 0, g⟩ (fun r => (∀ c : Dev Cert.Hgrn2.nD,
      r.2.mem ((c.tc : Thread Cert.Hgrn2.nD Cert.Hgrn2.τ).loc Cert.Hgrn2.main_arg0) = m ((c.tc : Thread Cert.Hgrn2.nD Cert.Hgrn2.τ).loc Cert.Hgrn2.main_arg0)
      ∧ r.2.mem ((c.tc : Thread Cert.Hgrn2.nD Cert.Hgrn2.τ).loc Cert.Hgrn2.main_arg1) = m ((c.tc : Thread Cert.Hgrn2.nD Cert.Hgrn2.τ).loc Cert.Hgrn2.main_arg1)
      ∧ r.2.mem ((c.tc : Thread Cert.Hgrn2.nD Cert.Hgrn2.τ).loc Cert.Hgrn2.main_arg2) = m ((c.tc : Thread Cert.Hgrn2.nD Cert.Hgrn2.τ).loc Cert.Hgrn2.main_arg2)
      ∧ r.2.mem ((c.tc : Thread Cert.Hgrn2.nD Cert.Hgrn2.τ).loc Cert.Hgrn2.main_arg3) = m ((c.tc : Thread Cert.Hgrn2.nD Cert.Hgrn2.τ).loc Cert.Hgrn2.main_arg3))
      ∧ r.2.sem = fun _ => 0)

def quiescent_Hgrn2Ideal [hHgrn2Ideal : Cert.Hgrn2Ideal.Facts] : Prop :=
  ∀ (m : (ℓ : Loc Cert.Hgrn2Ideal.nD Cert.Hgrn2Ideal.τ Cert.Hgrn2Ideal.sig) → Buf (Elt Ideal) ℓ) (g : Dev Cert.Hgrn2Ideal.nD → PrngReg), Pre_Hgrn2Ideal m →
    θ_run (Cert.Hgrn2Ideal.defs (F := Ideal)) (onTc (τ := Cert.Hgrn2Ideal.τ) (Cert.Hgrn2Ideal.main (F := Ideal))) ⟨m, fun _ => 0, g⟩ (fun r => (∀ c : Dev Cert.Hgrn2Ideal.nD,
      r.2.mem ((c.tc : Thread Cert.Hgrn2Ideal.nD Cert.Hgrn2Ideal.τ).loc Cert.Hgrn2Ideal.main_arg0) = m ((c.tc : Thread Cert.Hgrn2Ideal.nD Cert.Hgrn2Ideal.τ).loc Cert.Hgrn2Ideal.main_arg0)
      ∧ r.2.mem ((c.tc : Thread Cert.Hgrn2Ideal.nD Cert.Hgrn2Ideal.τ).loc Cert.Hgrn2Ideal.main_arg1) = m ((c.tc : Thread Cert.Hgrn2Ideal.nD Cert.Hgrn2Ideal.τ).loc Cert.Hgrn2Ideal.main_arg1)
      ∧ r.2.mem ((c.tc : Thread Cert.Hgrn2Ideal.nD Cert.Hgrn2Ideal.τ).loc Cert.Hgrn2Ideal.main_arg2) = m ((c.tc : Thread Cert.Hgrn2Ideal.nD Cert.Hgrn2Ideal.τ).loc Cert.Hgrn2Ideal.main_arg2)
      ∧ r.2.mem ((c.tc : Thread Cert.Hgrn2Ideal.nD Cert.Hgrn2Ideal.τ).loc Cert.Hgrn2Ideal.main_arg3) = m ((c.tc : Thread Cert.Hgrn2Ideal.nD Cert.Hgrn2Ideal.τ).loc Cert.Hgrn2Ideal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6)
      ∧ r.2.mem ((c.tc : Thread Cert.FfnFwd.nD Cert.FfnFwd.τ).loc Cert.FfnFwd.main_arg7) = m ((c.tc : Thread Cert.FfnFwd.nD Cert.FfnFwd.τ).loc Cert.FfnFwd.main_arg7))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7))
      ∧ r.2.sem = fun _ => 0)

def quiescent_WGate [hWGate : Cert.WGate.Facts] : Prop :=
  ∀ (m : (ℓ : Loc Cert.WGate.nD Cert.WGate.τ Cert.WGate.sig) → Buf (Elt Bits) ℓ) (g : Dev Cert.WGate.nD → PrngReg), Pre_WGate m →
    θ_run (Cert.WGate.defs (F := Bits)) (onTc (τ := Cert.WGate.τ) (Cert.WGate.main (F := Bits))) ⟨m, fun _ => 0, g⟩ (fun r => (∀ c : Dev Cert.WGate.nD,
      r.2.mem ((c.tc : Thread Cert.WGate.nD Cert.WGate.τ).loc Cert.WGate.main_arg0) = m ((c.tc : Thread Cert.WGate.nD Cert.WGate.τ).loc Cert.WGate.main_arg0)
      ∧ r.2.mem ((c.tc : Thread Cert.WGate.nD Cert.WGate.τ).loc Cert.WGate.main_arg1) = m ((c.tc : Thread Cert.WGate.nD Cert.WGate.τ).loc Cert.WGate.main_arg1))
      ∧ r.2.sem = fun _ => 0)

def quiescent_WGateIdeal [hWGateIdeal : Cert.WGateIdeal.Facts] : Prop :=
  ∀ (m : (ℓ : Loc Cert.WGateIdeal.nD Cert.WGateIdeal.τ Cert.WGateIdeal.sig) → Buf (Elt Ideal) ℓ) (g : Dev Cert.WGateIdeal.nD → PrngReg), Pre_WGateIdeal m →
    θ_run (Cert.WGateIdeal.defs (F := Ideal)) (onTc (τ := Cert.WGateIdeal.τ) (Cert.WGateIdeal.main (F := Ideal))) ⟨m, fun _ => 0, g⟩ (fun r => (∀ c : Dev Cert.WGateIdeal.nD,
      r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
      ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ r.2.sem = fun _ => 0)

def quiescent_WGateRefIdeal [hWGateRefIdeal : Cert.WGateRefIdeal.Facts] : Prop :=
  ∀ (m : (ℓ : Loc Cert.WGateRefIdeal.nD Cert.WGateRefIdeal.τ Cert.WGateRefIdeal.sig) → Buf (Elt Ideal) ℓ) (g : Dev Cert.WGateRefIdeal.nD → PrngReg), Pre_WGateRefIdeal m →
    θ_run (Cert.WGateRefIdeal.defs (F := Ideal)) (onTc (τ := Cert.WGateRefIdeal.τ) (Cert.WGateRefIdeal.main (F := Ideal))) ⟨m, fun _ => 0, g⟩ (fun r => (∀ c : Dev Cert.WGateRefIdeal.nD,
      r.2.mem ((c.tc : Thread Cert.WGateRefIdeal.nD Cert.WGateRefIdeal.τ).loc Cert.WGateRefIdeal.main_arg0) = m ((c.tc : Thread Cert.WGateRefIdeal.nD Cert.WGateRefIdeal.τ).loc Cert.WGateRefIdeal.main_arg0)
      ∧ r.2.mem ((c.tc : Thread Cert.WGateRefIdeal.nD Cert.WGateRefIdeal.τ).loc Cert.WGateRefIdeal.main_arg1) = m ((c.tc : Thread Cert.WGateRefIdeal.nD Cert.WGateRefIdeal.τ).loc Cert.WGateRefIdeal.main_arg1))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_WPle [hWPle : Cert.WPle.Facts] : Prop :=
  ∀ (m : (ℓ : Loc Cert.WPle.nD Cert.WPle.τ Cert.WPle.sig) → Buf (Elt Bits) ℓ) (g : Dev Cert.WPle.nD → PrngReg), Pre_WPle m →
    θ_run (Cert.WPle.defs (F := Bits)) (onTc (τ := Cert.WPle.τ) (Cert.WPle.main (F := Bits))) ⟨m, fun _ => 0, g⟩ (fun r => (∀ c : Dev Cert.WPle.nD,
      r.2.mem ((c.tc : Thread Cert.WPle.nD Cert.WPle.τ).loc Cert.WPle.main_arg0) = m ((c.tc : Thread Cert.WPle.nD Cert.WPle.τ).loc Cert.WPle.main_arg0)
      ∧ r.2.mem ((c.tc : Thread Cert.WPle.nD Cert.WPle.τ).loc Cert.WPle.main_arg1) = m ((c.tc : Thread Cert.WPle.nD Cert.WPle.τ).loc Cert.WPle.main_arg1))
      ∧ r.2.sem = fun _ => 0)

def quiescent_WPleIdeal [hWPleIdeal : Cert.WPleIdeal.Facts] : Prop :=
  ∀ (m : (ℓ : Loc Cert.WPleIdeal.nD Cert.WPleIdeal.τ Cert.WPleIdeal.sig) → Buf (Elt Ideal) ℓ) (g : Dev Cert.WPleIdeal.nD → PrngReg), Pre_WPleIdeal m →
    θ_run (Cert.WPleIdeal.defs (F := Ideal)) (onTc (τ := Cert.WPleIdeal.τ) (Cert.WPleIdeal.main (F := Ideal))) ⟨m, fun _ => 0, g⟩ (fun r => (∀ c : Dev Cert.WPleIdeal.nD,
      r.2.mem ((c.tc : Thread Cert.WPleIdeal.nD Cert.WPleIdeal.τ).loc Cert.WPleIdeal.main_arg0) = m ((c.tc : Thread Cert.WPleIdeal.nD Cert.WPleIdeal.τ).loc Cert.WPleIdeal.main_arg0)
      ∧ r.2.mem ((c.tc : Thread Cert.WPleIdeal.nD Cert.WPleIdeal.τ).loc Cert.WPleIdeal.main_arg1) = m ((c.tc : Thread Cert.WPleIdeal.nD Cert.WPleIdeal.τ).loc Cert.WPleIdeal.main_arg1))
      ∧ r.2.sem = fun _ => 0)

def quiescent_WPleRefIdeal [hWPleRefIdeal : Cert.WPleRefIdeal.Facts] : Prop :=
  ∀ (m : (ℓ : Loc Cert.WPleRefIdeal.nD Cert.WPleRefIdeal.τ Cert.WPleRefIdeal.sig) → Buf (Elt Ideal) ℓ) (g : Dev Cert.WPleRefIdeal.nD → PrngReg), Pre_WPleRefIdeal m →
    θ_run (Cert.WPleRefIdeal.defs (F := Ideal)) (onTc (τ := Cert.WPleRefIdeal.τ) (Cert.WPleRefIdeal.main (F := Ideal))) ⟨m, fun _ => 0, g⟩ (fun r => (∀ c : Dev Cert.WPleRefIdeal.nD,
      r.2.mem ((c.tc : Thread Cert.WPleRefIdeal.nD Cert.WPleRefIdeal.τ).loc Cert.WPleRefIdeal.main_arg0) = m ((c.tc : Thread Cert.WPleRefIdeal.nD Cert.WPleRefIdeal.τ).loc Cert.WPleRefIdeal.main_arg0)
      ∧ r.2.mem ((c.tc : Thread Cert.WPleRefIdeal.nD Cert.WPleRefIdeal.τ).loc Cert.WPleRefIdeal.main_arg1) = m ((c.tc : Thread Cert.WPleRefIdeal.nD Cert.WPleRefIdeal.τ).loc Cert.WPleRefIdeal.main_arg1))
      ∧ r.2.sem = fun _ => 0)

def quiescent_WProj [hWProj : Cert.WProj.Facts] : Prop :=
  ∀ (m : (ℓ : Loc Cert.WProj.nD Cert.WProj.τ Cert.WProj.sig) → Buf (Elt Bits) ℓ) (g : Dev Cert.WProj.nD → PrngReg), Pre_WProj m →
    θ_run (Cert.WProj.defs (F := Bits)) (onTc (τ := Cert.WProj.τ) (Cert.WProj.main (F := Bits))) ⟨m, fun _ => 0, g⟩ (fun r => (∀ c : Dev Cert.WProj.nD,
      r.2.mem ((c.tc : Thread Cert.WProj.nD Cert.WProj.τ).loc Cert.WProj.main_arg0) = m ((c.tc : Thread Cert.WProj.nD Cert.WProj.τ).loc Cert.WProj.main_arg0)
      ∧ r.2.mem ((c.tc : Thread Cert.WProj.nD Cert.WProj.τ).loc Cert.WProj.main_arg1) = m ((c.tc : Thread Cert.WProj.nD Cert.WProj.τ).loc Cert.WProj.main_arg1))
      ∧ r.2.sem = fun _ => 0)

def quiescent_WProjIdeal [hWProjIdeal : Cert.WProjIdeal.Facts] : Prop :=
  ∀ (m : (ℓ : Loc Cert.WProjIdeal.nD Cert.WProjIdeal.τ Cert.WProjIdeal.sig) → Buf (Elt Ideal) ℓ) (g : Dev Cert.WProjIdeal.nD → PrngReg), Pre_WProjIdeal m →
    θ_run (Cert.WProjIdeal.defs (F := Ideal)) (onTc (τ := Cert.WProjIdeal.τ) (Cert.WProjIdeal.main (F := Ideal))) ⟨m, fun _ => 0, g⟩ (fun r => (∀ c : Dev Cert.WProjIdeal.nD,
      r.2.mem ((c.tc : Thread Cert.WProjIdeal.nD Cert.WProjIdeal.τ).loc Cert.WProjIdeal.main_arg0) = m ((c.tc : Thread Cert.WProjIdeal.nD Cert.WProjIdeal.τ).loc Cert.WProjIdeal.main_arg0)
      ∧ r.2.mem ((c.tc : Thread Cert.WProjIdeal.nD Cert.WProjIdeal.τ).loc Cert.WProjIdeal.main_arg1) = m ((c.tc : Thread Cert.WProjIdeal.nD Cert.WProjIdeal.τ).loc Cert.WProjIdeal.main_arg1))
      ∧ r.2.sem = fun _ => 0)

def quiescent_WProjRefIdeal [hWProjRefIdeal : Cert.WProjRefIdeal.Facts] : Prop :=
  ∀ (m : (ℓ : Loc Cert.WProjRefIdeal.nD Cert.WProjRefIdeal.τ Cert.WProjRefIdeal.sig) → Buf (Elt Ideal) ℓ) (g : Dev Cert.WProjRefIdeal.nD → PrngReg), Pre_WProjRefIdeal m →
    θ_run (Cert.WProjRefIdeal.defs (F := Ideal)) (onTc (τ := Cert.WProjRefIdeal.τ) (Cert.WProjRefIdeal.main (F := Ideal))) ⟨m, fun _ => 0, g⟩ (fun r => (∀ c : Dev Cert.WProjRefIdeal.nD,
      r.2.mem ((c.tc : Thread Cert.WProjRefIdeal.nD Cert.WProjRefIdeal.τ).loc Cert.WProjRefIdeal.main_arg0) = m ((c.tc : Thread Cert.WProjRefIdeal.nD Cert.WProjRefIdeal.τ).loc Cert.WProjRefIdeal.main_arg0)
      ∧ r.2.mem ((c.tc : Thread Cert.WProjRefIdeal.nD Cert.WProjRefIdeal.τ).loc Cert.WProjRefIdeal.main_arg1) = m ((c.tc : Thread Cert.WProjRefIdeal.nD Cert.WProjRefIdeal.τ).loc Cert.WProjRefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9))
      ∧ r.2.sem = fun _ => 0)

def quiescent_WIn0 [hWIn0 : Cert.WIn0.Facts] : Prop :=
  ∀ (m : (ℓ : Loc Cert.WIn0.nD Cert.WIn0.τ Cert.WIn0.sig) → Buf (Elt Bits) ℓ) (g : Dev Cert.WIn0.nD → PrngReg), Pre_WIn0 m →
    θ_run (Cert.WIn0.defs (F := Bits)) (onTc (τ := Cert.WIn0.τ) (Cert.WIn0.main (F := Bits))) ⟨m, fun _ => 0, g⟩ (fun r => (∀ c : Dev Cert.WIn0.nD,
      r.2.mem ((c.tc : Thread Cert.WIn0.nD Cert.WIn0.τ).loc Cert.WIn0.main_arg0) = m ((c.tc : Thread Cert.WIn0.nD Cert.WIn0.τ).loc Cert.WIn0.main_arg0)
      ∧ r.2.mem ((c.tc : Thread Cert.WIn0.nD Cert.WIn0.τ).loc Cert.WIn0.main_arg1) = m ((c.tc : Thread Cert.WIn0.nD Cert.WIn0.τ).loc Cert.WIn0.main_arg1)
      ∧ r.2.mem ((c.tc : Thread Cert.WIn0.nD Cert.WIn0.τ).loc Cert.WIn0.main_arg2) = m ((c.tc : Thread Cert.WIn0.nD Cert.WIn0.τ).loc Cert.WIn0.main_arg2)
      ∧ r.2.mem ((c.tc : Thread Cert.WIn0.nD Cert.WIn0.τ).loc Cert.WIn0.main_arg3) = m ((c.tc : Thread Cert.WIn0.nD Cert.WIn0.τ).loc Cert.WIn0.main_arg3)
      ∧ r.2.mem ((c.tc : Thread Cert.WIn0.nD Cert.WIn0.τ).loc Cert.WIn0.main_arg4) = m ((c.tc : Thread Cert.WIn0.nD Cert.WIn0.τ).loc Cert.WIn0.main_arg4)
      ∧ r.2.mem ((c.tc : Thread Cert.WIn0.nD Cert.WIn0.τ).loc Cert.WIn0.main_arg5) = m ((c.tc : Thread Cert.WIn0.nD Cert.WIn0.τ).loc Cert.WIn0.main_arg5)
      ∧ r.2.mem ((c.tc : Thread Cert.WIn0.nD Cert.WIn0.τ).loc Cert.WIn0.main_arg6) = m ((c.tc : Thread Cert.WIn0.nD Cert.WIn0.τ).loc Cert.WIn0.main_arg6)
      ∧ r.2.mem ((c.tc : Thread Cert.WIn0.nD Cert.WIn0.τ).loc Cert.WIn0.main_arg7) = m ((c.tc : Thread Cert.WIn0.nD Cert.WIn0.τ).loc Cert.WIn0.main_arg7)
      ∧ r.2.mem ((c.tc : Thread Cert.WIn0.nD Cert.WIn0.τ).loc Cert.WIn0.main_arg8) = m ((c.tc : Thread Cert.WIn0.nD Cert.WIn0.τ).loc Cert.WIn0.main_arg8))
      ∧ r.2.sem = fun _ => 0)

def quiescent_WIn0Ideal [hWIn0Ideal : Cert.WIn0Ideal.Facts] : Prop :=
  ∀ (m : (ℓ : Loc Cert.WIn0Ideal.nD Cert.WIn0Ideal.τ Cert.WIn0Ideal.sig) → Buf (Elt Ideal) ℓ) (g : Dev Cert.WIn0Ideal.nD → PrngReg), Pre_WIn0Ideal m →
    θ_run (Cert.WIn0Ideal.defs (F := Ideal)) (onTc (τ := Cert.WIn0Ideal.τ) (Cert.WIn0Ideal.main (F := Ideal))) ⟨m, fun _ => 0, g⟩ (fun r => (∀ c : Dev Cert.WIn0Ideal.nD,
      r.2.mem ((c.tc : Thread Cert.WIn0Ideal.nD Cert.WIn0Ideal.τ).loc Cert.WIn0Ideal.main_arg0) = m ((c.tc : Thread Cert.WIn0Ideal.nD Cert.WIn0Ideal.τ).loc Cert.WIn0Ideal.main_arg0)
      ∧ r.2.mem ((c.tc : Thread Cert.WIn0Ideal.nD Cert.WIn0Ideal.τ).loc Cert.WIn0Ideal.main_arg1) = m ((c.tc : Thread Cert.WIn0Ideal.nD Cert.WIn0Ideal.τ).loc Cert.WIn0Ideal.main_arg1)
      ∧ r.2.mem ((c.tc : Thread Cert.WIn0Ideal.nD Cert.WIn0Ideal.τ).loc Cert.WIn0Ideal.main_arg2) = m ((c.tc : Thread Cert.WIn0Ideal.nD Cert.WIn0Ideal.τ).loc Cert.WIn0Ideal.main_arg2)
      ∧ r.2.mem ((c.tc : Thread Cert.WIn0Ideal.nD Cert.WIn0Ideal.τ).loc Cert.WIn0Ideal.main_arg3) = m ((c.tc : Thread Cert.WIn0Ideal.nD Cert.WIn0Ideal.τ).loc Cert.WIn0Ideal.main_arg3)
      ∧ r.2.mem ((c.tc : Thread Cert.WIn0Ideal.nD Cert.WIn0Ideal.τ).loc Cert.WIn0Ideal.main_arg4) = m ((c.tc : Thread Cert.WIn0Ideal.nD Cert.WIn0Ideal.τ).loc Cert.WIn0Ideal.main_arg4)
      ∧ r.2.mem ((c.tc : Thread Cert.WIn0Ideal.nD Cert.WIn0Ideal.τ).loc Cert.WIn0Ideal.main_arg5) = m ((c.tc : Thread Cert.WIn0Ideal.nD Cert.WIn0Ideal.τ).loc Cert.WIn0Ideal.main_arg5)
      ∧ r.2.mem ((c.tc : Thread Cert.WIn0Ideal.nD Cert.WIn0Ideal.τ).loc Cert.WIn0Ideal.main_arg6) = m ((c.tc : Thread Cert.WIn0Ideal.nD Cert.WIn0Ideal.τ).loc Cert.WIn0Ideal.main_arg6)
      ∧ r.2.mem ((c.tc : Thread Cert.WIn0Ideal.nD Cert.WIn0Ideal.τ).loc Cert.WIn0Ideal.main_arg7) = m ((c.tc : Thread Cert.WIn0Ideal.nD Cert.WIn0Ideal.τ).loc Cert.WIn0Ideal.main_arg7)
      ∧ r.2.mem ((c.tc : Thread Cert.WIn0Ideal.nD Cert.WIn0Ideal.τ).loc Cert.WIn0Ideal.main_arg8) = m ((c.tc : Thread Cert.WIn0Ideal.nD Cert.WIn0Ideal.τ).loc Cert.WIn0Ideal.main_arg8))
      ∧ r.2.sem = fun _ => 0)

def quiescent_WIn0RefIdeal [hWIn0RefIdeal : Cert.WIn0RefIdeal.Facts] : Prop :=
  ∀ (m : (ℓ : Loc Cert.WIn0RefIdeal.nD Cert.WIn0RefIdeal.τ Cert.WIn0RefIdeal.sig) → Buf (Elt Ideal) ℓ) (g : Dev Cert.WIn0RefIdeal.nD → PrngReg), Pre_WIn0RefIdeal m →
    θ_run (Cert.WIn0RefIdeal.defs (F := Ideal)) (onTc (τ := Cert.WIn0RefIdeal.τ) (Cert.WIn0RefIdeal.main (F := Ideal))) ⟨m, fun _ => 0, g⟩ (fun r => (∀ c : Dev Cert.WIn0RefIdeal.nD,
      r.2.mem ((c.tc : Thread Cert.WIn0RefIdeal.nD Cert.WIn0RefIdeal.τ).loc Cert.WIn0RefIdeal.main_arg0) = m ((c.tc : Thread Cert.WIn0RefIdeal.nD Cert.WIn0RefIdeal.τ).loc Cert.WIn0RefIdeal.main_arg0)
      ∧ r.2.mem ((c.tc : Thread Cert.WIn0RefIdeal.nD Cert.WIn0RefIdeal.τ).loc Cert.WIn0RefIdeal.main_arg1) = m ((c.tc : Thread Cert.WIn0RefIdeal.nD Cert.WIn0RefIdeal.τ).loc Cert.WIn0RefIdeal.main_arg1)
      ∧ r.2.mem ((c.tc : Thread Cert.WIn0RefIdeal.nD Cert.WIn0RefIdeal.τ).loc Cert.WIn0RefIdeal.main_arg2) = m ((c.tc : Thread Cert.WIn0RefIdeal.nD Cert.WIn0RefIdeal.τ).loc Cert.WIn0RefIdeal.main_arg2)
      ∧ r.2.mem ((c.tc : Thread Cert.WIn0RefIdeal.nD Cert.WIn0RefIdeal.τ).loc Cert.WIn0RefIdeal.main_arg3) = m ((c.tc : Thread Cert.WIn0RefIdeal.nD Cert.WIn0RefIdeal.τ).loc Cert.WIn0RefIdeal.main_arg3)
      ∧ r.2.mem ((c.tc : Thread Cert.WIn0RefIdeal.nD Cert.WIn0RefIdeal.τ).loc Cert.WIn0RefIdeal.main_arg4) = m ((c.tc : Thread Cert.WIn0RefIdeal.nD Cert.WIn0RefIdeal.τ).loc Cert.WIn0RefIdeal.main_arg4)
      ∧ r.2.mem ((c.tc : Thread Cert.WIn0RefIdeal.nD Cert.WIn0RefIdeal.τ).loc Cert.WIn0RefIdeal.main_arg5) = m ((c.tc : Thread Cert.WIn0RefIdeal.nD Cert.WIn0RefIdeal.τ).loc Cert.WIn0RefIdeal.main_arg5)
      ∧ r.2.mem ((c.tc : Thread Cert.WIn0RefIdeal.nD Cert.WIn0RefIdeal.τ).loc Cert.WIn0RefIdeal.main_arg6) = m ((c.tc : Thread Cert.WIn0RefIdeal.nD Cert.WIn0RefIdeal.τ).loc Cert.WIn0RefIdeal.main_arg6)
      ∧ r.2.mem ((c.tc : Thread Cert.WIn0RefIdeal.nD Cert.WIn0RefIdeal.τ).loc Cert.WIn0RefIdeal.main_arg7) = m ((c.tc : Thread Cert.WIn0RefIdeal.nD Cert.WIn0RefIdeal.τ).loc Cert.WIn0RefIdeal.main_arg7)
      ∧ r.2.mem ((c.tc : Thread Cert.WIn0RefIdeal.nD Cert.WIn0RefIdeal.τ).loc Cert.WIn0RefIdeal.main_arg8) = m ((c.tc : Thread Cert.WIn0RefIdeal.nD Cert.WIn0RefIdeal.τ).loc Cert.WIn0RefIdeal.main_arg8))
      ∧ r.2.sem = fun _ => 0)

def quiescent_WIn1 [hWIn1 : Cert.WIn1.Facts] : Prop :=
  ∀ (m : (ℓ : Loc Cert.WIn1.nD Cert.WIn1.τ Cert.WIn1.sig) → Buf (Elt Bits) ℓ) (g : Dev Cert.WIn1.nD → PrngReg), Pre_WIn1 m →
    θ_run (Cert.WIn1.defs (F := Bits)) (onTc (τ := Cert.WIn1.τ) (Cert.WIn1.main (F := Bits))) ⟨m, fun _ => 0, g⟩ (fun r => (∀ c : Dev Cert.WIn1.nD,
      r.2.mem ((c.tc : Thread Cert.WIn1.nD Cert.WIn1.τ).loc Cert.WIn1.main_arg0) = m ((c.tc : Thread Cert.WIn1.nD Cert.WIn1.τ).loc Cert.WIn1.main_arg0)
      ∧ r.2.mem ((c.tc : Thread Cert.WIn1.nD Cert.WIn1.τ).loc Cert.WIn1.main_arg1) = m ((c.tc : Thread Cert.WIn1.nD Cert.WIn1.τ).loc Cert.WIn1.main_arg1)
      ∧ r.2.mem ((c.tc : Thread Cert.WIn1.nD Cert.WIn1.τ).loc Cert.WIn1.main_arg2) = m ((c.tc : Thread Cert.WIn1.nD Cert.WIn1.τ).loc Cert.WIn1.main_arg2)
      ∧ r.2.mem ((c.tc : Thread Cert.WIn1.nD Cert.WIn1.τ).loc Cert.WIn1.main_arg3) = m ((c.tc : Thread Cert.WIn1.nD Cert.WIn1.τ).loc Cert.WIn1.main_arg3)
      ∧ r.2.mem ((c.tc : Thread Cert.WIn1.nD Cert.WIn1.τ).loc Cert.WIn1.main_arg4) = m ((c.tc : Thread Cert.WIn1.nD Cert.WIn1.τ).loc Cert.WIn1.main_arg4)
      ∧ r.2.mem ((c.tc : Thread Cert.WIn1.nD Cert.WIn1.τ).loc Cert.WIn1.main_arg5) = m ((c.tc : Thread Cert.WIn1.nD Cert.WIn1.τ).loc Cert.WIn1.main_arg5)
      ∧ r.2.mem ((c.tc : Thread Cert.WIn1.nD Cert.WIn1.τ).loc Cert.WIn1.main_arg6) = m ((c.tc : Thread Cert.WIn1.nD Cert.WIn1.τ).loc Cert.WIn1.main_arg6)
      ∧ r.2.mem ((c.tc : Thread Cert.WIn1.nD Cert.WIn1.τ).loc Cert.WIn1.main_arg7) = m ((c.tc : Thread Cert.WIn1.nD Cert.WIn1.τ).loc Cert.WIn1.main_arg7)
      ∧ r.2.mem ((c.tc : Thread Cert.WIn1.nD Cert.WIn1.τ).loc Cert.WIn1.main_arg8) = m ((c.tc : Thread Cert.WIn1.nD Cert.WIn1.τ).loc Cert.WIn1.main_arg8))
      ∧ r.2.sem = fun _ => 0)

def quiescent_WIn1Ideal [hWIn1Ideal : Cert.WIn1Ideal.Facts] : Prop :=
  ∀ (m : (ℓ : Loc Cert.WIn1Ideal.nD Cert.WIn1Ideal.τ Cert.WIn1Ideal.sig) → Buf (Elt Ideal) ℓ) (g : Dev Cert.WIn1Ideal.nD → PrngReg), Pre_WIn1Ideal m →
    θ_run (Cert.WIn1Ideal.defs (F := Ideal)) (onTc (τ := Cert.WIn1Ideal.τ) (Cert.WIn1Ideal.main (F := Ideal))) ⟨m, fun _ => 0, g⟩ (fun r => (∀ c : Dev Cert.WIn1Ideal.nD,
      r.2.mem ((c.tc : Thread Cert.WIn1Ideal.nD Cert.WIn1Ideal.τ).loc Cert.WIn1Ideal.main_arg0) = m ((c.tc : Thread Cert.WIn1Ideal.nD Cert.WIn1Ideal.τ).loc Cert.WIn1Ideal.main_arg0)
      ∧ r.2.mem ((c.tc : Thread Cert.WIn1Ideal.nD Cert.WIn1Ideal.τ).loc Cert.WIn1Ideal.main_arg1) = m ((c.tc : Thread Cert.WIn1Ideal.nD Cert.WIn1Ideal.τ).loc Cert.WIn1Ideal.main_arg1)
      ∧ r.2.mem ((c.tc : Thread Cert.WIn1Ideal.nD Cert.WIn1Ideal.τ).loc Cert.WIn1Ideal.main_arg2) = m ((c.tc : Thread Cert.WIn1Ideal.nD Cert.WIn1Ideal.τ).loc Cert.WIn1Ideal.main_arg2)
      ∧ r.2.mem ((c.tc : Thread Cert.WIn1Ideal.nD Cert.WIn1Ideal.τ).loc Cert.WIn1Ideal.main_arg3) = m ((c.tc : Thread Cert.WIn1Ideal.nD Cert.WIn1Ideal.τ).loc Cert.WIn1Ideal.main_arg3)
      ∧ r.2.mem ((c.tc : Thread Cert.WIn1Ideal.nD Cert.WIn1Ideal.τ).loc Cert.WIn1Ideal.main_arg4) = m ((c.tc : Thread Cert.WIn1Ideal.nD Cert.WIn1Ideal.τ).loc Cert.WIn1Ideal.main_arg4)
      ∧ r.2.mem ((c.tc : Thread Cert.WIn1Ideal.nD Cert.WIn1Ideal.τ).loc Cert.WIn1Ideal.main_arg5) = m ((c.tc : Thread Cert.WIn1Ideal.nD Cert.WIn1Ideal.τ).loc Cert.WIn1Ideal.main_arg5)
      ∧ r.2.mem ((c.tc : Thread Cert.WIn1Ideal.nD Cert.WIn1Ideal.τ).loc Cert.WIn1Ideal.main_arg6) = m ((c.tc : Thread Cert.WIn1Ideal.nD Cert.WIn1Ideal.τ).loc Cert.WIn1Ideal.main_arg6)
      ∧ r.2.mem ((c.tc : Thread Cert.WIn1Ideal.nD Cert.WIn1Ideal.τ).loc Cert.WIn1Ideal.main_arg7) = m ((c.tc : Thread Cert.WIn1Ideal.nD Cert.WIn1Ideal.τ).loc Cert.WIn1Ideal.main_arg7)
      ∧ r.2.mem ((c.tc : Thread Cert.WIn1Ideal.nD Cert.WIn1Ideal.τ).loc Cert.WIn1Ideal.main_arg8) = m ((c.tc : Thread Cert.WIn1Ideal.nD Cert.WIn1Ideal.τ).loc Cert.WIn1Ideal.main_arg8))
      ∧ r.2.sem = fun _ => 0)

def quiescent_WIn1RefIdeal [hWIn1RefIdeal : Cert.WIn1RefIdeal.Facts] : Prop :=
  ∀ (m : (ℓ : Loc Cert.WIn1RefIdeal.nD Cert.WIn1RefIdeal.τ Cert.WIn1RefIdeal.sig) → Buf (Elt Ideal) ℓ) (g : Dev Cert.WIn1RefIdeal.nD → PrngReg), Pre_WIn1RefIdeal m →
    θ_run (Cert.WIn1RefIdeal.defs (F := Ideal)) (onTc (τ := Cert.WIn1RefIdeal.τ) (Cert.WIn1RefIdeal.main (F := Ideal))) ⟨m, fun _ => 0, g⟩ (fun r => (∀ c : Dev Cert.WIn1RefIdeal.nD,
      r.2.mem ((c.tc : Thread Cert.WIn1RefIdeal.nD Cert.WIn1RefIdeal.τ).loc Cert.WIn1RefIdeal.main_arg0) = m ((c.tc : Thread Cert.WIn1RefIdeal.nD Cert.WIn1RefIdeal.τ).loc Cert.WIn1RefIdeal.main_arg0)
      ∧ r.2.mem ((c.tc : Thread Cert.WIn1RefIdeal.nD Cert.WIn1RefIdeal.τ).loc Cert.WIn1RefIdeal.main_arg1) = m ((c.tc : Thread Cert.WIn1RefIdeal.nD Cert.WIn1RefIdeal.τ).loc Cert.WIn1RefIdeal.main_arg1)
      ∧ r.2.mem ((c.tc : Thread Cert.WIn1RefIdeal.nD Cert.WIn1RefIdeal.τ).loc Cert.WIn1RefIdeal.main_arg2) = m ((c.tc : Thread Cert.WIn1RefIdeal.nD Cert.WIn1RefIdeal.τ).loc Cert.WIn1RefIdeal.main_arg2)
      ∧ r.2.mem ((c.tc : Thread Cert.WIn1RefIdeal.nD Cert.WIn1RefIdeal.τ).loc Cert.WIn1RefIdeal.main_arg3) = m ((c.tc : Thread Cert.WIn1RefIdeal.nD Cert.WIn1RefIdeal.τ).loc Cert.WIn1RefIdeal.main_arg3)
      ∧ r.2.mem ((c.tc : Thread Cert.WIn1RefIdeal.nD Cert.WIn1RefIdeal.τ).loc Cert.WIn1RefIdeal.main_arg4) = m ((c.tc : Thread Cert.WIn1RefIdeal.nD Cert.WIn1RefIdeal.τ).loc Cert.WIn1RefIdeal.main_arg4)
      ∧ r.2.mem ((c.tc : Thread Cert.WIn1RefIdeal.nD Cert.WIn1RefIdeal.τ).loc Cert.WIn1RefIdeal.main_arg5) = m ((c.tc : Thread Cert.WIn1RefIdeal.nD Cert.WIn1RefIdeal.τ).loc Cert.WIn1RefIdeal.main_arg5)
      ∧ r.2.mem ((c.tc : Thread Cert.WIn1RefIdeal.nD Cert.WIn1RefIdeal.τ).loc Cert.WIn1RefIdeal.main_arg6) = m ((c.tc : Thread Cert.WIn1RefIdeal.nD Cert.WIn1RefIdeal.τ).loc Cert.WIn1RefIdeal.main_arg6)
      ∧ r.2.mem ((c.tc : Thread Cert.WIn1RefIdeal.nD Cert.WIn1RefIdeal.τ).loc Cert.WIn1RefIdeal.main_arg7) = m ((c.tc : Thread Cert.WIn1RefIdeal.nD Cert.WIn1RefIdeal.τ).loc Cert.WIn1RefIdeal.main_arg7)
      ∧ r.2.mem ((c.tc : Thread Cert.WIn1RefIdeal.nD Cert.WIn1RefIdeal.τ).loc Cert.WIn1RefIdeal.main_arg8) = m ((c.tc : Thread Cert.WIn1RefIdeal.nD Cert.WIn1RefIdeal.τ).loc Cert.WIn1RefIdeal.main_arg8))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3)
      ∧ r.2.mem ((c.tc : Thread Cert.InFwd.nD Cert.InFwd.τ).loc Cert.InFwd.main_arg4) = m ((c.tc : Thread Cert.InFwd.nD Cert.InFwd.τ).loc Cert.InFwd.main_arg4))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
      ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3)
      ∧ r.2.mem ((c.tc : Thread Cert.InFwdRefIdeal.nD Cert.InFwdRefIdeal.τ).loc Cert.InFwdRefIdeal.main_arg4) = m ((c.tc : Thread Cert.InFwdRefIdeal.nD Cert.InFwdRefIdeal.τ).loc Cert.InFwdRefIdeal.main_arg4))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5)
      ∧ r.2.mem ((c.tc : Thread Cert.OutFwd.nD Cert.OutFwd.τ).loc Cert.OutFwd.main_arg6) = m ((c.tc : Thread Cert.OutFwd.nD Cert.OutFwd.τ).loc Cert.OutFwd.main_arg6))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5)
      ∧ r.2.mem ((c.tc : Thread Cert.OutFwdRefIdeal.nD Cert.OutFwdRefIdeal.τ).loc Cert.OutFwdRefIdeal.main_arg6) = m ((c.tc : Thread Cert.OutFwdRefIdeal.nD Cert.OutFwdRefIdeal.τ).loc Cert.OutFwdRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_HgFwd [hHgFwd : Cert.HgFwd.Facts] : Prop :=
  ∀ (m : (ℓ : Loc Cert.HgFwd.nD Cert.HgFwd.τ Cert.HgFwd.sig) → Buf (Elt Bits) ℓ) (g : Dev Cert.HgFwd.nD → PrngReg), Pre_HgFwd m →
    θ_run (Cert.HgFwd.defs (F := Bits)) (onTc (τ := Cert.HgFwd.τ) (Cert.HgFwd.main (F := Bits))) ⟨m, fun _ => 0, g⟩ (fun r => (∀ c : Dev Cert.HgFwd.nD,
      r.2.mem ((c.tc : Thread Cert.HgFwd.nD Cert.HgFwd.τ).loc Cert.HgFwd.main_arg0) = m ((c.tc : Thread Cert.HgFwd.nD Cert.HgFwd.τ).loc Cert.HgFwd.main_arg0)
      ∧ r.2.mem ((c.tc : Thread Cert.HgFwd.nD Cert.HgFwd.τ).loc Cert.HgFwd.main_arg1) = m ((c.tc : Thread Cert.HgFwd.nD Cert.HgFwd.τ).loc Cert.HgFwd.main_arg1))
      ∧ r.2.sem = fun _ => 0)

def quiescent_HgFwdIdeal [hHgFwdIdeal : Cert.HgFwdIdeal.Facts] : Prop :=
  ∀ (m : (ℓ : Loc Cert.HgFwdIdeal.nD Cert.HgFwdIdeal.τ Cert.HgFwdIdeal.sig) → Buf (Elt Ideal) ℓ) (g : Dev Cert.HgFwdIdeal.nD → PrngReg), Pre_HgFwdIdeal m →
    θ_run (Cert.HgFwdIdeal.defs (F := Ideal)) (onTc (τ := Cert.HgFwdIdeal.τ) (Cert.HgFwdIdeal.main (F := Ideal))) ⟨m, fun _ => 0, g⟩ (fun r => (∀ c : Dev Cert.HgFwdIdeal.nD,
      r.2.mem ((c.tc : Thread Cert.HgFwdIdeal.nD Cert.HgFwdIdeal.τ).loc Cert.HgFwdIdeal.main_arg0) = m ((c.tc : Thread Cert.HgFwdIdeal.nD Cert.HgFwdIdeal.τ).loc Cert.HgFwdIdeal.main_arg0)
      ∧ r.2.mem ((c.tc : Thread Cert.HgFwdIdeal.nD Cert.HgFwdIdeal.τ).loc Cert.HgFwdIdeal.main_arg1) = m ((c.tc : Thread Cert.HgFwdIdeal.nD Cert.HgFwdIdeal.τ).loc Cert.HgFwdIdeal.main_arg1))
      ∧ r.2.sem = fun _ => 0)

def quiescent_MlFwd [hMlFwd : Cert.MlFwd.Facts] : Prop :=
  ∀ (m : (ℓ : Loc Cert.MlFwd.nD Cert.MlFwd.τ Cert.MlFwd.sig) → Buf (Elt Bits) ℓ) (g : Dev Cert.MlFwd.nD → PrngReg), Pre_MlFwd m →
    θ_run (Cert.MlFwd.defs (F := Bits)) (onTc (τ := Cert.MlFwd.τ) (Cert.MlFwd.main (F := Bits))) ⟨m, fun _ => 0, g⟩ (fun r => (∀ c : Dev Cert.MlFwd.nD,
      r.2.mem ((c.tc : Thread Cert.MlFwd.nD Cert.MlFwd.τ).loc Cert.MlFwd.main_arg0) = m ((c.tc : Thread Cert.MlFwd.nD Cert.MlFwd.τ).loc Cert.MlFwd.main_arg0)
      ∧ r.2.mem ((c.tc : Thread Cert.MlFwd.nD Cert.MlFwd.τ).loc Cert.MlFwd.main_arg1) = m ((c.tc : Thread Cert.MlFwd.nD Cert.MlFwd.τ).loc Cert.MlFwd.main_arg1))
      ∧ r.2.sem = fun _ => 0)

def quiescent_MlFwdIdeal [hMlFwdIdeal : Cert.MlFwdIdeal.Facts] : Prop :=
  ∀ (m : (ℓ : Loc Cert.MlFwdIdeal.nD Cert.MlFwdIdeal.τ Cert.MlFwdIdeal.sig) → Buf (Elt Ideal) ℓ) (g : Dev Cert.MlFwdIdeal.nD → PrngReg), Pre_MlFwdIdeal m →
    θ_run (Cert.MlFwdIdeal.defs (F := Ideal)) (onTc (τ := Cert.MlFwdIdeal.τ) (Cert.MlFwdIdeal.main (F := Ideal))) ⟨m, fun _ => 0, g⟩ (fun r => (∀ c : Dev Cert.MlFwdIdeal.nD,
      r.2.mem ((c.tc : Thread Cert.MlFwdIdeal.nD Cert.MlFwdIdeal.τ).loc Cert.MlFwdIdeal.main_arg0) = m ((c.tc : Thread Cert.MlFwdIdeal.nD Cert.MlFwdIdeal.τ).loc Cert.MlFwdIdeal.main_arg0)
      ∧ r.2.mem ((c.tc : Thread Cert.MlFwdIdeal.nD Cert.MlFwdIdeal.τ).loc Cert.MlFwdIdeal.main_arg1) = m ((c.tc : Thread Cert.MlFwdIdeal.nD Cert.MlFwdIdeal.τ).loc Cert.MlFwdIdeal.main_arg1))
      ∧ r.2.sem = fun _ => 0)

def preserves_Hgrn2_Hgrn2Ideal : Prop :=
  True

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v31_0)) (v1 : (c : Dev Cert.FfnIdeal.nD) → Buf (Elt Ideal) ((c.tc : Thread Cert.FfnIdeal.nD Cert.FfnIdeal.τ).loc Cert.FfnIdeal.main_v31_1)) (v2 : (c : Dev Cert.FfnIdeal.nD) → Buf (Elt Ideal) ((c.tc : Thread Cert.FfnIdeal.nD Cert.FfnIdeal.τ).loc Cert.FfnIdeal.main_v31_2)) (v3 : (c : Dev Cert.FfnIdeal.nD) → Buf (Elt Ideal) ((c.tc : Thread Cert.FfnIdeal.nD Cert.FfnIdeal.τ).loc Cert.FfnIdeal.main_v31_3)) (v4 : (c : Dev Cert.FfnIdeal.nD) → Buf (Elt Ideal) ((c.tc : Thread Cert.FfnIdeal.nD Cert.FfnIdeal.τ).loc Cert.FfnIdeal.main_v31_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v31_0) = v0 c
          ∧ r.2.mem ((c.tc : Thread Cert.FfnIdeal.nD Cert.FfnIdeal.τ).loc Cert.FfnIdeal.main_v31_1) = v1 c
          ∧ r.2.mem ((c.tc : Thread Cert.FfnIdeal.nD Cert.FfnIdeal.τ).loc Cert.FfnIdeal.main_v31_2) = v2 c
          ∧ r.2.mem ((c.tc : Thread Cert.FfnIdeal.nD Cert.FfnIdeal.τ).loc Cert.FfnIdeal.main_v31_3) = v3 c
          ∧ r.2.mem ((c.tc : Thread Cert.FfnIdeal.nD Cert.FfnIdeal.τ).loc Cert.FfnIdeal.main_v31_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_v57) = v1 c
          ∧ r.2.mem ((c.tc : Thread Cert.FfnRefIdeal.nD Cert.FfnRefIdeal.τ).loc Cert.FfnRefIdeal.main_v88) = v2 c
          ∧ r.2.mem ((c.tc : Thread Cert.FfnRefIdeal.nD Cert.FfnRefIdeal.τ).loc Cert.FfnRefIdeal.main_v62) = v3 c
          ∧ r.2.mem ((c.tc : Thread Cert.FfnRefIdeal.nD Cert.FfnRefIdeal.τ).loc Cert.FfnRefIdeal.main_v59) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)
      ∧ m' ((c.tc : Thread Cert.FfnFwdRefIdeal.nD Cert.FfnFwdRefIdeal.τ).loc Cert.FfnFwdRefIdeal.main_arg7) = m ((c.tc : Thread Cert.FfnFwdIdeal.nD Cert.FfnFwdIdeal.τ).loc Cert.FfnFwdIdeal.main_arg7)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)) (v2 : (c : Dev Cert.FfnFwdIdeal.nD) → Buf (Elt Ideal) ((c.tc : Thread Cert.FfnFwdIdeal.nD Cert.FfnFwdIdeal.τ).loc Cert.FfnFwdIdeal.main_v5_2)) (v3 : (c : Dev Cert.FfnFwdIdeal.nD) → Buf (Elt Ideal) ((c.tc : Thread Cert.FfnFwdIdeal.nD Cert.FfnFwdIdeal.τ).loc Cert.FfnFwdIdeal.main_v5_3)) (v4 : (c : Dev Cert.FfnFwdIdeal.nD) → Buf (Elt Ideal) ((c.tc : Thread Cert.FfnFwdIdeal.nD Cert.FfnFwdIdeal.τ).loc Cert.FfnFwdIdeal.main_v5_4)) (v5 : (c : Dev Cert.FfnFwdIdeal.nD) → Buf (Elt Ideal) ((c.tc : Thread Cert.FfnFwdIdeal.nD Cert.FfnFwdIdeal.τ).loc Cert.FfnFwdIdeal.main_v5_5)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_v5_2) = v2 c
          ∧ r.2.mem ((c.tc : Thread Cert.FfnFwdIdeal.nD Cert.FfnFwdIdeal.τ).loc Cert.FfnFwdIdeal.main_v5_3) = v3 c
          ∧ r.2.mem ((c.tc : Thread Cert.FfnFwdIdeal.nD Cert.FfnFwdIdeal.τ).loc Cert.FfnFwdIdeal.main_v5_4) = v4 c
          ∧ r.2.mem ((c.tc : Thread Cert.FfnFwdIdeal.nD Cert.FfnFwdIdeal.τ).loc Cert.FfnFwdIdeal.main_v5_5) = v5 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
          ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v35) = v0 c
          ∧ r.2.mem ((c.tc : Thread Cert.FfnFwdRefIdeal.nD Cert.FfnFwdRefIdeal.τ).loc Cert.FfnFwdRefIdeal.main_v58) = v1 c
          ∧ r.2.mem ((c.tc : Thread Cert.FfnFwdRefIdeal.nD Cert.FfnFwdRefIdeal.τ).loc Cert.FfnFwdRefIdeal.main_v59) = v2 c
          ∧ r.2.mem ((c.tc : Thread Cert.FfnFwdRefIdeal.nD Cert.FfnFwdRefIdeal.τ).loc Cert.FfnFwdRefIdeal.main_v60) = v3 c
          ∧ r.2.mem ((c.tc : Thread Cert.FfnFwdRefIdeal.nD Cert.FfnFwdRefIdeal.τ).loc Cert.FfnFwdRefIdeal.main_v61) = v4 c
          ∧ r.2.mem ((c.tc : Thread Cert.FfnFwdRefIdeal.nD Cert.FfnFwdRefIdeal.τ).loc Cert.FfnFwdRefIdeal.main_v62) = v5 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6)
          ∧ r.2.mem ((c.tc : Thread Cert.FfnFwdRefIdeal.nD Cert.FfnFwdRefIdeal.τ).loc Cert.FfnFwdRefIdeal.main_arg7) = m' ((c.tc : Thread Cert.FfnFwdRefIdeal.nD Cert.FfnFwdRefIdeal.τ).loc Cert.FfnFwdRefIdeal.main_arg7))

def preserves_WGate_WGateIdeal : Prop :=
  True

def algebraic_WGateIdeal_WGateRefIdeal [hWGateIdeal : Cert.WGateIdeal.Facts] [hWGateRefIdeal : Cert.WGateRefIdeal.Facts] : Prop :=
  ∀ (m : (ℓ : Loc Cert.WGateIdeal.nD Cert.WGateIdeal.τ Cert.WGateIdeal.sig) → Buf (Elt Ideal) ℓ) (g : Dev Cert.WGateIdeal.nD → PrngReg)
    (m' : (ℓ : Loc Cert.WGateRefIdeal.nD Cert.WGateRefIdeal.τ Cert.WGateRefIdeal.sig) → Buf (Elt Ideal) ℓ) (g' : Dev Cert.WGateRefIdeal.nD → PrngReg), Pre_WGateIdeal m →
    (∀ c : Dev Cert.WGateIdeal.nD,
      m' ((c.tc : Thread Cert.WGateRefIdeal.nD Cert.WGateRefIdeal.τ).loc Cert.WGateRefIdeal.main_arg0) = m ((c.tc : Thread Cert.WGateIdeal.nD Cert.WGateIdeal.τ).loc Cert.WGateIdeal.main_arg0)
      ∧ m' ((c.tc : Thread Cert.WGateRefIdeal.nD Cert.WGateRefIdeal.τ).loc Cert.WGateRefIdeal.main_arg1) = m ((c.tc : Thread Cert.WGateIdeal.nD Cert.WGateIdeal.τ).loc Cert.WGateIdeal.main_arg1)) →
    ∃ (v0 : (c : Dev Cert.WGateIdeal.nD) → Buf (Elt Ideal) ((c.tc : Thread Cert.WGateIdeal.nD Cert.WGateIdeal.τ).loc Cert.WGateIdeal.main_v0)),
      θ_run (Cert.WGateIdeal.defs (F := Ideal)) (onTc (τ := Cert.WGateIdeal.τ) (Cert.WGateIdeal.main (F := Ideal))) ⟨m, fun _ => 0, g⟩ (fun r => ∀ c : Dev Cert.WGateIdeal.nD,
          r.2.mem ((c.tc : Thread Cert.WGateIdeal.nD Cert.WGateIdeal.τ).loc Cert.WGateIdeal.main_v0) = v0 c
          ∧ r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
          ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ θ_run (Cert.WGateRefIdeal.defs (F := Ideal)) (onTc (τ := Cert.WGateRefIdeal.τ) (Cert.WGateRefIdeal.main (F := Ideal))) ⟨m', fun _ => 0, g'⟩ (fun r => ∀ c : Dev Cert.WGateRefIdeal.nD,
          r.2.mem ((c.tc : Thread Cert.WGateRefIdeal.nD Cert.WGateRefIdeal.τ).loc Cert.WGateRefIdeal.main_v7) = v0 c
          ∧ r.2.mem ((c.tc : Thread Cert.WGateRefIdeal.nD Cert.WGateRefIdeal.τ).loc Cert.WGateRefIdeal.main_arg0) = m' ((c.tc : Thread Cert.WGateRefIdeal.nD Cert.WGateRefIdeal.τ).loc Cert.WGateRefIdeal.main_arg0)
          ∧ r.2.mem ((c.tc : Thread Cert.WGateRefIdeal.nD Cert.WGateRefIdeal.τ).loc Cert.WGateRefIdeal.main_arg1) = m' ((c.tc : Thread Cert.WGateRefIdeal.nD Cert.WGateRefIdeal.τ).loc Cert.WGateRefIdeal.main_arg1))

def preserves_WDown_WDownIdeal : Prop :=
  True

def algebraic_WDownIdeal_WDownRefIdeal [hWDownIdeal : Cert.WDownIdeal.Facts] [hWDownRefIdeal : Cert.WDownRefIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v0)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v0) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v5) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v5) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_WPle_WPleIdeal : Prop :=
  True

def algebraic_WPleIdeal_WPleRefIdeal [hWPleIdeal : Cert.WPleIdeal.Facts] [hWPleRefIdeal : Cert.WPleRefIdeal.Facts] : Prop :=
  ∀ (m : (ℓ : Loc Cert.WPleIdeal.nD Cert.WPleIdeal.τ Cert.WPleIdeal.sig) → Buf (Elt Ideal) ℓ) (g : Dev Cert.WPleIdeal.nD → PrngReg)
    (m' : (ℓ : Loc Cert.WPleRefIdeal.nD Cert.WPleRefIdeal.τ Cert.WPleRefIdeal.sig) → Buf (Elt Ideal) ℓ) (g' : Dev Cert.WPleRefIdeal.nD → PrngReg), Pre_WPleIdeal m →
    (∀ c : Dev Cert.WPleIdeal.nD,
      m' ((c.tc : Thread Cert.WPleRefIdeal.nD Cert.WPleRefIdeal.τ).loc Cert.WPleRefIdeal.main_arg0) = m ((c.tc : Thread Cert.WPleIdeal.nD Cert.WPleIdeal.τ).loc Cert.WPleIdeal.main_arg0)
      ∧ m' ((c.tc : Thread Cert.WPleRefIdeal.nD Cert.WPleRefIdeal.τ).loc Cert.WPleRefIdeal.main_arg1) = m ((c.tc : Thread Cert.WPleIdeal.nD Cert.WPleIdeal.τ).loc Cert.WPleIdeal.main_arg1)) →
    ∃ (v0 : (c : Dev Cert.WPleIdeal.nD) → Buf (Elt Ideal) ((c.tc : Thread Cert.WPleIdeal.nD Cert.WPleIdeal.τ).loc Cert.WPleIdeal.main_v0)),
      θ_run (Cert.WPleIdeal.defs (F := Ideal)) (onTc (τ := Cert.WPleIdeal.τ) (Cert.WPleIdeal.main (F := Ideal))) ⟨m, fun _ => 0, g⟩ (fun r => ∀ c : Dev Cert.WPleIdeal.nD,
          r.2.mem ((c.tc : Thread Cert.WPleIdeal.nD Cert.WPleIdeal.τ).loc Cert.WPleIdeal.main_v0) = v0 c
          ∧ r.2.mem ((c.tc : Thread Cert.WPleIdeal.nD Cert.WPleIdeal.τ).loc Cert.WPleIdeal.main_arg0) = m ((c.tc : Thread Cert.WPleIdeal.nD Cert.WPleIdeal.τ).loc Cert.WPleIdeal.main_arg0)
          ∧ r.2.mem ((c.tc : Thread Cert.WPleIdeal.nD Cert.WPleIdeal.τ).loc Cert.WPleIdeal.main_arg1) = m ((c.tc : Thread Cert.WPleIdeal.nD Cert.WPleIdeal.τ).loc Cert.WPleIdeal.main_arg1))
      ∧ θ_run (Cert.WPleRefIdeal.defs (F := Ideal)) (onTc (τ := Cert.WPleRefIdeal.τ) (Cert.WPleRefIdeal.main (F := Ideal))) ⟨m', fun _ => 0, g'⟩ (fun r => ∀ c : Dev Cert.WPleRefIdeal.nD,
          r.2.mem ((c.tc : Thread Cert.WPleRefIdeal.nD Cert.WPleRefIdeal.τ).loc Cert.WPleRefIdeal.main_v6) = v0 c
          ∧ r.2.mem ((c.tc : Thread Cert.WPleRefIdeal.nD Cert.WPleRefIdeal.τ).loc Cert.WPleRefIdeal.main_arg0) = m' ((c.tc : Thread Cert.WPleRefIdeal.nD Cert.WPleRefIdeal.τ).loc Cert.WPleRefIdeal.main_arg0)
          ∧ r.2.mem ((c.tc : Thread Cert.WPleRefIdeal.nD Cert.WPleRefIdeal.τ).loc Cert.WPleRefIdeal.main_arg1) = m' ((c.tc : Thread Cert.WPleRefIdeal.nD Cert.WPleRefIdeal.τ).loc Cert.WPleRefIdeal.main_arg1))

def preserves_WProj_WProjIdeal : Prop :=
  True

def algebraic_WProjIdeal_WProjRefIdeal [hWProjIdeal : Cert.WProjIdeal.Facts] [hWProjRefIdeal : Cert.WProjRefIdeal.Facts] : Prop :=
  ∀ (m : (ℓ : Loc Cert.WProjIdeal.nD Cert.WProjIdeal.τ Cert.WProjIdeal.sig) → Buf (Elt Ideal) ℓ) (g : Dev Cert.WProjIdeal.nD → PrngReg)
    (m' : (ℓ : Loc Cert.WProjRefIdeal.nD Cert.WProjRefIdeal.τ Cert.WProjRefIdeal.sig) → Buf (Elt Ideal) ℓ) (g' : Dev Cert.WProjRefIdeal.nD → PrngReg), Pre_WProjIdeal m →
    (∀ c : Dev Cert.WProjIdeal.nD,
      m' ((c.tc : Thread Cert.WProjRefIdeal.nD Cert.WProjRefIdeal.τ).loc Cert.WProjRefIdeal.main_arg0) = m ((c.tc : Thread Cert.WProjIdeal.nD Cert.WProjIdeal.τ).loc Cert.WProjIdeal.main_arg0)
      ∧ m' ((c.tc : Thread Cert.WProjRefIdeal.nD Cert.WProjRefIdeal.τ).loc Cert.WProjRefIdeal.main_arg1) = m ((c.tc : Thread Cert.WProjIdeal.nD Cert.WProjIdeal.τ).loc Cert.WProjIdeal.main_arg1)) →
    ∃ (v0 : (c : Dev Cert.WProjIdeal.nD) → Buf (Elt Ideal) ((c.tc : Thread Cert.WProjIdeal.nD Cert.WProjIdeal.τ).loc Cert.WProjIdeal.main_v0)),
      θ_run (Cert.WProjIdeal.defs (F := Ideal)) (onTc (τ := Cert.WProjIdeal.τ) (Cert.WProjIdeal.main (F := Ideal))) ⟨m, fun _ => 0, g⟩ (fun r => ∀ c : Dev Cert.WProjIdeal.nD,
          r.2.mem ((c.tc : Thread Cert.WProjIdeal.nD Cert.WProjIdeal.τ).loc Cert.WProjIdeal.main_v0) = v0 c
          ∧ r.2.mem ((c.tc : Thread Cert.WProjIdeal.nD Cert.WProjIdeal.τ).loc Cert.WProjIdeal.main_arg0) = m ((c.tc : Thread Cert.WProjIdeal.nD Cert.WProjIdeal.τ).loc Cert.WProjIdeal.main_arg0)
          ∧ r.2.mem ((c.tc : Thread Cert.WProjIdeal.nD Cert.WProjIdeal.τ).loc Cert.WProjIdeal.main_arg1) = m ((c.tc : Thread Cert.WProjIdeal.nD Cert.WProjIdeal.τ).loc Cert.WProjIdeal.main_arg1))
      ∧ θ_run (Cert.WProjRefIdeal.defs (F := Ideal)) (onTc (τ := Cert.WProjRefIdeal.τ) (Cert.WProjRefIdeal.main (F := Ideal))) ⟨m', fun _ => 0, g'⟩ (fun r => ∀ c : Dev Cert.WProjRefIdeal.nD,
          r.2.mem ((c.tc : Thread Cert.WProjRefIdeal.nD Cert.WProjRefIdeal.τ).loc Cert.WProjRefIdeal.main_v5) = v0 c
          ∧ r.2.mem ((c.tc : Thread Cert.WProjRefIdeal.nD Cert.WProjRefIdeal.τ).loc Cert.WProjRefIdeal.main_arg0) = m' ((c.tc : Thread Cert.WProjRefIdeal.nD Cert.WProjRefIdeal.τ).loc Cert.WProjRefIdeal.main_arg0)
          ∧ r.2.mem ((c.tc : Thread Cert.WProjRefIdeal.nD Cert.WProjRefIdeal.τ).loc Cert.WProjRefIdeal.main_arg1) = m' ((c.tc : Thread Cert.WProjRefIdeal.nD Cert.WProjRefIdeal.τ).loc Cert.WProjRefIdeal.main_arg1))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)) →
    ∃ (v0 : (c : Dev Cert.InBwdIdeal.nD) → Buf (Elt Ideal) ((c.tc : Thread Cert.InBwdIdeal.nD Cert.InBwdIdeal.τ).loc Cert.InBwdIdeal.main_v3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v3) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v14) = v0 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9))

def preserves_WIn0_WIn0Ideal : Prop :=
  True

def algebraic_WIn0Ideal_WIn0RefIdeal [hWIn0Ideal : Cert.WIn0Ideal.Facts] [hWIn0RefIdeal : Cert.WIn0RefIdeal.Facts] : Prop :=
  ∀ (m : (ℓ : Loc Cert.WIn0Ideal.nD Cert.WIn0Ideal.τ Cert.WIn0Ideal.sig) → Buf (Elt Ideal) ℓ) (g : Dev Cert.WIn0Ideal.nD → PrngReg)
    (m' : (ℓ : Loc Cert.WIn0RefIdeal.nD Cert.WIn0RefIdeal.τ Cert.WIn0RefIdeal.sig) → Buf (Elt Ideal) ℓ) (g' : Dev Cert.WIn0RefIdeal.nD → PrngReg), Pre_WIn0Ideal m →
    (∀ c : Dev Cert.WIn0Ideal.nD,
      m' ((c.tc : Thread Cert.WIn0RefIdeal.nD Cert.WIn0RefIdeal.τ).loc Cert.WIn0RefIdeal.main_arg0) = m ((c.tc : Thread Cert.WIn0Ideal.nD Cert.WIn0Ideal.τ).loc Cert.WIn0Ideal.main_arg0)
      ∧ m' ((c.tc : Thread Cert.WIn0RefIdeal.nD Cert.WIn0RefIdeal.τ).loc Cert.WIn0RefIdeal.main_arg1) = m ((c.tc : Thread Cert.WIn0Ideal.nD Cert.WIn0Ideal.τ).loc Cert.WIn0Ideal.main_arg1)
      ∧ m' ((c.tc : Thread Cert.WIn0RefIdeal.nD Cert.WIn0RefIdeal.τ).loc Cert.WIn0RefIdeal.main_arg2) = m ((c.tc : Thread Cert.WIn0Ideal.nD Cert.WIn0Ideal.τ).loc Cert.WIn0Ideal.main_arg2)
      ∧ m' ((c.tc : Thread Cert.WIn0RefIdeal.nD Cert.WIn0RefIdeal.τ).loc Cert.WIn0RefIdeal.main_arg3) = m ((c.tc : Thread Cert.WIn0Ideal.nD Cert.WIn0Ideal.τ).loc Cert.WIn0Ideal.main_arg3)
      ∧ m' ((c.tc : Thread Cert.WIn0RefIdeal.nD Cert.WIn0RefIdeal.τ).loc Cert.WIn0RefIdeal.main_arg4) = m ((c.tc : Thread Cert.WIn0Ideal.nD Cert.WIn0Ideal.τ).loc Cert.WIn0Ideal.main_arg4)
      ∧ m' ((c.tc : Thread Cert.WIn0RefIdeal.nD Cert.WIn0RefIdeal.τ).loc Cert.WIn0RefIdeal.main_arg5) = m ((c.tc : Thread Cert.WIn0Ideal.nD Cert.WIn0Ideal.τ).loc Cert.WIn0Ideal.main_arg5)
      ∧ m' ((c.tc : Thread Cert.WIn0RefIdeal.nD Cert.WIn0RefIdeal.τ).loc Cert.WIn0RefIdeal.main_arg6) = m ((c.tc : Thread Cert.WIn0Ideal.nD Cert.WIn0Ideal.τ).loc Cert.WIn0Ideal.main_arg6)
      ∧ m' ((c.tc : Thread Cert.WIn0RefIdeal.nD Cert.WIn0RefIdeal.τ).loc Cert.WIn0RefIdeal.main_arg7) = m ((c.tc : Thread Cert.WIn0Ideal.nD Cert.WIn0Ideal.τ).loc Cert.WIn0Ideal.main_arg7)
      ∧ m' ((c.tc : Thread Cert.WIn0RefIdeal.nD Cert.WIn0RefIdeal.τ).loc Cert.WIn0RefIdeal.main_arg8) = m ((c.tc : Thread Cert.WIn0Ideal.nD Cert.WIn0Ideal.τ).loc Cert.WIn0Ideal.main_arg8)) →
    ∃ (v0 : (c : Dev Cert.WIn0Ideal.nD) → Buf (Elt Ideal) ((c.tc : Thread Cert.WIn0Ideal.nD Cert.WIn0Ideal.τ).loc Cert.WIn0Ideal.main_v0_0)) (v1 : (c : Dev Cert.WIn0Ideal.nD) → Buf (Elt Ideal) ((c.tc : Thread Cert.WIn0Ideal.nD Cert.WIn0Ideal.τ).loc Cert.WIn0Ideal.main_v0_1)),
      θ_run (Cert.WIn0Ideal.defs (F := Ideal)) (onTc (τ := Cert.WIn0Ideal.τ) (Cert.WIn0Ideal.main (F := Ideal))) ⟨m, fun _ => 0, g⟩ (fun r => ∀ c : Dev Cert.WIn0Ideal.nD,
          r.2.mem ((c.tc : Thread Cert.WIn0Ideal.nD Cert.WIn0Ideal.τ).loc Cert.WIn0Ideal.main_v0_0) = v0 c
          ∧ r.2.mem ((c.tc : Thread Cert.WIn0Ideal.nD Cert.WIn0Ideal.τ).loc Cert.WIn0Ideal.main_v0_1) = v1 c
          ∧ r.2.mem ((c.tc : Thread Cert.WIn0Ideal.nD Cert.WIn0Ideal.τ).loc Cert.WIn0Ideal.main_arg0) = m ((c.tc : Thread Cert.WIn0Ideal.nD Cert.WIn0Ideal.τ).loc Cert.WIn0Ideal.main_arg0)
          ∧ r.2.mem ((c.tc : Thread Cert.WIn0Ideal.nD Cert.WIn0Ideal.τ).loc Cert.WIn0Ideal.main_arg1) = m ((c.tc : Thread Cert.WIn0Ideal.nD Cert.WIn0Ideal.τ).loc Cert.WIn0Ideal.main_arg1)
          ∧ r.2.mem ((c.tc : Thread Cert.WIn0Ideal.nD Cert.WIn0Ideal.τ).loc Cert.WIn0Ideal.main_arg2) = m ((c.tc : Thread Cert.WIn0Ideal.nD Cert.WIn0Ideal.τ).loc Cert.WIn0Ideal.main_arg2)
          ∧ r.2.mem ((c.tc : Thread Cert.WIn0Ideal.nD Cert.WIn0Ideal.τ).loc Cert.WIn0Ideal.main_arg3) = m ((c.tc : Thread Cert.WIn0Ideal.nD Cert.WIn0Ideal.τ).loc Cert.WIn0Ideal.main_arg3)
          ∧ r.2.mem ((c.tc : Thread Cert.WIn0Ideal.nD Cert.WIn0Ideal.τ).loc Cert.WIn0Ideal.main_arg4) = m ((c.tc : Thread Cert.WIn0Ideal.nD Cert.WIn0Ideal.τ).loc Cert.WIn0Ideal.main_arg4)
          ∧ r.2.mem ((c.tc : Thread Cert.WIn0Ideal.nD Cert.WIn0Ideal.τ).loc Cert.WIn0Ideal.main_arg5) = m ((c.tc : Thread Cert.WIn0Ideal.nD Cert.WIn0Ideal.τ).loc Cert.WIn0Ideal.main_arg5)
          ∧ r.2.mem ((c.tc : Thread Cert.WIn0Ideal.nD Cert.WIn0Ideal.τ).loc Cert.WIn0Ideal.main_arg6) = m ((c.tc : Thread Cert.WIn0Ideal.nD Cert.WIn0Ideal.τ).loc Cert.WIn0Ideal.main_arg6)
          ∧ r.2.mem ((c.tc : Thread Cert.WIn0Ideal.nD Cert.WIn0Ideal.τ).loc Cert.WIn0Ideal.main_arg7) = m ((c.tc : Thread Cert.WIn0Ideal.nD Cert.WIn0Ideal.τ).loc Cert.WIn0Ideal.main_arg7)
          ∧ r.2.mem ((c.tc : Thread Cert.WIn0Ideal.nD Cert.WIn0Ideal.τ).loc Cert.WIn0Ideal.main_arg8) = m ((c.tc : Thread Cert.WIn0Ideal.nD Cert.WIn0Ideal.τ).loc Cert.WIn0Ideal.main_arg8))
      ∧ θ_run (Cert.WIn0RefIdeal.defs (F := Ideal)) (onTc (τ := Cert.WIn0RefIdeal.τ) (Cert.WIn0RefIdeal.main (F := Ideal))) ⟨m', fun _ => 0, g'⟩ (fun r => ∀ c : Dev Cert.WIn0RefIdeal.nD,
          r.2.mem ((c.tc : Thread Cert.WIn0RefIdeal.nD Cert.WIn0RefIdeal.τ).loc Cert.WIn0RefIdeal.main_v19) = v0 c
          ∧ r.2.mem ((c.tc : Thread Cert.WIn0RefIdeal.nD Cert.WIn0RefIdeal.τ).loc Cert.WIn0RefIdeal.main_v15) = v1 c
          ∧ r.2.mem ((c.tc : Thread Cert.WIn0RefIdeal.nD Cert.WIn0RefIdeal.τ).loc Cert.WIn0RefIdeal.main_arg0) = m' ((c.tc : Thread Cert.WIn0RefIdeal.nD Cert.WIn0RefIdeal.τ).loc Cert.WIn0RefIdeal.main_arg0)
          ∧ r.2.mem ((c.tc : Thread Cert.WIn0RefIdeal.nD Cert.WIn0RefIdeal.τ).loc Cert.WIn0RefIdeal.main_arg1) = m' ((c.tc : Thread Cert.WIn0RefIdeal.nD Cert.WIn0RefIdeal.τ).loc Cert.WIn0RefIdeal.main_arg1)
          ∧ r.2.mem ((c.tc : Thread Cert.WIn0RefIdeal.nD Cert.WIn0RefIdeal.τ).loc Cert.WIn0RefIdeal.main_arg2) = m' ((c.tc : Thread Cert.WIn0RefIdeal.nD Cert.WIn0RefIdeal.τ).loc Cert.WIn0RefIdeal.main_arg2)
          ∧ r.2.mem ((c.tc : Thread Cert.WIn0RefIdeal.nD Cert.WIn0RefIdeal.τ).loc Cert.WIn0RefIdeal.main_arg3) = m' ((c.tc : Thread Cert.WIn0RefIdeal.nD Cert.WIn0RefIdeal.τ).loc Cert.WIn0RefIdeal.main_arg3)
          ∧ r.2.mem ((c.tc : Thread Cert.WIn0RefIdeal.nD Cert.WIn0RefIdeal.τ).loc Cert.WIn0RefIdeal.main_arg4) = m' ((c.tc : Thread Cert.WIn0RefIdeal.nD Cert.WIn0RefIdeal.τ).loc Cert.WIn0RefIdeal.main_arg4)
          ∧ r.2.mem ((c.tc : Thread Cert.WIn0RefIdeal.nD Cert.WIn0RefIdeal.τ).loc Cert.WIn0RefIdeal.main_arg5) = m' ((c.tc : Thread Cert.WIn0RefIdeal.nD Cert.WIn0RefIdeal.τ).loc Cert.WIn0RefIdeal.main_arg5)
          ∧ r.2.mem ((c.tc : Thread Cert.WIn0RefIdeal.nD Cert.WIn0RefIdeal.τ).loc Cert.WIn0RefIdeal.main_arg6) = m' ((c.tc : Thread Cert.WIn0RefIdeal.nD Cert.WIn0RefIdeal.τ).loc Cert.WIn0RefIdeal.main_arg6)
          ∧ r.2.mem ((c.tc : Thread Cert.WIn0RefIdeal.nD Cert.WIn0RefIdeal.τ).loc Cert.WIn0RefIdeal.main_arg7) = m' ((c.tc : Thread Cert.WIn0RefIdeal.nD Cert.WIn0RefIdeal.τ).loc Cert.WIn0RefIdeal.main_arg7)
          ∧ r.2.mem ((c.tc : Thread Cert.WIn0RefIdeal.nD Cert.WIn0RefIdeal.τ).loc Cert.WIn0RefIdeal.main_arg8) = m' ((c.tc : Thread Cert.WIn0RefIdeal.nD Cert.WIn0RefIdeal.τ).loc Cert.WIn0RefIdeal.main_arg8))

def preserves_WIn1_WIn1Ideal : Prop :=
  True

def algebraic_WIn1Ideal_WIn1RefIdeal [hWIn1Ideal : Cert.WIn1Ideal.Facts] [hWIn1RefIdeal : Cert.WIn1RefIdeal.Facts] : Prop :=
  ∀ (m : (ℓ : Loc Cert.WIn1Ideal.nD Cert.WIn1Ideal.τ Cert.WIn1Ideal.sig) → Buf (Elt Ideal) ℓ) (g : Dev Cert.WIn1Ideal.nD → PrngReg)
    (m' : (ℓ : Loc Cert.WIn1RefIdeal.nD Cert.WIn1RefIdeal.τ Cert.WIn1RefIdeal.sig) → Buf (Elt Ideal) ℓ) (g' : Dev Cert.WIn1RefIdeal.nD → PrngReg), Pre_WIn1Ideal m →
    (∀ c : Dev Cert.WIn1Ideal.nD,
      m' ((c.tc : Thread Cert.WIn1RefIdeal.nD Cert.WIn1RefIdeal.τ).loc Cert.WIn1RefIdeal.main_arg0) = m ((c.tc : Thread Cert.WIn1Ideal.nD Cert.WIn1Ideal.τ).loc Cert.WIn1Ideal.main_arg0)
      ∧ m' ((c.tc : Thread Cert.WIn1RefIdeal.nD Cert.WIn1RefIdeal.τ).loc Cert.WIn1RefIdeal.main_arg1) = m ((c.tc : Thread Cert.WIn1Ideal.nD Cert.WIn1Ideal.τ).loc Cert.WIn1Ideal.main_arg1)
      ∧ m' ((c.tc : Thread Cert.WIn1RefIdeal.nD Cert.WIn1RefIdeal.τ).loc Cert.WIn1RefIdeal.main_arg2) = m ((c.tc : Thread Cert.WIn1Ideal.nD Cert.WIn1Ideal.τ).loc Cert.WIn1Ideal.main_arg2)
      ∧ m' ((c.tc : Thread Cert.WIn1RefIdeal.nD Cert.WIn1RefIdeal.τ).loc Cert.WIn1RefIdeal.main_arg3) = m ((c.tc : Thread Cert.WIn1Ideal.nD Cert.WIn1Ideal.τ).loc Cert.WIn1Ideal.main_arg3)
      ∧ m' ((c.tc : Thread Cert.WIn1RefIdeal.nD Cert.WIn1RefIdeal.τ).loc Cert.WIn1RefIdeal.main_arg4) = m ((c.tc : Thread Cert.WIn1Ideal.nD Cert.WIn1Ideal.τ).loc Cert.WIn1Ideal.main_arg4)
      ∧ m' ((c.tc : Thread Cert.WIn1RefIdeal.nD Cert.WIn1RefIdeal.τ).loc Cert.WIn1RefIdeal.main_arg5) = m ((c.tc : Thread Cert.WIn1Ideal.nD Cert.WIn1Ideal.τ).loc Cert.WIn1Ideal.main_arg5)
      ∧ m' ((c.tc : Thread Cert.WIn1RefIdeal.nD Cert.WIn1RefIdeal.τ).loc Cert.WIn1RefIdeal.main_arg6) = m ((c.tc : Thread Cert.WIn1Ideal.nD Cert.WIn1Ideal.τ).loc Cert.WIn1Ideal.main_arg6)
      ∧ m' ((c.tc : Thread Cert.WIn1RefIdeal.nD Cert.WIn1RefIdeal.τ).loc Cert.WIn1RefIdeal.main_arg7) = m ((c.tc : Thread Cert.WIn1Ideal.nD Cert.WIn1Ideal.τ).loc Cert.WIn1Ideal.main_arg7)
      ∧ m' ((c.tc : Thread Cert.WIn1RefIdeal.nD Cert.WIn1RefIdeal.τ).loc Cert.WIn1RefIdeal.main_arg8) = m ((c.tc : Thread Cert.WIn1Ideal.nD Cert.WIn1Ideal.τ).loc Cert.WIn1Ideal.main_arg8)) →
    ∃ (v0 : (c : Dev Cert.WIn1Ideal.nD) → Buf (Elt Ideal) ((c.tc : Thread Cert.WIn1Ideal.nD Cert.WIn1Ideal.τ).loc Cert.WIn1Ideal.main_v0_0)) (v1 : (c : Dev Cert.WIn1Ideal.nD) → Buf (Elt Ideal) ((c.tc : Thread Cert.WIn1Ideal.nD Cert.WIn1Ideal.τ).loc Cert.WIn1Ideal.main_v0_1)),
      θ_run (Cert.WIn1Ideal.defs (F := Ideal)) (onTc (τ := Cert.WIn1Ideal.τ) (Cert.WIn1Ideal.main (F := Ideal))) ⟨m, fun _ => 0, g⟩ (fun r => ∀ c : Dev Cert.WIn1Ideal.nD,
          r.2.mem ((c.tc : Thread Cert.WIn1Ideal.nD Cert.WIn1Ideal.τ).loc Cert.WIn1Ideal.main_v0_0) = v0 c
          ∧ r.2.mem ((c.tc : Thread Cert.WIn1Ideal.nD Cert.WIn1Ideal.τ).loc Cert.WIn1Ideal.main_v0_1) = v1 c
          ∧ r.2.mem ((c.tc : Thread Cert.WIn1Ideal.nD Cert.WIn1Ideal.τ).loc Cert.WIn1Ideal.main_arg0) = m ((c.tc : Thread Cert.WIn1Ideal.nD Cert.WIn1Ideal.τ).loc Cert.WIn1Ideal.main_arg0)
          ∧ r.2.mem ((c.tc : Thread Cert.WIn1Ideal.nD Cert.WIn1Ideal.τ).loc Cert.WIn1Ideal.main_arg1) = m ((c.tc : Thread Cert.WIn1Ideal.nD Cert.WIn1Ideal.τ).loc Cert.WIn1Ideal.main_arg1)
          ∧ r.2.mem ((c.tc : Thread Cert.WIn1Ideal.nD Cert.WIn1Ideal.τ).loc Cert.WIn1Ideal.main_arg2) = m ((c.tc : Thread Cert.WIn1Ideal.nD Cert.WIn1Ideal.τ).loc Cert.WIn1Ideal.main_arg2)
          ∧ r.2.mem ((c.tc : Thread Cert.WIn1Ideal.nD Cert.WIn1Ideal.τ).loc Cert.WIn1Ideal.main_arg3) = m ((c.tc : Thread Cert.WIn1Ideal.nD Cert.WIn1Ideal.τ).loc Cert.WIn1Ideal.main_arg3)
          ∧ r.2.mem ((c.tc : Thread Cert.WIn1Ideal.nD Cert.WIn1Ideal.τ).loc Cert.WIn1Ideal.main_arg4) = m ((c.tc : Thread Cert.WIn1Ideal.nD Cert.WIn1Ideal.τ).loc Cert.WIn1Ideal.main_arg4)
          ∧ r.2.mem ((c.tc : Thread Cert.WIn1Ideal.nD Cert.WIn1Ideal.τ).loc Cert.WIn1Ideal.main_arg5) = m ((c.tc : Thread Cert.WIn1Ideal.nD Cert.WIn1Ideal.τ).loc Cert.WIn1Ideal.main_arg5)
          ∧ r.2.mem ((c.tc : Thread Cert.WIn1Ideal.nD Cert.WIn1Ideal.τ).loc Cert.WIn1Ideal.main_arg6) = m ((c.tc : Thread Cert.WIn1Ideal.nD Cert.WIn1Ideal.τ).loc Cert.WIn1Ideal.main_arg6)
          ∧ r.2.mem ((c.tc : Thread Cert.WIn1Ideal.nD Cert.WIn1Ideal.τ).loc Cert.WIn1Ideal.main_arg7) = m ((c.tc : Thread Cert.WIn1Ideal.nD Cert.WIn1Ideal.τ).loc Cert.WIn1Ideal.main_arg7)
          ∧ r.2.mem ((c.tc : Thread Cert.WIn1Ideal.nD Cert.WIn1Ideal.τ).loc Cert.WIn1Ideal.main_arg8) = m ((c.tc : Thread Cert.WIn1Ideal.nD Cert.WIn1Ideal.τ).loc Cert.WIn1Ideal.main_arg8))
      ∧ θ_run (Cert.WIn1RefIdeal.defs (F := Ideal)) (onTc (τ := Cert.WIn1RefIdeal.τ) (Cert.WIn1RefIdeal.main (F := Ideal))) ⟨m', fun _ => 0, g'⟩ (fun r => ∀ c : Dev Cert.WIn1RefIdeal.nD,
          r.2.mem ((c.tc : Thread Cert.WIn1RefIdeal.nD Cert.WIn1RefIdeal.τ).loc Cert.WIn1RefIdeal.main_v19) = v0 c
          ∧ r.2.mem ((c.tc : Thread Cert.WIn1RefIdeal.nD Cert.WIn1RefIdeal.τ).loc Cert.WIn1RefIdeal.main_v15) = v1 c
          ∧ r.2.mem ((c.tc : Thread Cert.WIn1RefIdeal.nD Cert.WIn1RefIdeal.τ).loc Cert.WIn1RefIdeal.main_arg0) = m' ((c.tc : Thread Cert.WIn1RefIdeal.nD Cert.WIn1RefIdeal.τ).loc Cert.WIn1RefIdeal.main_arg0)
          ∧ r.2.mem ((c.tc : Thread Cert.WIn1RefIdeal.nD Cert.WIn1RefIdeal.τ).loc Cert.WIn1RefIdeal.main_arg1) = m' ((c.tc : Thread Cert.WIn1RefIdeal.nD Cert.WIn1RefIdeal.τ).loc Cert.WIn1RefIdeal.main_arg1)
          ∧ r.2.mem ((c.tc : Thread Cert.WIn1RefIdeal.nD Cert.WIn1RefIdeal.τ).loc Cert.WIn1RefIdeal.main_arg2) = m' ((c.tc : Thread Cert.WIn1RefIdeal.nD Cert.WIn1RefIdeal.τ).loc Cert.WIn1RefIdeal.main_arg2)
          ∧ r.2.mem ((c.tc : Thread Cert.WIn1RefIdeal.nD Cert.WIn1RefIdeal.τ).loc Cert.WIn1RefIdeal.main_arg3) = m' ((c.tc : Thread Cert.WIn1RefIdeal.nD Cert.WIn1RefIdeal.τ).loc Cert.WIn1RefIdeal.main_arg3)
          ∧ r.2.mem ((c.tc : Thread Cert.WIn1RefIdeal.nD Cert.WIn1RefIdeal.τ).loc Cert.WIn1RefIdeal.main_arg4) = m' ((c.tc : Thread Cert.WIn1RefIdeal.nD Cert.WIn1RefIdeal.τ).loc Cert.WIn1RefIdeal.main_arg4)
          ∧ r.2.mem ((c.tc : Thread Cert.WIn1RefIdeal.nD Cert.WIn1RefIdeal.τ).loc Cert.WIn1RefIdeal.main_arg5) = m' ((c.tc : Thread Cert.WIn1RefIdeal.nD Cert.WIn1RefIdeal.τ).loc Cert.WIn1RefIdeal.main_arg5)
          ∧ r.2.mem ((c.tc : Thread Cert.WIn1RefIdeal.nD Cert.WIn1RefIdeal.τ).loc Cert.WIn1RefIdeal.main_arg6) = m' ((c.tc : Thread Cert.WIn1RefIdeal.nD Cert.WIn1RefIdeal.τ).loc Cert.WIn1RefIdeal.main_arg6)
          ∧ r.2.mem ((c.tc : Thread Cert.WIn1RefIdeal.nD Cert.WIn1RefIdeal.τ).loc Cert.WIn1RefIdeal.main_arg7) = m' ((c.tc : Thread Cert.WIn1RefIdeal.nD Cert.WIn1RefIdeal.τ).loc Cert.WIn1RefIdeal.main_arg7)
          ∧ r.2.mem ((c.tc : Thread Cert.WIn1RefIdeal.nD Cert.WIn1RefIdeal.τ).loc Cert.WIn1RefIdeal.main_arg8) = m' ((c.tc : Thread Cert.WIn1RefIdeal.nD Cert.WIn1RefIdeal.τ).loc Cert.WIn1RefIdeal.main_arg8))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v2) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v7) = v2 c
          ∧ r.2.mem ((c.tc : Thread Cert.AdamInRefIdeal.nD Cert.AdamInRefIdeal.τ).loc Cert.AdamInRefIdeal.main_v13) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v1) = v0 c
          ∧ r.2.mem ((c.tc : Thread Cert.AdamProjRefIdeal.nD Cert.AdamProjRefIdeal.τ).loc Cert.AdamProjRefIdeal.main_v25) = v1 c
          ∧ r.2.mem ((c.tc : Thread Cert.AdamProjRefIdeal.nD Cert.AdamProjRefIdeal.τ).loc Cert.AdamProjRefIdeal.main_v6) = v2 c
          ∧ r.2.mem ((c.tc : Thread Cert.AdamProjRefIdeal.nD Cert.AdamProjRefIdeal.τ).loc Cert.AdamProjRefIdeal.main_v12) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)) (v21 : (c : Dev Cert.AdamSmallIdeal.nD) → Buf (Elt Ideal) ((c.tc : Thread Cert.AdamSmallIdeal.nD Cert.AdamSmallIdeal.τ).loc Cert.AdamSmallIdeal.main_v0_21)) (v22 : (c : Dev Cert.AdamSmallIdeal.nD) → Buf (Elt Ideal) ((c.tc : Thread Cert.AdamSmallIdeal.nD Cert.AdamSmallIdeal.τ).loc Cert.AdamSmallIdeal.main_v0_22)) (v23 : (c : Dev Cert.AdamSmallIdeal.nD) → Buf (Elt Ideal) ((c.tc : Thread Cert.AdamSmallIdeal.nD Cert.AdamSmallIdeal.τ).loc Cert.AdamSmallIdeal.main_v0_23)) (v24 : (c : Dev Cert.AdamSmallIdeal.nD) → Buf (Elt Ideal) ((c.tc : Thread Cert.AdamSmallIdeal.nD Cert.AdamSmallIdeal.τ).loc Cert.AdamSmallIdeal.main_v0_24)) (v25 : (c : Dev Cert.AdamSmallIdeal.nD) → Buf (Elt Ideal) ((c.tc : Thread Cert.AdamSmallIdeal.nD Cert.AdamSmallIdeal.τ).loc Cert.AdamSmallIdeal.main_v0_25)) (v26 : (c : Dev Cert.AdamSmallIdeal.nD) → Buf (Elt Ideal) ((c.tc : Thread Cert.AdamSmallIdeal.nD Cert.AdamSmallIdeal.τ).loc Cert.AdamSmallIdeal.main_v0_26)) (v27 : (c : Dev Cert.AdamSmallIdeal.nD) → Buf (Elt Ideal) ((c.tc : Thread Cert.AdamSmallIdeal.nD Cert.AdamSmallIdeal.τ).loc Cert.AdamSmallIdeal.main_v0_27)) (v28 : (c : Dev Cert.AdamSmallIdeal.nD) → Buf (Elt Ideal) ((c.tc : Thread Cert.AdamSmallIdeal.nD Cert.AdamSmallIdeal.τ).loc Cert.AdamSmallIdeal.main_v0_28)) (v29 : (c : Dev Cert.AdamSmallIdeal.nD) → Buf (Elt Ideal) ((c.tc : Thread Cert.AdamSmallIdeal.nD Cert.AdamSmallIdeal.τ).loc Cert.AdamSmallIdeal.main_v0_29)) (v30 : (c : Dev Cert.AdamSmallIdeal.nD) → Buf (Elt Ideal) ((c.tc : Thread Cert.AdamSmallIdeal.nD Cert.AdamSmallIdeal.τ).loc Cert.AdamSmallIdeal.main_v0_30)) (v31 : (c : Dev Cert.AdamSmallIdeal.nD) → Buf (Elt Ideal) ((c.tc : Thread Cert.AdamSmallIdeal.nD Cert.AdamSmallIdeal.τ).loc Cert.AdamSmallIdeal.main_v0_31)) (v32 : (c : Dev Cert.AdamSmallIdeal.nD) → Buf (Elt Ideal) ((c.tc : Thread Cert.AdamSmallIdeal.nD Cert.AdamSmallIdeal.τ).loc Cert.AdamSmallIdeal.main_v0_32)) (v33 : (c : Dev Cert.AdamSmallIdeal.nD) → Buf (Elt Ideal) ((c.tc : Thread Cert.AdamSmallIdeal.nD Cert.AdamSmallIdeal.τ).loc Cert.AdamSmallIdeal.main_v0_33)) (v34 : (c : Dev Cert.AdamSmallIdeal.nD) → Buf (Elt Ideal) ((c.tc : Thread Cert.AdamSmallIdeal.nD Cert.AdamSmallIdeal.τ).loc Cert.AdamSmallIdeal.main_v0_34)) (v35 : (c : Dev Cert.AdamSmallIdeal.nD) → Buf (Elt Ideal) ((c.tc : Thread Cert.AdamSmallIdeal.nD Cert.AdamSmallIdeal.τ).loc Cert.AdamSmallIdeal.main_v0_35)) (v36 : (c : Dev Cert.AdamSmallIdeal.nD) → Buf (Elt Ideal) ((c.tc : Thread Cert.AdamSmallIdeal.nD Cert.AdamSmallIdeal.τ).loc Cert.AdamSmallIdeal.main_v0_36)) (v37 : (c : Dev Cert.AdamSmallIdeal.nD) → Buf (Elt Ideal) ((c.tc : Thread Cert.AdamSmallIdeal.nD Cert.AdamSmallIdeal.τ).loc Cert.AdamSmallIdeal.main_v0_37)) (v38 : (c : Dev Cert.AdamSmallIdeal.nD) → Buf (Elt Ideal) ((c.tc : Thread Cert.AdamSmallIdeal.nD Cert.AdamSmallIdeal.τ).loc Cert.AdamSmallIdeal.main_v0_38)) (v39 : (c : Dev Cert.AdamSmallIdeal.nD) → Buf (Elt Ideal) ((c.tc : Thread Cert.AdamSmallIdeal.nD Cert.AdamSmallIdeal.τ).loc Cert.AdamSmallIdeal.main_v0_39)) (v40 : (c : Dev Cert.AdamSmallIdeal.nD) → Buf (Elt Ideal) ((c.tc : Thread Cert.AdamSmallIdeal.nD Cert.AdamSmallIdeal.τ).loc Cert.AdamSmallIdeal.main_v0_40)) (v41 : (c : Dev Cert.AdamSmallIdeal.nD) → Buf (Elt Ideal) ((c.tc : Thread Cert.AdamSmallIdeal.nD Cert.AdamSmallIdeal.τ).loc Cert.AdamSmallIdeal.main_v0_41)) (v42 : (c : Dev Cert.AdamSmallIdeal.nD) → Buf (Elt Ideal) ((c.tc : Thread Cert.AdamSmallIdeal.nD Cert.AdamSmallIdeal.τ).loc Cert.AdamSmallIdeal.main_v0_42)) (v43 : (c : Dev Cert.AdamSmallIdeal.nD) → Buf (Elt Ideal) ((c.tc : Thread Cert.AdamSmallIdeal.nD Cert.AdamSmallIdeal.τ).loc Cert.AdamSmallIdeal.main_v0_43)) (v44 : (c : Dev Cert.AdamSmallIdeal.nD) → Buf (Elt Ideal) ((c.tc : Thread Cert.AdamSmallIdeal.nD Cert.AdamSmallIdeal.τ).loc Cert.AdamSmallIdeal.main_v0_44)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_v0_21) = v21 c
          ∧ r.2.mem ((c.tc : Thread Cert.AdamSmallIdeal.nD Cert.AdamSmallIdeal.τ).loc Cert.AdamSmallIdeal.main_v0_22) = v22 c
          ∧ r.2.mem ((c.tc : Thread Cert.AdamSmallIdeal.nD Cert.AdamSmallIdeal.τ).loc Cert.AdamSmallIdeal.main_v0_23) = v23 c
          ∧ r.2.mem ((c.tc : Thread Cert.AdamSmallIdeal.nD Cert.AdamSmallIdeal.τ).loc Cert.AdamSmallIdeal.main_v0_24) = v24 c
          ∧ r.2.mem ((c.tc : Thread Cert.AdamSmallIdeal.nD Cert.AdamSmallIdeal.τ).loc Cert.AdamSmallIdeal.main_v0_25) = v25 c
          ∧ r.2.mem ((c.tc : Thread Cert.AdamSmallIdeal.nD Cert.AdamSmallIdeal.τ).loc Cert.AdamSmallIdeal.main_v0_26) = v26 c
          ∧ r.2.mem ((c.tc : Thread Cert.AdamSmallIdeal.nD Cert.AdamSmallIdeal.τ).loc Cert.AdamSmallIdeal.main_v0_27) = v27 c
          ∧ r.2.mem ((c.tc : Thread Cert.AdamSmallIdeal.nD Cert.AdamSmallIdeal.τ).loc Cert.AdamSmallIdeal.main_v0_28) = v28 c
          ∧ r.2.mem ((c.tc : Thread Cert.AdamSmallIdeal.nD Cert.AdamSmallIdeal.τ).loc Cert.AdamSmallIdeal.main_v0_29) = v29 c
          ∧ r.2.mem ((c.tc : Thread Cert.AdamSmallIdeal.nD Cert.AdamSmallIdeal.τ).loc Cert.AdamSmallIdeal.main_v0_30) = v30 c
          ∧ r.2.mem ((c.tc : Thread Cert.AdamSmallIdeal.nD Cert.AdamSmallIdeal.τ).loc Cert.AdamSmallIdeal.main_v0_31) = v31 c
          ∧ r.2.mem ((c.tc : Thread Cert.AdamSmallIdeal.nD Cert.AdamSmallIdeal.τ).loc Cert.AdamSmallIdeal.main_v0_32) = v32 c
          ∧ r.2.mem ((c.tc : Thread Cert.AdamSmallIdeal.nD Cert.AdamSmallIdeal.τ).loc Cert.AdamSmallIdeal.main_v0_33) = v33 c
          ∧ r.2.mem ((c.tc : Thread Cert.AdamSmallIdeal.nD Cert.AdamSmallIdeal.τ).loc Cert.AdamSmallIdeal.main_v0_34) = v34 c
          ∧ r.2.mem ((c.tc : Thread Cert.AdamSmallIdeal.nD Cert.AdamSmallIdeal.τ).loc Cert.AdamSmallIdeal.main_v0_35) = v35 c
          ∧ r.2.mem ((c.tc : Thread Cert.AdamSmallIdeal.nD Cert.AdamSmallIdeal.τ).loc Cert.AdamSmallIdeal.main_v0_36) = v36 c
          ∧ r.2.mem ((c.tc : Thread Cert.AdamSmallIdeal.nD Cert.AdamSmallIdeal.τ).loc Cert.AdamSmallIdeal.main_v0_37) = v37 c
          ∧ r.2.mem ((c.tc : Thread Cert.AdamSmallIdeal.nD Cert.AdamSmallIdeal.τ).loc Cert.AdamSmallIdeal.main_v0_38) = v38 c
          ∧ r.2.mem ((c.tc : Thread Cert.AdamSmallIdeal.nD Cert.AdamSmallIdeal.τ).loc Cert.AdamSmallIdeal.main_v0_39) = v39 c
          ∧ r.2.mem ((c.tc : Thread Cert.AdamSmallIdeal.nD Cert.AdamSmallIdeal.τ).loc Cert.AdamSmallIdeal.main_v0_40) = v40 c
          ∧ r.2.mem ((c.tc : Thread Cert.AdamSmallIdeal.nD Cert.AdamSmallIdeal.τ).loc Cert.AdamSmallIdeal.main_v0_41) = v41 c
          ∧ r.2.mem ((c.tc : Thread Cert.AdamSmallIdeal.nD Cert.AdamSmallIdeal.τ).loc Cert.AdamSmallIdeal.main_v0_42) = v42 c
          ∧ r.2.mem ((c.tc : Thread Cert.AdamSmallIdeal.nD Cert.AdamSmallIdeal.τ).loc Cert.AdamSmallIdeal.main_v0_43) = v43 c
          ∧ r.2.mem ((c.tc : Thread Cert.AdamSmallIdeal.nD Cert.AdamSmallIdeal.τ).loc Cert.AdamSmallIdeal.main_v0_44) = v44 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v280) = v0 c
          ∧ r.2.mem ((c.tc : Thread Cert.AdamSmallRefIdeal.nD Cert.AdamSmallRefIdeal.τ).loc Cert.AdamSmallRefIdeal.main_v0) = v1 c
          ∧ r.2.mem ((c.tc : Thread Cert.AdamSmallRefIdeal.nD Cert.AdamSmallRefIdeal.τ).loc Cert.AdamSmallRefIdeal.main_v25) = v2 c
          ∧ r.2.mem ((c.tc : Thread Cert.AdamSmallRefIdeal.nD Cert.AdamSmallRefIdeal.τ).loc Cert.AdamSmallRefIdeal.main_v50) = v3 c
          ∧ r.2.mem ((c.tc : Thread Cert.AdamSmallRefIdeal.nD Cert.AdamSmallRefIdeal.τ).loc Cert.AdamSmallRefIdeal.main_v75) = v4 c
          ∧ r.2.mem ((c.tc : Thread Cert.AdamSmallRefIdeal.nD Cert.AdamSmallRefIdeal.τ).loc Cert.AdamSmallRefIdeal.main_v100) = v5 c
          ∧ r.2.mem ((c.tc : Thread Cert.AdamSmallRefIdeal.nD Cert.AdamSmallRefIdeal.τ).loc Cert.AdamSmallRefIdeal.main_v125) = v6 c
          ∧ r.2.mem ((c.tc : Thread Cert.AdamSmallRefIdeal.nD Cert.AdamSmallRefIdeal.τ).loc Cert.AdamSmallRefIdeal.main_v150) = v7 c
          ∧ r.2.mem ((c.tc : Thread Cert.AdamSmallRefIdeal.nD Cert.AdamSmallRefIdeal.τ).loc Cert.AdamSmallRefIdeal.main_v175) = v8 c
          ∧ r.2.mem ((c.tc : Thread Cert.AdamSmallRefIdeal.nD Cert.AdamSmallRefIdeal.τ).loc Cert.AdamSmallRefIdeal.main_v200) = v9 c
          ∧ r.2.mem ((c.tc : Thread Cert.AdamSmallRefIdeal.nD Cert.AdamSmallRefIdeal.τ).loc Cert.AdamSmallRefIdeal.main_v225) = v10 c
          ∧ r.2.mem ((c.tc : Thread Cert.AdamSmallRefIdeal.nD Cert.AdamSmallRefIdeal.τ).loc Cert.AdamSmallRefIdeal.main_v250) = v11 c
          ∧ r.2.mem ((c.tc : Thread Cert.AdamSmallRefIdeal.nD Cert.AdamSmallRefIdeal.τ).loc Cert.AdamSmallRefIdeal.main_v24) = v12 c
          ∧ r.2.mem ((c.tc : Thread Cert.AdamSmallRefIdeal.nD Cert.AdamSmallRefIdeal.τ).loc Cert.AdamSmallRefIdeal.main_v49) = v13 c
          ∧ r.2.mem ((c.tc : Thread Cert.AdamSmallRefIdeal.nD Cert.AdamSmallRefIdeal.τ).loc Cert.AdamSmallRefIdeal.main_v74) = v14 c
          ∧ r.2.mem ((c.tc : Thread Cert.AdamSmallRefIdeal.nD Cert.AdamSmallRefIdeal.τ).loc Cert.AdamSmallRefIdeal.main_v99) = v15 c
          ∧ r.2.mem ((c.tc : Thread Cert.AdamSmallRefIdeal.nD Cert.AdamSmallRefIdeal.τ).loc Cert.AdamSmallRefIdeal.main_v124) = v16 c
          ∧ r.2.mem ((c.tc : Thread Cert.AdamSmallRefIdeal.nD Cert.AdamSmallRefIdeal.τ).loc Cert.AdamSmallRefIdeal.main_v149) = v17 c
          ∧ r.2.mem ((c.tc : Thread Cert.AdamSmallRefIdeal.nD Cert.AdamSmallRefIdeal.τ).loc Cert.AdamSmallRefIdeal.main_v174) = v18 c
          ∧ r.2.mem ((c.tc : Thread Cert.AdamSmallRefIdeal.nD Cert.AdamSmallRefIdeal.τ).loc Cert.AdamSmallRefIdeal.main_v199) = v19 c
          ∧ r.2.mem ((c.tc : Thread Cert.AdamSmallRefIdeal.nD Cert.AdamSmallRefIdeal.τ).loc Cert.AdamSmallRefIdeal.main_v224) = v20 c
          ∧ r.2.mem ((c.tc : Thread Cert.AdamSmallRefIdeal.nD Cert.AdamSmallRefIdeal.τ).loc Cert.AdamSmallRefIdeal.main_v249) = v21 c
          ∧ r.2.mem ((c.tc : Thread Cert.AdamSmallRefIdeal.nD Cert.AdamSmallRefIdeal.τ).loc Cert.AdamSmallRefIdeal.main_v274) = v22 c
          ∧ r.2.mem ((c.tc : Thread Cert.AdamSmallRefIdeal.nD Cert.AdamSmallRefIdeal.τ).loc Cert.AdamSmallRefIdeal.main_v5) = v23 c
          ∧ r.2.mem ((c.tc : Thread Cert.AdamSmallRefIdeal.nD Cert.AdamSmallRefIdeal.τ).loc Cert.AdamSmallRefIdeal.main_v30) = v24 c
          ∧ r.2.mem ((c.tc : Thread Cert.AdamSmallRefIdeal.nD Cert.AdamSmallRefIdeal.τ).loc Cert.AdamSmallRefIdeal.main_v55) = v25 c
          ∧ r.2.mem ((c.tc : Thread Cert.AdamSmallRefIdeal.nD Cert.AdamSmallRefIdeal.τ).loc Cert.AdamSmallRefIdeal.main_v80) = v26 c
          ∧ r.2.mem ((c.tc : Thread Cert.AdamSmallRefIdeal.nD Cert.AdamSmallRefIdeal.τ).loc Cert.AdamSmallRefIdeal.main_v105) = v27 c
          ∧ r.2.mem ((c.tc : Thread Cert.AdamSmallRefIdeal.nD Cert.AdamSmallRefIdeal.τ).loc Cert.AdamSmallRefIdeal.main_v130) = v28 c
          ∧ r.2.mem ((c.tc : Thread Cert.AdamSmallRefIdeal.nD Cert.AdamSmallRefIdeal.τ).loc Cert.AdamSmallRefIdeal.main_v155) = v29 c
          ∧ r.2.mem ((c.tc : Thread Cert.AdamSmallRefIdeal.nD Cert.AdamSmallRefIdeal.τ).loc Cert.AdamSmallRefIdeal.main_v180) = v30 c
          ∧ r.2.mem ((c.tc : Thread Cert.AdamSmallRefIdeal.nD Cert.AdamSmallRefIdeal.τ).loc Cert.AdamSmallRefIdeal.main_v205) = v31 c
          ∧ r.2.mem ((c.tc : Thread Cert.AdamSmallRefIdeal.nD Cert.AdamSmallRefIdeal.τ).loc Cert.AdamSmallRefIdeal.main_v230) = v32 c
          ∧ r.2.mem ((c.tc : Thread Cert.AdamSmallRefIdeal.nD Cert.AdamSmallRefIdeal.τ).loc Cert.AdamSmallRefIdeal.main_v255) = v33 c
          ∧ r.2.mem ((c.tc : Thread Cert.AdamSmallRefIdeal.nD Cert.AdamSmallRefIdeal.τ).loc Cert.AdamSmallRefIdeal.main_v11) = v34 c
          ∧ r.2.mem ((c.tc : Thread Cert.AdamSmallRefIdeal.nD Cert.AdamSmallRefIdeal.τ).loc Cert.AdamSmallRefIdeal.main_v36) = v35 c
          ∧ r.2.mem ((c.tc : Thread Cert.AdamSmallRefIdeal.nD Cert.AdamSmallRefIdeal.τ).loc Cert.AdamSmallRefIdeal.main_v61) = v36 c
          ∧ r.2.mem ((c.tc : Thread Cert.AdamSmallRefIdeal.nD Cert.AdamSmallRefIdeal.τ).loc Cert.AdamSmallRefIdeal.main_v86) = v37 c
          ∧ r.2.mem ((c.tc : Thread Cert.AdamSmallRefIdeal.nD Cert.AdamSmallRefIdeal.τ).loc Cert.AdamSmallRefIdeal.main_v111) = v38 c
          ∧ r.2.mem ((c.tc : Thread Cert.AdamSmallRefIdeal.nD Cert.AdamSmallRefIdeal.τ).loc Cert.AdamSmallRefIdeal.main_v136) = v39 c
          ∧ r.2.mem ((c.tc : Thread Cert.AdamSmallRefIdeal.nD Cert.AdamSmallRefIdeal.τ).loc Cert.AdamSmallRefIdeal.main_v161) = v40 c
          ∧ r.2.mem ((c.tc : Thread Cert.AdamSmallRefIdeal.nD Cert.AdamSmallRefIdeal.τ).loc Cert.AdamSmallRefIdeal.main_v186) = v41 c
          ∧ r.2.mem ((c.tc : Thread Cert.AdamSmallRefIdeal.nD Cert.AdamSmallRefIdeal.τ).loc Cert.AdamSmallRefIdeal.main_v211) = v42 c
          ∧ r.2.mem ((c.tc : Thread Cert.AdamSmallRefIdeal.nD Cert.AdamSmallRefIdeal.τ).loc Cert.AdamSmallRefIdeal.main_v236) = v43 c
          ∧ r.2.mem ((c.tc : Thread Cert.AdamSmallRefIdeal.nD Cert.AdamSmallRefIdeal.τ).loc Cert.AdamSmallRefIdeal.main_v261) = v44 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)
      ∧ m' ((c.tc : Thread Cert.InFwdRefIdeal.nD Cert.InFwdRefIdeal.τ).loc Cert.InFwdRefIdeal.main_arg4) = m ((c.tc : Thread Cert.InFwdIdeal.nD Cert.InFwdIdeal.τ).loc Cert.InFwdIdeal.main_arg4)) →
    ∃ (v0 : (c : Dev Cert.InFwdIdeal.nD) → Buf (Elt Ideal) ((c.tc : Thread Cert.InFwdIdeal.nD Cert.InFwdIdeal.τ).loc Cert.InFwdIdeal.main_v3_0)) (v1 : (c : Dev Cert.InFwdIdeal.nD) → Buf (Elt Ideal) ((c.tc : Thread Cert.InFwdIdeal.nD Cert.InFwdIdeal.τ).loc Cert.InFwdIdeal.main_v3_1)) (v2 : (c : Dev Cert.InFwdIdeal.nD) → Buf (Elt Ideal) ((c.tc : Thread Cert.InFwdIdeal.nD Cert.InFwdIdeal.τ).loc Cert.InFwdIdeal.main_v3_2)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v3_0) = v0 c
          ∧ r.2.mem ((c.tc : Thread Cert.InFwdIdeal.nD Cert.InFwdIdeal.τ).loc Cert.InFwdIdeal.main_v3_1) = v1 c
          ∧ r.2.mem ((c.tc : Thread Cert.InFwdIdeal.nD Cert.InFwdIdeal.τ).loc Cert.InFwdIdeal.main_v3_2) = v2 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
          ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v4) = v0 c
          ∧ r.2.mem ((c.tc : Thread Cert.InFwdRefIdeal.nD Cert.InFwdRefIdeal.τ).loc Cert.InFwdRefIdeal.main_v35) = v1 c
          ∧ r.2.mem ((c.tc : Thread Cert.InFwdRefIdeal.nD Cert.InFwdRefIdeal.τ).loc Cert.InFwdRefIdeal.main_v42) = v2 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3)
          ∧ r.2.mem ((c.tc : Thread Cert.InFwdRefIdeal.nD Cert.InFwdRefIdeal.τ).loc Cert.InFwdRefIdeal.main_arg4) = m' ((c.tc : Thread Cert.InFwdRefIdeal.nD Cert.InFwdRefIdeal.τ).loc Cert.InFwdRefIdeal.main_arg4))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)
      ∧ m' ((c.tc : Thread Cert.OutFwdRefIdeal.nD Cert.OutFwdRefIdeal.τ).loc Cert.OutFwdRefIdeal.main_arg6) = m ((c.tc : Thread Cert.OutFwdIdeal.nD Cert.OutFwdIdeal.τ).loc Cert.OutFwdIdeal.main_arg6)) →
    ∃ (v0 : (c : Dev Cert.OutFwdIdeal.nD) → Buf (Elt Ideal) ((c.tc : Thread Cert.OutFwdIdeal.nD Cert.OutFwdIdeal.τ).loc Cert.OutFwdIdeal.main_v1_0)) (v1 : (c : Dev Cert.OutFwdIdeal.nD) → Buf (Elt Ideal) ((c.tc : Thread Cert.OutFwdIdeal.nD Cert.OutFwdIdeal.τ).loc Cert.OutFwdIdeal.main_v1_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1_0) = v0 c
          ∧ r.2.mem ((c.tc : Thread Cert.OutFwdIdeal.nD Cert.OutFwdIdeal.τ).loc Cert.OutFwdIdeal.main_v1_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
          ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v46) = v0 c
          ∧ r.2.mem ((c.tc : Thread Cert.OutFwdRefIdeal.nD Cert.OutFwdRefIdeal.τ).loc Cert.OutFwdRefIdeal.main_v50) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5)
          ∧ r.2.mem ((c.tc : Thread Cert.OutFwdRefIdeal.nD Cert.OutFwdRefIdeal.τ).loc Cert.OutFwdRefIdeal.main_arg6) = m' ((c.tc : Thread Cert.OutFwdRefIdeal.nD Cert.OutFwdRefIdeal.τ).loc Cert.OutFwdRefIdeal.main_arg6))

def preserves_Ple_PleIdeal : Prop :=
  True

def preserves_OutBwd_OutBwdIdeal : Prop :=
  True

def preserves_HgFwd_HgFwdIdeal : Prop :=
  True

def preserves_MlFwd_MlFwdIdeal : Prop :=
  True

def Claim : Prop :=
  ∃ (hHgrn2 : Cert.Hgrn2.Facts) (hHgrn2Ideal : Cert.Hgrn2Ideal.Facts) (hFfn : Cert.Ffn.Facts) (hFfnIdeal : Cert.FfnIdeal.Facts) (hFfnRefIdeal : Cert.FfnRefIdeal.Facts) (hFfnFwd : Cert.FfnFwd.Facts) (hFfnFwdIdeal : Cert.FfnFwdIdeal.Facts) (hFfnFwdRefIdeal : Cert.FfnFwdRefIdeal.Facts) (hWGate : Cert.WGate.Facts) (hWGateIdeal : Cert.WGateIdeal.Facts) (hWGateRefIdeal : Cert.WGateRefIdeal.Facts) (hWDown : Cert.WDown.Facts) (hWDownIdeal : Cert.WDownIdeal.Facts) (hWDownRefIdeal : Cert.WDownRefIdeal.Facts) (hWOut : Cert.WOut.Facts) (hWOutIdeal : Cert.WOutIdeal.Facts) (hWOutRefIdeal : Cert.WOutRefIdeal.Facts) (hWPle : Cert.WPle.Facts) (hWPleIdeal : Cert.WPleIdeal.Facts) (hWPleRefIdeal : Cert.WPleRefIdeal.Facts) (hWProj : Cert.WProj.Facts) (hWProjIdeal : Cert.WProjIdeal.Facts) (hWProjRefIdeal : Cert.WProjRefIdeal.Facts) (hInBwd : Cert.InBwd.Facts) (hInBwdIdeal : Cert.InBwdIdeal.Facts) (hInBwdRefIdeal : Cert.InBwdRefIdeal.Facts) (hWIn0 : Cert.WIn0.Facts) (hWIn0Ideal : Cert.WIn0Ideal.Facts) (hWIn0RefIdeal : Cert.WIn0RefIdeal.Facts) (hWIn1 : Cert.WIn1.Facts) (hWIn1Ideal : Cert.WIn1Ideal.Facts) (hWIn1RefIdeal : Cert.WIn1RefIdeal.Facts) (hAdamIn : Cert.AdamIn.Facts) (hAdamInIdeal : Cert.AdamInIdeal.Facts) (hAdamInRefIdeal : Cert.AdamInRefIdeal.Facts) (hAdamDown : Cert.AdamDown.Facts) (hAdamDownIdeal : Cert.AdamDownIdeal.Facts) (hAdamDownRefIdeal : Cert.AdamDownRefIdeal.Facts) (hAdamOut : Cert.AdamOut.Facts) (hAdamOutIdeal : Cert.AdamOutIdeal.Facts) (hAdamOutRefIdeal : Cert.AdamOutRefIdeal.Facts) (hAdamProj : Cert.AdamProj.Facts) (hAdamProjIdeal : Cert.AdamProjIdeal.Facts) (hAdamProjRefIdeal : Cert.AdamProjRefIdeal.Facts) (hAdamSmall : Cert.AdamSmall.Facts) (hAdamSmallIdeal : Cert.AdamSmallIdeal.Facts) (hAdamSmallRefIdeal : Cert.AdamSmallRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hPle : Cert.Ple.Facts) (hPleIdeal : Cert.PleIdeal.Facts) (hOutBwd : Cert.OutBwd.Facts) (hOutBwdIdeal : Cert.OutBwdIdeal.Facts) (hHgFwd : Cert.HgFwd.Facts) (hHgFwdIdeal : Cert.HgFwdIdeal.Facts) (hMlFwd : Cert.MlFwd.Facts) (hMlFwdIdeal : Cert.MlFwdIdeal.Facts) (hPre_ffn_finite : Cert.Pre_ffn_finite.Facts),
    quiescent_Hgrn2 (hHgrn2 := hHgrn2)
    ∧ quiescent_Hgrn2Ideal (hHgrn2Ideal := hHgrn2Ideal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_WGate (hWGate := hWGate)
    ∧ quiescent_WGateIdeal (hWGateIdeal := hWGateIdeal)
    ∧ quiescent_WGateRefIdeal (hWGateRefIdeal := hWGateRefIdeal)
    ∧ quiescent_WDown (hWDown := hWDown)
    ∧ quiescent_WDownIdeal (hWDownIdeal := hWDownIdeal)
    ∧ quiescent_WDownRefIdeal (hWDownRefIdeal := hWDownRefIdeal)
    ∧ quiescent_WOut (hWOut := hWOut)
    ∧ quiescent_WOutIdeal (hWOutIdeal := hWOutIdeal)
    ∧ quiescent_WOutRefIdeal (hWOutRefIdeal := hWOutRefIdeal)
    ∧ quiescent_WPle (hWPle := hWPle)
    ∧ quiescent_WPleIdeal (hWPleIdeal := hWPleIdeal)
    ∧ quiescent_WPleRefIdeal (hWPleRefIdeal := hWPleRefIdeal)
    ∧ quiescent_WProj (hWProj := hWProj)
    ∧ quiescent_WProjIdeal (hWProjIdeal := hWProjIdeal)
    ∧ quiescent_WProjRefIdeal (hWProjRefIdeal := hWProjRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_WIn0 (hWIn0 := hWIn0)
    ∧ quiescent_WIn0Ideal (hWIn0Ideal := hWIn0Ideal)
    ∧ quiescent_WIn0RefIdeal (hWIn0RefIdeal := hWIn0RefIdeal)
    ∧ quiescent_WIn1 (hWIn1 := hWIn1)
    ∧ quiescent_WIn1Ideal (hWIn1Ideal := hWIn1Ideal)
    ∧ quiescent_WIn1RefIdeal (hWIn1RefIdeal := hWIn1RefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_Ple (hPle := hPle)
    ∧ quiescent_PleIdeal (hPleIdeal := hPleIdeal)
    ∧ quiescent_OutBwd (hOutBwd := hOutBwd)
    ∧ quiescent_OutBwdIdeal (hOutBwdIdeal := hOutBwdIdeal)
    ∧ quiescent_HgFwd (hHgFwd := hHgFwd)
    ∧ quiescent_HgFwdIdeal (hHgFwdIdeal := hHgFwdIdeal)
    ∧ quiescent_MlFwd (hMlFwd := hMlFwd)
    ∧ quiescent_MlFwdIdeal (hMlFwdIdeal := hMlFwdIdeal)
    ∧ preserves_Hgrn2_Hgrn2Ideal
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_WGate_WGateIdeal
    ∧ algebraic_WGateIdeal_WGateRefIdeal (hWGateIdeal := hWGateIdeal) (hWGateRefIdeal := hWGateRefIdeal)
    ∧ preserves_WDown_WDownIdeal
    ∧ algebraic_WDownIdeal_WDownRefIdeal (hWDownIdeal := hWDownIdeal) (hWDownRefIdeal := hWDownRefIdeal)
    ∧ preserves_WOut_WOutIdeal
    ∧ algebraic_WOutIdeal_WOutRefIdeal (hWOutIdeal := hWOutIdeal) (hWOutRefIdeal := hWOutRefIdeal)
    ∧ preserves_WPle_WPleIdeal
    ∧ algebraic_WPleIdeal_WPleRefIdeal (hWPleIdeal := hWPleIdeal) (hWPleRefIdeal := hWPleRefIdeal)
    ∧ preserves_WProj_WProjIdeal
    ∧ algebraic_WProjIdeal_WProjRefIdeal (hWProjIdeal := hWProjIdeal) (hWProjRefIdeal := hWProjRefIdeal)
    ∧ preserves_InBwd_InBwdIdeal
    ∧ algebraic_InBwdIdeal_InBwdRefIdeal (hInBwdIdeal := hInBwdIdeal) (hInBwdRefIdeal := hInBwdRefIdeal)
    ∧ preserves_WIn0_WIn0Ideal
    ∧ algebraic_WIn0Ideal_WIn0RefIdeal (hWIn0Ideal := hWIn0Ideal) (hWIn0RefIdeal := hWIn0RefIdeal)
    ∧ preserves_WIn1_WIn1Ideal
    ∧ algebraic_WIn1Ideal_WIn1RefIdeal (hWIn1Ideal := hWIn1Ideal) (hWIn1RefIdeal := hWIn1RefIdeal)
    ∧ preserves_AdamIn_AdamInIdeal
    ∧ algebraic_AdamInIdeal_AdamInRefIdeal (hAdamInIdeal := hAdamInIdeal) (hAdamInRefIdeal := hAdamInRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_Ple_PleIdeal
    ∧ preserves_OutBwd_OutBwdIdeal
    ∧ preserves_HgFwd_HgFwdIdeal
    ∧ preserves_MlFwd_MlFwdIdeal
-- ==== Pre_ffn_finite.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn_part1 {F : FTy → Type} [FloatOps F] (main_arg6 : FVec F S1x1024 .f32) (main_v2 : IVec S8192x1024 1) (main_v5 : IVec S8192x1024 1) (main_v8 : IVec S1024x2816 1) (main_v11 : IVec S1024x2816 1) (main_v14 : IVec S2816x1024 1) (main_v17 : IVec S1x1024 1) : IVec S8192x1024 1 × IVec S8192x1024 1 × IVec S1024x2816 1 × IVec S1024x2816 1 × IVec S2816x1024 1 × IVec S1x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S1024x2816 .f32) (main_arg3 : FVec F S1024x2816 .f32) (main_arg4 : FVec F S2816x1024 .f32) (main_arg5 : FVec F S1x1024 .f32) (main_arg6 : FVec F S1x1024 .f32) : IVec S8192x1024 1 × IVec S8192x1024 1 × IVec S1024x2816 1 × IVec S1024x2816 1 × IVec S2816x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Hgrn2.lean ====
abbrev S8192x3712 : Shape := ⟨2, ![8192, 3712]⟩
abbrev S2x512 : Shape := ⟨2, ![2, 512]⟩
abbrev S8192x512 : Shape := ⟨2, ![8192, 512]⟩
abbrev S128x4x128x128 : Shape := ⟨4, ![128, 4, 128, 128]⟩
abbrev S512x512 : Shape := ⟨2, ![512, 512]⟩
abbrev S8x4x128x128 : Shape := ⟨4, ![8, 4, 128, 128]⟩
abbrev S4x128x128 : Shape := ⟨3, ![4, 128, 128]⟩
abbrev S32x64x128 : Shape := ⟨3, ![32, 64, 128]⟩
abbrev S1x512 : Shape := ⟨2, ![1, 512]⟩
abbrev S8x512 : Shape := ⟨2, ![8, 512]⟩
abbrev S512 : Shape := ⟨1, ![512]⟩
abbrev S1x128 : Shape := ⟨2, ![1, 128]⟩
abbrev S1x1x128 : Shape := ⟨3, ![1, 1, 128]⟩
abbrev S32x1x128 : Shape := ⟨3, ![32, 1, 128]⟩
abbrev S8x64x512 : Shape := ⟨3, ![8, 64, 512]⟩
abbrev S8x64x128 : Shape := ⟨3, ![8, 64, 128]⟩
abbrev S8x1x64x128 : Shape := ⟨4, ![8, 1, 64, 128]⟩
abbrev S8x4x64x128 : Shape := ⟨4, ![8, 4, 64, 128]⟩
abbrev S32x128x128 : Shape := ⟨3, ![32, 128, 128]⟩
abbrev S8x4x1x128 : Shape := ⟨4, ![8, 4, 1, 128]⟩
abbrev S1x4x1x128 : Shape := ⟨4, ![1, 4, 1, 128]⟩
abbrev S4x1x128 : Shape := ⟨3, ![4, 1, 128]⟩
abbrev S1x4x128x128 : Shape := ⟨4, ![1, 4, 128, 128]⟩
abbrev S128x128 : Shape := ⟨2, ![128, 128]⟩
abbrev S1x16x128 : Shape := ⟨3, ![1, 16, 128]⟩
abbrev S32x16x128 : Shape := ⟨3, ![32, 16, 128]⟩
abbrev S1x8x128 : Shape := ⟨3, ![1, 8, 128]⟩
abbrev S32x8x128 : Shape := ⟨3, ![32, 8, 128]⟩
abbrev S32x576x128 : Shape := ⟨3, ![32, 576, 128]⟩
abbrev S18432x128 : Shape := ⟨2, ![18432, 128]⟩
abbrev S32x16x16 : Shape := ⟨3, ![32, 16, 16]⟩
abbrev S32x48x128 : Shape := ⟨3, ![32, 48, 128]⟩
abbrev S32x32x128 : Shape := ⟨3, ![32, 32, 128]⟩
abbrev S32x16x32 : Shape := ⟨3, ![32, 16, 32]⟩
abbrev S32x16x48 : Shape := ⟨3, ![32, 16, 48]⟩
abbrev S32x128 : Shape := ⟨2, ![32, 128]⟩
abbrev S1x64x1 : Shape := ⟨3, ![1, 64, 1]⟩

abbrev nBuf : Space → Nat
  | .hbm => 8
  | .vmem => 24
  | .smem => 0
  | _ => 0

abbrev bufTy : (tb : Table) → Fin (tcTables nBuf tb) → BufTy
  | .hbm, ⟨0, _⟩ => ⟨S8192x3712, .f32⟩
  | .hbm, ⟨1, _⟩ => ⟨S2x512, .f32⟩
  | .hbm, ⟨2, _⟩ => ⟨S8192x512, .f32⟩
  | .hbm, ⟨3, _⟩ => ⟨S128x4x128x128, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S2x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2x512, .f32⟩
  | .local _ .vmem, ⟨7, _⟩ => ⟨S512x512, .f32⟩
  | .local _ .vmem, ⟨8, _⟩ => ⟨S512x512, .f32⟩
  | .local _ .vmem, ⟨9, _⟩ => ⟨S8x4x128x128, .f32⟩
  | .local _ .vmem, ⟨10, _⟩ => ⟨S8x4x128x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S2x512, .f32⟩
  | .local _ .vmem, ⟨18, _⟩ => ⟨S4x128x128, .f32⟩
  | .local _ .vmem, ⟨19, _⟩ => ⟨S32x64x128, .f32⟩
  | .local _ .vmem, ⟨20, _⟩ => ⟨S32x64x128, .f32⟩
  | .local _ .vmem, ⟨21, _⟩ => ⟨S32x64x128, .f32⟩
  | .local _ .vmem, ⟨22, _⟩ => ⟨S32x64x128, .f32⟩
  | .local _ .vmem, ⟨23, _⟩ => ⟨S32x64x128, .f32⟩
  | _, _ => ⟨S8192x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Ffn.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 48
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .bf16⟩
  | .hbm, ⟨36, _⟩ => ⟨S8192x2816, .f32⟩
  | .hbm, ⟨37, _⟩ => ⟨S8192x2816, .bf16⟩
  | .hbm, ⟨38, _⟩ => ⟨S2816x1024, .f32⟩
  | .hbm, ⟨39, _⟩ => ⟨S2816x1024, .bf16⟩
  | .hbm, ⟨40, _⟩ => ⟨S2816x1024, .f32⟩
  | .hbm, ⟨41, _⟩ => ⟨S2816x1024, .bf16⟩
  | .hbm, ⟨42, _⟩ => ⟨S2816x1024, .bf16⟩
  | .hbm, ⟨43, _⟩ => ⟨S8192x2816, .bf16⟩
  | .hbm, ⟨44, _⟩ => ⟨S8192x2816, .bf16⟩
  | .hbm, ⟨45, _⟩ => ⟨S8192x1024, .f32⟩
  | .hbm, ⟨46, _⟩ => ⟨S1x1024, .f32⟩
  | .hbm, ⟨47, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2816x1024, .bf16⟩
  | .local _ .vmem, ⟨9, _⟩ => ⟨S2816x1024, .bf16⟩
  | .local _ .vmem, ⟨10, _⟩ => ⟨S2816x1024, .bf16⟩
  | .local _ .vmem, ⟨11, _⟩ => ⟨S1x1024, .f32⟩
  | .local _ .vmem, ⟨12, _⟩ => ⟨S1x1024, .f32⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev main_v31_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S_, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x1024, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x2816, .bf16⟩
  | .hbm, ⟨75, _⟩ => ⟨S8192x2816, .bf16⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S8192x1, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S_, .f32⟩
  | .hbm, ⟨105, _⟩ => ⟨S8192, .f32⟩
  | .hbm, ⟨106, _⟩ => ⟨S8192x1, .f32⟩
  | .hbm, ⟨107, _⟩ => ⟨S8192x1024, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S_, .f32⟩
  | .hbm, ⟨113, _⟩ => ⟨S8192, .f32⟩
  | .hbm, ⟨114, _⟩ => ⟨S8192x1024, .f32⟩
  | .hbm, ⟨115, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_17 : Ref sig .tc := ⟨.hbm, 109, rfl⟩
abbrev main_v84 : Ref sig .tc := ⟨.hbm, 110, rfl⟩
abbrev main_v85 : Ref sig .tc := ⟨.hbm, 111, rfl⟩
abbrev main_cst_18 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]
-- ==== FfnFwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 19
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x2816, .bf16⟩
  | .hbm, ⟨17, _⟩ => ⟨S8192x2816, .bf16⟩
  | .hbm, ⟨18, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S2816x1024, .bf16⟩
  | .local _ .vmem, ⟨5, _⟩ => ⟨S2816x1024, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnFwdRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | .hbm, ⟨80, _⟩ => ⟨S8192x1024, .bf16⟩
  | .hbm, ⟨81, _⟩ => ⟨S8192x2816, .bf16⟩
  | .hbm, ⟨82, _⟩ => ⟨S8192x2816, .bf16⟩
  | .hbm, ⟨83, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== WGate.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WGateRefIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WDown.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WPle.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WPleRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WProj.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WProjRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InBwd.lean ====
abbrev S8192x1024 : Shape := ⟨2, ![8192, 1024]⟩
abbrev S8192x512 : Shape := ⟨2, ![8192, 512]⟩
abbrev S8192x8 : Shape := ⟨2, ![8192, 8]⟩
abbrev S1024x3592 : Shape := ⟨2, ![1024, 3592]⟩
abbrev S_ : Shape := ⟨0, ![]⟩
abbrev S8192x128 : Shape := ⟨2, ![8192, 128]⟩
abbrev S1024x3712 : Shape := ⟨2, ![1024, 3712]⟩
abbrev S512x1024 : Shape := ⟨2, ![512, 1024]⟩
abbrev S512x512 : Shape := ⟨2, ![512, 512]⟩
abbrev S512x128 : Shape := ⟨2, ![512, 128]⟩
abbrev S512x3712 : Shape := ⟨2, ![512, 3712]⟩

abbrev nBuf : Space → Nat
  | .hbm => 18
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x8, .bf16⟩
  | .hbm, ⟨9, _⟩ => ⟨S1024x3592, .f32⟩
  | .hbm, ⟨10, _⟩ => ⟨S_, .i32⟩
  | .hbm, ⟨11, _⟩ => ⟨S_, .bf16⟩
  | .hbm, ⟨12, _⟩ => ⟨S8192x128, .bf16⟩
  | .hbm, ⟨13, _⟩ => ⟨S_, .i32⟩
  | .hbm, ⟨14, _⟩ => ⟨S_, .f32⟩
  | .hbm, ⟨15, _⟩ => ⟨S1024x3712, .f32⟩
  | .hbm, ⟨16, _⟩ => ⟨S1024x3712, .bf16⟩
  | .hbm, ⟨17, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S1024x3712, .bf16⟩
  | .local _ .vmem, ⟨19, _⟩ => ⟨S512x1024, .f32⟩
  | .local _ .vmem, ⟨20, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x3712 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InBwdRefIdeal.lean ====
abbrev S8192x1024 : Shape := ⟨2, ![8192, 1024]⟩
abbrev S8192x512 : Shape := ⟨2, ![8192, 512]⟩
abbrev S8192x8 : Shape := ⟨2, ![8192, 8]⟩
abbrev S1024x3592 : Shape := ⟨2, ![1024, 3592]⟩
abbrev S8192x3592 : Shape := ⟨2, ![8192, 3592]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x8, .bf16⟩
  | .hbm, ⟨9, _⟩ => ⟨S1024x3592, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x8, .f32⟩
  | .hbm, ⟨18, _⟩ => ⟨S8192x3592, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x3592, .f32⟩
  | .hbm, ⟨25, _⟩ => ⟨S8192x1024, .f32⟩
  | .hbm, ⟨26, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== WIn0.lean ====
abbrev S8192x1024 : Shape := ⟨2, ![8192, 1024]⟩
abbrev S8192x512 : Shape := ⟨2, ![8192, 512]⟩
abbrev S8192x128 : Shape := ⟨2, ![8192, 128]⟩
abbrev S512x3712 : Shape := ⟨2, ![512, 3712]⟩
abbrev S1x3712 : Shape := ⟨2, ![1, 3712]⟩
abbrev S512x512 : Shape := ⟨2, ![512, 512]⟩
abbrev S512x128 : Shape := ⟨2, ![512, 128]⟩
abbrev S3712 : Shape := ⟨1, ![3712]⟩

abbrev nBuf : Space → Nat
  | .hbm => 11
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x128, .bf16⟩
  | .hbm, ⟨9, _⟩ => ⟨S512x3712, .bf16⟩
  | .hbm, ⟨10, _⟩ => ⟨S1x3712, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S512x3712, .bf16⟩
  | .local _ .vmem, ⟨19, _⟩ => ⟨S1x3712, .f32⟩
  | .local _ .vmem, ⟨20, _⟩ => ⟨S512x3712, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v27 : BitVec 1 := Scalar.cmpi .eq arg0 c15_i32
  let v28 : BitVec 32 := Scalar.extui v27
  let c0_i32_27 : BitVec 32 := 0#32
  let v29 : BitVec 1 := Scalar.cmpi .ne v28 c0_i32_27
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x3712 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3712 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== WIn0RefIdeal.lean ====
abbrev S8192x1024 : Shape := ⟨2, ![8192, 1024]⟩
abbrev S8192x512 : Shape := ⟨2, ![8192, 512]⟩
abbrev S8192x128 : Shape := ⟨2, ![8192, 128]⟩
abbrev S8192x3712 : Shape := ⟨2, ![8192, 3712]⟩
abbrev S_ : Shape := ⟨0, ![]⟩
abbrev S1024x3712 : Shape := ⟨2, ![1024, 3712]⟩
abbrev S1x3712 : Shape := ⟨2, ![1, 3712]⟩
abbrev S3712 : Shape := ⟨1, ![3712]⟩
abbrev S3712x1024 : Shape := ⟨2, ![3712, 1024]⟩
abbrev S512x3712 : Shape := ⟨2, ![512, 3712]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x128, .bf16⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x128, .f32⟩
  | .hbm, ⟨17, _⟩ => ⟨S8192x3712, .f32⟩
  | .hbm, ⟨18, _⟩ => ⟨S_, .f32⟩
  | .hbm, ⟨19, _⟩ => ⟨S1024x3712, .f32⟩
  | .hbm, ⟨20, _⟩ => ⟨S_, .f32⟩
  | .hbm, ⟨21, _⟩ => ⟨S1x3712, .f32⟩
  | .hbm, ⟨22, _⟩ => ⟨S8192x3712, .f32⟩
  | .hbm, ⟨23, _⟩ => ⟨S8192x3712, .f32⟩
  | .hbm, ⟨24, _⟩ => ⟨S8192x3712, .f32⟩
  | .hbm, ⟨25, _⟩ => ⟨S_, .f32⟩
  | .hbm, ⟨26, _⟩ => ⟨S3712, .f32⟩
  | .hbm, ⟨27, _⟩ => ⟨S1x3712, .f32⟩
  | .hbm, ⟨28, _⟩ => ⟨S3712x1024, .f32⟩
  | .hbm, ⟨29, _⟩ => ⟨S1024x3712, .f32⟩
  | .hbm, ⟨30, _⟩ => ⟨S512x3712, .f32⟩
  | .hbm, ⟨31, _⟩ => ⟨S512x3712, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== WIn1.lean ====
abbrev S8192x1024 : Shape := ⟨2, ![8192, 1024]⟩
abbrev S8192x512 : Shape := ⟨2, ![8192, 512]⟩
abbrev S8192x128 : Shape := ⟨2, ![8192, 128]⟩
abbrev S512x3712 : Shape := ⟨2, ![512, 3712]⟩
abbrev S1x3712 : Shape := ⟨2, ![1, 3712]⟩
abbrev S512x512 : Shape := ⟨2, ![512, 512]⟩
abbrev S512x128 : Shape := ⟨2, ![512, 128]⟩
abbrev S3712 : Shape := ⟨1, ![3712]⟩

abbrev nBuf : Space → Nat
  | .hbm => 11
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x128, .bf16⟩
  | .hbm, ⟨9, _⟩ => ⟨S512x3712, .bf16⟩
  | .hbm, ⟨10, _⟩ => ⟨S1x3712, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S512x3712, .bf16⟩
  | .local _ .vmem, ⟨19, _⟩ => ⟨S1x3712, .f32⟩
  | .local _ .vmem, ⟨20, _⟩ => ⟨S512x3712, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v27 : BitVec 1 := Scalar.cmpi .eq arg0 c15_i32
  let v28 : BitVec 32 := Scalar.extui v27
  let c0_i32_27 : BitVec 32 := 0#32
  let v29 : BitVec 1 := Scalar.cmpi .ne v28 c0_i32_27
  v29

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x3712 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3712 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== WIn1RefIdeal.lean ====
abbrev S8192x1024 : Shape := ⟨2, ![8192, 1024]⟩
abbrev S8192x512 : Shape := ⟨2, ![8192, 512]⟩
abbrev S8192x128 : Shape := ⟨2, ![8192, 128]⟩
abbrev S8192x3712 : Shape := ⟨2, ![8192, 3712]⟩
abbrev S_ : Shape := ⟨0, ![]⟩
abbrev S1024x3712 : Shape := ⟨2, ![1024, 3712]⟩
abbrev S1x3712 : Shape := ⟨2, ![1, 3712]⟩
abbrev S3712 : Shape := ⟨1, ![3712]⟩
abbrev S3712x1024 : Shape := ⟨2, ![3712, 1024]⟩
abbrev S512x3712 : Shape := ⟨2, ![512, 3712]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x128, .bf16⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x128, .f32⟩
  | .hbm, ⟨17, _⟩ => ⟨S8192x3712, .f32⟩
  | .hbm, ⟨18, _⟩ => ⟨S_, .f32⟩
  | .hbm, ⟨19, _⟩ => ⟨S1024x3712, .f32⟩
  | .hbm, ⟨20, _⟩ => ⟨S_, .f32⟩
  | .hbm, ⟨21, _⟩ => ⟨S1x3712, .f32⟩
  | .hbm, ⟨22, _⟩ => ⟨S8192x3712, .f32⟩
  | .hbm, ⟨23, _⟩ => ⟨S8192x3712, .f32⟩
  | .hbm, ⟨24, _⟩ => ⟨S8192x3712, .f32⟩
  | .hbm, ⟨25, _⟩ => ⟨S_, .f32⟩
  | .hbm, ⟨26, _⟩ => ⟨S3712, .f32⟩
  | .hbm, ⟨27, _⟩ => ⟨S1x3712, .f32⟩
  | .hbm, ⟨28, _⟩ => ⟨S3712x1024, .f32⟩
  | .hbm, ⟨29, _⟩ => ⟨S1024x3712, .f32⟩
  | .hbm, ⟨30, _⟩ => ⟨S512x3712, .f32⟩
  | .hbm, ⟨31, _⟩ => ⟨S512x3712, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== AdamIn.lean ====
abbrev S8x512x449 : Shape := ⟨3, ![8, 512, 449]⟩
abbrev S1024x449 : Shape := ⟨2, ![1024, 449]⟩
abbrev S8x256x449 : Shape := ⟨3, ![8, 256, 449]⟩
abbrev S256x449 : Shape := ⟨2, ![256, 449]⟩
abbrev S1x256x449 : Shape := ⟨3, ![1, 256, 449]⟩

abbrev nBuf : Space → Nat
  | .hbm => 9
  | .vmem => 18
  | .smem => 0
  | _ => 0

abbrev bufTy : (tb : Table) → Fin (tcTables nBuf tb) → BufTy
  | .hbm, ⟨0, _⟩ => ⟨S8x512x449, .bf16⟩
  | .hbm, ⟨1, _⟩ => ⟨S8x512x449, .bf16⟩
  | .hbm, ⟨2, _⟩ => ⟨S1024x449, .f32⟩
  | .hbm, ⟨3, _⟩ => ⟨S1024x449, .f32⟩
  | .hbm, ⟨4, _⟩ => ⟨S1024x449, .f32⟩
  | .hbm, ⟨5, _⟩ => ⟨S1024x449, .f32⟩
  | .hbm, ⟨6, _⟩ => ⟨S1024x449, .f32⟩
  | .hbm, ⟨7, _⟩ => ⟨S1024x449, .f32⟩
  | .hbm, ⟨8, _⟩ => ⟨S1024x449, .f32⟩
  | .local _ .vmem, ⟨0, _⟩ => ⟨S8x256x449, .bf16⟩
  | .local _ .vmem, ⟨1, _⟩ => ⟨S8x256x449, .bf16⟩
  | .local _ .vmem, ⟨2, _⟩ => ⟨S8x256x449, .bf16⟩
  | .local _ .vmem, ⟨3, _⟩ => ⟨S8x256x449, .bf16⟩
  | .local _ .vmem, ⟨4, _⟩ => ⟨S256x449, .f32⟩
  | .local _ .vmem, ⟨5, _⟩ => ⟨S256x449, .f32⟩
  | .local _ .vmem, ⟨6, _⟩ => ⟨S256x449, .f32⟩
  | .local _ .vmem, ⟨7, _⟩ => ⟨S256x449, .f32⟩
  | .local _ .vmem, ⟨8, _⟩ => ⟨S256x449, .f32⟩
  | .local _ .vmem, ⟨9, _⟩ => ⟨S256x449, .f32⟩
  | .local _ .vmem, ⟨10, _⟩ => ⟨S256x449, .f32⟩
  | .local _ .vmem, ⟨11, _⟩ => ⟨S256x449, .f32⟩
  | .local _ .vmem, ⟨12, _⟩ => ⟨S256x449, .f32⟩
  | .local _ .vmem, ⟨13, _⟩ => ⟨S256x449, .f32⟩
  | .local _ .vmem, ⟨14, _⟩ => ⟨S256x449, .f32⟩
  | .local _ .vmem, ⟨15, _⟩ => ⟨S256x449, .f32⟩
  | .local _ .vmem, ⟨16, _⟩ => ⟨S256x449, .f32⟩
  | .local _ .vmem, ⟨17, _⟩ => ⟨S256x449, .f32⟩
  | _, _ => ⟨S8x512x449, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x449 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x449 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x449 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x449 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x449 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x449 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x449 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x449 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x449 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S8x512x449 : Shape := ⟨3, ![8, 512, 449]⟩
abbrev S1024x449 : Shape := ⟨2, ![1024, 449]⟩
abbrev S8x1024x449 : Shape := ⟨3, ![8, 1024, 449]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x512x449, .bf16⟩
  | .hbm, ⟨1, _⟩ => ⟨S8x512x449, .bf16⟩
  | .hbm, ⟨2, _⟩ => ⟨S1024x449, .f32⟩
  | .hbm, ⟨3, _⟩ => ⟨S1024x449, .f32⟩
  | .hbm, ⟨4, _⟩ => ⟨S1024x449, .f32⟩
  | .hbm, ⟨5, _⟩ => ⟨S8x1024x449, .bf16⟩
  | .hbm, ⟨6, _⟩ => ⟨S8x1024x449, .f32⟩
  | .hbm, ⟨7, _⟩ => ⟨S_, .f32⟩
  | .hbm, ⟨8, _⟩ => ⟨S1024x449, .f32⟩
  | .hbm, ⟨9, _⟩ => ⟨S_, .f32⟩
  | .hbm, ⟨10, _⟩ => ⟨S1024x449, .f32⟩
  | .hbm, ⟨11, _⟩ => ⟨S1024x449, .f32⟩
  | .hbm, ⟨12, _⟩ => ⟨S_, .f32⟩
  | .hbm, ⟨13, _⟩ => ⟨S1024x449, .f32⟩
  | .hbm, ⟨14, _⟩ => ⟨S1024x449, .f32⟩
  | .hbm, ⟨15, _⟩ => ⟨S1024x449, .f32⟩
  | .hbm, ⟨16, _⟩ => ⟨S_, .f32⟩
  | .hbm, ⟨17, _⟩ => ⟨S1024x449, .f32⟩
  | .hbm, ⟨18, _⟩ => ⟨S1024x449, .f32⟩
  | .hbm, ⟨19, _⟩ => ⟨S1024x449, .f32⟩
  | .hbm, ⟨20, _⟩ => ⟨S_, .f32⟩
  | .hbm, ⟨21, _⟩ => ⟨S1024x449, .f32⟩
  | .hbm, ⟨22, _⟩ => ⟨S1024x449, .f32⟩
  | .hbm, ⟨23, _⟩ => ⟨S1024x449, .f32⟩
  | .hbm, ⟨24, _⟩ => ⟨S_, .f32⟩
  | .hbm, ⟨25, _⟩ => ⟨S1024x449, .f32⟩
  | .hbm, ⟨26, _⟩ => ⟨S1024x449, .f32⟩
  | .hbm, ⟨27, _⟩ => ⟨S_, .f32⟩
  | .hbm, ⟨28, _⟩ => ⟨S1024x449, .f32⟩
  | .hbm, ⟨29, _⟩ => ⟨S1024x449, .f32⟩
  | .hbm, ⟨30, _⟩ => ⟨S1024x449, .f32⟩
  | .hbm, ⟨31, _⟩ => ⟨S_, .f32⟩
  | .hbm, ⟨32, _⟩ => ⟨S1024x449, .f32⟩
  | .hbm, ⟨33, _⟩ => ⟨S1024x449, .f32⟩
  | .hbm, ⟨34, _⟩ => ⟨S1024x449, .f32⟩
  | .hbm, ⟨35, _⟩ => ⟨S_, .f32⟩
  | .hbm, ⟨36, _⟩ => ⟨S1024x449, .f32⟩
  | .hbm, ⟨37, _⟩ => ⟨S1024x449, .f32⟩
  | .hbm, ⟨38, _⟩ => ⟨S1024x449, .f32⟩
  | .hbm, ⟨39, _⟩ => ⟨S_, .f32⟩
  | .hbm, ⟨40, _⟩ => ⟨S1024x449, .f32⟩
  | .hbm, ⟨41, _⟩ => ⟨S1024x449, .f32⟩
  | _, _ => ⟨S8x512x449, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamProj.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S8x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamProjRefIdeal.lean ====
abbrev S8x256x128 : Shape := ⟨3, ![8, 256, 128]⟩
abbrev S256x128 : Shape := ⟨2, ![256, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x1x1024 : Shape := ⟨3, ![8, 1, 1024]⟩
abbrev S8x1x3592 : Shape := ⟨3, ![8, 1, 3592]⟩
abbrev S8x2x512 : Shape := ⟨3, ![8, 2, 512]⟩
abbrev S8x4x64 : Shape := ⟨3, ![8, 4, 64]⟩
abbrev S8x1x512 : Shape := ⟨3, ![8, 1, 512]⟩
abbrev S1x3592 : Shape := ⟨2, ![1, 3592]⟩
abbrev S2x512 : Shape := ⟨2, ![2, 512]⟩
abbrev S4x64 : Shape := ⟨2, ![4, 64]⟩
abbrev S1x512 : Shape := ⟨2, ![1, 512]⟩
abbrev S1x1024 : Shape := ⟨2, ![1, 1024]⟩
abbrev S1x1 : Shape := ⟨2, ![1, 1]⟩
abbrev S1x1x1024 : Shape := ⟨3, ![1, 1, 1024]⟩
abbrev S1 : Shape := ⟨1, ![1]⟩
abbrev S1x1x1 : Shape := ⟨3, ![1, 1, 1]⟩
abbrev S1x1x3592 : Shape := ⟨3, ![1, 1, 3592]⟩
abbrev S1x2x512 : Shape := ⟨3, ![1, 2, 512]⟩
abbrev S1x4x64 : Shape := ⟨3, ![1, 4, 64]⟩
abbrev S1x1x512 : Shape := ⟨3, ![1, 1, 512]⟩

abbrev nBuf : Space → Nat
  | .hbm => 90
  | .vmem => 90
  | .smem => 0
  | _ => 0

abbrev bufTy : (tb : Table) → Fin (tcTables nBuf tb) → BufTy
  | .hbm, ⟨0, _⟩ => ⟨S8x1x1024, .f32⟩
  | .hbm, ⟨1, _⟩ => ⟨S8x1x3592, .f32⟩
  | .hbm, ⟨2, _⟩ => ⟨S8x2x512, .f32⟩
  | .hbm, ⟨3, _⟩ => ⟨S8x4x64, .f32⟩
  | .hbm, ⟨4, _⟩ => ⟨S8x1x512, .f32⟩
  | .hbm, ⟨5, _⟩ => ⟨S8x1x512, .f32⟩
  | .hbm, ⟨6, _⟩ => ⟨S8x1x512, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1x3592, .f32⟩
  | .hbm, ⟨13, _⟩ => ⟨S2x512, .f32⟩
  | .hbm, ⟨14, _⟩ => ⟨S4x64, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x3592, .f32⟩
  | .hbm, ⟨24, _⟩ => ⟨S2x512, .f32⟩
  | .hbm, ⟨25, _⟩ => ⟨S4x64, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x3592, .f32⟩
  | .hbm, ⟨35, _⟩ => ⟨S2x512, .f32⟩
  | .hbm, ⟨36, _⟩ => ⟨S4x64, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1, .f32⟩
  | .hbm, ⟨46, _⟩ => ⟨S1x3592, .f32⟩
  | .hbm, ⟨47, _⟩ => ⟨S2x512, .f32⟩
  | .hbm, ⟨48, _⟩ => ⟨S4x64, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x3592, .f32⟩
  | .hbm, ⟨58, _⟩ => ⟨S2x512, .f32⟩
  | .hbm, ⟨59, _⟩ => ⟨S4x64, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x3592, .f32⟩
  | .hbm, ⟨69, _⟩ => ⟨S2x512, .f32⟩
  | .hbm, ⟨70, _⟩ => ⟨S4x64, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x3592, .f32⟩
  | .hbm, ⟨80, _⟩ => ⟨S2x512, .f32⟩
  | .hbm, ⟨81, _⟩ => ⟨S4x64, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .local _ .vmem, ⟨0, _⟩ => ⟨S8x1x1024, .f32⟩
  | .local _ .vmem, ⟨1, _⟩ => ⟨S8x1x3592, .f32⟩
  | .local _ .vmem, ⟨2, _⟩ => ⟨S8x2x512, .f32⟩
  | .local _ .vmem, ⟨3, _⟩ => ⟨S8x4x64, .f32⟩
  | .local _ .vmem, ⟨4, _⟩ => ⟨S8x1x512, .f32⟩
  | .local _ .vmem, ⟨5, _⟩ => ⟨S8x1x512, .f32⟩
  | .local _ .vmem, ⟨6, _⟩ => ⟨S8x1x512, .f32⟩
  | .local _ .vmem, ⟨7, _⟩ => ⟨S8x1x1024, .f32⟩
  | .local _ .vmem, ⟨8, _⟩ => ⟨S8x1x1024, .f32⟩
  | .local _ .vmem, ⟨9, _⟩ => ⟨S8x1x1024, .f32⟩
  | .local _ .vmem, ⟨10, _⟩ => ⟨S8x1x1024, .f32⟩
  | .local _ .vmem, ⟨11, _⟩ => ⟨S8x1x1024, .f32⟩
  | .local _ .vmem, ⟨12, _⟩ => ⟨S1x3592, .f32⟩
  | .local _ .vmem, ⟨13, _⟩ => ⟨S2x512, .f32⟩
  | .local _ .vmem, ⟨14, _⟩ => ⟨S4x64, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x3592, .f32⟩
  | .local _ .vmem, ⟨24, _⟩ => ⟨S2x512, .f32⟩
  | .local _ .vmem, ⟨25, _⟩ => ⟨S4x64, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x3592, .f32⟩
  | .local _ .vmem, ⟨35, _⟩ => ⟨S2x512, .f32⟩
  | .local _ .vmem, ⟨36, _⟩ => ⟨S4x64, .f32⟩
  | .local _ .vmem, ⟨37, _⟩ => ⟨S1x512, .f32⟩
  | .local _ .vmem, ⟨38, _⟩ => ⟨S1x512, .f32⟩
  | .local _ .vmem, ⟨39, _⟩ => ⟨S1x512, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1, .f32⟩
  | .local _ .vmem, ⟨46, _⟩ => ⟨S1x3592, .f32⟩
  | .local _ .vmem, ⟨47, _⟩ => ⟨S2x512, .f32⟩
  | .local _ .vmem, ⟨48, _⟩ => ⟨S4x64, .f32⟩
  | .local _ .vmem, ⟨49, _⟩ => ⟨S1x512, .f32⟩
  | .local _ .vmem, ⟨50, _⟩ => ⟨S1x512, .f32⟩
  | .local _ .vmem, ⟨51, _⟩ => ⟨S1x512, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x3592, .f32⟩
  | .local _ .vmem, ⟨58, _⟩ => ⟨S2x512, .f32⟩
  | .local _ .vmem, ⟨59, _⟩ => ⟨S4x64, .f32⟩
  | .local _ .vmem, ⟨60, _⟩ => ⟨S1x512, .f32⟩
  | .local _ .vmem, ⟨61, _⟩ => ⟨S1x512, .f32⟩
  | .local _ .vmem, ⟨62, _⟩ => ⟨S1x512, .f32⟩
  | .local _ .vmem, ⟨63, _⟩ => ⟨S1x1024, .f32⟩
  | .local _ .vmem, ⟨64, _⟩ => ⟨S1x1024, .f32⟩
  | .local _ .vmem, ⟨65, _⟩ => ⟨S1x1024, .f32⟩
  | .local _ .vmem, ⟨66, _⟩ => ⟨S1x1024, .f32⟩
  | .local _ .vmem, ⟨67, _⟩ => ⟨S1x1024, .f32⟩
  | .local _ .vmem, ⟨68, _⟩ => ⟨S1x3592, .f32⟩
  | .local _ .vmem, ⟨69, _⟩ => ⟨S2x512, .f32⟩
  | .local _ .vmem, ⟨70, _⟩ => ⟨S4x64, .f32⟩
  | .local _ .vmem, ⟨71, _⟩ => ⟨S1x512, .f32⟩
  | .local _ .vmem, ⟨72, _⟩ => ⟨S1x512, .f32⟩
  | .local _ .vmem, ⟨73, _⟩ => ⟨S1x512, .f32⟩
  | .local _ .vmem, ⟨74, _⟩ => ⟨S1x1024, .f32⟩
  | .local _ .vmem, ⟨75, _⟩ => ⟨S1x1024, .f32⟩
  | .local _ .vmem, ⟨76, _⟩ => ⟨S1x1024, .f32⟩
  | .local _ .vmem, ⟨77, _⟩ => ⟨S1x1024, .f32⟩
  | .local _ .vmem, ⟨78, _⟩ => ⟨S1x1024, .f32⟩
  | .local _ .vmem, ⟨79, _⟩ => ⟨S1x3592, .f32⟩
  | .local _ .vmem, ⟨80, _⟩ => ⟨S2x512, .f32⟩
  | .local _ .vmem, ⟨81, _⟩ => ⟨S4x64, .f32⟩
  | .local _ .vmem, ⟨82, _⟩ => ⟨S1x512, .f32⟩
  | .local _ .vmem, ⟨83, _⟩ => ⟨S1x512, .f32⟩
  | .local _ .vmem, ⟨84, _⟩ => ⟨S1x512, .f32⟩
  | .local _ .vmem, ⟨85, _⟩ => ⟨S1x1024, .f32⟩
  | .local _ .vmem, ⟨86, _⟩ => ⟨S1x1024, .f32⟩
  | .local _ .vmem, ⟨87, _⟩ => ⟨S1x1024, .f32⟩
  | .local _ .vmem, ⟨88, _⟩ => ⟨S1x1024, .f32⟩
  | .local _ .vmem, ⟨89, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_v0_0 : Ref sig .tc := ⟨.hbm, 45, rfl⟩
abbrev main_v0_1 : Ref sig .tc := ⟨.hbm, 46, rfl⟩
abbrev main_v0_2 : Ref sig .tc := ⟨.hbm, 47, rfl⟩
abbrev main_v0_3 : Ref sig .tc := ⟨.hbm, 48, rfl⟩
abbrev main_v0_4 : Ref sig .tc := ⟨.hbm, 49, rfl⟩
abbrev main_v0_5 : Ref sig .tc := ⟨.hbm, 50, rfl⟩
abbrev main_v0_6 : Ref sig .tc := ⟨.hbm, 51, rfl⟩
abbrev main_v0_7 : Ref sig .tc := ⟨.hbm, 52, rfl⟩
abbrev main_v0_8 : Ref sig .tc := ⟨.hbm, 53, rfl⟩
abbrev main_v0_9 : Ref sig .tc := ⟨.hbm, 54, rfl⟩
abbrev main_v0_10 : Ref sig .tc := ⟨.hbm, 55, rfl⟩
abbrev main_v0_11 : Ref sig .tc := ⟨.hbm, 56, rfl⟩
abbrev main_v0_12 : Ref sig .tc := ⟨.hbm, 57, rfl⟩
abbrev main_v0_13 : Ref sig .tc := ⟨.hbm, 58, rfl⟩
abbrev main_v0_14 : Ref sig .tc := ⟨.hbm, 59, rfl⟩
abbrev main_v0_15 : Ref sig .tc := ⟨.hbm, 60, rfl⟩
abbrev main_v0_16 : Ref sig .tc := ⟨.hbm, 61, rfl⟩
abbrev main_v0_17 : Ref sig .tc := ⟨.hbm, 62, rfl⟩
abbrev main_v0_18 : Ref sig .tc := ⟨.hbm, 63, rfl⟩
abbrev main_v0_19 : Ref sig .tc := ⟨.hbm, 64, rfl⟩
abbrev main_v0_20 : Ref sig .tc := ⟨.hbm, 65, rfl⟩
abbrev main_v0_21 : Ref sig .tc := ⟨.hbm, 66, rfl⟩
abbrev main_v0_22 : Ref sig .tc := ⟨.hbm, 67, rfl⟩
abbrev main_v0_23 : Ref sig .tc := ⟨.hbm, 68, rfl⟩
abbrev main_v0_24 : Ref sig .tc := ⟨.hbm, 69, rfl⟩
abbrev main_v0_25 : Ref sig .tc := ⟨.hbm, 70, rfl⟩
abbrev main_v0_26 : Ref sig .tc := ⟨.hbm, 71, rfl⟩
abbrev main_v0_27 : Ref sig .tc := ⟨.hbm, 72, rfl⟩
abbrev main_v0_28 : Ref sig .tc := ⟨.hbm, 73, rfl⟩
abbrev main_v0_29 : Ref sig .tc := ⟨.hbm, 74, rfl⟩
abbrev main_v0_30 : Ref sig .tc := ⟨.hbm, 75, rfl⟩
abbrev main_v0_31 : Ref sig .tc := ⟨.hbm, 76, rfl⟩
abbrev main_v0_32 : Ref sig .tc := ⟨.hbm, 77, rfl⟩
abbrev main_v0_33 : Ref sig .tc := ⟨.hbm, 78, rfl⟩
abbrev main_v0_34 : Ref sig .tc := ⟨.hbm, 79, rfl⟩
abbrev main_v0_35 : Ref sig .tc := ⟨.hbm, 80, rfl⟩
abbrev main_v0_36 : Ref sig .tc := ⟨.hbm, 81, rfl⟩
abbrev main_v0_37 : Ref sig .tc := ⟨.hbm, 82, rfl⟩
abbrev main_v0_38 : Ref sig .tc := ⟨.hbm, 83, rfl⟩
abbrev main_v0_39 : Ref sig .tc := ⟨.hbm, 84, rfl⟩
abbrev main_v0_40 : Ref sig .tc := ⟨.hbm, 85, rfl⟩
abbrev main_v0_41 : Ref sig .tc := ⟨.hbm, 86, rfl⟩
abbrev main_v0_42 : Ref sig .tc := ⟨.hbm, 87, rfl⟩
abbrev main_v0_43 : Ref sig .tc := ⟨.hbm, 88, rfl⟩
abbrev main_v0_44 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_stg86_0 : Ref sig .tc := ⟨.vmem, 86, rfl⟩
abbrev cc0_stg87_0 : Ref sig .tc := ⟨.vmem, 87, rfl⟩
abbrev cc0_stg88_0 : Ref sig .tc := ⟨.vmem, 88, rfl⟩
abbrev cc0_stg89_0 : Ref sig .tc := ⟨.vmem, 89, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85
abbrev cc0_sem86_0 : DmaSem sig := 86
abbrev cc0_sem87_0 : DmaSem sig := 87
abbrev cc0_sem88_0 : DmaSem sig := 88
abbrev cc0_sem89_0 : DmaSem sig := 89

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x3592 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x3592 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x3592 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x3592 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x512 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S4x64 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x512 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x3592 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S2x512 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S4x64 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x512 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x512 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x512 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x3592 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S2x512 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S4x64 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x512 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x512 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x512 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x1024 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x3592 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S2x512 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S4x64 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x512 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x512 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x512 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S1x1024 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S1x1024 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x1024 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x1024 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S1x3592 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S2x512 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S4x64 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S1x512 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S1x512 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S1x512 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S1x1024 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))

abbrev stage0_86 : Fin 1 → Memref sig .tc .vmem S1x1024 .f32 := fun | 0 => Memref.whole cc0_stg86_0 | ⟨_ + 1, h⟩ => absurd h (Nat.not_lt.2 (Nat.le_add_left _ _))
abbrev sem0_86 : Fin 1 → DmaSem sig := fun | 0 => cc0_sem86_0 | ⟨_ + 1, h⟩ => absurd h (Nat.not_lt.2 (Nat.le_add_left _ _))

abbrev stage0_87 : Fin 1 → Memref sig .tc .vmem S1x1024 .f32 := fun | 0 => Memref.whole cc0_stg87_0 | ⟨_ + 1, h⟩ => absurd h (Nat.not_lt.2 (Nat.le_add_left _ _))
abbrev sem0_87 : Fin 1 → DmaSem sig := fun | 0 => cc0_sem87_0 | ⟨_ + 1, h⟩ => absurd h (Nat.not_lt.2 (Nat.le_add_left _ _))

abbrev stage0_88 : Fin 1 → Memref sig .tc .vmem S1x1024 .f32 := fun | 0 => Memref.whole cc0_stg88_0 | ⟨_ + 1, h⟩ => absurd h (Nat.not_lt.2 (Nat.le_add_left _ _))
abbrev sem0_88 : Fin 1 → DmaSem sig := fun | 0 => cc0_sem88_0 | ⟨_ + 1, h⟩ => absurd h (Nat.not_lt.2 (Nat.le_add_left _ _))

abbrev stage0_89 : Fin 1 → Memref sig .tc .vmem S1x1024 .f32 := fun | 0 => Memref.whole cc0_stg89_0 | ⟨_ + 1, h⟩ => absurd h (Nat.not_lt.2 (Nat.le_add_left _ _))
abbrev sem0_89 : Fin 1 → DmaSem sig := fun | 0 => cc0_sem89_0 | ⟨_ + 1, h⟩ => absurd h (Nat.not_lt.2 (Nat.le_add_left _ _))
-- ==== AdamSmallRefIdeal.lean ====
abbrev S8x1x1024 : Shape := ⟨3, ![8, 1, 1024]⟩
abbrev S8x1x3592 : Shape := ⟨3, ![8, 1, 3592]⟩
abbrev S8x2x512 : Shape := ⟨3, ![8, 2, 512]⟩
abbrev S8x4x64 : Shape := ⟨3, ![8, 4, 64]⟩
abbrev S8x1x512 : Shape := ⟨3, ![8, 1, 512]⟩
abbrev S1x3592 : Shape := ⟨2, ![1, 3592]⟩
abbrev S2x512 : Shape := ⟨2, ![2, 512]⟩
abbrev S4x64 : Shape := ⟨2, ![4, 64]⟩
abbrev S1x512 : Shape := ⟨2, ![1, 512]⟩
abbrev S1x1024 : Shape := ⟨2, ![1, 1024]⟩
abbrev S_ : Shape := ⟨0, ![]⟩
abbrev S1x1 : Shape := ⟨2, ![1, 1]⟩

abbrev nBuf : Space → Nat
  | .hbm => 440
  | .vmem => 0
  | .smem => 0
  | _ => 0

abbrev hbmTy0_0 (i : Nat) : BufTy := match i % 128 with
  | 0 => ⟨S8x1x1024, .f32⟩
  | 1 => ⟨S8x1x3592, .f32⟩
  | 2 => ⟨S8x2x512, .f32⟩
  | 3 => ⟨S8x4x64, .f32⟩
  | 4 => ⟨S8x1x512, .f32⟩
  | 5 => ⟨S8x1x512, .f32⟩
  | 6 => ⟨S8x1x512, .f32⟩
  | 7 => ⟨S8x1x1024, .f32⟩
  | 8 => ⟨S8x1x1024, .f32⟩
  | 9 => ⟨S8x1x1024, .f32⟩
  | 10 => ⟨S8x1x1024, .f32⟩
  | 11 => ⟨S8x1x1024, .f32⟩
  | 12 => ⟨S1x3592, .f32⟩
  | 13 => ⟨S2x512, .f32⟩
  | 14 => ⟨S4x64, .f32⟩
  | 15 => ⟨S1x512, .f32⟩
  | 16 => ⟨S1x512, .f32⟩
  | 17 => ⟨S1x512, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x3592, .f32⟩
  | 24 => ⟨S2x512, .f32⟩
  | 25 => ⟨S4x64, .f32⟩
  | 26 => ⟨S1x512, .f32⟩
  | 27 => ⟨S1x512, .f32⟩
  | 28 => ⟨S1x512, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x3592, .f32⟩
  | 35 => ⟨S2x512, .f32⟩
  | 36 => ⟨S4x64, .f32⟩
  | 37 => ⟨S1x512, .f32⟩
  | 38 => ⟨S1x512, .f32⟩
  | 39 => ⟨S1x512, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S_, .f32⟩
  | 46 => ⟨S1x3592, .f32⟩
  | 47 => ⟨S_, .f32⟩
  | 48 => ⟨S1x3592, .f32⟩
  | 49 => ⟨S1x3592, .f32⟩
  | 50 => ⟨S_, .f32⟩
  | 51 => ⟨S1x3592, .f32⟩
  | 52 => ⟨S1x3592, .f32⟩
  | 53 => ⟨S1x3592, .f32⟩
  | 54 => ⟨S_, .f32⟩
  | 55 => ⟨S1x3592, .f32⟩
  | 56 => ⟨S1x3592, .f32⟩
  | 57 => ⟨S1x3592, .f32⟩
  | 58 => ⟨S_, .f32⟩
  | 59 => ⟨S1x3592, .f32⟩
  | 60 => ⟨S1x3592, .f32⟩
  | 61 => ⟨S1x3592, .f32⟩
  | 62 => ⟨S_, .f32⟩
  | 63 => ⟨S1x3592, .f32⟩
  | 64 => ⟨S1x3592, .f32⟩
  | 65 => ⟨S_, .f32⟩
  | 66 => ⟨S1x3592, .f32⟩
  | 67 => ⟨S1x3592, .f32⟩
  | 68 => ⟨S1x3592, .f32⟩
  | 69 => ⟨S_, .f32⟩
  | 70 => ⟨S1x3592, .f32⟩
  | 71 => ⟨S1x3592, .f32⟩
  | 72 => ⟨S1x3592, .f32⟩
  | 73 => ⟨S_, .f32⟩
  | 74 => ⟨S1x3592, .f32⟩
  | 75 => ⟨S1x3592, .f32⟩
  | 76 => ⟨S1x3592, .f32⟩
  | 77 => ⟨S_, .f32⟩
  | 78 => ⟨S1x3592, .f32⟩
  | 79 => ⟨S1x3592, .f32⟩
  | 80 => ⟨S_, .f32⟩
  | 81 => ⟨S2x512, .f32⟩
  | 82 => ⟨S_, .f32⟩
  | 83 => ⟨S2x512, .f32⟩
  | 84 => ⟨S2x512, .f32⟩
  | 85 => ⟨S_, .f32⟩
  | 86 => ⟨S2x512, .f32⟩
  | 87 => ⟨S2x512, .f32⟩
  | 88 => ⟨S2x512, .f32⟩
  | 89 => ⟨S_, .f32⟩
  | 90 => ⟨S2x512, .f32⟩
  | 91 => ⟨S2x512, .f32⟩
  | 92 => ⟨S2x512, .f32⟩
  | 93 => ⟨S_, .f32⟩
  | 94 => ⟨S2x512, .f32⟩
  | 95 => ⟨S2x512, .f32⟩
  | 96 => ⟨S2x512, .f32⟩
  | 97 => ⟨S_, .f32⟩
  | 98 => ⟨S2x512, .f32⟩
  | 99 => ⟨S2x512, .f32⟩
  | 100 => ⟨S_, .f32⟩
  | 101 => ⟨S2x512, .f32⟩
  | 102 => ⟨S2x512, .f32⟩
  | 103 => ⟨S2x512, .f32⟩
  | 104 => ⟨S_, .f32⟩
  | 105 => ⟨S2x512, .f32⟩
  | 106 => ⟨S2x512, .f32⟩
  | 107 => ⟨S2x512, .f32⟩
  | 108 => ⟨S_, .f32⟩
  | 109 => ⟨S2x512, .f32⟩
  | 110 => ⟨S2x512, .f32⟩
  | 111 => ⟨S2x512, .f32⟩
  | 112 => ⟨S_, .f32⟩
  | 113 => ⟨S2x512, .f32⟩
  | 114 => ⟨S2x512, .f32⟩
  | 115 => ⟨S_, .f32⟩
  | 116 => ⟨S4x64, .f32⟩
  | 117 => ⟨S_, .f32⟩
  | 118 => ⟨S4x64, .f32⟩
  | 119 => ⟨S4x64, .f32⟩
  | 120 => ⟨S_, .f32⟩
  | 121 => ⟨S4x64, .f32⟩
  | 122 => ⟨S4x64, .f32⟩
  | 123 => ⟨S4x64, .f32⟩
  | 124 => ⟨S_, .f32⟩
  | 125 => ⟨S4x64, .f32⟩
  | 126 => ⟨S4x64, .f32⟩
  | 127 => ⟨S4x64, .f32⟩
  | _ => ⟨S8x1x1024, .f32⟩

abbrev hbmTy0_1 (i : Nat) : BufTy := match i % 128 with
  | 0 => ⟨S_, .f32⟩
  | 1 => ⟨S4x64, .f32⟩
  | 2 => ⟨S4x64, .f32⟩
  | 3 => ⟨S4x64, .f32⟩
  | 4 => ⟨S_, .f32⟩
  | 5 => ⟨S4x64, .f32⟩
  | 6 => ⟨S4x64, .f32⟩
  | 7 => ⟨S_, .f32⟩
  | 8 => ⟨S4x64, .f32⟩
  | 9 => ⟨S4x64, .f32⟩
  | 10 => ⟨S4x64, .f32⟩
  | 11 => ⟨S_, .f32⟩
  | 12 => ⟨S4x64, .f32⟩
  | 13 => ⟨S4x64, .f32⟩
  | 14 => ⟨S4x64, .f32⟩
  | 15 => ⟨S_, .f32⟩
  | 16 => ⟨S4x64, .f32⟩
  | 17 => ⟨S4x64, .f32⟩
  | 18 => ⟨S4x64, .f32⟩
  | 19 => ⟨S_, .f32⟩
  | 20 => ⟨S4x64, .f32⟩
  | 21 => ⟨S4x64, .f32⟩
  | 22 => ⟨S_, .f32⟩
  | 23 => ⟨S1x512, .f32⟩
  | 24 => ⟨S_, .f32⟩
  | 25 => ⟨S1x512, .f32⟩
  | 26 => ⟨S1x512, .f32⟩
  | 27 => ⟨S_, .f32⟩
  | 28 => ⟨S1x512, .f32⟩
  | 29 => ⟨S1x512, .f32⟩
  | 30 => ⟨S1x512, .f32⟩
  | 31 => ⟨S_, .f32⟩
  | 32 => ⟨S1x512, .f32⟩
  | 33 => ⟨S1x512, .f32⟩
  | 34 => ⟨S1x512, .f32⟩
  | 35 => ⟨S_, .f32⟩
  | 36 => ⟨S1x512, .f32⟩
  | 37 => ⟨S1x512, .f32⟩
  | 38 => ⟨S1x512, .f32⟩
  | 39 => ⟨S_, .f32⟩
  | 40 => ⟨S1x512, .f32⟩
  | 41 => ⟨S1x512, .f32⟩
  | 42 => ⟨S_, .f32⟩
  | 43 => ⟨S1x512, .f32⟩
  | 44 => ⟨S1x512, .f32⟩
  | 45 => ⟨S1x512, .f32⟩
  | 46 => ⟨S_, .f32⟩
  | 47 => ⟨S1x512, .f32⟩
  | 48 => ⟨S1x512, .f32⟩
  | 49 => ⟨S1x512, .f32⟩
  | 50 => ⟨S_, .f32⟩
  | 51 => ⟨S1x512, .f32⟩
  | 52 => ⟨S1x512, .f32⟩
  | 53 => ⟨S1x512, .f32⟩
  | 54 => ⟨S_, .f32⟩
  | 55 => ⟨S1x512, .f32⟩
  | 56 => ⟨S1x512, .f32⟩
  | 57 => ⟨S_, .f32⟩
  | 58 => ⟨S1x512, .f32⟩
  | 59 => ⟨S_, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S1x512, .f32⟩
  | 74 => ⟨S_, .f32⟩
  | 75 => ⟨S1x512, .f32⟩
  | 76 => ⟨S1x512, .f32⟩
  | 77 => ⟨S_, .f32⟩
  | 78 => ⟨S1x512, .f32⟩
  | 79 => ⟨S1x512, .f32⟩
  | 80 => ⟨S1x512, .f32⟩
  | 81 => ⟨S_, .f32⟩
  | 82 => ⟨S1x512, .f32⟩
  | 83 => ⟨S1x512, .f32⟩
  | 84 => ⟨S1x512, .f32⟩
  | 85 => ⟨S_, .f32⟩
  | 86 => ⟨S1x512, .f32⟩
  | 87 => ⟨S1x512, .f32⟩
  | 88 => ⟨S1x512, .f32⟩
  | 89 => ⟨S_, .f32⟩
  | 90 => ⟨S1x512, .f32⟩
  | 91 => ⟨S1x512, .f32⟩
  | 92 => ⟨S_, .f32⟩
  | 93 => ⟨S1x512, .f32⟩
  | 94 => ⟨S_, .f32⟩
  | 95 => ⟨S1x512, .f32⟩
  | 96 => ⟨S1x512, .f32⟩
  | 97 => ⟨S_, .f32⟩
  | 98 => ⟨S1x512, .f32⟩
  | 99 => ⟨S1x512, .f32⟩
  | 100 => ⟨S1x512, .f32⟩
  | 101 => ⟨S_, .f32⟩
  | 102 => ⟨S1x512, .f32⟩
  | 103 => ⟨S1x512, .f32⟩
  | 104 => ⟨S1x512, .f32⟩
  | 105 => ⟨S_, .f32⟩
  | 106 => ⟨S1x512, .f32⟩
  | 107 => ⟨S1x512, .f32⟩
  | 108 => ⟨S1x512, .f32⟩
  | 109 => ⟨S_, .f32⟩
  | 110 => ⟨S1x512, .f32⟩
  | 111 => ⟨S1x512, .f32⟩
  | 112 => ⟨S_, .f32⟩
  | 113 => ⟨S1x512, .f32⟩
  | 114 => ⟨S1x512, .f32⟩
  | 115 => ⟨S1x512, .f32⟩
  | 116 => ⟨S_, .f32⟩
  | 117 => ⟨S1x512, .f32⟩
  | 118 => ⟨S1x512, .f32⟩
  | 119 => ⟨S1x512, .f32⟩
  | 120 => ⟨S_, .f32⟩
  | 121 => ⟨S1x512, .f32⟩
  | 122 => ⟨S1x512, .f32⟩
  | 123 => ⟨S1x512, .f32⟩
  | 124 => ⟨S_, .f32⟩
  | 125 => ⟨S1x512, .f32⟩
  | 126 => ⟨S1x512, .f32⟩
  | 127 => ⟨S_, .f32⟩
  | _ => ⟨S8x1x1024, .f32⟩

abbrev hbmTy0_2 (i : Nat) : BufTy := match i % 128 with
  | 0 => ⟨S1x1024, .f32⟩
  | 1 => ⟨S_, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S_, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x1024, .f32⟩
  | 71 => ⟨S_, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S_, .f32⟩
  | 105 => ⟨S1x1024, .f32⟩
  | 106 => ⟨S_, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S8x1x1024, .f32⟩

abbrev hbmTy0_3 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S_, .f32⟩
  | 12 => ⟨S1x1024, .f32⟩
  | 13 => ⟨S_, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S_, .f32⟩
  | 49 => ⟨S1x1024, .f32⟩
  | 50 => ⟨S1x1024, .f32⟩
  | 51 => ⟨S_, .f32⟩
  | 52 => ⟨S_, .f32⟩
  | 53 => ⟨S_, .f32⟩
  | 54 => ⟨S_, .f32⟩
  | 55 => ⟨S1x1, .f32⟩
  | _ => ⟨S8x1x1024, .f32⟩

abbrev hbmTy (i : Nat) : BufTy := match i / 128 with
  | 0 => hbmTy0_0 i
  | 1 => hbmTy0_1 i
  | 2 => hbmTy0_2 i
  | 3 => hbmTy0_3 i
  | _ => ⟨S8x1x1024, .f32⟩

abbrev bufTy : (tb : Table) → Fin (tcTables nBuf tb) → BufTy
  | .hbm, ⟨i, _⟩ => hbmTy i
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_cst : Ref sig .tc := ⟨.hbm, 45, rfl⟩
abbrev main_v0 : Ref sig .tc := ⟨.hbm, 46, rfl⟩
abbrev main_cst_0 : Ref sig .tc := ⟨.hbm, 47, rfl⟩
abbrev main_v1 : Ref sig .tc := ⟨.hbm, 48, rfl⟩
abbrev main_v2 : Ref sig .tc := ⟨.hbm, 49, rfl⟩
abbrev main_cst_1 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_cst_2 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_cst_3 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst_4 : Ref sig .tc := ⟨.hbm, 62, rfl⟩
abbrev main_v12 : Ref sig .tc := ⟨.hbm, 63, rfl⟩
abbrev main_v13 : Ref sig .tc := ⟨.hbm, 64, rfl⟩
abbrev main_cst_5 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst_6 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_7 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_cst_8 : Ref sig .tc := ⟨.hbm, 77, rfl⟩
abbrev main_v23 : Ref sig .tc := ⟨.hbm, 78, rfl⟩
abbrev main_v24 : Ref sig .tc := ⟨.hbm, 79, rfl⟩
abbrev main_cst_9 : Ref sig .tc := ⟨.hbm, 80, rfl⟩
abbrev main_v25 : Ref sig .tc := ⟨.hbm, 81, rfl⟩
abbrev main_cst_10 : Ref sig .tc := ⟨.hbm, 82, rfl⟩
abbrev main_v26 : Ref sig .tc := ⟨.hbm, 83, rfl⟩
abbrev main_v27 : Ref sig .tc := ⟨.hbm, 84, rfl⟩
abbrev main_cst_11 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_12 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_cst_13 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_cst_14 : Ref sig .tc := ⟨.hbm, 97, rfl⟩
abbrev main_v37 : Ref sig .tc := ⟨.hbm, 98, rfl⟩
abbrev main_v38 : Ref sig .tc := ⟨.hbm, 99, rfl⟩
abbrev main_cst_15 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_cst_16 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_17 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_cst_18 : Ref sig .tc := ⟨.hbm, 112, rfl⟩
abbrev main_v48 : Ref sig .tc := ⟨.hbm, 113, rfl⟩
abbrev main_v49 : Ref sig .tc := ⟨.hbm, 114, rfl⟩
abbrev main_cst_19 : Ref sig .tc := ⟨.hbm, 115, rfl⟩
abbrev main_v50 : Ref sig .tc := ⟨.hbm, 116, rfl⟩
abbrev main_cst_20 : Ref sig .tc := ⟨.hbm, 117, rfl⟩
abbrev main_v51 : Ref sig .tc := ⟨.hbm, 118, rfl⟩
abbrev main_v52 : Ref sig .tc := ⟨.hbm, 119, rfl⟩
abbrev main_cst_21 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_22 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_cst_23 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_cst_24 : Ref sig .tc := ⟨.hbm, 132, rfl⟩
abbrev main_v62 : Ref sig .tc := ⟨.hbm, 133, rfl⟩
abbrev main_v63 : Ref sig .tc := ⟨.hbm, 134, rfl⟩
abbrev main_cst_25 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_cst_26 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_cst_27 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_cst_28 : Ref sig .tc := ⟨.hbm, 147, rfl⟩
abbrev main_v73 : Ref sig .tc := ⟨.hbm, 148, rfl⟩
abbrev main_v74 : Ref sig .tc := ⟨.hbm, 149, rfl⟩
abbrev main_cst_29 : Ref sig .tc := ⟨.hbm, 150, rfl⟩
abbrev main_v75 : Ref sig .tc := ⟨.hbm, 151, rfl⟩
abbrev main_cst_30 : Ref sig .tc := ⟨.hbm, 152, rfl⟩
abbrev main_v76 : Ref sig .tc := ⟨.hbm, 153, rfl⟩
abbrev main_v77 : Ref sig .tc := ⟨.hbm, 154, rfl⟩
abbrev main_cst_31 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_32 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_cst_33 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_cst_34 : Ref sig .tc := ⟨.hbm, 167, rfl⟩
abbrev main_v87 : Ref sig .tc := ⟨.hbm, 168, rfl⟩
abbrev main_v88 : Ref sig .tc := ⟨.hbm, 169, rfl⟩
abbrev main_cst_35 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_cst_36 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_cst_37 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_cst_38 : Ref sig .tc := ⟨.hbm, 182, rfl⟩
abbrev main_v98 : Ref sig .tc := ⟨.hbm, 183, rfl⟩
abbrev main_v99 : Ref sig .tc := ⟨.hbm, 184, rfl⟩
abbrev main_cst_39 : Ref sig .tc := ⟨.hbm, 185, rfl⟩
abbrev main_v100 : Ref sig .tc := ⟨.hbm, 186, rfl⟩
abbrev main_cst_40 : Ref sig .tc := ⟨.hbm, 187, rfl⟩
abbrev main_v101 : Ref sig .tc := ⟨.hbm, 188, rfl⟩
abbrev main_v102 : Ref sig .tc := ⟨.hbm, 189, rfl⟩
abbrev main_cst_41 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_cst_42 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_cst_43 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_44 : Ref sig .tc := ⟨.hbm, 202, rfl⟩
abbrev main_v112 : Ref sig .tc := ⟨.hbm, 203, rfl⟩
abbrev main_v113 : Ref sig .tc := ⟨.hbm, 204, rfl⟩
abbrev main_cst_45 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_cst_46 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_cst_47 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_cst_48 : Ref sig .tc := ⟨.hbm, 217, rfl⟩
abbrev main_v123 : Ref sig .tc := ⟨.hbm, 218, rfl⟩
abbrev main_v124 : Ref sig .tc := ⟨.hbm, 219, rfl⟩
abbrev main_cst_49 : Ref sig .tc := ⟨.hbm, 220, rfl⟩
abbrev main_v125 : Ref sig .tc := ⟨.hbm, 221, rfl⟩
abbrev main_cst_50 : Ref sig .tc := ⟨.hbm, 222, rfl⟩
abbrev main_v126 : Ref sig .tc := ⟨.hbm, 223, rfl⟩
abbrev main_v127 : Ref sig .tc := ⟨.hbm, 224, rfl⟩
abbrev main_cst_51 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_cst_52 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_cst_53 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_cst_54 : Ref sig .tc := ⟨.hbm, 237, rfl⟩
abbrev main_v137 : Ref sig .tc := ⟨.hbm, 238, rfl⟩
abbrev main_v138 : Ref sig .tc := ⟨.hbm, 239, rfl⟩
abbrev main_cst_55 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_cst_56 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_cst_57 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_cst_58 : Ref sig .tc := ⟨.hbm, 252, rfl⟩
abbrev main_v148 : Ref sig .tc := ⟨.hbm, 253, rfl⟩
abbrev main_v149 : Ref sig .tc := ⟨.hbm, 254, rfl⟩
abbrev main_cst_59 : Ref sig .tc := ⟨.hbm, 255, rfl⟩
abbrev main_v150 : Ref sig .tc := ⟨.hbm, 256, rfl⟩
abbrev main_cst_60 : Ref sig .tc := ⟨.hbm, 257, rfl⟩
abbrev main_v151 : Ref sig .tc := ⟨.hbm, 258, rfl⟩
abbrev main_v152 : Ref sig .tc := ⟨.hbm, 259, rfl⟩
abbrev main_cst_61 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_cst_62 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_cst_63 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_cst_64 : Ref sig .tc := ⟨.hbm, 272, rfl⟩
abbrev main_v162 : Ref sig .tc := ⟨.hbm, 273, rfl⟩
abbrev main_v163 : Ref sig .tc := ⟨.hbm, 274, rfl⟩
abbrev main_cst_65 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_cst_66 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_cst_67 : Ref sig .tc := ⟨.hbm, 283, rfl⟩
abbrev main_v170 : Ref sig .tc := ⟨.hbm, 284, rfl⟩
abbrev main_v171 : Ref sig .tc := ⟨.hbm, 285, rfl⟩
abbrev main_v172 : Ref sig .tc := ⟨.hbm, 286, rfl⟩
abbrev main_cst_68 : Ref sig .tc := ⟨.hbm, 287, rfl⟩
abbrev main_v173 : Ref sig .tc := ⟨.hbm, 288, rfl⟩
abbrev main_v174 : Ref sig .tc := ⟨.hbm, 289, rfl⟩
abbrev main_cst_69 : Ref sig .tc := ⟨.hbm, 290, rfl⟩
abbrev main_v175 : Ref sig .tc := ⟨.hbm, 291, rfl⟩
abbrev main_cst_70 : Ref sig .tc := ⟨.hbm, 292, rfl⟩
abbrev main_v176 : Ref sig .tc := ⟨.hbm, 293, rfl⟩
abbrev main_v177 : Ref sig .tc := ⟨.hbm, 294, rfl⟩
abbrev main_cst_71 : Ref sig .tc := ⟨.hbm, 295, rfl⟩
abbrev main_v178 : Ref sig .tc := ⟨.hbm, 296, rfl⟩
abbrev main_v179 : Ref sig .tc := ⟨.hbm, 297, rfl⟩
abbrev main_v180 : Ref sig .tc := ⟨.hbm, 298, rfl⟩
abbrev main_cst_72 : Ref sig .tc := ⟨.hbm, 299, rfl⟩
abbrev main_v181 : Ref sig .tc := ⟨.hbm, 300, rfl⟩
abbrev main_v182 : Ref sig .tc := ⟨.hbm, 301, rfl⟩
abbrev main_v183 : Ref sig .tc := ⟨.hbm, 302, rfl⟩
abbrev main_cst_73 : Ref sig .tc := ⟨.hbm, 303, rfl⟩
abbrev main_v184 : Ref sig .tc := ⟨.hbm, 304, rfl⟩
abbrev main_v185 : Ref sig .tc := ⟨.hbm, 305, rfl⟩
abbrev main_v186 : Ref sig .tc := ⟨.hbm, 306, rfl⟩
abbrev main_cst_74 : Ref sig .tc := ⟨.hbm, 307, rfl⟩
abbrev main_v187 : Ref sig .tc := ⟨.hbm, 308, rfl⟩
abbrev main_v188 : Ref sig .tc := ⟨.hbm, 309, rfl⟩
abbrev main_cst_75 : Ref sig .tc := ⟨.hbm, 310, rfl⟩
abbrev main_v189 : Ref sig .tc := ⟨.hbm, 311, rfl⟩
abbrev main_v190 : Ref sig .tc := ⟨.hbm, 312, rfl⟩
abbrev main_v191 : Ref sig .tc := ⟨.hbm, 313, rfl⟩
abbrev main_cst_76 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_cst_77 : Ref sig .tc := ⟨.hbm, 318, rfl⟩
abbrev main_v195 : Ref sig .tc := ⟨.hbm, 319, rfl⟩
abbrev main_v196 : Ref sig .tc := ⟨.hbm, 320, rfl⟩
abbrev main_v197 : Ref sig .tc := ⟨.hbm, 321, rfl⟩
abbrev main_cst_78 : Ref sig .tc := ⟨.hbm, 322, rfl⟩
abbrev main_v198 : Ref sig .tc := ⟨.hbm, 323, rfl⟩
abbrev main_v199 : Ref sig .tc := ⟨.hbm, 324, rfl⟩
abbrev main_cst_79 : Ref sig .tc := ⟨.hbm, 325, rfl⟩
abbrev main_v200 : Ref sig .tc := ⟨.hbm, 326, rfl⟩
abbrev main_cst_80 : Ref sig .tc := ⟨.hbm, 327, rfl⟩
abbrev main_v201 : Ref sig .tc := ⟨.hbm, 328, rfl⟩
abbrev main_v202 : Ref sig .tc := ⟨.hbm, 329, rfl⟩
abbrev main_cst_81 : Ref sig .tc := ⟨.hbm, 330, rfl⟩
abbrev main_v203 : Ref sig .tc := ⟨.hbm, 331, rfl⟩
abbrev main_v204 : Ref sig .tc := ⟨.hbm, 332, rfl⟩
abbrev main_v205 : Ref sig .tc := ⟨.hbm, 333, rfl⟩
abbrev main_cst_82 : Ref sig .tc := ⟨.hbm, 334, rfl⟩
abbrev main_v206 : Ref sig .tc := ⟨.hbm, 335, rfl⟩
abbrev main_v207 : Ref sig .tc := ⟨.hbm, 336, rfl⟩
abbrev main_v208 : Ref sig .tc := ⟨.hbm, 337, rfl⟩
abbrev main_cst_83 : Ref sig .tc := ⟨.hbm, 338, rfl⟩
abbrev main_v209 : Ref sig .tc := ⟨.hbm, 339, rfl⟩
abbrev main_v210 : Ref sig .tc := ⟨.hbm, 340, rfl⟩
abbrev main_v211 : Ref sig .tc := ⟨.hbm, 341, rfl⟩
abbrev main_cst_84 : Ref sig .tc := ⟨.hbm, 342, rfl⟩
abbrev main_v212 : Ref sig .tc := ⟨.hbm, 343, rfl⟩
abbrev main_v213 : Ref sig .tc := ⟨.hbm, 344, rfl⟩
abbrev main_cst_85 : Ref sig .tc := ⟨.hbm, 345, rfl⟩
abbrev main_v214 : Ref sig .tc := ⟨.hbm, 346, rfl⟩
abbrev main_v215 : Ref sig .tc := ⟨.hbm, 347, rfl⟩
abbrev main_v216 : Ref sig .tc := ⟨.hbm, 348, rfl⟩
abbrev main_cst_86 : Ref sig .tc := ⟨.hbm, 349, rfl⟩
abbrev main_v217 : Ref sig .tc := ⟨.hbm, 350, rfl⟩
abbrev main_v218 : Ref sig .tc := ⟨.hbm, 351, rfl⟩
abbrev main_v219 : Ref sig .tc := ⟨.hbm, 352, rfl⟩
abbrev main_cst_87 : Ref sig .tc := ⟨.hbm, 353, rfl⟩
abbrev main_v220 : Ref sig .tc := ⟨.hbm, 354, rfl⟩
abbrev main_v221 : Ref sig .tc := ⟨.hbm, 355, rfl⟩
abbrev main_v222 : Ref sig .tc := ⟨.hbm, 356, rfl⟩
abbrev main_cst_88 : Ref sig .tc := ⟨.hbm, 357, rfl⟩
abbrev main_v223 : Ref sig .tc := ⟨.hbm, 358, rfl⟩
abbrev main_v224 : Ref sig .tc := ⟨.hbm, 359, rfl⟩
abbrev main_cst_89 : Ref sig .tc := ⟨.hbm, 360, rfl⟩
abbrev main_v225 : Ref sig .tc := ⟨.hbm, 361, rfl⟩
abbrev main_cst_90 : Ref sig .tc := ⟨.hbm, 362, rfl⟩
abbrev main_v226 : Ref sig .tc := ⟨.hbm, 363, rfl⟩
abbrev main_v227 : Ref sig .tc := ⟨.hbm, 364, rfl⟩
abbrev main_cst_91 : Ref sig .tc := ⟨.hbm, 365, rfl⟩
abbrev main_v228 : Ref sig .tc := ⟨.hbm, 366, rfl⟩
abbrev main_v229 : Ref sig .tc := ⟨.hbm, 367, rfl⟩
abbrev main_v230 : Ref sig .tc := ⟨.hbm, 368, rfl⟩
abbrev main_cst_92 : Ref sig .tc := ⟨.hbm, 369, rfl⟩
abbrev main_v231 : Ref sig .tc := ⟨.hbm, 370, rfl⟩
abbrev main_v232 : Ref sig .tc := ⟨.hbm, 371, rfl⟩
abbrev main_v233 : Ref sig .tc := ⟨.hbm, 372, rfl⟩
abbrev main_cst_93 : Ref sig .tc := ⟨.hbm, 373, rfl⟩
abbrev main_v234 : Ref sig .tc := ⟨.hbm, 374, rfl⟩
abbrev main_v235 : Ref sig .tc := ⟨.hbm, 375, rfl⟩
abbrev main_v236 : Ref sig .tc := ⟨.hbm, 376, rfl⟩
abbrev main_cst_94 : Ref sig .tc := ⟨.hbm, 377, rfl⟩
abbrev main_v237 : Ref sig .tc := ⟨.hbm, 378, rfl⟩
abbrev main_v238 : Ref sig .tc := ⟨.hbm, 379, rfl⟩
abbrev main_cst_95 : Ref sig .tc := ⟨.hbm, 380, rfl⟩
abbrev main_v239 : Ref sig .tc := ⟨.hbm, 381, rfl⟩
abbrev main_v240 : Ref sig .tc := ⟨.hbm, 382, rfl⟩
abbrev main_v241 : Ref sig .tc := ⟨.hbm, 383, rfl⟩
abbrev main_cst_96 : Ref sig .tc := ⟨.hbm, 384, rfl⟩
abbrev main_v242 : Ref sig .tc := ⟨.hbm, 385, rfl⟩
abbrev main_v243 : Ref sig .tc := ⟨.hbm, 386, rfl⟩
abbrev main_v244 : Ref sig .tc := ⟨.hbm, 387, rfl⟩
abbrev main_cst_97 : Ref sig .tc := ⟨.hbm, 388, rfl⟩
abbrev main_v245 : Ref sig .tc := ⟨.hbm, 389, rfl⟩
abbrev main_v246 : Ref sig .tc := ⟨.hbm, 390, rfl⟩
abbrev main_v247 : Ref sig .tc := ⟨.hbm, 391, rfl⟩
abbrev main_cst_98 : Ref sig .tc := ⟨.hbm, 392, rfl⟩
abbrev main_v248 : Ref sig .tc := ⟨.hbm, 393, rfl⟩
abbrev main_v249 : Ref sig .tc := ⟨.hbm, 394, rfl⟩
abbrev main_cst_99 : Ref sig .tc := ⟨.hbm, 395, rfl⟩
abbrev main_v250 : Ref sig .tc := ⟨.hbm, 396, rfl⟩
abbrev main_cst_100 : Ref sig .tc := ⟨.hbm, 397, rfl⟩
abbrev main_v251 : Ref sig .tc := ⟨.hbm, 398, rfl⟩
abbrev main_v252 : Ref sig .tc := ⟨.hbm, 399, rfl⟩
abbrev main_cst_101 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_102 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_103 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_104 : Ref sig .tc := ⟨.hbm, 412, rfl⟩
abbrev main_v262 : Ref sig .tc := ⟨.hbm, 413, rfl⟩
abbrev main_v263 : Ref sig .tc := ⟨.hbm, 414, rfl⟩
abbrev main_cst_105 : Ref sig .tc := ⟨.hbm, 415, rfl⟩
abbrev main_v264 : Ref sig .tc := ⟨.hbm, 416, rfl⟩
abbrev main_v265 : Ref sig .tc := ⟨.hbm, 417, rfl⟩
abbrev main_v266 : Ref sig .tc := ⟨.hbm, 418, rfl⟩
abbrev main_cst_106 : Ref sig .tc := ⟨.hbm, 419, rfl⟩
abbrev main_v267 : Ref sig .tc := ⟨.hbm, 420, rfl⟩
abbrev main_v268 : Ref sig .tc := ⟨.hbm, 421, rfl⟩
abbrev main_v269 : Ref sig .tc := ⟨.hbm, 422, rfl⟩
abbrev main_cst_107 : Ref sig .tc := ⟨.hbm, 423, rfl⟩
abbrev main_v270 : Ref sig .tc := ⟨.hbm, 424, rfl⟩
abbrev main_v271 : Ref sig .tc := ⟨.hbm, 425, rfl⟩
abbrev main_v272 : Ref sig .tc := ⟨.hbm, 426, rfl⟩
abbrev main_cst_108 : Ref sig .tc := ⟨.hbm, 427, rfl⟩
abbrev main_v273 : Ref sig .tc := ⟨.hbm, 428, rfl⟩
abbrev main_v274 : Ref sig .tc := ⟨.hbm, 429, rfl⟩
abbrev main_cst_109 : Ref sig .tc := ⟨.hbm, 430, rfl⟩
abbrev main_v275 : Ref sig .tc := ⟨.hbm, 431, rfl⟩
abbrev main_cst_110 : Ref sig .tc := ⟨.hbm, 432, rfl⟩
abbrev main_v276 : Ref sig .tc := ⟨.hbm, 433, rfl⟩
abbrev main_v277 : Ref sig .tc := ⟨.hbm, 434, rfl⟩
abbrev main_cst_111 : Ref sig .tc := ⟨.hbm, 435, rfl⟩
abbrev main_v278 : Ref sig .tc := ⟨.hbm, 436, rfl⟩
abbrev main_cst_112 : Ref sig .tc := ⟨.hbm, 437, rfl⟩
abbrev main_v279 : Ref sig .tc := ⟨.hbm, 438, rfl⟩
abbrev main_v280 : Ref sig .tc := ⟨.hbm, 439, rfl⟩

abbrev nD : Nat := 1
abbrev τ : Topo := Topo.v7x

variable {F : FTy → Type} [FloatOps F]
-- ==== InFwd.lean ====
abbrev S8192x1024 : Shape := ⟨2, ![8192, 1024]⟩
abbrev S1024x3592 : Shape := ⟨2, ![1024, 3592]⟩
abbrev S1x3592 : Shape := ⟨2, ![1, 3592]⟩
abbrev S4x512 : Shape := ⟨2, ![4, 512]⟩
abbrev S1x512 : Shape := ⟨2, ![1, 512]⟩
abbrev S_ : Shape := ⟨0, ![]⟩
abbrev S1024x3712 : Shape := ⟨2, ![1024, 3712]⟩
abbrev S1x3712 : Shape := ⟨2, ![1, 3712]⟩
abbrev S8192x3712 : Shape := ⟨2, ![8192, 3712]⟩
abbrev S8192x512 : Shape := ⟨2, ![8192, 512]⟩
abbrev S512x1024 : Shape := ⟨2, ![512, 1024]⟩
abbrev S512x3712 : Shape := ⟨2, ![512, 3712]⟩
abbrev S512x512 : Shape := ⟨2, ![512, 512]⟩
abbrev S8x512 : Shape := ⟨2, ![8, 512]⟩
abbrev S504x512 : Shape := ⟨2, ![504, 512]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x3592, .f32⟩
  | .hbm, ⟨2, _⟩ => ⟨S1x3592, .f32⟩
  | .hbm, ⟨3, _⟩ => ⟨S4x512, .f32⟩
  | .hbm, ⟨4, _⟩ => ⟨S1x512, .f32⟩
  | .hbm, ⟨5, _⟩ => ⟨S_, .i32⟩
  | .hbm, ⟨6, _⟩ => ⟨S_, .f32⟩
  | .hbm, ⟨7, _⟩ => ⟨S1024x3712, .f32⟩
  | .hbm, ⟨8, _⟩ => ⟨S1024x3712, .bf16⟩
  | .hbm, ⟨9, _⟩ => ⟨S_, .i32⟩
  | .hbm, ⟨10, _⟩ => ⟨S_, .f32⟩
  | .hbm, ⟨11, _⟩ => ⟨S1x3712, .f32⟩
  | .hbm, ⟨12, _⟩ => ⟨S8192x3712, .f32⟩
  | .hbm, ⟨13, _⟩ => ⟨S8192x512, .f32⟩
  | .hbm, ⟨14, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1024x3712, .bf16⟩
  | .local _ .vmem, ⟨3, _⟩ => ⟨S1x3712, .f32⟩
  | .local _ .vmem, ⟨4, _⟩ => ⟨S4x512, .f32⟩
  | .local _ .vmem, ⟨5, _⟩ => ⟨S1x512, .f32⟩
  | .local _ .vmem, ⟨6, _⟩ => ⟨S512x3712, .f32⟩
  | .local _ .vmem, ⟨7, _⟩ => ⟨S512x3712, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3712 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3712 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InFwdRefIdeal.lean ====
abbrev S8192x1024 : Shape := ⟨2, ![8192, 1024]⟩
abbrev S1024x3592 : Shape := ⟨2, ![1024, 3592]⟩
abbrev S1x3592 : Shape := ⟨2, ![1, 3592]⟩
abbrev S4x512 : Shape := ⟨2, ![4, 512]⟩
abbrev S1x512 : Shape := ⟨2, ![1, 512]⟩
abbrev S_ : Shape := ⟨0, ![]⟩
abbrev S1024x3712 : Shape := ⟨2, ![1024, 3712]⟩
abbrev S8192x3712 : Shape := ⟨2, ![8192, 3712]⟩
abbrev S1x3712 : Shape := ⟨2, ![1, 3712]⟩
abbrev S8192x512 : Shape := ⟨2, ![8192, 512]⟩
abbrev S8195x512 : Shape := ⟨2, ![8195, 512]⟩
abbrev S512 : Shape := ⟨1, ![512]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3592, .f32⟩
  | .hbm, ⟨2, _⟩ => ⟨S1x3592, .f32⟩
  | .hbm, ⟨3, _⟩ => ⟨S4x512, .f32⟩
  | .hbm, ⟨4, _⟩ => ⟨S1x512, .f32⟩
  | .hbm, ⟨5, _⟩ => ⟨S_, .i32⟩
  | .hbm, ⟨6, _⟩ => ⟨S_, .f32⟩
  | .hbm, ⟨7, _⟩ => ⟨S1024x3712, .f32⟩
  | .hbm, ⟨8, _⟩ => ⟨S8192x3712, .f32⟩
  | .hbm, ⟨9, _⟩ => ⟨S_, .i32⟩
  | .hbm, ⟨10, _⟩ => ⟨S_, .f32⟩
  | .hbm, ⟨11, _⟩ => ⟨S1x3712, .f32⟩
  | .hbm, ⟨12, _⟩ => ⟨S8192x3712, .f32⟩
  | .hbm, ⟨13, _⟩ => ⟨S8192x3712, .f32⟩
  | .hbm, ⟨14, _⟩ => ⟨S8192x512, .f32⟩
  | .hbm, ⟨15, _⟩ => ⟨S_, .i32⟩
  | .hbm, ⟨16, _⟩ => ⟨S_, .f32⟩
  | .hbm, ⟨17, _⟩ => ⟨S8195x512, .f32⟩
  | .hbm, ⟨18, _⟩ => ⟨S8192x512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S1x512, .f32⟩
  | .hbm, ⟨40, _⟩ => ⟨S512, .f32⟩
  | .hbm, ⟨41, _⟩ => ⟨S1x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== OutFwd.lean ====
abbrev S8192x1024 : Shape := ⟨2, ![8192, 1024]⟩
abbrev S8192x3712 : Shape := ⟨2, ![8192, 3712]⟩
abbrev S8192x512 : Shape := ⟨2, ![8192, 512]⟩
abbrev S1x512 : Shape := ⟨2, ![1, 512]⟩
abbrev S1024x1024 : Shape := ⟨2, ![1024, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x3712, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S1024x1024, .bf16⟩
  | .hbm, ⟨8, _⟩ => ⟨S8192x1024, .bf16⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutFwdRefIdeal.lean ====
abbrev S8192x1024 : Shape := ⟨2, ![8192, 1024]⟩
abbrev S8192x3712 : Shape := ⟨2, ![8192, 3712]⟩
abbrev S8192x512 : Shape := ⟨2, ![8192, 512]⟩
abbrev S1x512 : Shape := ⟨2, ![1, 512]⟩
abbrev S1024x1024 : Shape := ⟨2, ![1024, 1024]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3712, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S8192x4x128, .f32⟩
  | .hbm, ⟨8, _⟩ => ⟨S8192x4x128, .f32⟩
  | .hbm, ⟨9, _⟩ => ⟨S_, .f32⟩
  | .hbm, ⟨10, _⟩ => ⟨S8192x4, .f32⟩
  | .hbm, ⟨11, _⟩ => ⟨S8192x4x1, .f32⟩
  | .hbm, ⟨12, _⟩ => ⟨S_, .f32⟩
  | .hbm, ⟨13, _⟩ => ⟨S8192x4x1, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S8192x4x1, .f32⟩
  | .hbm, ⟨19, _⟩ => ⟨S8192x4x128, .f32⟩
  | .hbm, ⟨20, _⟩ => ⟨S8192x4x128, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x4x128, .f32⟩
  | .hbm, ⟨36, _⟩ => ⟨S8192x4x128, .f32⟩
  | .hbm, ⟨37, _⟩ => ⟨S_, .f32⟩
  | .hbm, ⟨38, _⟩ => ⟨S8192x4, .f32⟩
  | .hbm, ⟨39, _⟩ => ⟨S8192x4x1, .f32⟩
  | .hbm, ⟨40, _⟩ => ⟨S_, .f32⟩
  | .hbm, ⟨41, _⟩ => ⟨S8192x4x1, .f32⟩
  | .hbm, ⟨42, _⟩ => ⟨S8192x4x1, .f32⟩
  | .hbm, ⟨43, _⟩ => ⟨S_, .f32⟩
  | .hbm, ⟨44, _⟩ => ⟨S8192x4x1, .f32⟩
  | .hbm, ⟨45, _⟩ => ⟨S8192x4x1, .f32⟩
  | .hbm, ⟨46, _⟩ => ⟨S8192x4x1, .f32⟩
  | .hbm, ⟨47, _⟩ => ⟨S8192x4x128, .f32⟩
  | .hbm, ⟨48, _⟩ => ⟨S8192x4x128, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x1024, .f32⟩
  | .hbm, ⟨63, _⟩ => ⟨S8192x1024, .bf16⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Ple.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩

abbrev nBuf : Space → Nat
  | .hbm => 17
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S256x1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S8192x1024, .bf16⟩
  | .hbm, ⟨11, _⟩ => ⟨S8192x1024, .bf16⟩
  | .hbm, ⟨12, _⟩ => ⟨S8192x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== OutBwd.lean ====
abbrev S8192x1024 : Shape := ⟨2, ![8192, 1024]⟩
abbrev S8192x3712 : Shape := ⟨2, ![8192, 3712]⟩
abbrev S8192x512 : Shape := ⟨2, ![8192, 512]⟩
abbrev S1x512 : Shape := ⟨2, ![1, 512]⟩
abbrev S1024x1024 : Shape := ⟨2, ![1024, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x3712, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S1024x1024, .bf16⟩
  | .hbm, ⟨8, _⟩ => ⟨S8192x512, .f32⟩
  | .hbm, ⟨9, _⟩ => ⟨S8192x512, .f32⟩
  | .hbm, ⟨10, _⟩ => ⟨S8192x512, .bf16⟩
  | .hbm, ⟨11, _⟩ => ⟨S8192x512, .bf16⟩
  | .hbm, ⟨12, _⟩ => ⟨S1x512, .f32⟩
  | .hbm, ⟨13, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S1x512, .f32⟩
  | .local _ .vmem, ⟨22, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== HgFwd.lean ====
abbrev S8192x3712 : Shape := ⟨2, ![8192, 3712]⟩
abbrev S2x512 : Shape := ⟨2, ![2, 512]⟩
abbrev S8192x512 : Shape := ⟨2, ![8192, 512]⟩
abbrev S128x4x128x128 : Shape := ⟨4, ![128, 4, 128, 128]⟩
abbrev S512x512 : Shape := ⟨2, ![512, 512]⟩
abbrev S8x4x128x128 : Shape := ⟨4, ![8, 4, 128, 128]⟩
abbrev S4x128x128 : Shape := ⟨3, ![4, 128, 128]⟩
abbrev S32x64x128 : Shape := ⟨3, ![32, 64, 128]⟩
abbrev S1x512 : Shape := ⟨2, ![1, 512]⟩
abbrev S8x512 : Shape := ⟨2, ![8, 512]⟩
abbrev S512 : Shape := ⟨1, ![512]⟩
abbrev S1x128 : Shape := ⟨2, ![1, 128]⟩
abbrev S1x1x128 : Shape := ⟨3, ![1, 1, 128]⟩
abbrev S32x1x128 : Shape := ⟨3, ![32, 1, 128]⟩
abbrev S8x64x512 : Shape := ⟨3, ![8, 64, 512]⟩
abbrev S8x64x128 : Shape := ⟨3, ![8, 64, 128]⟩
abbrev S8x1x64x128 : Shape := ⟨4, ![8, 1, 64, 128]⟩
abbrev S8x4x64x128 : Shape := ⟨4, ![8, 4, 64, 128]⟩
abbrev S32x128x128 : Shape := ⟨3, ![32, 128, 128]⟩
abbrev S8x4x1x128 : Shape := ⟨4, ![8, 4, 1, 128]⟩
abbrev S1x4x1x128 : Shape := ⟨4, ![1, 4, 1, 128]⟩
abbrev S4x1x128 : Shape := ⟨3, ![4, 1, 128]⟩
abbrev S1x4x128x128 : Shape := ⟨4, ![1, 4, 128, 128]⟩
abbrev S128x128 : Shape := ⟨2, ![128, 128]⟩
abbrev S1x16x128 : Shape := ⟨3, ![1, 16, 128]⟩
abbrev S32x16x128 : Shape := ⟨3, ![32, 16, 128]⟩
abbrev S1x8x128 : Shape := ⟨3, ![1, 8, 128]⟩
abbrev S32x8x128 : Shape := ⟨3, ![32, 8, 128]⟩
abbrev S32x192x128 : Shape := ⟨3, ![32, 192, 128]⟩
abbrev S6144x128 : Shape := ⟨2, ![6144, 128]⟩
abbrev S32x16x16 : Shape := ⟨3, ![32, 16, 16]⟩
abbrev S32x32x128 : Shape := ⟨3, ![32, 32, 128]⟩
abbrev S32x16x32 : Shape := ⟨3, ![32, 16, 32]⟩
abbrev S32x48x128 : Shape := ⟨3, ![32, 48, 128]⟩
abbrev S32x16x48 : Shape := ⟨3, ![32, 16, 48]⟩

abbrev nBuf : Space → Nat
  | .hbm => 4
  | .vmem => 15
  | .smem => 0
  | _ => 0

abbrev bufTy : (tb : Table) → Fin (tcTables nBuf tb) → BufTy
  | .hbm, ⟨0, _⟩ => ⟨S8192x3712, .f32⟩
  | .hbm, ⟨1, _⟩ => ⟨S2x512, .f32⟩
  | .hbm, ⟨2, _⟩ => ⟨S8192x512, .f32⟩
  | .hbm, ⟨3, _⟩ => ⟨S128x4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2x512, .f32⟩
  | .local _ .vmem, ⟨7, _⟩ => ⟨S512x512, .f32⟩
  | .local _ .vmem, ⟨8, _⟩ => ⟨S512x512, .f32⟩
  | .local _ .vmem, ⟨9, _⟩ => ⟨S8x4x128x128, .f32⟩
  | .local _ .vmem, ⟨10, _⟩ => ⟨S8x4x128x128, .f32⟩
  | .local _ .vmem, ⟨11, _⟩ => ⟨S4x128x128, .f32⟩
  | .local _ .vmem, ⟨12, _⟩ => ⟨S32x64x128, .f32⟩
  | .local _ .vmem, ⟨13, _⟩ => ⟨S32x64x128, .f32⟩
  | .local _ .vmem, ⟨14, _⟩ => ⟨S32x64x128, .f32⟩
  | _, _ => ⟨S8192x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlFwd.lean ====
abbrev S8192x512 : Shape := ⟨2, ![8192, 512]⟩
abbrev S8192x3712 : Shape := ⟨2, ![8192, 3712]⟩
abbrev S128x4x64x128 : Shape := ⟨4, ![128, 4, 64, 128]⟩
abbrev S128x4x1x64 : Shape := ⟨4, ![128, 4, 1, 64]⟩
abbrev S128x1x128 : Shape := ⟨3, ![128, 1, 128]⟩
abbrev S512x512 : Shape := ⟨2, ![512, 512]⟩
abbrev S512x128 : Shape := ⟨2, ![512, 128]⟩
abbrev S8x4x64x128 : Shape := ⟨4, ![8, 4, 64, 128]⟩
abbrev S8x4x1x64 : Shape := ⟨4, ![8, 4, 1, 64]⟩
abbrev S8x1x128 : Shape := ⟨3, ![8, 1, 128]⟩
abbrev S4x64x128 : Shape := ⟨3, ![4, 64, 128]⟩
abbrev S4x1x64 : Shape := ⟨3, ![4, 1, 64]⟩
abbrev S1x128 : Shape := ⟨2, ![1, 128]⟩
abbrev S8x128 : Shape := ⟨2, ![8, 128]⟩
abbrev S128 : Shape := ⟨1, ![128]⟩
abbrev S64x128 : Shape := ⟨2, ![64, 128]⟩
abbrev S1x1x128 : Shape := ⟨3, ![1, 1, 128]⟩
abbrev S512 : Shape := ⟨1, ![512]⟩
abbrev S512x1 : Shape := ⟨2, ![512, 1]⟩
abbrev S8x64x1 : Shape := ⟨3, ![8, 64, 1]⟩
abbrev S8x1x64x1 : Shape := ⟨4, ![8, 1, 64, 1]⟩
abbrev S8x4x64x1 : Shape := ⟨4, ![8, 4, 64, 1]⟩
abbrev S32x64x1 : Shape := ⟨3, ![32, 64, 1]⟩
abbrev S1 : Shape := ⟨1, ![1]⟩
abbrev S1x1 : Shape := ⟨2, ![1, 1]⟩
abbrev S1x1x1 : Shape := ⟨3, ![1, 1, 1]⟩
abbrev S32x1x1 : Shape := ⟨3, ![32, 1, 1]⟩
abbrev S8x4x1x1 : Shape := ⟨4, ![8, 4, 1, 1]⟩
abbrev S512x256 : Shape := ⟨2, ![512, 256]⟩
abbrev S8x64x256 : Shape := ⟨3, ![8, 64, 256]⟩
abbrev S8x64x64 : Shape := ⟨3, ![8, 64, 64]⟩
abbrev S8x1x64x64 : Shape := ⟨4, ![8, 1, 64, 64]⟩
abbrev S8x4x64x64 : Shape := ⟨4, ![8, 4, 64, 64]⟩
abbrev S32x64x64 : Shape := ⟨3, ![32, 64, 64]⟩
abbrev S8x64x512 : Shape := ⟨3, ![8, 64, 512]⟩
abbrev S8x64x128 : Shape := ⟨3, ![8, 64, 128]⟩
abbrev S8x1x64x128 : Shape := ⟨4, ![8, 1, 64, 128]⟩
abbrev S32x64x128 : Shape := ⟨3, ![32, 64, 128]⟩
abbrev S32x64 : Shape := ⟨2, ![32, 64]⟩
abbrev S32x1x64 : Shape := ⟨3, ![32, 1, 64]⟩
abbrev S1x4x1x1 : Shape := ⟨4, ![1, 4, 1, 1]⟩
abbrev S4x1x1 : Shape := ⟨3, ![4, 1, 1]⟩
abbrev S1x4x64x128 : Shape := ⟨4, ![1, 4, 64, 128]⟩
abbrev S1x4x1x64 : Shape := ⟨4, ![1, 4, 1, 64]⟩
abbrev S8x8x128 : Shape := ⟨3, ![8, 8, 128]⟩
abbrev S8x8x64 : Shape := ⟨3, ![8, 8, 64]⟩
abbrev S8x64 : Shape := ⟨2, ![8, 64]⟩
abbrev S8x1x64 : Shape := ⟨3, ![8, 1, 64]⟩
abbrev S8x1x1x64 : Shape := ⟨4, ![8, 1, 1, 64]⟩
abbrev S1x64x64 : Shape := ⟨3, ![1, 64, 64]⟩

abbrev nBuf : Space → Nat
  | .hbm => 6
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x3712, .f32⟩
  | .hbm, ⟨2, _⟩ => ⟨S8192x512, .f32⟩
  | .hbm, ⟨3, _⟩ => ⟨S128x4x64x128, .f32⟩
  | .hbm, ⟨4, _⟩ => ⟨S128x4x1x64, .f32⟩
  | .hbm, ⟨5, _⟩ => ⟨S128x1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S8x4x64x128, .f32⟩
  | .local _ .vmem, ⟨9, _⟩ => ⟨S8x4x64x128, .f32⟩
  | .local _ .vmem, ⟨10, _⟩ => ⟨S8x4x1x64, .f32⟩
  | .local _ .vmem, ⟨11, _⟩ => ⟨S8x4x1x64, .f32⟩
  | .local _ .vmem, ⟨12, _⟩ => ⟨S8x1x128, .f32⟩
  | .local _ .vmem, ⟨13, _⟩ => ⟨S8x1x128, .f32⟩
  | .local _ .vmem, ⟨14, _⟩ => ⟨S4x64x128, .f32⟩
  | .local _ .vmem, ⟨15, _⟩ => ⟨S4x1x64, .f32⟩
  | .local _ .vmem, ⟨16, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Proof.Reals.lean ====
module

public import Idealize.ShloMosaic.Lib.Pipeline.ValueKit
public import Idealize.ShloMosaic.Lib.Pointwise
public import Idealize.ShloMosaic.PureOps.Ideal.Laws

@[expose] public section

set_option maxRecDepth 16384

noncomputable section

open Idealize.ShloMosaic

/-! Arrays whose every entry is a real number, and the operations of a program on them: an operation
    on such arrays is again such an array, and its entries are given by the real formula. -/

namespace Cert.Reals

/-- The matrix with the real entries `f`. -/
def up {n m : ℕ} (f : Fin n → Fin m → ℝ) : (⟨2, ![n, m]⟩ : Shape).Idx → EReal :=
  fun i => ((f (i 0) (i 1) : ℝ) : EReal)

/-- The vector with the real entries `f`. -/
def up1 {n : ℕ} (f : Fin n → ℝ) : (⟨1, ![n]⟩ : Shape).Idx → EReal :=
  fun i => ((f (i 0) : ℝ) : EReal)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem div_real (a : ℝ) {b : ℝ} (h : b ≠ 0) : Ideal.div (a : EReal) (b : EReal) = ((a / b : ℝ) : EReal) := by
  rw [Ideal.div_coe h, ← EReal.coe_mul]; congr 1; ring

theorem rsqrt_pos {a : ℝ} (h : 0 < a) : Ideal.rsqrt (a : EReal) = (((Real.sqrt a)⁻¹ : ℝ) : EReal) := by
  rw [Ideal.rsqrt_coe, if_neg (not_lt.mpr h.le), if_neg h.ne']

theorem c_1024 : Ideal.ofBits .f32 0x44800000#32 = ((1024 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul]; norm_num
/-- The number added to a variance before its square root. -/
def eps : ℝ := 10995116 / 2 ^ 40
theorem c_eps : Ideal.ofBits .f32 0x3727C5AC#32 = ((eps : ℝ) : EReal) := by
  simp [Ideal.ofBits, Ideal.ieee, -EReal.coe_mul, eps]; norm_num
theorem eps_pos : 0 < eps := by unfold eps; norm_num

/-- The weight of a residual branch. -/
def alpha : ℝ := 9975792 / 2 ^ 23
theorem c_alpha : Ideal.ofBits .f32 0x3F9837F0#32 = ((alpha : ℝ) : EReal) := by
  simp [Ideal.ofBits, Ideal.ieee, -EReal.coe_mul, alpha]; norm_num

/-- An extended real whose absolute value is below infinity is a real number. -/
theorem finite_of_lt {x : EReal} (h : Ideal.cmpTotal .lt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmpTotal, Ideal.cmp, CmpDirection.ordered] at h
  | coe r => exact ⟨r, rfl⟩
  | top => simp [Ideal.cmpTotal, Ideal.cmp, CmpDirection.ordered] at h

/-- A matrix every entry of which is finite is a matrix of real numbers. -/
theorem up_of_finite {n m : ℕ} (x : FVec Ideal ⟨2, ![n, m]⟩ .f32) (inf : FVec Ideal ⟨2, ![n, m]⟩ .f32)
    (hi : ∀ i, inf i = Ideal.ofBits .f32 0x7F800000#32) (h : cmpf .olt (Host.absf x) inf = fun _ => 1#1) : ∃ f, x = up f := by
  have : ∀ i, ∃ r : ℝ, x i = (r : EReal) := fun i => finite_of_lt (by
    have := congrFun h i
    rw [← hi i]; exact this)
  choose f hf using this
  exact ⟨fun a b => f (ix2 a b), funext fun i => (hf i).trans (congrArg (fun k => ((f k : ℝ) : EReal)) (eq_ix2 i))⟩

/-! One row of a layer norm and of its gradient. -/

/-- The mean of a row. -/
def mean (z : Fin 1024 → ℝ) : ℝ := (∑ k, z k) / 1024
/-- A row less its mean. -/
def cen (z : Fin 1024 → ℝ) (j : Fin 1024) : ℝ := z j - mean z
/-- The variance of a row, and the small number added to it. -/
def var (z : Fin 1024 → ℝ) : ℝ := mean (fun k => cen z k * cen z k) + eps
/-- One over the standard deviation. -/
def rs (z : Fin 1024 → ℝ) : ℝ := (Real.sqrt (var z))⁻¹
/-- The normalised row. -/
def xh (z : Fin 1024 → ℝ) (j : Fin 1024) : ℝ := cen z j * rs z
/-- The layer norm of a row, of gain `g` and bias `b`. -/
def ln (z g b : Fin 1024 → ℝ) (j : Fin 1024) : ℝ := xh z j * g j + b j
/-- The gradient of the layer norm of the row `z` towards it, `y` being the gradient at the
    normalised row. -/
def lnBwd (z y : Fin 1024 → ℝ) (j : Fin 1024) : ℝ :=
  rs z * (y j - mean y - xh z j * mean fun k => y k * xh z k)

theorem mean_sq_nonneg (c : Fin 1024 → ℝ) : 0 ≤ mean fun k => c k * c k :=
  div_nonneg (Finset.sum_nonneg fun k _ => mul_self_nonneg (c k)) (by norm_num)
theorem var_pos (z : Fin 1024 → ℝ) : 0 < var z := add_pos_of_nonneg_of_pos (mean_sq_nonneg _) eps_pos
theorem rs_sq (z : Fin 1024 → ℝ) : rs z / var z = rs z * (rs z * rs z) := by
  have h := var_pos z
  have : rs z * rs z = (var z)⁻¹ := by
    unfold rs; rw [← mul_inv, Real.mul_self_sqrt h.le]
  rw [this]; rfl
theorem sum_cen (z : Fin 1024 → ℝ) : ∑ k, cen z k = 0 := by
  simp only [cen, mean, Finset.sum_sub_distrib, Finset.sum_const, Finset.card_univ, Fintype.card_fin, nsmul_eq_mul]
  push_cast; ring

/-- The gradient through the mean, the variance and the square root one by one is `lnBwd`. -/
theorem lnBwd_eq (z y : Fin 1024 → ℝ) (j : Fin 1024) {s q : ℝ} (hq : q = (∑ k, cen z k * y k) * (-(1 / 2) * (rs z / var z)))
    (hs : s = (∑ k, -(y k * rs z)) + ∑ k, -(q / 1024 * (2 * cen z k))) :
    y j * rs z + q / 1024 * (2 * cen z j) + s / 1024 = lnBwd z y j := by
  have h1 : (∑ k, -(y k * rs z)) = -((∑ k, y k) * rs z) := by rw [Finset.sum_neg_distrib, Finset.sum_mul]
  have h2 : (∑ k, -(q / 1024 * (2 * cen z k))) = 0 := by
    have : ∀ k, -(q / 1024 * (2 * cen z k)) = -(q / 1024 * 2) * cen z k := fun k => by ring
    simp only [this]; rw [← Finset.mul_sum, sum_cen, mul_zero]
  have h3 : (∑ k, y k * xh z k) = (∑ k, cen z k * y k) * rs z := by
    rw [Finset.sum_mul]; exact Finset.sum_congr rfl fun k _ => by unfold xh; ring
  rw [hs, h1, h2, hq, rs_sq]
  unfold lnBwd
  simp only [mean, h3]
  unfold xh; ring

/-! The gate `a * sg a` of a gated linear unit, and products of a row and a matrix. -/

/-- The logistic function. -/
def sg (a : ℝ) : ℝ := (1 + Real.exp (-a))⁻¹
theorem sg_pos (a : ℝ) : 0 < 1 + Real.exp (-a) := by positivity
theorem logistic_real (a : ℝ) : Ideal.div 1 (1 + Ideal.exp (-(a : EReal))) = ((sg a : ℝ) : EReal) := by
  rw [← EReal.coe_neg, Ideal.exp_coe, ← EReal.coe_one, ← EReal.coe_add, div_real _ (sg_pos a).ne']
  simp [sg]
/-- The gradient at the gate's argument `a`, `b` being the other factor and `h` the gradient at their product. -/
def dGate (a b h : ℝ) : ℝ := h * b * (sg a * (1 + a * (1 - sg a)))
/-- The gradient at the other factor. -/
def dUp (a h : ℝ) : ℝ := h * (a * sg a)
/-- A row times a matrix. -/
def mv {n m : ℕ} (x : Fin n → ℝ) (w : Fin n → Fin m → ℝ) (j : Fin m) : ℝ := ∑ i, x i * w i j
/-- A row times the transpose of a matrix. -/
def mvT {n m : ℕ} (x : Fin n → ℝ) (w : Fin m → Fin n → ℝ) (j : Fin m) : ℝ := ∑ i, x i * w j i

end Cert.Reals
end
end
-- ==== Proof.FfnRef.lean ====
module

public import proofs.«01_k».proof.Proof.Reals
public import proofs.«01_k».proof.Proof.Gen.FfnRefIdeal.Run

@[expose] public section

set_option maxRecDepth 16384

noncomputable section

open Idealize.ShloMosaic Idealize.ShloMosaic.TcCoe Idealize.SL.Sem
open Cert.Reals

/-! The gradient of the feed-forward layer and of the layer norm before it, as the reference has it:
    the arrays it forms one after another, and what they hold row by row where the arguments are real. -/

namespace Cert.FfnRefIdeal.Stages

open Cert.FfnRefIdeal Cert.FfnRefIdeal.Gen

abbrev A1 := FVec Ideal S8192x1 .f32
abbrev AD := FVec Ideal S8192x1024 .f32
abbrev AF := FVec Ideal S8192x2816 .f32

/-- A number in every row. -/
def col (w : BitVec 32) : A1 := broadcastInDim S8192x1 ![] bcast_S_S8192x1 (constant S_ .f32 w)
/-- The sum of each row. -/
def rowSum (x : AD) : FVec Ideal S8192 .f32 := Host.reduceAdd x (constant S_ .f32 0x00000000#32) reducesTo_S8192x1024_S8192_d1 h_S_
/-- One number per row, along the row. -/
def spread (x : A1) : AD := broadcastInDim S8192x1024 ![0, 1] bcast_S8192x1_S8192x1024_0_1 x
/-- One number per column, down the column. -/
def down (x : FVec Ideal S1x1024 .f32) : AD := broadcastInDim S8192x1024 ![0, 1] bcast_S1x1024_S8192x1024_0_1 x

def Mean (z : AD) : A1 := Host.divf (broadcastInDim S8192x1 ![0] bcast_S8192_S8192x1_0 (rowSum z)) (col 0x44800000#32)
def Cen (z : AD) : AD := subf z (spread (Mean z))
def Var (z : AD) : A1 := addf (Mean (mulf (Cen z) (Cen z))) (col 0x3727C5AC#32)
def Rs (z : AD) : A1 := Host.rsqrt (Var z)
def Xh (z : AD) : AD := mulf (Cen z) (spread (Rs z))
def X1 (z : AD) (g b : FVec Ideal S1x1024 .f32) : AD := addf (mulf (Xh z) (down g)) (down b)
def Pre (x : AD) (w : FVec Ideal S1024x2816 .f32) : AF := Host.dotGeneral dot_S8192x1024_S1024x2816_S8192x2816_1_0_0_1_n_n none x w
def One : AF := broadcastInDim S8192x2816 ![] bcast_S_S8192x2816 (constant S_ .f32 0x3F800000#32)
def Sg (a : AF) : AF := Host.divf One (addf One (Host.exp (Host.negf a)))
def Dh (dz : AD) (wd : FVec Ideal S2816x1024 .f32) : AF := Host.dotGeneral dot_S8192x1024_S2816x1024_S8192x2816_1_1_0_0_n_n none dz wd
def Dbb (a h : AF) : AF := mulf (mulf a (Sg a)) h
def Da (a b h : AF) : AF :=
  addf (mulf (mulf h b) (Sg a)) (mulf (mulf a (mulf h b)) (mulf (Sg a) (subf One (Sg a))))
def Dx (dz : AD) (da db : AF) (wg wu : FVec Ideal S1024x2816 .f32) : AD :=
  addf (mulf (broadcastInDim S8192x1024 ![] bcast_S_S8192x1024 (constant S_ .f32 0x3F9837F0#32)) dz)
    (addf (Host.dotGeneral dot_S8192x2816_S1024x2816_S8192x1024_1_1_0_0_n_n none db wu)
      (Host.dotGeneral dot_S8192x2816_S1024x2816_S8192x1024_1_1_0_0_n_n none da wg))
def colSum (x : AD) : FVec Ideal S1x1024 .f32 :=
  shapeCast S1x1024 (Host.reduceAdd x (constant S_ .f32 0x00000000#32) reducesTo_S8192x1024_S1024_d0 h_S_) shapeCasts_S1024_S1x1024
def Q (z y : AD) : A1 :=
  mulf (shapeCast S8192x1 (rowSum (mulf (Cen z) y)) shapeCasts_S8192_S8192x1) (mulf (col 0xBF000000#32) (Host.divf (Rs z) (Var z)))
/-- One number per row, along the row, by way of a sum over an axis of length one. -/
def spreadSum (x : A1) : AD :=
  broadcastInDim S8192x1024 ![0] bcast_S8192_S8192x1024_0 (Host.reduceAdd x (constant S_ .f32 0x00000000#32) reducesTo_S8192x1_S8192_d1 h_S_)
def ByVar (z : AD) (q : A1) : AD :=
  mulf (spreadSum (Host.divf q (col 0x44800000#32))) (mulf (broadcastInDim S8192x1024 ![] bcast_S_S8192x1024 (constant S_ .f32 0x40000000#32)) (Cen z))
def ByStd (z y : AD) : AD := mulf y (spread (Rs z))
def NegSum (u : AD) : A1 := shapeCast S8192x1 (rowSum (Host.negf u)) shapeCasts_S8192_S8192x1
def Dz (z y : AD) : AD :=
  addf (addf (ByStd z y) (ByVar z (Q z y)))
    (spreadSum (Host.divf (addf (NegSum (ByStd z y)) (NegSum (ByVar z (Q z y)))) (col 0x44800000#32)))

section
variable (m : (ℓ : Loc nD τ sig) → Buf (Elt Ideal) ℓ) (c : Dev nD)

/-- The arguments of the program on device `c`. -/
abbrev Z : AD := m ((c.tc : Thread nD τ).loc main_arg0)
abbrev Ct : AD := m ((c.tc : Thread nD τ).loc main_arg1)
abbrev Wg : FVec Ideal S1024x2816 .f32 := m ((c.tc : Thread nD τ).loc main_arg2)
abbrev Wu : FVec Ideal S1024x2816 .f32 := m ((c.tc : Thread nD τ).loc main_arg3)
abbrev Wd : FVec Ideal S2816x1024 .f32 := m ((c.tc : Thread nD τ).loc main_arg4)
abbrev G : FVec Ideal S1x1024 .f32 := m ((c.tc : Thread nD τ).loc main_arg5)
abbrev B : FVec Ideal S1x1024 .f32 := m ((c.tc : Thread nD τ).loc main_arg6)

def tA : AF := Pre (X1 (Z m c) (G m c) (B m c)) (Wg m c)
def tB : AF := Pre (X1 (Z m c) (G m c) (B m c)) (Wu m c)
def tH : AF := Dh (Ct m c) (Wd m c)
def tDx : AD := Dx (Ct m c) (Da (tA m c) (tB m c) (tH m c)) (Dbb (tA m c) (tH m c)) (Wg m c) (Wu m c)

theorem out0 : Value.res_out0 m c = truncf .bf16 (Da (tA m c) (tB m c) (tH m c)) bitsLt_bf16_f32 := rfl
theorem out1 : Value.res_out1 m c = truncf .bf16 (Dbb (tA m c) (tH m c)) bitsLt_bf16_f32 := rfl
theorem out2 : Value.res_out2 m c = Dz (Z m c) (mulf (tDx m c) (down (G m c))) := rfl
theorem out3 : Value.res_out3 m c = colSum (mulf (Xh (Z m c)) (tDx m c)) := rfl
theorem out4 : Value.res_out4 m c = colSum (tDx m c) := rfl
end

/-! The same arrays over real arguments. -/

variable (z y d : Fin 8192 → Fin 1024 → ℝ)

theorem spread_up (f : Fin 8192 → Fin 1 → ℝ) : spread (up f) = up fun r _ => f r 0 := by
  funext i; idx_vars i; pointwise [spread, up]
theorem down_up (f : Fin 1 → Fin 1024 → ℝ) : down (up f) = up fun _ j => f 0 j := by
  funext i; idx_vars i; pointwise [down, up]
theorem Mean_up : Mean (up z) = up fun r _ => mean (z r) := by
  funext i; idx_vars i
  pointwise [Mean, up, rowSum, col]
  rw [c_1024, ← coe_sum, div_real _ (by norm_num)]; rfl
theorem Cen_up : Cen (up z) = up fun r => cen (z r) := by
  rw [Cen, Mean_up, spread_up]
  funext i; idx_vars i; pointwise [up]; rw [← EReal.coe_sub]; rfl
theorem Var_up : Var (up z) = up fun r _ => var (z r) := by
  have : mulf (Cen (up z)) (Cen (up z)) = up fun r k => cen (z r) k * cen (z r) k := by
    rw [Cen_up]; funext i; idx_vars i; pointwise [up]; rw [← EReal.coe_mul]
  rw [Var, this, Mean_up]
  funext i; idx_vars i; pointwise [up, col]; rw [c_eps, ← EReal.coe_add]; rfl
theorem Rs_up : Rs (up z) = up fun r _ => rs (z r) := by
  rw [Rs, Var_up]
  funext i; idx_vars i; pointwise [up]; rw [rsqrt_pos (var_pos _)]; rfl
theorem Xh_up : Xh (up z) = up fun r => xh (z r) := by
  rw [Xh, Cen_up, Rs_up, spread_up]
  funext i; idx_vars i; pointwise [up]; rw [← EReal.coe_mul]; rfl
theorem X1_up (g b : Fin 1 → Fin 1024 → ℝ) : X1 (up z) (up g) (up b) = up fun r => ln (z r) (g 0) (b 0) := by
  rw [X1, Xh_up, down_up, down_up]
  funext i; idx_vars i; pointwise [up]; rw [← EReal.coe_mul, ← EReal.coe_add]; rfl
theorem Pre_up (w : Fin 1024 → Fin 2816 → ℝ) : Pre (up z) (up w) = up fun r => mv (z r) w := by
  funext i; idx_vars i; pointwise [up, Pre]; simp only [← EReal.coe_mul, ← coe_sum]; rfl
theorem Dh_up (w : Fin 2816 → Fin 1024 → ℝ) : Dh (up z) (up w) = up fun r => mvT (z r) w := by
  funext i; idx_vars i; pointwise [up, Dh]; simp only [← EReal.coe_mul, ← coe_sum]; rfl
theorem Sg_up (a : Fin 8192 → Fin 2816 → ℝ) : Sg (up a) = up fun r f => sg (a r f) := by
  funext i; idx_vars i; pointwise [up, Sg, One]; exact logistic_real _
theorem Dbb_up (a h : Fin 8192 → Fin 2816 → ℝ) : Dbb (up a) (up h) = up fun r f => dUp (a r f) (h r f) := by
  rw [Dbb, Sg_up]
  funext i; idx_vars i; pointwise [up]; simp only [← EReal.coe_mul]; congr 1; unfold dUp; ring
theorem Da_up (a b h : Fin 8192 → Fin 2816 → ℝ) : Da (up a) (up b) (up h) = up fun r f => dGate (a r f) (b r f) (h r f) := by
  rw [Da, Sg_up]
  funext i; idx_vars i; pointwise [up, One]
  simp only [← EReal.coe_one, ← EReal.coe_mul, ← EReal.coe_sub, ← EReal.coe_add]; congr 1; unfold dGate; ring
/-- A row of the gradient at the layer norm's output. -/
def dxRow (d : Fin 1024 → ℝ) (da db : Fin 2816 → ℝ) (wg wu : Fin 1024 → Fin 2816 → ℝ) (j : Fin 1024) : ℝ :=
  alpha * d j + mvT da wg j + mvT db wu j
theorem Dx_up (da db : Fin 8192 → Fin 2816 → ℝ) (wg wu : Fin 1024 → Fin 2816 → ℝ) :
    Dx (up d) (up da) (up db) (up wg) (up wu) = up fun r => dxRow (d r) (da r) (db r) wg wu := by
  funext i; idx_vars i; pointwise [up, Dx]; rw [c_alpha]
  simp only [← EReal.coe_mul, ← coe_sum, ← EReal.coe_add]; congr 1; unfold dxRow mvT; ring
theorem colSum_up : colSum (up z) = up fun _ j => ∑ r, z r j := by
  funext i; idx_vars i; pointwise [up, colSum]; rw [← coe_sum]
theorem mul_up (f h : Fin 8192 → Fin 1024 → ℝ) : (mulf (up f) (up h) : AD) = up fun r j => f r j * h r j := by
  funext i; idx_vars i; pointwise [up]; rw [← EReal.coe_mul]
theorem rowSum_up : rowSum (up z) = up1 fun r => ∑ k, z r k := by
  funext i; idx_vars i; pointwise [up, up1, rowSum]; rw [← coe_sum]
theorem Q_up : Q (up z) (up y) = up fun r _ => (∑ k, cen (z r) k * y r k) * (-(1 / 2) * (rs (z r) / var (z r))) := by
  rw [Q, Cen_up, mul_up, rowSum_up, Rs_up, Var_up]
  funext i; idx_vars i; pointwise [up, up1, col]
  rw [c_neg_half, div_real _ (var_pos _).ne', ← EReal.coe_mul, ← EReal.coe_mul]
theorem spreadSum_up (q : Fin 8192 → Fin 1 → ℝ) : spreadSum (Host.divf (up q) (col 0x44800000#32)) = up fun r _ => q r 0 / 1024 := by
  funext i; idx_vars i; pointwise [up, spreadSum, col]
  rw [c_1024]; simp [div_real]
theorem ByVar_up (q : Fin 8192 → Fin 1 → ℝ) : ByVar (up z) (up q) = up fun r j => q r 0 / 1024 * (2 * cen (z r) j) := by
  rw [ByVar, spreadSum_up, Cen_up]
  funext i; idx_vars i; pointwise [up]; rw [c_two]; simp only [← EReal.coe_mul]
theorem ByStd_up : ByStd (up z) (up y) = up fun r j => y r j * rs (z r) := by
  rw [ByStd, Rs_up, spread_up, mul_up]
theorem NegSum_up : NegSum (up z) = up fun r _ => ∑ k, -z r k := by
  have : (Host.negf (up z) : AD) = up fun r k => -z r k := by
    funext i; idx_vars i; pointwise [up]; rw [← EReal.coe_neg]
  rw [NegSum, this, rowSum_up]
  funext i; idx_vars i; pointwise [up, up1]
theorem Dz_up : Dz (up z) (up y) = up fun r => lnBwd (z r) (y r) := by
  have add1 (f h : Fin 8192 → Fin 1 → ℝ) : (addf (up f) (up h) : A1) = up fun r j => f r j + h r j := by
    funext i; idx_vars i; pointwise [up]; rw [← EReal.coe_add]
  rw [Dz, Q_up, ByVar_up, ByStd_up, NegSum_up, NegSum_up, add1, spreadSum_up]
  funext i; idx_vars i; pointwise [up]
  rw [← EReal.coe_add, ← EReal.coe_add, lnBwd_eq _ _ _ rfl rfl]

/-! The results, row by row, of real arguments: `z` the layer norm's argument, `d` the gradient at the
    layer's result, `wg`, `wu`, `wd` the weights, `g` and `b` the gain and the bias. -/

section
variable (wg wu : Fin 1024 → Fin 2816 → ℝ) (wd : Fin 2816 → Fin 1024 → ℝ) (g b : Fin 1 → Fin 1024 → ℝ) (r : Fin 8192)

/-- The gradient at the gate's argument. -/
def rowA : Fin 2816 → ℝ := fun f =>
  dGate (mv (ln (z r) (g 0) (b 0)) wg f) (mv (ln (z r) (g 0) (b 0)) wu f) (mvT (d r) wd f)
/-- The gradient at the gated factor. -/
def rowB : Fin 2816 → ℝ := fun f => dUp (mv (ln (z r) (g 0) (b 0)) wg f) (mvT (d r) wd f)
/-- The gradient at the layer norm's output. -/
def rowX : Fin 1024 → ℝ := dxRow (d r) (rowA z d wg wu wd g b r) (rowB z d wg wd g b r) wg wu
end

section
variable {m : (ℓ : Loc nD τ sig) → Buf (Elt Ideal) ℓ} {c : Dev nD} {z d : Fin 8192 → Fin 1024 → ℝ}
  {wg wu : Fin 1024 → Fin 2816 → ℝ} {wd : Fin 2816 → Fin 1024 → ℝ} {g b : Fin 1 → Fin 1024 → ℝ}
  (hz : Z m c = up z) (hd : Ct m c = up d) (hwg : Wg m c = up wg) (hwu : Wu m c = up wu) (hwd : Wd m c = up wd)
  (hg : G m c = up g) (hb : B m c = up b)
include hz hd hwg hwu hwd hg hb

theorem tDx_up : tDx m c = up (rowX z d wg wu wd g b) := by
  rw [tDx, tA, tB, tH, hz, hd, hwg, hwu, hwd, hg, hb, X1_up, Pre_up, Pre_up, Dh_up, Da_up, Dbb_up, Dx_up]; rfl
theorem out0_up : Value.res_out0 m c = up (rowA z d wg wu wd g b) := by
  rw [out0, tA, tB, tH, hz, hd, hwg, hwu, hwd, hg, hb, X1_up, Pre_up, Pre_up, Dh_up, Da_up]; rfl
theorem out1_up : Value.res_out1 m c = up (rowB z d wg wd g b) := by
  rw [out1, tA, tH, hz, hd, hwg, hwd, hg, hb, X1_up, Pre_up, Dh_up, Dbb_up]; rfl
theorem out2_up : Value.res_out2 m c = up fun r => lnBwd (z r) fun j => rowX z d wg wu wd g b r j * g 0 j := by
  rw [out2, tDx_up hz hd hwg hwu hwd hg hb, hz, hg, down_up, mul_up, Dz_up]
theorem out3_up : Value.res_out3 m c = up fun _ j => ∑ r, xh (z r) j * rowX z d wg wu wd g b r j := by
  rw [out3, tDx_up hz hd hwg hwu hwd hg hb, hz, Xh_up, mul_up, colSum_up]
theorem out4_up : Value.res_out4 m c = up fun _ j => ∑ r, rowX z d wg wu wd g b r j := by
  rw [out4, tDx_up hz hd hwg hwu hwd hg hb, colSum_up]
end

end Cert.FfnRefIdeal.Stages
end
end
-- ==== Proof.FfnKernel.lean ====
module

public import proofs.«01_k».proof.Proof.FfnRef
public import proofs.«01_k».proof.Proof.Gen.FfnIdeal.Frame

@[expose] public section

set_option maxRecDepth 16384

noncomputable section

open Idealize.ShloMosaic Idealize.ShloMosaic.TcCoe Idealize.SL.Sem
open Idealize.ShloMosaic.Pipeline (Dat)
open Cert.Reals

/-! The same gradient as the kernel computes it, a block of 256 rows at each grid point. -/

namespace Cert.FfnIdeal.Blocks

open Cert.FfnIdeal Cert.FfnIdeal.Gen

/-! What the body stores, over blocks of real numbers. -/

section
variable (z d y : Fin 256 → Fin 1024 → ℝ) (a b h : Fin 256 → Fin 2816 → ℝ) (wd wg wu : Fin 2816 → Fin 1024 → ℝ)

theorem pay4_up : k0_pay4 (F := Ideal) (up a) = up a := by
  funext i; idx_vars i; pointwise [k0_pay4, up]
theorem pay5_up : k0_pay5 (F := Ideal) (up a) = up fun r f => sg (a r f) := by
  rw [k0_pay5, pay4_up]
  funext i; idx_vars i; pointwise [up]; rw [Ideal.logistic_coe]; rfl
theorem pay6_up : k0_pay6 (F := Ideal) (up d) (up wd) = up fun r => mvT (d r) wd := by
  funext i; idx_vars i; pointwise [k0_pay6, up]; simp only [← EReal.coe_mul, ← coe_sum]; rfl
theorem pay7_up : k0_pay7 (F := Ideal) (up d) (up a) (up b) (up wd) = up fun r f => dGate (a r f) (b r f) (mvT (d r) wd f) := by
  rw [k0_pay7, pay4_up, pay5_up, pay6_up]
  funext i; idx_vars i; pointwise [up]
  simp only [← EReal.coe_one, ← EReal.coe_mul, ← EReal.coe_sub, ← EReal.coe_add]; rfl
theorem pay8_up : k0_pay8 (F := Ideal) (up d) (up a) (up wd) = up fun r f => dUp (a r f) (mvT (d r) wd f) := by
  rw [k0_pay8, pay4_up, pay5_up, pay6_up]
  funext i; idx_vars i; pointwise [up]
  simp only [← EReal.coe_mul]; rfl
theorem pay10_up : k0_pay10 (F := Ideal) (up b) (k0_pay9 (up d) (up a) (up h) (up wd) (up wg)) (up wu)
    = up fun r => Cert.FfnRefIdeal.Stages.dxRow (d r) (fun f => dGate (a r f) (h r f) (mvT (d r) wd f)) (b r) (fun j f => wg f j) (fun j f => wu f j) := by
  rw [k0_pay10, k0_pay9, pay7_up]
  funext i; idx_vars i; pointwise [up]; rw [c_alpha]
  simp only [← EReal.coe_mul, ← coe_sum, ← EReal.coe_add]; rfl
theorem pay11_up : k0_pay11 (F := Ideal) (up z) = up fun r => cen (z r) := by
  funext i; idx_vars i; pointwise [k0_pay11, up]
  rw [c_1024, ← coe_sum, div_real _ (by norm_num), ← EReal.coe_sub]; rfl
theorem pay12_up : k0_pay12 (F := Ideal) (up z) = up fun r _ => rs (z r) := by
  rw [k0_pay12, pay11_up]
  funext i; idx_vars i; pointwise [up]; rw [c_1024, c_eps]; simp only [← EReal.coe_mul, ← coe_sum]
  rw [div_real _ (by norm_num), ← EReal.coe_add]; exact rsqrt_pos (var_pos _)
theorem pay13_up : k0_pay13 (F := Ideal) (up z) = up fun r => xh (z r) := by
  rw [k0_pay13, pay11_up, pay12_up]
  funext i; idx_vars i; pointwise [up]; rw [← EReal.coe_mul]; rfl
theorem pay1_up (g : Fin 1 → Fin 1024 → ℝ) :
    k0_pay1 (F := Ideal) (up y) (k0_pay12 (up z)) (k0_pay13 (up z)) (k0_pay16 (up g)) = up fun r => lnBwd (z r) fun j => y r j * g 0 j := by
  rw [pay12_up, pay13_up]
  funext i; idx_vars i; pointwise [k0_pay1, k0_pay16, up]; rw [c_1024]; simp only [← EReal.coe_mul, ← coe_sum]
  rw [div_real _ (by norm_num), div_real _ (by norm_num)]; simp only [← EReal.coe_mul, ← EReal.coe_sub]; rfl
theorem pay14_up (v26 v34 v35) (hy : k0_pay10 (F := Ideal) v26 v34 v35 = up y) (x : FVec Ideal S1x1024 .f32) (i : S1x1024.Idx) :
    k0_pay14 v26 v34 v35 (up z) x i = x i + ((∑ r, xh (z r) (i 1) * y r (i 1) : ℝ) : EReal) := by
  rw [k0_pay14, hy, pay13_up]
  idx_vars i; pointwise [up]; simp only [← EReal.coe_mul, ← coe_sum, mul_comm]
theorem pay15_up (v26 v34 v35) (hy : k0_pay10 (F := Ideal) v26 v34 v35 = up y) (x : FVec Ideal S1x1024 .f32) (i : S1x1024.Idx) :
    k0_pay15 v26 v34 v35 x i = x i + ((∑ r, y r (i 1) : ℝ) : EReal) := by
  rw [k0_pay15, hy]
  idx_vars i; pointwise [up]; simp only [← coe_sum]
theorem pay2_zero (i : S1x1024.Idx) : k0_pay2 (F := Ideal) i = 0 := by pointwise [k0_pay2]
theorem pay3_zero (i : S1x1024.Idx) : k0_pay3 (F := Ideal) i = 0 := by pointwise [k0_pay3]
end

/-! The arrays the call reads. -/

variable (m : (ℓ : Loc nD τ sig) → Buf (Elt Ideal) ℓ) (c : Dev nD)

/-- The arguments hold the real numbers `z`, `d`, …: the layer norm's argument, the gradient at the layer's
    result, the three weight matrices, the gain and the bias. -/
structure Holds (z d : Fin 8192 → Fin 1024 → ℝ) (wg wu : Fin 1024 → Fin 2816 → ℝ) (wd : Fin 2816 → Fin 1024 → ℝ)
    (g b : Fin 1 → Fin 1024 → ℝ) : Prop where
  hz : m ((c : Thread nD τ).loc main_arg0) = up z
  hd : m ((c : Thread nD τ).loc main_arg1) = up d
  hwg : m ((c : Thread nD τ).loc main_arg2) = up wg
  hwu : m ((c : Thread nD τ).loc main_arg3) = up wu
  hwd : m ((c : Thread nD τ).loc main_arg4) = up wd
  hg : m ((c : Thread nD τ).loc main_arg5) = up g
  hb : m ((c : Thread nD τ).loc main_arg6) = up b

/-- The row of the whole array that is row `r` of the block of point `t`. -/
def row (t : Fin cfg0.N) (r : Fin 256) : Fin 8192 := ⟨t.val * 256 + r.val, by have := lt_of_lt_of_eq t.isLt N_0; omega⟩

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

section
open Cert.FfnRefIdeal.Stages
variable {m c} {z d : Fin 8192 → Fin 1024 → ℝ} {wg wu : Fin 1024 → Fin 2816 → ℝ} {wd : Fin 2816 → Fin 1024 → ℝ}
  {g b : Fin 1 → Fin 1024 → ℝ} (H : Holds m c z d wg wu wd g b) (t : Fin cfg0.N)
include H

theorem V_a : V m c main_v23 = up fun r => mv (ln (z r) (g 0) (b 0)) wg := by
  have : V m c main_v23 = truncf .bf16 (Pre (X1 (m ((c : Thread nD τ).loc main_arg0)) (m ((c : Thread nD τ).loc main_arg5)) (m ((c : Thread nD τ).loc main_arg6)))
      (m ((c : Thread nD τ).loc main_arg2))) bitsLt_bf16_f32 := by
    entry_read; rfl
  rw [this, H.hz, H.hg, H.hb, H.hwg, X1_up, Pre_up]; rfl
theorem V_b : V m c main_v25 = up fun r => mv (ln (z r) (g 0) (b 0)) wu := by
  have : V m c main_v25 = truncf .bf16 (Pre (X1 (m ((c : Thread nD τ).loc main_arg0)) (m ((c : Thread nD τ).loc main_arg5)) (m ((c : Thread nD τ).loc main_arg6)))
      (m ((c : Thread nD τ).loc main_arg3))) bitsLt_bf16_f32 := by
    entry_read; rfl
  rw [this, H.hz, H.hg, H.hb, H.hwu, X1_up, Pre_up]; rfl
theorem V_wg : V m c main_v27 = up fun f j => wg j f := by
  funext i; idx_vars i; entry_read; pointwise [H.hwg, up]
theorem V_wu : V m c main_v29 = up fun f j => wu j f := by
  funext i; idx_vars i; entry_read; pointwise [H.hwu, up]
theorem V_wd : V m c main_v30 = up wd := by
  funext i; idx_vars i; entry_read; pointwise [H.hwd, up]

theorem blk0 : iblk m c 0 t = up fun r => mv (ln (z (row t r)) (g 0) (b 0)) wg := by
  funext i; idx_vars i
  have e : (win0_0.blk t).view.emb (ix2 i0 i1) = ix2 (row t i0) i1 := by blk_ext [row, idx t]
  blk_simp [iblk]; rw [V_a H, e]; rfl
theorem blk1 : iblk m c 1 t = up fun r => mv (ln (z (row t r)) (g 0) (b 0)) wu := by
  funext i; idx_vars i
  have e : (win0_1.blk t).view.emb (ix2 i0 i1) = ix2 (row t i0) i1 := by blk_ext [row, idx t]
  blk_simp [iblk]; rw [V_b H, e]; rfl
theorem blk2 : iblk m c 2 t = up fun r => z (row t r) := by
  funext i; idx_vars i
  have e : (win0_2.blk t).view.emb (ix2 i0 i1) = ix2 (row t i0) i1 := by blk_ext [row, idx t]
  blk_simp [iblk]; rw [V_main_arg0, H.hz, e]; rfl
theorem blk3 : iblk m c 3 t = up fun r => d (row t r) := by
  funext i; idx_vars i
  have e : (win0_3.blk t).view.emb (ix2 i0 i1) = ix2 (row t i0) i1 := by blk_ext [row, idx t]
  blk_simp [iblk]; rw [V_main_arg1, H.hd, e]; rfl
theorem blk4 : iblk m c 4 t = up fun f j => wg j f := by
  funext i; idx_vars i
  have e : (win0_4.blk t).view.emb (ix2 i0 i1) = ix2 i0 i1 := by blk_ext [idx t]
  blk_simp [iblk]; rw [V_wg H, e]
theorem blk5 : iblk m c 5 t = up fun f j => wu j f := by
  funext i; idx_vars i
  have e : (win0_5.blk t).view.emb (ix2 i0 i1) = ix2 i0 i1 := by blk_ext [idx t]
  blk_simp [iblk]; rw [V_wu H, e]
theorem blk6 : iblk m c 6 t = up wd := by
  funext i; idx_vars i
  have e : (win0_6.blk t).view.emb (ix2 i0 i1) = ix2 i0 i1 := by blk_ext [idx t]
  blk_simp [iblk]; rw [V_wd H, e]
theorem blk7 : iblk m c 7 t = up g := by
  funext i; idx_vars i
  have e : (win0_7.blk t).view.emb (ix2 i0 i1) = ix2 i0 i1 := by blk_ext [idx t]
  blk_simp [iblk]; rw [V_main_arg5, H.hg, e]

/-- The gradient at the layer norm's output, in the block of point `t`. -/
theorem dx_blk : k0_pay10 (F := Ideal) (k0_pay8 (iblk m c 3 t) (iblk m c 0 t) (iblk m c 6 t))
      (k0_pay9 (iblk m c 3 t) (iblk m c 0 t) (iblk m c 1 t) (iblk m c 6 t) (iblk m c 4 t)) (iblk m c 5 t)
    = up fun r => rowX z d wg wu wd g b (row t r) := by
  rw [blk0 H, blk1 H, blk3 H, blk4 H, blk5 H, blk6 H, pay8_up, pay10_up]; rfl

theorem at9 : (outsAt0 m c t.val t.isLt).1 = up fun r => rowA z d wg wu wd g b (row t r) := by
  have e : k0_pay7 (F := Ideal) (iblk m c 3 t) (iblk m c 0 t) (iblk m c 1 t) (iblk m c 6 t) = up fun r => rowA z d wg wu wd g b (row t r) := by
    rw [blk0 H, blk1 H, blk3 H, blk6 H, pay7_up]; rfl
  by_cases h : t.val % 32 = 0
  · rw [outsAt0_A m c t h]; frame_out; exact e
  · rw [outsAt0_B m c t h]; frame_out; exact e
theorem at10 : (outsAt0 m c t.val t.isLt).2.1 = up fun r => rowB z d wg wd g b (row t r) := by
  have e : k0_pay8 (F := Ideal) (iblk m c 3 t) (iblk m c 0 t) (iblk m c 6 t) = up fun r => rowB z d wg wd g b (row t r) := by
    rw [blk0 H, blk3 H, blk6 H, pay8_up]; rfl
  by_cases h : t.val % 32 = 0
  · rw [outsAt0_A m c t h]; frame_out; exact e
  · rw [outsAt0_B m c t h]; frame_out; exact e
theorem at11 : (outsAt0 m c t.val t.isLt).2.2.1
    = up fun r => lnBwd (z (row t r)) fun j => rowX z d wg wu wd g b (row t r) j * g 0 j := by
  have e : k0_pay1 (F := Ideal) (k0_pay10 (k0_pay8 (iblk m c 3 t) (iblk m c 0 t) (iblk m c 6 t))
        (k0_pay9 (iblk m c 3 t) (iblk m c 0 t) (iblk m c 1 t) (iblk m c 6 t) (iblk m c 4 t)) (iblk m c 5 t))
        (k0_pay12 (iblk m c 2 t)) (k0_pay13 (iblk m c 2 t)) (k0_pay16 (iblk m c 7 t))
      = up fun r => lnBwd (z (row t r)) fun j => rowX z d wg wu wd g b (row t r) j * g 0 j := by
    rw [dx_blk H, blk2 H, blk7 H, pay1_up]
  by_cases h : t.val % 32 = 0
  · rw [outsAt0_A m c t h]; frame_out; exact e
  · rw [outsAt0_B m c t h]; frame_out; exact e

theorem final9 : (dats m 0 c).arrAt 9 (cfgs 0).N = up (rowA z d wg wu wd g b) := by
  refine (dats m 0 c).arrAt_eq_of_covers 9 _ (by decide +kernel) fun t hf y => ?_
  have e : ∀ (i0 : Fin 256) (i1 : Fin 2816), (win0_9.blk t).view.emb (ix2 i0 i1) = ix2 (row t i0) i1 := fun i0 i1 => by blk_ext [row, idx t]
  idx_vars y
  blk_simp; rw [after0_9, at9 H, e]; rfl
theorem final10 : (dats m 0 c).arrAt 10 (cfgs 0).N = up (rowB z d wg wd g b) := by
  refine (dats m 0 c).arrAt_eq_of_covers 10 _ (by decide +kernel) fun t hf y => ?_
  have e : ∀ (i0 : Fin 256) (i1 : Fin 2816), (win0_10.blk t).view.emb (ix2 i0 i1) = ix2 (row t i0) i1 := fun i0 i1 => by blk_ext [row, idx t]
  idx_vars y
  blk_simp; rw [after0_10, at10 H, e]; rfl
theorem final11 : (dats m 0 c).arrAt 11 (cfgs 0).N = up fun r => lnBwd (z r) fun j => rowX z d wg wu wd g b r j * g 0 j := by
  refine (dats m 0 c).arrAt_eq_of_covers 11 _ (by decide +kernel) fun t hf y => ?_
  have e : ∀ (i0 : Fin 256) (i1 : Fin 1024), (win0_11.blk t).view.emb (ix2 i0 i1) = ix2 (row t i0) i1 := fun i0 i1 => by blk_ext [row, idx t]
  idx_vars y
  blk_simp; rw [after0_11, at11 H, e]; rfl

omit H in
/-- The sum over the rows is the sum over the points of the sums over their blocks. -/
theorem sum_rows (f : Fin 8192 → ℝ) : ((∑ r, f r : ℝ) : EReal)
    = ∑ t : Fin 32, ((∑ r : Fin 256, f ⟨t.val * 256 + r.val, by omega⟩ : ℝ) : EReal) := by
  rw [← coe_sum]; congr 1
  exact (Fin.sum_univ_tiles 32 256 rfl f)

omit H in
theorem row_run (s : Fin 32) (h) (r : Fin 256) : row ⟨32 * (t.val / 32) + s.val, h⟩ r = ⟨s.val * 256 + r.val, by omega⟩ := by
  have := lt_of_lt_of_eq t.isLt N_0
  apply Fin.ext; show (32 * (t.val / 32) + s.val) * 256 + r.val = _; simp only []; omega
theorem final12 : (dats m 0 c).arrAt 12 (cfgs 0).N = up fun _ j => ∑ r, xh (z r) j * rowX z d wg wu wd g b r j := by
  refine (dats m 0 c).arrAt_eq_of_covers 12 _ (by decide +kernel) fun t hf y => ?_
  have e : ∀ (i0 : Fin 1) (i1 : Fin 1024), (win0_12.blk t).view.emb (ix2 i0 i1) = ix2 i0 i1 := fun i0 i1 => by blk_ext [idx t]
  idx_vars y
  blk_simp
  rw [after0_12, e, Pipeline.eq_sum_fin_of_reset_step_apply_of_flush (fun n h => (outsAt0 m c n h).2.2.2.1) 32 (fun _ => 0) _
    (fun t h j => by rw [outsAt0_A m c t h]; frame_out; rw [blk2 H, pay14_up _ _ _ _ _ (dx_blk H t), pay2_zero])
    (fun t h j => by rw [outsAt0_B m c t h]; frame_out; rw [blk2 H, pay14_up _ _ _ _ _ (dx_blk H t)])
    t ((flush0_12 t).mp hf) _, zero_add]
  show _ = ((∑ r, xh (z r) y1 * rowX z d wg wu wd g b r y1 : ℝ) : EReal)
  rw [sum_rows]
  exact Fin.sum_fin_congr fun s => by simp only [row_run]; rfl
theorem final13 : (dats m 0 c).arrAt 13 (cfgs 0).N = up fun _ j => ∑ r, rowX z d wg wu wd g b r j := by
  refine (dats m 0 c).arrAt_eq_of_covers 13 _ (by decide +kernel) fun t hf y => ?_
  have e : ∀ (i0 : Fin 1) (i1 : Fin 1024), (win0_13.blk t).view.emb (ix2 i0 i1) = ix2 i0 i1 := fun i0 i1 => by blk_ext [idx t]
  idx_vars y
  blk_simp
  rw [after0_13, e, Pipeline.eq_sum_fin_of_reset_step_apply_of_flush (fun n h => (outsAt0 m c n h).2.2.2.2) 32 (fun _ => 0) _
    (fun t h j => by rw [outsAt0_A m c t h]; frame_out; rw [pay15_up _ _ _ _ (dx_blk H t), pay3_zero])
    (fun t h j => by rw [outsAt0_B m c t h]; frame_out; rw [pay15_up _ _ _ _ (dx_blk H t)])
    t ((flush0_13 t).mp hf) _, zero_add]
  show _ = ((∑ r, rowX z d wg wu wd g b r y1 : ℝ) : EReal)
  rw [sum_rows]
  exact Fin.sum_fin_congr fun s => by simp only [row_run]; rfl
end

end Cert.FfnIdeal.Blocks
end
end
-- ==== Proof.FfnValue.lean ====
module

public import proofs.«01_k».proof.Defs
public import proofs.«01_k».proof.Proof.FfnKernel
public import proofs.«01_k».proof.Proof.Gen.FfnIdeal
public import Idealize.ShloMosaic.Lib.Claim

@[expose] public section

set_option maxRecDepth 16384

noncomputable section

open Idealize.ShloMosaic Idealize.ShloMosaic.TcCoe Idealize.SL.Sem
open Cert.Reals

/-! Kernel and reference of the feed-forward layer's gradient give the same five arrays. -/

namespace Cert.FfnIdeal.Blocks

/-- Finite arguments are arguments of real numbers. -/
theorem holds [Cert.Pre_ffn_finite.Facts] (m : (ℓ : Loc nD τ sig) → Buf (Elt Ideal) ℓ) (h : Cert.Pre_FfnIdeal_ffn_finite m) (c : Dev nD) :
    ∃ z d wg wu wd g b, Holds m c z d wg wu wd g b := by
  obtain ⟨h0, h1, h2, h3, h4, h5, h6⟩ := h c
  obtain ⟨z, hz⟩ := up_of_finite _ _ (fun _ => rfl) h0
  obtain ⟨d, hd⟩ := up_of_finite _ _ (fun _ => rfl) h1
  obtain ⟨wg, hwg⟩ := up_of_finite _ _ (fun _ => rfl) h2
  obtain ⟨wu, hwu⟩ := up_of_finite _ _ (fun _ => rfl) h3
  obtain ⟨wd, hwd⟩ := up_of_finite _ _ (fun _ => rfl) h4
  obtain ⟨g, hg⟩ := up_of_finite _ _ (fun _ => rfl) h5
  obtain ⟨b, hb⟩ := up_of_finite _ _ (fun _ => rfl) h6
  exact ⟨z, d, wg, wu, wd, g, b, ⟨hz, hd, hwg, hwu, hwd, hg, hb⟩⟩

/-- The arrays the reference returns, as the kernel leaves them. -/
theorem ref_eq {m : (ℓ : Loc nD τ sig) → Buf (Elt Ideal) ℓ}
    {m' : (ℓ : Loc Cert.FfnRefIdeal.nD Cert.FfnRefIdeal.τ Cert.FfnRefIdeal.sig) → Buf (Elt Ideal) ℓ} {c : Dev nD}
    {z d wg wu wd g b} (H : Holds m c z d wg wu wd g b)
    (h : m' ((c.tc : Thread Cert.FfnRefIdeal.nD Cert.FfnRefIdeal.τ).loc Cert.FfnRefIdeal.main_arg0) = m ((c.tc : Thread nD τ).loc main_arg0)
      ∧ m' ((c.tc : Thread Cert.FfnRefIdeal.nD Cert.FfnRefIdeal.τ).loc Cert.FfnRefIdeal.main_arg1) = m ((c.tc : Thread nD τ).loc main_arg1)
      ∧ m' ((c.tc : Thread Cert.FfnRefIdeal.nD Cert.FfnRefIdeal.τ).loc Cert.FfnRefIdeal.main_arg2) = m ((c.tc : Thread nD τ).loc main_arg2)
      ∧ m' ((c.tc : Thread Cert.FfnRefIdeal.nD Cert.FfnRefIdeal.τ).loc Cert.FfnRefIdeal.main_arg3) = m ((c.tc : Thread nD τ).loc main_arg3)
      ∧ m' ((c.tc : Thread Cert.FfnRefIdeal.nD Cert.FfnRefIdeal.τ).loc Cert.FfnRefIdeal.main_arg4) = m ((c.tc : Thread nD τ).loc main_arg4)
      ∧ m' ((c.tc : Thread Cert.FfnRefIdeal.nD Cert.FfnRefIdeal.τ).loc Cert.FfnRefIdeal.main_arg5) = m ((c.tc : Thread nD τ).loc main_arg5)
      ∧ m' ((c.tc : Thread Cert.FfnRefIdeal.nD Cert.FfnRefIdeal.τ).loc Cert.FfnRefIdeal.main_arg6) = m ((c.tc : Thread nD τ).loc main_arg6)) :
    Cert.FfnRefIdeal.Value.res_out0 m' c = (Gen.dats m 0 c).arrAt 9 (cfgs 0).N
    ∧ Cert.FfnRefIdeal.Value.res_out1 m' c = (Gen.dats m 0 c).arrAt 10 (cfgs 0).N
    ∧ Cert.FfnRefIdeal.Value.res_out2 m' c = (Gen.dats m 0 c).arrAt 11 (cfgs 0).N
    ∧ Cert.FfnRefIdeal.Value.res_out3 m' c = (Gen.dats m 0 c).arrAt 12 (cfgs 0).N
    ∧ Cert.FfnRefIdeal.Value.res_out4 m' c = (Gen.dats m 0 c).arrAt 13 (cfgs 0).N := by
  obtain ⟨h0, h1, h2, h3, h4, h5, h6⟩ := h
  have a0 := h0.trans H.hz
  have a1 := h1.trans H.hd
  have a2 := h2.trans H.hwg
  have a3 := h3.trans H.hwu
  have a4 := h4.trans H.hwd
  have a5 := h5.trans H.hg
  have a6 := h6.trans H.hb
  exact ⟨(Cert.FfnRefIdeal.Stages.out0_up a0 a1 a2 a3 a4 a5 a6).trans (final9 H).symm,
    (Cert.FfnRefIdeal.Stages.out1_up a0 a1 a2 a3 a4 a5 a6).trans (final10 H).symm,
    (Cert.FfnRefIdeal.Stages.out2_up a0 a1 a2 a3 a4 a5 a6).trans (final11 H).symm,
    (Cert.FfnRefIdeal.Stages.out3_up a0 a1 a2 a3 a4 a5 a6).trans (final12 H).symm,
    (Cert.FfnRefIdeal.Stages.out4_up a0 a1 a2 a3 a4 a5 a6).trans (final13 H).symm⟩

/-- Kernel and reference return the same five arrays from finite arguments. -/
theorem algebraic [Cert.Pre_ffn_finite.Facts] : Cert.algebraic_FfnIdeal_FfnRefIdeal_pre_ffn_finite
    (hFfnIdeal := Cert.FfnIdeal.Gen.facts) (hFfnRefIdeal := Cert.FfnRefIdeal.Gen.facts) := by
  intro m g m' g' hpre hagree
  refine ⟨fun c => (Gen.dats m 0 c).arrAt 9 (cfgs 0).N, fun c => (Gen.dats m 0 c).arrAt 10 (cfgs 0).N,
    fun c => (Gen.dats m 0 c).arrAt 11 (cfgs 0).N, fun c => (Gen.dats m 0 c).arrAt 12 (cfgs 0).N,
    fun c => (Gen.dats m 0 c).arrAt 13 (cfgs 0).N, ?_, ?_⟩
  · exact (θ_run defs _ _).mono (fun r h c =>
      ⟨(h.1 c).1 9, (h.1 c).1 10, (h.1 c).1 11, (h.1 c).1 12, (h.1 c).1 13, h.2 c⟩)
      (θ_run_and (Gen.run_main m g) (Gen.unchanged m g))
  · refine (θ_run Cert.FfnRefIdeal.defs _ _).mono (fun r h c => ?_) (Cert.FfnRefIdeal.Value.run m' g')
    obtain ⟨z, d, wg, wu, wd, g, b, H⟩ := holds m hpre c
    obtain ⟨e0, e1, e2, e3, e4⟩ := ref_eq H (hagree c)
    obtain ⟨r0, r1, r2, r3, r4, kept⟩ := h c
    exact ⟨r0.trans e0, r1.trans e1, r2.trans e2, r3.trans e3, r4.trans e4, kept⟩

end Cert.FfnIdeal.Blocks
end
end
-- ==== Proof.FfnFwdRows.lean ====
module

public import Idealize.ShloMosaic.Lib.Pipeline.ValueKit

@[expose] public section

noncomputable section

open Idealize.ShloMosaic

/-! One row of the feed-forward layer, between its two layer norms. Nothing is rounded and no argument need be finite. -/

namespace Cert.Rows

/-- The mean of a row. -/
def mean (z : Fin 1024 → EReal) : EReal := Ideal.div (∑ x, z x) (Ideal.ofBits .f32 1149239296#32)
/-- The layer norm of a row. -/
def lnorm (z g b : Fin 1024 → EReal) (j : Fin 1024) : EReal :=
  (z j - mean z) * Ideal.rsqrt (Ideal.div (∑ x, (z x - mean z) * (z x - mean z)) (Ideal.ofBits .f32 1149239296#32)
    + Ideal.ofBits .f32 925353388#32) * g j + b j
/-- A row times a matrix. -/
def pre (x : Fin 1024 → EReal) (w : Fin 1024 → Fin 2816 → EReal) (f : Fin 2816) : EReal := ∑ k, x k * w k f
/-- The gated row. -/
def gated (a b : Fin 2816 → EReal) (f : Fin 2816) : EReal := a f * Ideal.logistic (a f) * b f
/-- The row with what the layer adds to it. -/
def added (x : Fin 1024 → EReal) (h : Fin 2816 → EReal) (w : Fin 2816 → Fin 1024 → EReal) (j : Fin 1024) : EReal :=
  Ideal.ofBits .f32 1066940400#32 * x j + ∑ f, h f * w f j

end Cert.Rows
end
end
-- ==== Proof.FfnFwdRefRows.lean ====
module

public import proofs.«01_k».proof.Proof.FfnFwdRows
public import proofs.«01_k».proof.Proof.Gen.FfnFwdRefIdeal.Run

@[expose] public section

set_option maxRecDepth 16384

noncomputable section

open Idealize.ShloMosaic Idealize.ShloMosaic.TcCoe Idealize.SL.Sem

/-! The arrays of the reference's feed-forward layer, row by row. -/

namespace Cert.FfnFwdRefIdeal.Stages

open Cert.FfnFwdRefIdeal Cert.FfnFwdRefIdeal.Gen Cert.Rows

abbrev AD := FVec Ideal S8192x1024 .f32
abbrev AF := FVec Ideal S8192x2816 .f32
abbrev AV := FVec Ideal S1x1024 .f32

/-- The mean of each row. -/
def Mean (z : AD) : FVec Ideal S8192x1 .f32 :=
  Host.divf (broadcastInDim S8192x1 ![0] bcast_S8192_S8192x1_0 (Host.reduceAdd z (constant S_ .f32 0x00000000#32) reducesTo_S8192x1024_S8192_d1 h_S_))
    (broadcastInDim S8192x1 ![] bcast_S_S8192x1 (constant S_ .f32 0x44800000#32))
/-- Each row without its mean. -/
def Cen (z : AD) : AD := subf z (broadcastInDim S8192x1024 ![0, 1] bcast_S8192x1_S8192x1024_0_1 (Mean z))
/-- The layer norm. -/
def Norm (z : AD) (g b : AV) : AD :=
  addf (mulf (mulf (Cen z) (broadcastInDim S8192x1024 ![0, 1] bcast_S8192x1_S8192x1024_0_1
      (Host.rsqrt (addf (Mean (mulf (Cen z) (Cen z))) (broadcastInDim S8192x1 ![] bcast_S_S8192x1 (constant S_ .f32 0x3727C5AC#32))))))
    (broadcastInDim S8192x1024 ![0, 1] bcast_S1x1024_S8192x1024_0_1 g)) (broadcastInDim S8192x1024 ![0, 1] bcast_S1x1024_S8192x1024_0_1 b)
def Pre (x : AD) (w : FVec Ideal S1024x2816 .f32) : AF := Host.dotGeneral dot_S8192x1024_S1024x2816_S8192x2816_1_0_0_1_n_n none x w
def One : AF := broadcastInDim S8192x2816 ![] bcast_S_S8192x2816 (constant S_ .f32 0x3F800000#32)
def Gated (a b : AF) : AF := mulf (mulf a (Host.divf One (addf One (Host.exp (Host.negf a))))) b
def Added (x : AD) (h : AF) (w : FVec Ideal S2816x1024 .f32) : AD :=
  addf (mulf (broadcastInDim S8192x1024 ![] bcast_S_S8192x1024 (constant S_ .f32 0x3F9837F0#32)) x)
    (Host.dotGeneral dot_S8192x2816_S2816x1024_S8192x1024_1_0_0_1_n_n none h w)

section
variable (m : (ℓ : Loc nD τ sig) → Buf (Elt Ideal) ℓ) (c : Dev nD)

def X : AD := Norm (m ((c.tc : Thread nD τ).loc main_arg0)) (m ((c.tc : Thread nD τ).loc main_arg1)) (m ((c.tc : Thread nD τ).loc main_arg2))
def A : AF := Pre (X m c) (m ((c.tc : Thread nD τ).loc main_arg3))
def B : AF := Pre (X m c) (m ((c.tc : Thread nD τ).loc main_arg4))
def Z : AD := Added (X m c) (Gated (A m c) (B m c)) (m ((c.tc : Thread nD τ).loc main_arg5))

theorem out0 : Value.res_out0 m c = Z m c := rfl
theorem out2 : Value.res_out2 m c
    = truncf .bf16 (Norm (Z m c) (m ((c.tc : Thread nD τ).loc main_arg6)) (m ((c.tc : Thread nD τ).loc main_arg7))) bitsLt_bf16_f32 := rfl
theorem out5 : Value.res_out5 m c = truncf .bf16 (Gated (A m c) (B m c)) bitsLt_bf16_f32 := rfl
end

theorem Mean_row (z : AD) (i0 : Fin 8192) (i1 : Fin 1) : Mean z (ix2 i0 i1) = mean fun j => z (ix2 i0 j) := by
  pointwise [Mean, mean]
theorem Cen_row (z : AD) (i0 : Fin 8192) (i1 : Fin 1024) : Cen z (ix2 i0 i1) = z (ix2 i0 i1) - mean fun j => z (ix2 i0 j) := by
  pointwise [Cen, Mean_row]
theorem Norm_row (z : AD) (g b : AV) (i0 : Fin 8192) (i1 : Fin 1024) :
    Norm z g b (ix2 i0 i1) = lnorm (fun j => z (ix2 i0 j)) (fun j => g (ix2 0 j)) (fun j => b (ix2 0 j)) i1 := by
  pointwise [Norm, lnorm, Cen_row, Mean_row, mean]
theorem Pre_row (x : AD) (w) (i0 : Fin 8192) (i1 : Fin 2816) :
    Pre x w (ix2 i0 i1) = pre (fun j => x (ix2 i0 j)) (fun k f => w (ix2 k f)) i1 := by
  pointwise [Pre, pre]
theorem Gated_row (a b : AF) (i0 : Fin 8192) (i1 : Fin 2816) :
    Gated a b (ix2 i0 i1) = gated (fun f => a (ix2 i0 f)) (fun f => b (ix2 i0 f)) i1 := by
  pointwise [Gated, gated, One, Ideal.logistic]
theorem Added_row (x : AD) (h : AF) (w) (i0 : Fin 8192) (i1 : Fin 1024) :
    Added x h w (ix2 i0 i1) = added (fun j => x (ix2 i0 j)) (fun f => h (ix2 i0 f)) (fun f j => w (ix2 f j)) i1 := by
  pointwise [Added, added]

end Cert.FfnFwdRefIdeal.Stages
end
end
-- ==== Proof.FfnFwdValue.lean ====
module

public import proofs.«01_k».proof.Defs
public import proofs.«01_k».proof.Proof.FfnFwdRefRows
public import proofs.«01_k».proof.Proof.Gen.FfnFwdIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The feed-forward layer between its two layer norms: the blocks of rows that the kernel writes are those of the reference's arrays. -/

namespace Cert.FfnFwdIdeal.Rows

open Cert.FfnFwdIdeal Cert.FfnFwdIdeal.Gen Cert.Rows

theorem pay1 (z g b) (i0 : Fin 256) (i1 : Fin 1024) : k0_pay1 (F := Ideal) z g b (ix2 i0 i1)
    = lnorm (fun j => z (ix2 i0 j)) (fun j => g (ix2 0 j)) (fun j => b (ix2 0 j)) i1 := by
  pointwise [k0_pay1, lnorm, mean]
theorem pay3 (z g b w) (i0 : Fin 256) (i1 : Fin 2816) : k0_pay3 (F := Ideal) z g b w (ix2 i0 i1)
    = pre (lnorm (fun j => z (ix2 i0 j)) (fun j => g (ix2 0 j)) (fun j => b (ix2 0 j))) (fun k f => w (ix2 f k)) i1 := by
  pointwise [k0_pay3, pay1, pre]
theorem pay4 (z g b w) (i0 : Fin 256) (i1 : Fin 2816) : k0_pay4 (F := Ideal) z g b w (ix2 i0 i1)
    = pre (lnorm (fun j => z (ix2 i0 j)) (fun j => g (ix2 0 j)) (fun j => b (ix2 0 j))) (fun k f => w (ix2 f k)) i1 := by
  pointwise [k0_pay4, pay1, pre]
theorem pay5 (z g b w v) (i0 : Fin 256) (i1 : Fin 2816) : k0_pay5 (F := Ideal) z g b w v (ix2 i0 i1)
    = gated (fun f => k0_pay3 (F := Ideal) z g b w (ix2 i0 f)) (fun f => k0_pay4 (F := Ideal) z g b v (ix2 i0 f)) i1 := by
  pointwise [k0_pay5, gated]
theorem pay9 (x h w) (i0 : Fin 256) (i1 : Fin 1024) : k0_pay9 (F := Ideal) x h w (ix2 i0 i1)
    = added (fun j => x (ix2 i0 j)) (fun f => h (ix2 i0 f)) (fun f j => w (ix2 f j)) i1 := by
  pointwise [k0_pay9, added]
theorem pay10 (x h w g b) (i0 : Fin 256) (i1 : Fin 1024) : k0_pay10 (F := Ideal) x h w g b (ix2 i0 i1)
    = lnorm (fun j => k0_pay9 (F := Ideal) x h w (ix2 i0 j)) (fun j => g (ix2 0 j)) (fun j => b (ix2 0 j)) i1 := by
  pointwise [k0_pay10, lnorm, mean]

section
variable (m : (ℓ : Loc nD τ sig) → Buf (Elt Ideal) ℓ) (c : Dev nD)

/-- Row `r` of the first layer norm, of the two products, of the gated row and of the sum. -/
def rX (r : Fin 8192) : Fin 1024 → EReal :=
  lnorm (fun j => m ((c : Thread nD τ).loc main_arg0) (ix2 r j)) (fun j => m ((c : Thread nD τ).loc main_arg1) (ix2 0 j))
    fun j => m ((c : Thread nD τ).loc main_arg2) (ix2 0 j)
def rA (r : Fin 8192) : Fin 2816 → EReal := pre (rX m c r) fun k f => m ((c : Thread nD τ).loc main_arg3) (ix2 k f)
def rB (r : Fin 8192) : Fin 2816 → EReal := pre (rX m c r) fun k f => m ((c : Thread nD τ).loc main_arg4) (ix2 k f)
def rH (r : Fin 8192) : Fin 2816 → EReal := gated (rA m c r) (rB m c r)
def rZ (r : Fin 8192) : Fin 1024 → EReal := added (rX m c r) (rH m c r) fun f j => m ((c : Thread nD τ).loc main_arg5) (ix2 f j)
def rN (r : Fin 8192) : Fin 1024 → EReal :=
  lnorm (rZ m c r) (fun j => m ((c : Thread nD τ).loc main_arg6) (ix2 0 j)) fun j => m ((c : Thread nD τ).loc main_arg7) (ix2 0 j)

theorem turned (x : S1024x2816.Idx → EReal) (f : Fin 2816) (k : Fin 1024) :
    truncf (F := Ideal) FTy.bf16 (transpose S2816x1024 [1, 0] x transposes_S1024x2816_S2816x1024_1_0) bitsLt_bf16_f32 (ix2 f k) = x (ix2 k f) := by
  pointwise
theorem V_wg (f : Fin 2816) (k : Fin 1024) : V m c main_v1 (ix2 f k) = m ((c : Thread nD τ).loc main_arg3) (ix2 k f) := by
  entry_read
  exact turned _ f k
theorem V_wu (f : Fin 2816) (k : Fin 1024) : V m c main_v3 (ix2 f k) = m ((c : Thread nD τ).loc main_arg4) (ix2 k f) := by
  entry_read
  exact turned _ f k
theorem V_wd (f : Fin 2816) (j : Fin 1024) : V m c main_v4 (ix2 f j) = m ((c : Thread nD τ).loc main_arg5) (ix2 f j) := by
  entry_read
  rfl

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

/-- The row of the whole that row `k` of the block of point `t` is. -/
def row (t : Fin cfg0.N) (k : Fin 256) : Fin 8192 :=
  ⟨t.val * 256 + k.val, by have := lt_of_lt_of_eq t.isLt (show cfg0.N = 32 from N_0); omega⟩

theorem blk0 (t : Fin cfg0.N) (k : Fin 256) (l : Fin 1024) :
    iblk m c 0 t (ix2 k l) = m ((c : Thread nD τ).loc main_arg0) (ix2 (row t k) l) := by blk_point [iblk, V, row, idx t]
theorem blk1 (t : Fin cfg0.N) (l : Fin 1024) :
    iblk m c 1 t (ix2 0 l) = m ((c : Thread nD τ).loc main_arg1) (ix2 0 l) := by blk_point [iblk, V, idx t]
theorem blk2 (t : Fin cfg0.N) (l : Fin 1024) :
    iblk m c 2 t (ix2 0 l) = m ((c : Thread nD τ).loc main_arg2) (ix2 0 l) := by blk_point [iblk, V, idx t]
theorem blk3 (t : Fin cfg0.N) (f : Fin 2816) (k : Fin 1024) :
    iblk m c 3 t (ix2 f k) = m ((c : Thread nD τ).loc main_arg3) (ix2 k f) := by
  have e : (win0_3.blk t).view.emb (ix2 f k) = ix2 f k := by blk_ext [idx t]
  blk_simp [iblk]; rw [e]; exact V_wg m c f k
theorem blk4 (t : Fin cfg0.N) (f : Fin 2816) (k : Fin 1024) :
    iblk m c 4 t (ix2 f k) = m ((c : Thread nD τ).loc main_arg4) (ix2 k f) := by
  have e : (win0_4.blk t).view.emb (ix2 f k) = ix2 f k := by blk_ext [idx t]
  blk_simp [iblk]; rw [e]; exact V_wu m c f k
theorem blk5 (t : Fin cfg0.N) (f : Fin 2816) (j : Fin 1024) :
    iblk m c 5 t (ix2 f j) = m ((c : Thread nD τ).loc main_arg5) (ix2 f j) := by
  have e : (win0_5.blk t).view.emb (ix2 f j) = ix2 f j := by blk_ext [idx t]
  blk_simp [iblk]; rw [e]; exact V_wd m c f j
theorem blk6 (t : Fin cfg0.N) (l : Fin 1024) :
    iblk m c 6 t (ix2 0 l) = m ((c : Thread nD τ).loc main_arg6) (ix2 0 l) := by blk_point [iblk, V, idx t]
theorem blk7 (t : Fin cfg0.N) (l : Fin 1024) :
    iblk m c 7 t (ix2 0 l) = m ((c : Thread nD τ).loc main_arg7) (ix2 0 l) := by blk_point [iblk, V, idx t]

theorem bX (t : Fin cfg0.N) (k : Fin 256) (j : Fin 1024) :
    k0_pay1 (F := Ideal) (iblk m c 0 t) (iblk m c 1 t) (iblk m c 2 t) (ix2 k j) = rX m c (row t k) j := by
  rw [pay1]; simp only [blk0, blk1, blk2]; rfl
theorem bA (t : Fin cfg0.N) (k : Fin 256) (f : Fin 2816) :
    k0_pay3 (F := Ideal) (iblk m c 0 t) (iblk m c 1 t) (iblk m c 2 t) (iblk m c 3 t) (ix2 k f) = rA m c (row t k) f := by
  rw [pay3]; simp only [blk0, blk1, blk2, blk3]; rfl
theorem bB (t : Fin cfg0.N) (k : Fin 256) (f : Fin 2816) :
    k0_pay4 (F := Ideal) (iblk m c 0 t) (iblk m c 1 t) (iblk m c 2 t) (iblk m c 4 t) (ix2 k f) = rB m c (row t k) f := by
  rw [pay4]; simp only [blk0, blk1, blk2, blk4]; rfl
theorem bH (t : Fin cfg0.N) (k : Fin 256) (f : Fin 2816) :
    k0_pay5 (F := Ideal) (iblk m c 0 t) (iblk m c 1 t) (iblk m c 2 t) (iblk m c 3 t) (iblk m c 4 t) (ix2 k f) = rH m c (row t k) f := by
  rw [pay5]; simp only [bA, bB]; rfl
theorem bZ (t : Fin cfg0.N) (k : Fin 256) (j : Fin 1024) :
    k0_pay9 (F := Ideal) (k0_pay1 (iblk m c 0 t) (iblk m c 1 t) (iblk m c 2 t))
      (k0_pay5 (iblk m c 0 t) (iblk m c 1 t) (iblk m c 2 t) (iblk m c 3 t) (iblk m c 4 t)) (iblk m c 5 t) (ix2 k j) = rZ m c (row t k) j := by
  rw [pay9]; simp only [bX, bH, blk5]; rfl
theorem bN (t : Fin cfg0.N) (k : Fin 256) (j : Fin 1024) :
    k0_pay10 (F := Ideal) (k0_pay1 (iblk m c 0 t) (iblk m c 1 t) (iblk m c 2 t))
      (k0_pay5 (iblk m c 0 t) (iblk m c 1 t) (iblk m c 2 t) (iblk m c 3 t) (iblk m c 4 t)) (iblk m c 5 t) (iblk m c 6 t) (iblk m c 7 t) (ix2 k j)
      = rN m c (row t k) j := by
  rw [pay10]; simp only [bZ, blk6, blk7]; rfl

theorem final8 : (dats m 0 c).arrAt 8 (cfgs 0).N = fun i => rZ m c (i 0) (i 1) := by
  refine (dats m 0 c).arrAt_eq_of_covers 8 _ (by decide +kernel) fun t hf y => ?_
  idx_vars y
  have e : (win0_8.blk t).view.emb (ix2 y0 y1) = ix2 (row t y0) y1 := by blk_ext [row, idx t]
  blk_simp
  rw [e, after0_8]
  frame_out [k0_pay11, k0_pay12]
  exact bZ m c t y0 y1
theorem final9 : (dats m 0 c).arrAt 9 (cfgs 0).N = fun i => rX m c (i 0) (i 1) := by
  refine (dats m 0 c).arrAt_eq_of_covers 9 _ (by decide +kernel) fun t hf y => ?_
  idx_vars y
  have e : (win0_9.blk t).view.emb (ix2 y0 y1) = ix2 (row t y0) y1 := by blk_ext [row, idx t]
  blk_simp
  rw [e, after0_9]
  frame_out [k0_pay11, k0_pay12]
  exact bX m c t y0 y1
theorem final10 : (dats m 0 c).arrAt 10 (cfgs 0).N = fun i => rN m c (i 0) (i 1) := by
  refine (dats m 0 c).arrAt_eq_of_covers 10 _ (by decide +kernel) fun t hf y => ?_
  idx_vars y
  have e : (win0_10.blk t).view.emb (ix2 y0 y1) = ix2 (row t y0) y1 := by blk_ext [row, idx t]
  blk_simp
  rw [e, after0_10]
  frame_out [k0_pay11, k0_pay12]
  exact bN m c t y0 y1
theorem final11 : (dats m 0 c).arrAt 11 (cfgs 0).N = fun i => rA m c (i 0) (i 1) := by
  refine (dats m 0 c).arrAt_eq_of_covers 11 _ (by decide +kernel) fun t hf y => ?_
  idx_vars y
  have e : (win0_11.blk t).view.emb (ix2 y0 y1) = ix2 (row t y0) y1 := by blk_ext [row, idx t]
  blk_simp
  rw [e, after0_11]
  frame_out [k0_pay11, k0_pay12]
  exact bA m c t y0 y1
theorem final12 : (dats m 0 c).arrAt 12 (cfgs 0).N = fun i => rB m c (i 0) (i 1) := by
  refine (dats m 0 c).arrAt_eq_of_covers 12 _ (by decide +kernel) fun t hf y => ?_
  idx_vars y
  have e : (win0_12.blk t).view.emb (ix2 y0 y1) = ix2 (row t y0) y1 := by blk_ext [row, idx t]
  blk_simp
  rw [e, after0_12]
  frame_out [k0_pay11, k0_pay12]
  exact bB m c t y0 y1
theorem final13 : (dats m 0 c).arrAt 13 (cfgs 0).N = fun i => rH m c (i 0) (i 1) := by
  refine (dats m 0 c).arrAt_eq_of_covers 13 _ (by decide +kernel) fun t hf y => ?_
  idx_vars y
  have e : (win0_13.blk t).view.emb (ix2 y0 y1) = ix2 (row t y0) y1 := by blk_ext [row, idx t]
  blk_simp
  rw [e, after0_13]
  frame_out [k0_pay11, k0_pay12]
  exact bH m c t y0 y1
end

open Cert.FfnFwdRefIdeal.Stages in
theorem algebraic : Cert.algebraic_FfnFwdIdeal_FfnFwdRefIdeal
    (hFfnFwdIdeal := Cert.FfnFwdIdeal.Gen.facts) (hFfnFwdRefIdeal := Cert.FfnFwdRefIdeal.Gen.facts) := by
  intro m g m' g' _ hagree
  refine ⟨fun c => (Gen.dats m 0 c).arrAt 8 (cfgs 0).N, fun c => (Gen.dats m 0 c).arrAt 9 (cfgs 0).N,
    fun c => (Gen.dats m 0 c).arrAt 10 (cfgs 0).N, fun c => (Gen.dats m 0 c).arrAt 11 (cfgs 0).N,
    fun c => (Gen.dats m 0 c).arrAt 12 (cfgs 0).N, fun c => (Gen.dats m 0 c).arrAt 13 (cfgs 0).N, ?_, ?_⟩
  · exact (θ_run defs _ _).mono (fun r h c =>
      ⟨(h.1 c).1 8, (h.1 c).1 9, (h.1 c).1 10, (h.1 c).1 11, (h.1 c).1 12, (h.1 c).1 13, h.2 c⟩)
      (θ_run_and (Gen.run_main m g) (Gen.unchanged m g))
  · refine (θ_run Cert.FfnFwdRefIdeal.defs _ _).mono (fun r h c => ?_) (Cert.FfnFwdRefIdeal.Value.run m' g')
    obtain ⟨r0, r1, r2, r3, r4, r5, kept⟩ := h c
    obtain ⟨a0, a1, a2, a3, a4, a5, a6, a7⟩ := hagree c
    have hX (i0 : Fin 8192) (i1 : Fin 1024) : X m' c (ix2 i0 i1) = rX m c i0 i1 := by rw [X, Norm_row, a0, a1, a2]; rfl
    have hA (i0 : Fin 8192) (i1 : Fin 2816) : A m' c (ix2 i0 i1) = rA m c i0 i1 := by rw [A, Pre_row, a3]; simp only [hX]; rfl
    have hB (i0 : Fin 8192) (i1 : Fin 2816) : B m' c (ix2 i0 i1) = rB m c i0 i1 := by rw [B, Pre_row, a4]; simp only [hX]; rfl
    have hH (i0 : Fin 8192) (i1 : Fin 2816) : Gated (A m' c) (B m' c) (ix2 i0 i1) = rH m c i0 i1 := by
      rw [Gated_row]; simp only [hA, hB]; rfl
    have hZ (i0 : Fin 8192) (i1 : Fin 1024) : Z m' c (ix2 i0 i1) = rZ m c i0 i1 := by
      rw [Z, Added_row, a5]; simp only [hX, hH]; rfl
    refine ⟨r0.trans ?_, r1.trans ?_, r2.trans ?_, r3.trans ?_, r4.trans ?_, r5.trans ?_, kept⟩
    · refine ((out0 m' c).trans ?_).trans (final8 m c).symm
      funext i; idx_vars i; exact hZ i0 i1
    · refine Eq.trans ?_ (final9 m c).symm
      funext i; idx_vars i; exact hX i0 i1
    · refine ((out2 m' c).trans ?_).trans (final10 m c).symm
      funext i; idx_vars i
      refine (Norm_row _ _ _ i0 i1).trans ?_
      rw [a6, a7]; simp only [hZ]; rfl
    · refine Eq.trans ?_ (final11 m c).symm
      funext i; idx_vars i; exact hA i0 i1
    · refine Eq.trans ?_ (final12 m c).symm
      funext i; idx_vars i; exact hB i0 i1
    · refine ((out5 m' c).trans ?_).trans (final13 m c).symm
      funext i; idx_vars i; exact hH i0 i1

end Cert.FfnFwdIdeal.Rows
end
end
-- ==== Proof.Products.lean ====
module

public import Idealize.ShloMosaic.Lib.Pipeline.ValueKit

@[expose] public section

noncomputable section

open Idealize.ShloMosaic

/-! Products of arrays of extended reals, the contraction over the rows. -/

namespace Cert.Products

/-- `aᵀ b`: the sum over the rows of the products of two columns. -/
def tn {k m n : ℕ} (a : (⟨2, ![k, m]⟩ : Shape).Idx → EReal) (b : (⟨2, ![k, n]⟩ : Shape).Idx → EReal)
    (i : (⟨2, ![m, n]⟩ : Shape).Idx) : EReal := ∑ r : Fin k, a (ix2 r (i 0)) * b (ix2 r (i 1))

end Cert.Products
end
end
-- ==== Proof.GradGate.lean ====
module

public import proofs.«01_k».proof.Defs
public import proofs.«01_k».proof.Proof.Gen.WGateIdeal.Value
public import proofs.«01_k».proof.Proof.Gen.WGateRefIdeal.Run
public import proofs.«01_k».proof.Proof.Products
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The gradient of the gate matrix, accumulated over eight blocks of rows, is one product over all rows. -/

namespace Cert.WGateIdeal.Product

open Cert.WGateIdeal Cert.WGateIdeal.Gen Cert.Products

variable (m : (ℓ : Loc nD τ sig) → Buf (Elt Ideal) ℓ) (c : Dev nD)

theorem pay_zero (i0 : Fin 2816) (i1 : Fin 1024) : k0_pay1 (F := Ideal) (ix2 i0 i1) = 0 := by pointwise [k0_pay1]
theorem pay_add (acc a b) (i0 : Fin 2816) (i1 : Fin 1024) : k0_pay2 (F := Ideal) acc a b (ix2 i0 i1)
    = acc (ix2 i0 i1) + ∑ k : Fin 1024, a (ix2 k i0) * b (ix2 k i1) := by pointwise [k0_pay2]
theorem pay_cast (v) : k0_pay3 (F := Ideal) v = v := by funext i; pointwise [k0_pay3]
theorem idx : ∀ t : Fin cfg0.N, win0_0.index t = ![t.val, 0] ∧ win0_1.index t = ![t.val, 0] ∧ win0_2.index t = ![0, 0] :=
  (by decide +kernel : ∀ t : Fin grid0.N, _)

/-- After the last block the output is the accumulator. -/
theorem out_eq (t : Fin cfg0.N) (h : t.val % 8 = 7) : (outsAt0 m c t.val t.isLt).1 = (outsAt0 m c t.val t.isLt).2 := by
  rw [outsAt0_C m c t (by omega) h]; frame_out; rw [pay_cast]

/-- What the block of point `p` adds to the accumulator. -/
def part (p : Fin cfg0.N) : S2816x1024.Idx → EReal :=
  tn (k := 1024) (m := 2816) (n := 1024) (iblk m c 0 p) (iblk m c 1 p)

theorem acc_first (t : Fin cfg0.N) (h : t.val % 8 = 0) (j : S2816x1024.Idx) : (outsAt0 m c t.val t.isLt).2 j = 0 + part m c t j := by
  rw [outsAt0_A m c t h (by omega)]; frame_out; idx_vars j; rw [pay_add, pay_zero]; rfl
theorem acc_next (t : Fin cfg0.N) (h : ¬t.val % 8 = 0) (j : S2816x1024.Idx) :
    (outsAt0 m c t.val t.isLt).2 j = (outsAt0 m c (t.val - 1) (Nat.lt_of_le_of_lt (Nat.sub_le _ _) t.isLt)).2 j + part m c t j := by
  by_cases h7 : t.val % 8 = 7
  · rw [outsAt0_C m c t h h7]; frame_out; idx_vars j; rw [pay_add, read_unread_whole]; rfl
  · rw [outsAt0_B m c t h h7]; frame_out; idx_vars j; rw [pay_add, read_unread_whole]; rfl

theorem final : (dats m 0 c).arrAt 2 (cfgs 0).N
    = tn (k := 8192) (m := 2816) (n := 1024) (m ((c : Thread nD τ).loc main_arg0)) (m ((c : Thread nD τ).loc main_arg1)) := by
  refine (dats m 0 c).arrAt_eq_of_covers 2 _ (by decide +kernel) fun t hf y => ?_
  have h7 := (flush0_2 t).mp hf
  idx_vars y
  blk_simp
  rw [after0_2, out_eq m c t h7, Pipeline.eq_sum_fin_of_reset_step_apply_of_flush (fun n h => (outsAt0 m c n h).2) 8 (fun _ => 0) (part m c)
    (acc_first m c) (acc_next m c) t h7 _, zero_add]
  refine Fin.sum_mul_add_congr fun s k hl => ?_
  blk_point [iblk, V, idx t, idx ⟨_, Pipeline.run_point_lt_of_flush t h7 s⟩]

theorem algebraic : Cert.algebraic_WGateIdeal_WGateRefIdeal
    (hWGateIdeal := Cert.WGateIdeal.Gen.facts) (hWGateRefIdeal := Cert.WGateRefIdeal.Gen.facts) := by
  intro m g m' g' _ hagree
  refine ⟨fun c => (dats m 0 c).arrAt 2 cfg0.N, Cert.WGateIdeal.Value.run_blocks m g, ?_⟩
  refine (θ_run Cert.WGateRefIdeal.defs _ _).mono (fun r h c => ⟨(h c).1.trans ?_, (h c).2⟩) (Cert.WGateRefIdeal.Value.run m' g')
  rw [(hagree c).1, (hagree c).2]
  refine Eq.trans ?_ (final m c).symm
  funext i
  idx_vars i
  pointwise [tn]

end Cert.WGateIdeal.Product
end
end
-- ==== Proof.GradDown.lean ====
module

public import proofs.«01_k».proof.Defs
public import proofs.«01_k».proof.Proof.Gen.WDownIdeal.Value
public import proofs.«01_k».proof.Proof.Gen.WDownRefIdeal.Run
public import proofs.«01_k».proof.Proof.Products
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The gradient of the down matrix, accumulated over eight blocks of rows, is one product over all rows. -/

namespace Cert.WDownIdeal.Product

open Cert.WDownIdeal Cert.WDownIdeal.Gen Cert.Products

variable (m : (ℓ : Loc nD τ sig) → Buf (Elt Ideal) ℓ) (c : Dev nD)

theorem pay_zero (i0 : Fin 2816) (i1 : Fin 1024) : k0_pay1 (F := Ideal) (ix2 i0 i1) = 0 := by pointwise [k0_pay1]
theorem pay_add (acc a b) (i0 : Fin 2816) (i1 : Fin 1024) : k0_pay2 (F := Ideal) acc a b (ix2 i0 i1)
    = acc (ix2 i0 i1) + ∑ k : Fin 1024, a (ix2 k i0) * b (ix2 k i1) := by pointwise [k0_pay2]
theorem pay_cast (v) : k0_pay3 (F := Ideal) v = v := by funext i; pointwise [k0_pay3]
theorem idx : ∀ t : Fin cfg0.N, win0_0.index t = ![t.val, 0] ∧ win0_1.index t = ![t.val, 0] ∧ win0_2.index t = ![0, 0] :=
  (by decide +kernel : ∀ t : Fin grid0.N, _)

/-- After the last block the output is the accumulator. -/
theorem out_eq (t : Fin cfg0.N) (h : t.val % 8 = 7) : (outsAt0 m c t.val t.isLt).1 = (outsAt0 m c t.val t.isLt).2 := by
  rw [outsAt0_C m c t (by omega) h]; frame_out; rw [pay_cast]

/-- What the block of point `p` adds to the accumulator. -/
def part (p : Fin cfg0.N) : S2816x1024.Idx → EReal :=
  tn (k := 1024) (m := 2816) (n := 1024) (iblk m c 0 p) (iblk m c 1 p)

theorem acc_first (t : Fin cfg0.N) (h : t.val % 8 = 0) (j : S2816x1024.Idx) : (outsAt0 m c t.val t.isLt).2 j = 0 + part m c t j := by
  rw [outsAt0_A m c t h (by omega)]; frame_out; idx_vars j; rw [pay_add, pay_zero]; rfl
theorem acc_next (t : Fin cfg0.N) (h : ¬t.val % 8 = 0) (j : S2816x1024.Idx) :
    (outsAt0 m c t.val t.isLt).2 j = (outsAt0 m c (t.val - 1) (Nat.lt_of_le_of_lt (Nat.sub_le _ _) t.isLt)).2 j + part m c t j := by
  by_cases h7 : t.val % 8 = 7
  · rw [outsAt0_C m c t h h7]; frame_out; idx_vars j; rw [pay_add, read_unread_whole]; rfl
  · rw [outsAt0_B m c t h h7]; frame_out; idx_vars j; rw [pay_add, read_unread_whole]; rfl

theorem final : (dats m 0 c).arrAt 2 (cfgs 0).N
    = tn (k := 8192) (m := 2816) (n := 1024) (m ((c : Thread nD τ).loc main_arg0)) (m ((c : Thread nD τ).loc main_arg1)) := by
  refine (dats m 0 c).arrAt_eq_of_covers 2 _ (by decide +kernel) fun t hf y => ?_
  have h7 := (flush0_2 t).mp hf
  idx_vars y
  blk_simp
  rw [after0_2, out_eq m c t h7, Pipeline.eq_sum_fin_of_reset_step_apply_of_flush (fun n h => (outsAt0 m c n h).2) 8 (fun _ => 0) (part m c)
    (acc_first m c) (acc_next m c) t h7 _, zero_add]
  refine Fin.sum_mul_add_congr fun s k hl => ?_
  blk_point [iblk, V, idx t, idx ⟨_, Pipeline.run_point_lt_of_flush t h7 s⟩]

theorem algebraic : Cert.algebraic_WDownIdeal_WDownRefIdeal
    (hWDownIdeal := Cert.WDownIdeal.Gen.facts) (hWDownRefIdeal := Cert.WDownRefIdeal.Gen.facts) := by
  intro m g m' g' _ hagree
  refine ⟨fun c => (dats m 0 c).arrAt 2 cfg0.N, Cert.WDownIdeal.Value.run_blocks m g, ?_⟩
  refine (θ_run Cert.WDownRefIdeal.defs _ _).mono (fun r h c => ⟨(h c).1.trans ?_, (h c).2⟩) (Cert.WDownRefIdeal.Value.run m' g')
  rw [(hagree c).1, (hagree c).2]
  refine Eq.trans ?_ (final m c).symm
  funext i
  idx_vars i
  pointwise [tn]
  exact Fin.sum_fin_congr fun r => mul_comm (G := EReal) _ _

end Cert.WDownIdeal.Product
end
end
-- ==== Proof.GradOut.lean ====
module

public import proofs.«01_k».proof.Defs
public import proofs.«01_k».proof.Proof.Gen.WOutIdeal.Value
public import proofs.«01_k».proof.Proof.Gen.WOutRefIdeal.Run
public import proofs.«01_k».proof.Proof.Products
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The gradient of the output matrix, accumulated over four blocks of rows, is one product over all rows. -/

namespace Cert.WOutIdeal.Product

open Cert.WOutIdeal Cert.WOutIdeal.Gen Cert.Products

variable (m : (ℓ : Loc nD τ sig) → Buf (Elt Ideal) ℓ) (c : Dev nD)

theorem pay_zero (i0 : Fin 1024) (i1 : Fin 1024) : k0_pay1 (F := Ideal) (ix2 i0 i1) = 0 := by pointwise [k0_pay1]
theorem pay_add (acc a b) (i0 : Fin 1024) (i1 : Fin 1024) : k0_pay2 (F := Ideal) acc a b (ix2 i0 i1)
    = acc (ix2 i0 i1) + ∑ k : Fin 2048, a (ix2 k i0) * b (ix2 k i1) := by pointwise [k0_pay2]
theorem pay_cast (v) : k0_pay3 (F := Ideal) v = v := by funext i; pointwise [k0_pay3]
theorem idx : ∀ t : Fin cfg0.N, win0_0.index t = ![t.val, 0] ∧ win0_1.index t = ![t.val, 0] ∧ win0_2.index t = ![0, 0] :=
  (by decide +kernel : ∀ t : Fin grid0.N, _)

/-- After the last block the output is the accumulator. -/
theorem out_eq (t : Fin cfg0.N) (h : t.val % 4 = 3) : (outsAt0 m c t.val t.isLt).1 = (outsAt0 m c t.val t.isLt).2 := by
  rw [outsAt0_C m c t (by omega) h]; frame_out; rw [pay_cast]

/-- What the block of point `p` adds to the accumulator. -/
def part (p : Fin cfg0.N) : S1024x1024.Idx → EReal :=
  tn (k := 2048) (m := 1024) (n := 1024) (iblk m c 0 p) (iblk m c 1 p)

theorem acc_first (t : Fin cfg0.N) (h : t.val % 4 = 0) (j : S1024x1024.Idx) : (outsAt0 m c t.val t.isLt).2 j = 0 + part m c t j := by
  rw [outsAt0_A m c t h (by omega)]; frame_out; idx_vars j; rw [pay_add, pay_zero]; rfl
theorem acc_next (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + part m c t j := by
  by_cases h3 : t.val % 4 = 3
  · rw [outsAt0_C m c t h h3]; frame_out; idx_vars j; rw [pay_add, read_unread_whole]; rfl
  · rw [outsAt0_B m c t h h3]; frame_out; idx_vars j; rw [pay_add, read_unread_whole]; rfl

theorem final : (dats m 0 c).arrAt 2 (cfgs 0).N
    = tn (k := 8192) (m := 1024) (n := 1024) (m ((c : Thread nD τ).loc main_arg0)) (m ((c : Thread nD τ).loc main_arg1)) := by
  refine (dats m 0 c).arrAt_eq_of_covers 2 _ (by decide +kernel) fun t hf y => ?_
  have h3 := (flush0_2 t).mp hf
  idx_vars y
  blk_simp
  rw [after0_2, out_eq m c t h3, Pipeline.eq_sum_fin_of_reset_step_apply_of_flush (fun n h => (outsAt0 m c n h).2) 4 (fun _ => 0) (part m c)
    (acc_first m c) (acc_next m c) t h3 _, zero_add]
  refine Fin.sum_mul_add_congr fun s k hl => ?_
  blk_point [iblk, V, idx t, idx ⟨_, Pipeline.run_point_lt_of_flush t h3 s⟩]

theorem algebraic : Cert.algebraic_WOutIdeal_WOutRefIdeal
    (hWOutIdeal := Cert.WOutIdeal.Gen.facts) (hWOutRefIdeal := Cert.WOutRefIdeal.Gen.facts) := by
  intro m g m' g' _ hagree
  refine ⟨fun c => (dats m 0 c).arrAt 2 cfg0.N, Cert.WOutIdeal.Value.run_blocks m g, ?_⟩
  refine (θ_run Cert.WOutRefIdeal.defs _ _).mono (fun r h c => ⟨(h c).1.trans ?_, (h c).2⟩) (Cert.WOutRefIdeal.Value.run m' g')
  rw [(hagree c).1, (hagree c).2]
  refine Eq.trans ?_ (final m c).symm
  funext i
  idx_vars i
  pointwise [tn]
  exact Fin.sum_fin_congr fun r => mul_comm (G := EReal) _ _

end Cert.WOutIdeal.Product
end
end
-- ==== Proof.GradPle.lean ====
module

public import proofs.«01_k».proof.Defs
public import proofs.«01_k».proof.Proof.Gen.WPleIdeal.Value
public import proofs.«01_k».proof.Proof.Gen.WPleRefIdeal.Run
public import proofs.«01_k».proof.Proof.Products
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The gradient of the embedding gate matrix, accumulated over four blocks of rows, is one product over all rows. -/

namespace Cert.WPleIdeal.Product

open Cert.WPleIdeal Cert.WPleIdeal.Gen Cert.Products

variable (m : (ℓ : Loc nD τ sig) → Buf (Elt Ideal) ℓ) (c : Dev nD)

theorem pay_zero (i0 : Fin 1024) (i1 : Fin 1024) : k0_pay1 (F := Ideal) (ix2 i0 i1) = 0 := by pointwise [k0_pay1]
theorem pay_add (acc a b) (i0 : Fin 1024) (i1 : Fin 1024) : k0_pay2 (F := Ideal) acc a b (ix2 i0 i1)
    = acc (ix2 i0 i1) + ∑ k : Fin 2048, a (ix2 k i0) * b (ix2 k i1) := by pointwise [k0_pay2]
theorem pay_cast (v) : k0_pay3 (F := Ideal) v = v := by funext i; pointwise [k0_pay3]
theorem idx : ∀ t : Fin cfg0.N, win0_0.index t = ![t.val, 0] ∧ win0_1.index t = ![t.val, 0] ∧ win0_2.index t = ![0, 0] :=
  (by decide +kernel : ∀ t : Fin grid0.N, _)

/-- After the last block the output is the accumulator. -/
theorem out_eq (t : Fin cfg0.N) (h : t.val % 4 = 3) : (outsAt0 m c t.val t.isLt).1 = (outsAt0 m c t.val t.isLt).2 := by
  rw [outsAt0_C m c t (by omega) h]; frame_out; rw [pay_cast]

/-- What the block of point `p` adds to the accumulator. -/
def part (p : Fin cfg0.N) : S1024x1024.Idx → EReal :=
  tn (k := 2048) (m := 1024) (n := 1024) (iblk m c 0 p) (iblk m c 1 p)

theorem acc_first (t : Fin cfg0.N) (h : t.val % 4 = 0) (j : S1024x1024.Idx) : (outsAt0 m c t.val t.isLt).2 j = 0 + part m c t j := by
  rw [outsAt0_A m c t h (by omega)]; frame_out; idx_vars j; rw [pay_add, pay_zero]; rfl
theorem acc_next (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + part m c t j := by
  by_cases h3 : t.val % 4 = 3
  · rw [outsAt0_C m c t h h3]; frame_out; idx_vars j; rw [pay_add, read_unread_whole]; rfl
  · rw [outsAt0_B m c t h h3]; frame_out; idx_vars j; rw [pay_add, read_unread_whole]; rfl

theorem final : (dats m 0 c).arrAt 2 (cfgs 0).N
    = tn (k := 8192) (m := 1024) (n := 1024) (m ((c : Thread nD τ).loc main_arg0)) (m ((c : Thread nD τ).loc main_arg1)) := by
  refine (dats m 0 c).arrAt_eq_of_covers 2 _ (by decide +kernel) fun t hf y => ?_
  have h3 := (flush0_2 t).mp hf
  idx_vars y
  blk_simp
  rw [after0_2, out_eq m c t h3, Pipeline.eq_sum_fin_of_reset_step_apply_of_flush (fun n h => (outsAt0 m c n h).2) 4 (fun _ => 0) (part m c)
    (acc_first m c) (acc_next m c) t h3 _, zero_add]
  refine Fin.sum_mul_add_congr fun s k hl => ?_
  blk_point [iblk, V, idx t, idx ⟨_, Pipeline.run_point_lt_of_flush t h3 s⟩]

theorem algebraic : Cert.algebraic_WPleIdeal_WPleRefIdeal
    (hWPleIdeal := Cert.WPleIdeal.Gen.facts) (hWPleRefIdeal := Cert.WPleRefIdeal.Gen.facts) := by
  intro m g m' g' _ hagree
  refine ⟨fun c => (dats m 0 c).arrAt 2 cfg0.N, Cert.WPleIdeal.Value.run_blocks m g, ?_⟩
  refine (θ_run Cert.WPleRefIdeal.defs _ _).mono (fun r h c => ⟨(h c).1.trans ?_, (h c).2⟩) (Cert.WPleRefIdeal.Value.run m' g')
  rw [(hagree c).1, (hagree c).2]
  refine Eq.trans ?_ (final m c).symm
  funext i
  idx_vars i
  pointwise [tn]
  exact Fin.sum_fin_congr fun r => mul_comm (G := EReal) _ _

end Cert.WPleIdeal.Product
end
end
-- ==== Proof.GradProj.lean ====
module

public import proofs.«01_k».proof.Defs
public import proofs.«01_k».proof.Proof.Gen.WProjIdeal.Value
public import proofs.«01_k».proof.Proof.Gen.WProjRefIdeal.Run
public import proofs.«01_k».proof.Proof.Products
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The gradient of the embedding projection, accumulated over four blocks of rows, is one product over all rows. -/

namespace Cert.WProjIdeal.Product

open Cert.WProjIdeal Cert.WProjIdeal.Gen Cert.Products

variable (m : (ℓ : Loc nD τ sig) → Buf (Elt Ideal) ℓ) (c : Dev nD)

theorem pay_zero (i0 : Fin 256) (i1 : Fin 1024) : k0_pay1 (F := Ideal) (ix2 i0 i1) = 0 := by pointwise [k0_pay1]
theorem pay_add (acc a b) (i0 : Fin 256) (i1 : Fin 1024) : k0_pay2 (F := Ideal) acc a b (ix2 i0 i1)
    = acc (ix2 i0 i1) + ∑ k : Fin 2048, a (ix2 k i0) * b (ix2 k i1) := by pointwise [k0_pay2]
theorem pay_cast (v) : k0_pay3 (F := Ideal) v = v := by funext i; pointwise [k0_pay3]
theorem idx : ∀ t : Fin cfg0.N, win0_0.index t = ![t.val, 0] ∧ win0_1.index t = ![t.val, 0] ∧ win0_2.index t = ![0, 0] :=
  (by decide +kernel : ∀ t : Fin grid0.N, _)

/-- After the last block the output is the accumulator. -/
theorem out_eq (t : Fin cfg0.N) (h : t.val % 4 = 3) : (outsAt0 m c t.val t.isLt).1 = (outsAt0 m c t.val t.isLt).2 := by
  rw [outsAt0_C m c t (by omega) h]; frame_out; rw [pay_cast]

/-- What the block of point `p` adds to the accumulator. -/
def part (p : Fin cfg0.N) : S256x1024.Idx → EReal :=
  tn (k := 2048) (m := 256) (n := 1024) (iblk m c 0 p) (iblk m c 1 p)

theorem acc_first (t : Fin cfg0.N) (h : t.val % 4 = 0) (j : S256x1024.Idx) : (outsAt0 m c t.val t.isLt).2 j = 0 + part m c t j := by
  rw [outsAt0_A m c t h (by omega)]; frame_out; idx_vars j; rw [pay_add, pay_zero]; rfl
theorem acc_next (t : Fin cfg0.N) (h : ¬t.val % 4 = 0) (j : S256x1024.Idx) :
    (outsAt0 m c t.val t.isLt).2 j = (outsAt0 m c (t.val - 1) (Nat.lt_of_le_of_lt (Nat.sub_le _ _) t.isLt)).2 j + part m c t j := by
  by_cases h3 : t.val % 4 = 3
  · rw [outsAt0_C m c t h h3]; frame_out; idx_vars j; rw [pay_add, read_unread_whole]; rfl
  · rw [outsAt0_B m c t h h3]; frame_out; idx_vars j; rw [pay_add, read_unread_whole]; rfl

theorem final : (dats m 0 c).arrAt 2 (cfgs 0).N
    = tn (k := 8192) (m := 256) (n := 1024) (m ((c : Thread nD τ).loc main_arg0)) (m ((c : Thread nD τ).loc main_arg1)) := by
  refine (dats m 0 c).arrAt_eq_of_covers 2 _ (by decide +kernel) fun t hf y => ?_
  have h3 := (flush0_2 t).mp hf
  idx_vars y
  blk_simp
  rw [after0_2, out_eq m c t h3, Pipeline.eq_sum_fin_of_reset_step_apply_of_flush (fun n h => (outsAt0 m c n h).2) 4 (fun _ => 0) (part m c)
    (acc_first m c) (acc_next m c) t h3 _, zero_add]
  refine Fin.sum_mul_add_congr fun s k hl => ?_
  blk_point [iblk, V, idx t, idx ⟨_, Pipeline.run_point_lt_of_flush t h3 s⟩]

theorem algebraic : Cert.algebraic_WProjIdeal_WProjRefIdeal
    (hWProjIdeal := Cert.WProjIdeal.Gen.facts) (hWProjRefIdeal := Cert.WProjRefIdeal.Gen.facts) := by
  intro m g m' g' _ hagree
  refine ⟨fun c => (dats m 0 c).arrAt 2 cfg0.N, Cert.WProjIdeal.Value.run_blocks m g, ?_⟩
  refine (θ_run Cert.WProjRefIdeal.defs _ _).mono (fun r h c => ⟨(h c).1.trans ?_, (h c).2⟩) (Cert.WProjRefIdeal.Value.run m' g')
  rw [(hagree c).1, (hagree c).2]
  refine Eq.trans ?_ (final m c).symm
  funext i
  idx_vars i
  pointwise [tn]
  exact Fin.sum_fin_congr fun r => mul_comm (G := EReal) _ _

end Cert.WProjIdeal.Product
end
end
-- ==== Proof.Columns.lean ====
module

public import proofs.«01_k».proof.Proof.Products
public import Idealize.ShloMosaic.Lib.Pipeline.ValueKit

@[expose] public section

set_option maxRecDepth 16384

noncomputable section

open Idealize.ShloMosaic

/-! Eight arrays side by side: seven of 512 columns and one of 128. -/

namespace Cert.Columns

/-- One row of the eight arrays side by side. -/
def row8 (d0 d1 d2 d3 d4 d5 d6 : Fin 512 → EReal) (d7 : Fin 128 → EReal) (j : Fin 3712) : EReal :=
  if h : (j : ℕ) < 512 then d0 ⟨j, h⟩ else if h : (j : ℕ) - 512 < 512 then d1 ⟨j - 512, h⟩
  else if h : (j : ℕ) - 512 - 512 < 512 then d2 ⟨j - 512 - 512, h⟩ else if h : (j : ℕ) - 512 - 512 - 512 < 512 then d3 ⟨j - 512 - 512 - 512, h⟩
  else if h : (j : ℕ) - 512 - 512 - 512 - 512 < 512 then d4 ⟨j - 512 - 512 - 512 - 512, h⟩
  else if h : (j : ℕ) - 512 - 512 - 512 - 512 - 512 < 512 then d5 ⟨j - 512 - 512 - 512 - 512 - 512, h⟩
  else if h : (j : ℕ) - 512 - 512 - 512 - 512 - 512 - 512 < 512 then d6 ⟨j - 512 - 512 - 512 - 512 - 512 - 512, h⟩
  else d7 ⟨j - 512 - 512 - 512 - 512 - 512 - 512 - 512, by omega⟩

/-- A concatenation along the columns, row by row. -/
theorem cat_eq (d0 d1 d2 d3 d4 d5 d6 : (⟨2, ![8192, 512]⟩ : Shape).Idx → EReal) (d7 : (⟨2, ![8192, 128]⟩ : Shape).Idx → EReal)
    (h : Shape.Concatenates [⟨2, ![8192, 512]⟩, ⟨2, ![8192, 512]⟩, ⟨2, ![8192, 512]⟩, ⟨2, ![8192, 512]⟩, ⟨2, ![8192, 512]⟩, ⟨2, ![8192, 512]⟩, ⟨2, ![8192, 512]⟩, ⟨2, ![8192, 128]⟩] ⟨2, ![8192, 3712]⟩ 1) :
    concatenate ⟨2, ![8192, 3712]⟩ 1 [⟨⟨2, ![8192, 512]⟩, d0⟩, ⟨⟨2, ![8192, 512]⟩, d1⟩, ⟨⟨2, ![8192, 512]⟩, d2⟩, ⟨⟨2, ![8192, 512]⟩, d3⟩, ⟨⟨2, ![8192, 512]⟩, d4⟩, ⟨⟨2, ![8192, 512]⟩, d5⟩, ⟨⟨2, ![8192, 512]⟩, d6⟩, ⟨⟨2, ![8192, 128]⟩, d7⟩] h
      = fun i => row8 (fun l => d0 (ix2 (i 0) l)) (fun l => d1 (ix2 (i 0) l)) (fun l => d2 (ix2 (i 0) l)) (fun l => d3 (ix2 (i 0) l))
          (fun l => d4 (ix2 (i 0) l)) (fun l => d5 (ix2 (i 0) l)) (fun l => d6 (ix2 (i 0) l)) (fun l => d7 (ix2 (i 0) l)) (i 1) := by
  funext i
  idx_vars i
  pointwise [row8]

/-- One row of seven arrays of 512 columns and one of 8 side by side. -/
def row8s (d0 d1 d2 d3 d4 d5 d6 : Fin 512 → EReal) (d7 : Fin 8 → EReal) (j : Fin 3592) : EReal :=
  if h : (j : ℕ) < 512 then d0 ⟨j, h⟩ else if h : (j : ℕ) - 512 < 512 then d1 ⟨j - 512, h⟩
  else if h : (j : ℕ) - 512 - 512 < 512 then d2 ⟨j - 512 - 512, h⟩ else if h : (j : ℕ) - 512 - 512 - 512 < 512 then d3 ⟨j - 512 - 512 - 512, h⟩
  else if h : (j : ℕ) - 512 - 512 - 512 - 512 < 512 then d4 ⟨j - 512 - 512 - 512 - 512, h⟩
  else if h : (j : ℕ) - 512 - 512 - 512 - 512 - 512 < 512 then d5 ⟨j - 512 - 512 - 512 - 512 - 512, h⟩
  else if h : (j : ℕ) - 512 - 512 - 512 - 512 - 512 - 512 < 512 then d6 ⟨j - 512 - 512 - 512 - 512 - 512 - 512, h⟩
  else d7 ⟨j - 512 - 512 - 512 - 512 - 512 - 512 - 512, by omega⟩

/-- Columns of zeros after the last array's eight change no entry before them. -/
theorem row8_pad (d0 d1 d2 d3 d4 d5 d6 : Fin 512 → EReal) (d7 : Fin 8 → EReal) (j : Fin 3592) :
    row8 d0 d1 d2 d3 d4 d5 d6 (fun l => if h : (l : ℕ) < 8 then d7 ⟨l, h⟩ else 0) ⟨j, by omega⟩ = row8s d0 d1 d2 d3 d4 d5 d6 d7 j := by
  have h : (j : ℕ) - 512 - 512 - 512 - 512 - 512 - 512 - 512 < 8 := by omega
  simp only [row8, row8s, h, dite_true]

/-- A sum whose terms past the 3592nd are zero. -/
theorem sum_pad (f : Fin 3712 → EReal) (g : Fin 3592 → EReal) (h : ∀ x : Fin 3592, f ⟨x, by omega⟩ = g x)
    (h0 : ∀ x : Fin 3712, ¬(x : ℕ) < 3592 → f x = 0) : ∑ x, f x = ∑ x, g x := by
  rw [show ∑ x, f x = ∑ x : Fin 3592, f (Fin.castAdd 120 x) + ∑ x : Fin 120, f (Fin.natAdd 3592 x) from Fin.sum_univ_add (a := 3592) (b := 120) f,
    Finset.sum_eq_zero (s := Finset.univ) fun (x : Fin 120) _ => h0 (Fin.natAdd 3592 x) (by simp), add_zero]
  exact Finset.sum_congr rfl fun x _ => h x

end Cert.Columns
end
end
-- ==== Proof.InBwdValue.lean ====
module

public import proofs.«01_k».proof.Defs
public import proofs.«01_k».proof.Proof.Gen.InBwdIdeal.Value
public import proofs.«01_k».proof.Proof.Gen.InBwdRefIdeal.Run
public import proofs.«01_k».proof.Proof.Columns
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The gradient at the input of the input projection: the eight gradients side by side times the transposed weights. The
columns that the kernel adds to reach 3712 hold zeros. -/

namespace Cert.InBwdIdeal.Product

open Cert.InBwdIdeal Cert.InBwdIdeal.Gen Cert.Columns

variable (m : (ℓ : Loc nD τ sig) → Buf (Elt Ideal) ℓ) (c : Dev nD)

/-- The gradient, index by index. -/
def G : S8192x1024.Idx → EReal := fun i =>
  Ideal.ofBits .f32 1066940400#32 * m ((c : Thread nD τ).loc main_arg0) (ix2 (i 0) (i 1))
    + ∑ x : Fin 3592, row8s (fun l => m ((c : Thread nD τ).loc main_arg1) (ix2 (i 0) l)) (fun l => m ((c : Thread nD τ).loc main_arg2) (ix2 (i 0) l))
        (fun l => m ((c : Thread nD τ).loc main_arg3) (ix2 (i 0) l)) (fun l => m ((c : Thread nD τ).loc main_arg4) (ix2 (i 0) l))
        (fun l => m ((c : Thread nD τ).loc main_arg5) (ix2 (i 0) l)) (fun l => m ((c : Thread nD τ).loc main_arg6) (ix2 (i 0) l))
        (fun l => m ((c : Thread nD τ).loc main_arg7) (ix2 (i 0) l)) (fun l => m ((c : Thread nD τ).loc main_arg8) (ix2 (i 0) l)) x
      * m ((c : Thread nD τ).loc main_arg9) (ix2 (i 1) x)

theorem pay (d0 d1 d2 d3 d4 d5 d6 d7 z w) (i0 : Fin 512) (i1 : Fin 1024) :
    k0_pay1 (F := Ideal) d0 d1 d2 d3 d4 d5 d6 d7 z w (ix2 i0 i1)
      = Ideal.ofBits .f32 1066940400#32 * z (ix2 i0 i1) + ∑ x : Fin 3712, row8 (fun l => d0 (ix2 i0 l)) (fun l => d1 (ix2 i0 l))
          (fun l => d2 (ix2 i0 l)) (fun l => d3 (ix2 i0 l)) (fun l => d4 (ix2 i0 l)) (fun l => d5 (ix2 i0 l)) (fun l => d6 (ix2 i0 l))
          (fun l => d7 (ix2 i0 l)) x * w (ix2 i1 x) := by
  pointwise [k0_pay1, row8]
theorem pad_d (x : S8192x8.Idx → EReal) (i0 : Fin 8192) (i1 : Fin 128) :
    pad S8192x128 ![0, 0] ![0, 120] ![0, 0] x (sitofp (F := Ideal) .bf16 (constantI S_ 32 0#32)) pads_S8192x8_S8192x128_000_01200 h_S_ (ix2 i0 i1)
      = if h : (i1 : ℕ) < 8 then x (ix2 i0 ⟨i1, h⟩) else 0 := by
  have : FloatOps.sitofp (F := Ideal) FTy.bf16 0#32 = (0 : EReal) := by simp [FloatOps.sitofp]
  pointwise [this]
theorem pad_w (x : S1024x3592.Idx → EReal) (i0 : Fin 1024) (i1 : Fin 3712) :
    pad S1024x3712 ![0, 0] ![0, 120] ![0, 0] x (sitofp (F := Ideal) .f32 (constantI S_ 32 0#32)) pads_S1024x3592_S1024x3712_000_01200 h_S_ (ix2 i0 i1)
      = if h : (i1 : ℕ) < 3592 then x (ix2 i0 ⟨i1, h⟩) else 0 := by
  have : FloatOps.sitofp (F := Ideal) FTy.f32 0#32 = (0 : EReal) := by simp [FloatOps.sitofp]
  pointwise [this]

theorem V_d (i0 : Fin 8192) (i1 : Fin 128) : V m c main_v0 (ix2 i0 i1)
    = if h : (i1 : ℕ) < 8 then m ((c : Thread nD τ).loc main_arg8) (ix2 i0 ⟨i1, h⟩) else (0 : EReal) := by
  unfold V
  simp only [List.flatten_cons, List.flatten_nil, List.append_nil, List.cons_append, List.nil_append]
  after_results
  exact pad_d _ i0 i1
theorem V_w (i0 : Fin 1024) (i1 : Fin 3712) : V m c main_v2 (ix2 i0 i1)
    = if h : (i1 : ℕ) < 3592 then m ((c : Thread nD τ).loc main_arg9) (ix2 i0 ⟨i1, h⟩) else (0 : EReal) := by
  unfold V
  simp only [List.flatten_cons, List.flatten_nil, List.append_nil, List.cons_append, List.nil_append]
  after_results
  exact pad_w _ i0 i1
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![t.val, 0] :=
  (by decide +kernel : ∀ t : Fin grid0.N, _)

/-- The row of the whole that row `k` of the block of point `t` is. -/
def row (t : Fin cfg0.N) (k : Fin 512) : Fin 8192 :=
  ⟨t.val * 512 + k.val, by have := lt_of_lt_of_eq t.isLt (show cfg0.N = 16 from N_0); omega⟩

theorem blk8 (t : Fin cfg0.N) (k : Fin 512) (l : Fin 128) : iblk m c 8 t (ix2 k l)
    = if h : (l : ℕ) < 8 then m ((c : Thread nD τ).loc main_arg8) (ix2 (row t k) ⟨l, h⟩) else (0 : EReal) := by
  have e : (win0_8.blk t).view.emb (ix2 k l) = ix2 (row t k) l := by blk_ext [row, idx t]
  blk_simp [iblk]; rw [e]; exact V_d m c (row t k) l
theorem blk9 (t : Fin cfg0.N) (k : Fin 1024) (l : Fin 3712) : iblk m c 9 t (ix2 k l)
    = if h : (l : ℕ) < 3592 then m ((c : Thread nD τ).loc main_arg9) (ix2 k ⟨l, h⟩) else (0 : EReal) := by
  have e : (win0_9.blk t).view.emb (ix2 k l) = ix2 k l := by blk_ext [idx t]
  blk_simp [iblk]; rw [e]; exact V_w m c k l

theorem final : (dats m 0 c).arrAt 10 (cfgs 0).N = G m c := by
  refine (dats m 0 c).arrAt_eq_of_covers 10 _ (by decide +kernel) fun t hf y => ?_
  idx_vars y
  have e : (win0_10.blk t).view.emb (ix2 y0 y1) = ix2 (row t y0) y1 := by blk_ext [row, idx t]
  blk_simp
  rw [e, after0_10]
  frame_out
  rw [pay]
  simp only [blk8, blk9, G, ix2_0, ix2_1]
  refine Ideal.add_congr (Ideal.mul_congr rfl ?_) (sum_pad _ _ (fun x => ?_) fun x hx => ?_)
  · blk_point [iblk, V, row, idx t]
  · rw [dif_pos x.isLt]
    refine Ideal.mul_congr ((row8_pad _ _ _ _ _ _ _ (fun l => m ((c : Thread nD τ).loc main_arg8) (ix2 (row t y0) l)) x).trans ?_) rfl
    congr 1 <;> funext l <;> blk_point [iblk, V, row, idx t]
  · rw [dif_neg hx, mul_zero]

theorem ref_cols (d0 d1 d2 d3 d4 d5 d6 : (⟨2, ![8192, 512]⟩ : Shape).Idx → EReal) (d7 : (⟨2, ![8192, 8]⟩ : Shape).Idx → EReal)
    (h : Shape.Concatenates [⟨2, ![8192, 512]⟩, ⟨2, ![8192, 512]⟩, ⟨2, ![8192, 512]⟩, ⟨2, ![8192, 512]⟩, ⟨2, ![8192, 512]⟩, ⟨2, ![8192, 512]⟩, ⟨2, ![8192, 512]⟩, ⟨2, ![8192, 8]⟩] ⟨2, ![8192, 3592]⟩ 1) :
    concatenate ⟨2, ![8192, 3592]⟩ 1 [⟨⟨2, ![8192, 512]⟩, d0⟩, ⟨⟨2, ![8192, 512]⟩, d1⟩, ⟨⟨2, ![8192, 512]⟩, d2⟩, ⟨⟨2, ![8192, 512]⟩, d3⟩, ⟨⟨2, ![8192, 512]⟩, d4⟩, ⟨⟨2, ![8192, 512]⟩, d5⟩, ⟨⟨2, ![8192, 512]⟩, d6⟩, ⟨⟨2, ![8192, 8]⟩, d7⟩] h
      = fun i => row8s (fun l => d0 (ix2 (i 0) l)) (fun l => d1 (ix2 (i 0) l)) (fun l => d2 (ix2 (i 0) l)) (fun l => d3 (ix2 (i 0) l))
          (fun l => d4 (ix2 (i 0) l)) (fun l => d5 (ix2 (i 0) l)) (fun l => d6 (ix2 (i 0) l)) (fun l => d7 (ix2 (i 0) l)) (i 1) := by
  funext i
  idx_vars i
  pointwise [row8s]

theorem algebraic : Cert.algebraic_InBwdIdeal_InBwdRefIdeal
    (hInBwdIdeal := Cert.InBwdIdeal.Gen.facts) (hInBwdRefIdeal := Cert.InBwdRefIdeal.Gen.facts) := by
  intro m g m' g' _ hagree
  refine ⟨fun c => (dats m 0 c).arrAt 10 cfg0.N, Cert.InBwdIdeal.Value.run_blocks m g, ?_⟩
  refine (θ_run Cert.InBwdRefIdeal.defs _ _).mono (fun r h c => ⟨(h c).1.trans ?_, (h c).2⟩) (Cert.InBwdRefIdeal.Value.run m' g')
  clear h
  obtain ⟨a0, a1, a2, a3, a4, a5, a6, a7, a8, a9⟩ := hagree c
  rw [ref_cols, a1, a2, a3, a4, a5, a6, a7, a8]
  refine Eq.trans ?_ (final m c).symm
  funext i
  idx_vars i
  pointwise [G, a0, a9]

end Cert.InBwdIdeal.Product
end
end
-- ==== Proof.GradIn0.lean ====
module

public import proofs.«01_k».proof.Defs
public import proofs.«01_k».proof.Proof.Gen.WIn0Ideal.Value
public import proofs.«01_k».proof.Proof.Gen.WIn0RefIdeal.Run
public import proofs.«01_k».proof.Proof.Columns
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The gradient of the upper half of the input projection, accumulated over sixteen blocks of rows, is one product over all
rows, and the accumulated column sums are the sums of the whole columns. -/

namespace Cert.WIn0Ideal.Product

open Cert.WIn0Ideal Cert.WIn0Ideal.Gen Cert.Products Cert.Columns

variable (m : (ℓ : Loc nD τ sig) → Buf (Elt Ideal) ℓ) (c : Dev nD)

theorem pay_zero (i0 : Fin 512) (i1 : Fin 3712) : k0_pay2 (F := Ideal) (ix2 i0 i1) = 0 := by pointwise [k0_pay2]
theorem pay_zero_row (i0 : Fin 1) (i1 : Fin 3712) : k0_pay3 (F := Ideal) (ix2 i0 i1) = 0 := by pointwise [k0_pay3]
theorem pay_cols (d0 d1 d2 d3 d4 d5 d6 d7) (k : Fin 512) (i1 : Fin 3712) : k0_pay4 (F := Ideal) d0 d1 d2 d3 d4 d5 d6 d7 (ix2 k i1)
    = row8 (fun l => d0 (ix2 k l)) (fun l => d1 (ix2 k l)) (fun l => d2 (ix2 k l)) (fun l => d3 (ix2 k l))
        (fun l => d4 (ix2 k l)) (fun l => d5 (ix2 k l)) (fun l => d6 (ix2 k l)) (fun l => d7 (ix2 k l)) i1 := by
  pointwise [k0_pay4, row8]
theorem pay_add (d0 d1 d2 d3 d4 d5 d6 d7 acc x) (i0 : Fin 512) (i1 : Fin 3712) :
    k0_pay5 (F := Ideal) d0 d1 d2 d3 d4 d5 d6 d7 acc x (ix2 i0 i1)
      = acc (ix2 i0 i1) + ∑ k : Fin 512, x (ix2 k i0) * k0_pay4 d0 d1 d2 d3 d4 d5 d6 d7 (ix2 k i1) := by pointwise [k0_pay5]
theorem pay_sum (d0 d1 d2 d3 d4 d5 d6 d7 acc) (i0 : Fin 1) (i1 : Fin 3712) :
    k0_pay6 (F := Ideal) d0 d1 d2 d3 d4 d5 d6 d7 acc (ix2 i0 i1)
      = acc (ix2 i0 i1) + ∑ k : Fin 512, k0_pay4 (F := Ideal) d0 d1 d2 d3 d4 d5 d6 d7 (ix2 k i1) := by pointwise [k0_pay6]
theorem pay_cast (v) : k0_pay1 (F := Ideal) v = v := by funext i; pointwise [k0_pay1]
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

/-- The eight gradients of a block side by side. -/
def cols (p : Fin cfg0.N) : S512x3712.Idx → EReal :=
  k0_pay4 (F := Ideal) (iblk m c 1 p) (iblk m c 2 p) (iblk m c 3 p) (iblk m c 4 p) (iblk m c 5 p) (iblk m c 6 p) (iblk m c 7 p) (iblk m c 8 p)

/-- The eight gradients side by side. -/
def all : (⟨2, ![8192, 3712]⟩ : Shape).Idx → EReal := fun i =>
  row8 (fun l => m ((c : Thread nD τ).loc main_arg1) (ix2 (i 0) l)) (fun l => m ((c : Thread nD τ).loc main_arg2) (ix2 (i 0) l))
    (fun l => m ((c : Thread nD τ).loc main_arg3) (ix2 (i 0) l)) (fun l => m ((c : Thread nD τ).loc main_arg4) (ix2 (i 0) l))
    (fun l => m ((c : Thread nD τ).loc main_arg5) (ix2 (i 0) l)) (fun l => m ((c : Thread nD τ).loc main_arg6) (ix2 (i 0) l))
    (fun l => m ((c : Thread nD τ).loc main_arg7) (ix2 (i 0) l)) (fun l => m ((c : Thread nD τ).loc main_arg8) (ix2 (i 0) l)) (i 1)

/-- A row of a block is a row of the whole. -/
theorem cols_eq (p : Fin cfg0.N) (k : Fin 512) (r : Fin 8192) (hr : (r : ℕ) = p.val * 512 + k) (j : Fin 3712) :
    cols m c p (ix2 k j) = all m c (ix2 r j) := by
  rw [cols, pay_cols]
  show _ = row8 _ _ _ _ _ _ _ _ j
  congr 1 <;> funext l <;> blk_point [iblk, V, idx p]

/-- After the last block the first output is the accumulator. -/
theorem out_eq (t : Fin cfg0.N) (h : t.val % 16 = 15) : (outsAt0 m c t.val t.isLt).1 = (outsAt0 m c t.val t.isLt).2.2 := by
  rw [outsAt0_C m c t (by omega) h]; frame_out; rw [pay_cast]

/-- What the block of point `p` adds to the accumulator. -/
def part (p : Fin cfg0.N) : S512x3712.Idx → EReal := tn (k := 512) (m := 512) (n := 3712) (iblk m c 0 p) (cols m c p)
/-- What the block of point `p` adds to the column sums. -/
def sums (p : Fin cfg0.N) : S1x3712.Idx → EReal := fun j => ∑ k : Fin 512, cols m c p (ix2 k (j 1))

theorem acc_first (t : Fin cfg0.N) (h : t.val % 16 = 0) (j : S512x3712.Idx) : (outsAt0 m c t.val t.isLt).2.2 j = 0 + part m c t j := by
  rw [outsAt0_A m c t h (by omega)]; frame_out; idx_vars j; rw [pay_add, pay_zero]; rfl
theorem acc_next (t : Fin cfg0.N) (h : ¬t.val % 16 = 0) (j : S512x3712.Idx) :
    (outsAt0 m c t.val t.isLt).2.2 j = (outsAt0 m c (t.val - 1) (Nat.lt_of_le_of_lt (Nat.sub_le _ _) t.isLt)).2.2 j + part m c t j := by
  by_cases h7 : t.val % 16 = 15
  · rw [outsAt0_C m c t h h7]; frame_out; idx_vars j; rw [pay_add, read_unread_whole]; rfl
  · rw [outsAt0_B m c t h h7]; frame_out; idx_vars j; rw [pay_add, read_unread_whole]; rfl
theorem sum_first (t : Fin cfg0.N) (h : t.val % 16 = 0) (j : S1x3712.Idx) : (outsAt0 m c t.val t.isLt).2.1 j = 0 + sums m c t j := by
  rw [outsAt0_A m c t h (by omega)]; frame_out; idx_vars j; rw [pay_sum, pay_zero_row]; rfl
theorem sum_next (t : Fin cfg0.N) (h : ¬t.val % 16 = 0) (j : S1x3712.Idx) :
    (outsAt0 m c t.val t.isLt).2.1 j = (outsAt0 m c (t.val - 1) (Nat.lt_of_le_of_lt (Nat.sub_le _ _) t.isLt)).2.1 j + sums m c t j := by
  by_cases h7 : t.val % 16 = 15
  · rw [outsAt0_C m c t h h7]; frame_out; idx_vars j; rw [pay_sum]; rfl
  · rw [outsAt0_B m c t h h7]; frame_out; idx_vars j; rw [pay_sum]; rfl

theorem block_row (t : Fin cfg0.N) (s : Fin 16) (k : Fin 512) : s.val * 512 + k.val = (16 * (t.val / 16) + s.val) * 512 + k.val := by
  have := lt_of_lt_of_eq t.isLt (show cfg0.N = 16 from N_0)
  omega

/-- The upper 512 rows of the whole product. -/
def upper : S512x3712.Idx → EReal := fun i =>
  tn (k := 8192) (m := 1024) (n := 3712) (m ((c : Thread nD τ).loc main_arg0)) (all m c) (ix2 ⟨(i 0).val, (i 0).isLt.trans (by decide)⟩ (i 1))
/-- The sums of the whole columns. -/
def whole : S1x3712.Idx → EReal := fun i => ∑ r : Fin 8192, all m c (ix2 r (i 1))

theorem final : (dats m 0 c).arrAt 9 (cfgs 0).N = upper m c := by
  refine (dats m 0 c).arrAt_eq_of_covers 9 _ (by decide +kernel) fun t hf y => ?_
  have h7 := (flush0_9 t).mp hf
  idx_vars y
  have e : (win0_9.blk t).view.emb (ix2 y0 y1) = ix2 y0 y1 := by blk_ext [idx t]
  blk_simp
  rw [e, after0_9, out_eq m c t h7, Pipeline.eq_sum_fin_of_reset_step_apply_of_flush (fun n h => (outsAt0 m c n h).2.2) 16 (fun _ => 0) (part m c)
    (acc_first m c) (acc_next m c) t h7 _, zero_add]
  refine Fin.sum_mul_add_congr fun s k hl => ?_
  simp only [part, tn, upper, ix2_0, ix2_1]
  refine Ideal.mul_congr ?_ (cols_eq m c ⟨_, Pipeline.run_point_lt_of_flush t h7 s⟩ k ⟨s.val * 512 + k.val, hl⟩ (block_row t s k) y1)
  blk_point [iblk, V, idx t, idx ⟨_, Pipeline.run_point_lt_of_flush t h7 s⟩]

theorem final_sum : (dats m 0 c).arrAt 10 (cfgs 0).N = whole m c := by
  refine (dats m 0 c).arrAt_eq_of_covers 10 _ (by decide +kernel) fun t hf y => ?_
  have h7 := (flush0_10 t).mp hf
  idx_vars y
  have e : (win0_10.blk t).view.emb (ix2 y0 y1) = ix2 y0 y1 := by blk_ext [idx t]
  blk_simp
  rw [e, after0_10, Pipeline.eq_sum_fin_of_reset_step_apply_of_flush (fun n h => (outsAt0 m c n h).2.1) 16 (fun _ => 0) (sums m c)
    (sum_first m c) (sum_next m c) t h7 _, zero_add]
  simp only [sums, whole, ix2_1]
  exact Fin.sum_mul_add_congr fun s k hl => cols_eq m c ⟨_, Pipeline.run_point_lt_of_flush t h7 s⟩ k ⟨s.val * 512 + k.val, hl⟩ (block_row t s k) y1

theorem algebraic : Cert.algebraic_WIn0Ideal_WIn0RefIdeal
    (hWIn0Ideal := Cert.WIn0Ideal.Gen.facts) (hWIn0RefIdeal := Cert.WIn0RefIdeal.Gen.facts) := by
  intro m g m' g' _ hagree
  refine ⟨fun c => (dats m 0 c).arrAt 9 cfg0.N, fun c => (dats m 0 c).arrAt 10 cfg0.N, Cert.WIn0Ideal.Value.run_blocks m g, ?_⟩
  refine (θ_run Cert.WIn0RefIdeal.defs _ _).mono (fun r h c => ⟨(h c).1.trans ?_, (h c).2.1.trans ?_, (h c).2.2⟩) (Cert.WIn0RefIdeal.Value.run m' g')
  all_goals obtain ⟨a0, a1, a2, a3, a4, a5, a6, a7, a8⟩ := hagree c; rw [cat_eq, a1, a2, a3, a4, a5, a6, a7, a8]
  · refine Eq.trans ?_ (final m c).symm
    funext i
    idx_vars i
    pointwise [tn, upper, all, a0]
    exact Fin.sum_fin_congr fun r => mul_comm (G := EReal) _ _
  · refine Eq.trans ?_ (final_sum m c).symm
    funext i
    idx_vars i
    pointwise [whole, all]

end Cert.WIn0Ideal.Product
end
end
-- ==== Proof.GradIn1.lean ====
module

public import proofs.«01_k».proof.Defs
public import proofs.«01_k».proof.Proof.Gen.WIn1Ideal.Value
public import proofs.«01_k».proof.Proof.Gen.WIn1RefIdeal.Run
public import proofs.«01_k».proof.Proof.Columns
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The gradient of the lower half of the input projection, accumulated over sixteen blocks of rows, is one product over all
rows, and the accumulated column sums are the sums of the whole columns. -/

namespace Cert.WIn1Ideal.Product

open Cert.WIn1Ideal Cert.WIn1Ideal.Gen Cert.Products Cert.Columns

variable (m : (ℓ : Loc nD τ sig) → Buf (Elt Ideal) ℓ) (c : Dev nD)

theorem pay_zero (i0 : Fin 512) (i1 : Fin 3712) : k0_pay2 (F := Ideal) (ix2 i0 i1) = 0 := by pointwise [k0_pay2]
theorem pay_zero_row (i0 : Fin 1) (i1 : Fin 3712) : k0_pay3 (F := Ideal) (ix2 i0 i1) = 0 := by pointwise [k0_pay3]
theorem pay_cols (d0 d1 d2 d3 d4 d5 d6 d7) (k : Fin 512) (i1 : Fin 3712) : k0_pay4 (F := Ideal) d0 d1 d2 d3 d4 d5 d6 d7 (ix2 k i1)
    = row8 (fun l => d0 (ix2 k l)) (fun l => d1 (ix2 k l)) (fun l => d2 (ix2 k l)) (fun l => d3 (ix2 k l))
        (fun l => d4 (ix2 k l)) (fun l => d5 (ix2 k l)) (fun l => d6 (ix2 k l)) (fun l => d7 (ix2 k l)) i1 := by
  pointwise [k0_pay4, row8]
theorem pay_add (d0 d1 d2 d3 d4 d5 d6 d7 acc x) (i0 : Fin 512) (i1 : Fin 3712) :
    k0_pay5 (F := Ideal) d0 d1 d2 d3 d4 d5 d6 d7 acc x (ix2 i0 i1)
      = acc (ix2 i0 i1) + ∑ k : Fin 512, x (ix2 k i0) * k0_pay4 d0 d1 d2 d3 d4 d5 d6 d7 (ix2 k i1) := by pointwise [k0_pay5]
theorem pay_sum (d0 d1 d2 d3 d4 d5 d6 d7 acc) (i0 : Fin 1) (i1 : Fin 3712) :
    k0_pay6 (F := Ideal) d0 d1 d2 d3 d4 d5 d6 d7 acc (ix2 i0 i1)
      = acc (ix2 i0 i1) + ∑ k : Fin 512, k0_pay4 (F := Ideal) d0 d1 d2 d3 d4 d5 d6 d7 (ix2 k i1) := by pointwise [k0_pay6]
theorem pay_cast (v) : k0_pay1 (F := Ideal) v = v := by funext i; pointwise [k0_pay1]
theorem idx : ∀ t : Fin cfg0.N, win0_0.index t = ![t.val, 1] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

/-- The eight gradients of a block side by side. -/
def cols (p : Fin cfg0.N) : S512x3712.Idx → EReal :=
  k0_pay4 (F := Ideal) (iblk m c 1 p) (iblk m c 2 p) (iblk m c 3 p) (iblk m c 4 p) (iblk m c 5 p) (iblk m c 6 p) (iblk m c 7 p) (iblk m c 8 p)

/-- The eight gradients side by side. -/
def all : (⟨2, ![8192, 3712]⟩ : Shape).Idx → EReal := fun i =>
  row8 (fun l => m ((c : Thread nD τ).loc main_arg1) (ix2 (i 0) l)) (fun l => m ((c : Thread nD τ).loc main_arg2) (ix2 (i 0) l))
    (fun l => m ((c : Thread nD τ).loc main_arg3) (ix2 (i 0) l)) (fun l => m ((c : Thread nD τ).loc main_arg4) (ix2 (i 0) l))
    (fun l => m ((c : Thread nD τ).loc main_arg5) (ix2 (i 0) l)) (fun l => m ((c : Thread nD τ).loc main_arg6) (ix2 (i 0) l))
    (fun l => m ((c : Thread nD τ).loc main_arg7) (ix2 (i 0) l)) (fun l => m ((c : Thread nD τ).loc main_arg8) (ix2 (i 0) l)) (i 1)

/-- A row of a block is a row of the whole. -/
theorem cols_eq (p : Fin cfg0.N) (k : Fin 512) (r : Fin 8192) (hr : (r : ℕ) = p.val * 512 + k) (j : Fin 3712) :
    cols m c p (ix2 k j) = all m c (ix2 r j) := by
  rw [cols, pay_cols]
  show _ = row8 _ _ _ _ _ _ _ _ j
  congr 1 <;> funext l <;> blk_point [iblk, V, idx p]

/-- After the last block the first output is the accumulator. -/
theorem out_eq (t : Fin cfg0.N) (h : t.val % 16 = 15) : (outsAt0 m c t.val t.isLt).1 = (outsAt0 m c t.val t.isLt).2.2 := by
  rw [outsAt0_C m c t (by omega) h]; frame_out; rw [pay_cast]

/-- What the block of point `p` adds to the accumulator. -/
def part (p : Fin cfg0.N) : S512x3712.Idx → EReal := tn (k := 512) (m := 512) (n := 3712) (iblk m c 0 p) (cols m c p)
/-- What the block of point `p` adds to the column sums. -/
def sums (p : Fin cfg0.N) : S1x3712.Idx → EReal := fun j => ∑ k : Fin 512, cols m c p (ix2 k (j 1))

theorem acc_first (t : Fin cfg0.N) (h : t.val % 16 = 0) (j : S512x3712.Idx) : (outsAt0 m c t.val t.isLt).2.2 j = 0 + part m c t j := by
  rw [outsAt0_A m c t h (by omega)]; frame_out; idx_vars j; rw [pay_add, pay_zero]; rfl
theorem acc_next (t : Fin cfg0.N) (h : ¬t.val % 16 = 0) (j : S512x3712.Idx) :
    (outsAt0 m c t.val t.isLt).2.2 j = (outsAt0 m c (t.val - 1) (Nat.lt_of_le_of_lt (Nat.sub_le _ _) t.isLt)).2.2 j + part m c t j := by
  by_cases h7 : t.val % 16 = 15
  · rw [outsAt0_C m c t h h7]; frame_out; idx_vars j; rw [pay_add, read_unread_whole]; rfl
  · rw [outsAt0_B m c t h h7]; frame_out; idx_vars j; rw [pay_add, read_unread_whole]; rfl
theorem sum_first (t : Fin cfg0.N) (h : t.val % 16 = 0) (j : S1x3712.Idx) : (outsAt0 m c t.val t.isLt).2.1 j = 0 + sums m c t j := by
  rw [outsAt0_A m c t h (by omega)]; frame_out; idx_vars j; rw [pay_sum, pay_zero_row]; rfl
theorem sum_next (t : Fin cfg0.N) (h : ¬t.val % 16 = 0) (j : S1x3712.Idx) :
    (outsAt0 m c t.val t.isLt).2.1 j = (outsAt0 m c (t.val - 1) (Nat.lt_of_le_of_lt (Nat.sub_le _ _) t.isLt)).2.1 j + sums m c t j := by
  by_cases h7 : t.val % 16 = 15
  · rw [outsAt0_C m c t h h7]; frame_out; idx_vars j; rw [pay_sum]; rfl
  · rw [outsAt0_B m c t h h7]; frame_out; idx_vars j; rw [pay_sum]; rfl

theorem block_row (t : Fin cfg0.N) (s : Fin 16) (k : Fin 512) : s.val * 512 + k.val = (16 * (t.val / 16) + s.val) * 512 + k.val := by
  have := lt_of_lt_of_eq t.isLt (show cfg0.N = 16 from N_0)
  omega

/-- The lower 512 rows of the whole product. -/
def lower : S512x3712.Idx → EReal := fun i =>
  tn (k := 8192) (m := 1024) (n := 3712) (m ((c : Thread nD τ).loc main_arg0)) (all m c) (ix2 ⟨512 + (i 0).val, Nat.add_lt_add_left (i 0).isLt 512⟩ (i 1))
/-- The sums of the whole columns. -/
def whole : S1x3712.Idx → EReal := fun i => ∑ r : Fin 8192, all m c (ix2 r (i 1))

theorem final : (dats m 0 c).arrAt 9 (cfgs 0).N = lower m c := by
  refine (dats m 0 c).arrAt_eq_of_covers 9 _ (by decide +kernel) fun t hf y => ?_
  have h7 := (flush0_9 t).mp hf
  idx_vars y
  have e : (win0_9.blk t).view.emb (ix2 y0 y1) = ix2 y0 y1 := by blk_ext [idx t]
  blk_simp
  rw [e, after0_9, out_eq m c t h7, Pipeline.eq_sum_fin_of_reset_step_apply_of_flush (fun n h => (outsAt0 m c n h).2.2) 16 (fun _ => 0) (part m c)
    (acc_first m c) (acc_next m c) t h7 _, zero_add]
  refine Fin.sum_mul_add_congr fun s k hl => ?_
  simp only [part, tn, lower, ix2_0, ix2_1]
  refine Ideal.mul_congr ?_ (cols_eq m c ⟨_, Pipeline.run_point_lt_of_flush t h7 s⟩ k ⟨s.val * 512 + k.val, hl⟩ (block_row t s k) y1)
  blk_point [iblk, V, idx t, idx ⟨_, Pipeline.run_point_lt_of_flush t h7 s⟩]

theorem final_sum : (dats m 0 c).arrAt 10 (cfgs 0).N = whole m c := by
  refine (dats m 0 c).arrAt_eq_of_covers 10 _ (by decide +kernel) fun t hf y => ?_
  have h7 := (flush0_10 t).mp hf
  idx_vars y
  have e : (win0_10.blk t).view.emb (ix2 y0 y1) = ix2 y0 y1 := by blk_ext [idx t]
  blk_simp
  rw [e, after0_10, Pipeline.eq_sum_fin_of_reset_step_apply_of_flush (fun n h => (outsAt0 m c n h).2.1) 16 (fun _ => 0) (sums m c)
    (sum_first m c) (sum_next m c) t h7 _, zero_add]
  simp only [sums, whole, ix2_1]
  exact Fin.sum_mul_add_congr fun s k hl => cols_eq m c ⟨_, Pipeline.run_point_lt_of_flush t h7 s⟩ k ⟨s.val * 512 + k.val, hl⟩ (block_row t s k) y1

theorem algebraic : Cert.algebraic_WIn1Ideal_WIn1RefIdeal
    (hWIn1Ideal := Cert.WIn1Ideal.Gen.facts) (hWIn1RefIdeal := Cert.WIn1RefIdeal.Gen.facts) := by
  intro m g m' g' _ hagree
  refine ⟨fun c => (dats m 0 c).arrAt 9 cfg0.N, fun c => (dats m 0 c).arrAt 10 cfg0.N, Cert.WIn1Ideal.Value.run_blocks m g, ?_⟩
  refine (θ_run Cert.WIn1RefIdeal.defs _ _).mono (fun r h c => ⟨(h c).1.trans ?_, (h c).2.1.trans ?_, (h c).2.2⟩) (Cert.WIn1RefIdeal.Value.run m' g')
  all_goals obtain ⟨a0, a1, a2, a3, a4, a5, a6, a7, a8⟩ := hagree c; rw [cat_eq, a1, a2, a3, a4, a5, a6, a7, a8]
  · refine Eq.trans ?_ (final m c).symm
    funext i
    idx_vars i
    pointwise [tn, lower, all, a0]
    exact Fin.sum_fin_congr fun r => mul_comm (G := EReal) _ _
  · refine Eq.trans ?_ (final_sum m c).symm
    funext i
    idx_vars i
    pointwise [whole, all]

end Cert.WIn1Ideal.Product
end
end
-- ==== Proof.AdamRows.lean ====
module

public import Idealize.ShloMosaic.Lib.Pipeline.ValueKit

@[expose] public section

noncomputable section

open Idealize.ShloMosaic

/-! One number of the optimiser's step: the new moments and the update, from the gradient, the weight and the moments. -/

namespace Cert.Adam

/-- The new first moment. -/
def mom (g m : EReal) : EReal := Ideal.ofBits .f32 0x3F666666#32 * m + Ideal.ofBits .f32 0x3DCCCCCD#32 * g
/-- The new second moment. -/
def vel (g v : EReal) : EReal := Ideal.ofBits .f32 0x3F7FBE77#32 * v + Ideal.ofBits .f32 0x3A83126F#32 * (g * g)
/-- The update of the weight. -/
def upd (g w m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32)
    + Ideal.ofBits .f32 0x3C23D70A#32 * w)
/-- The sum of eight numbers, one after another. -/
theorem sum_eight (f : Fin 8 → EReal) : f 0 + f 1 + f 2 + f 3 + f 4 + f 5 + f 6 + f 7 = ∑ s, f s :=
  (Fin.sum_univ_eight f).symm

end Cert.Adam
end
end
-- ==== Proof.AdamInValue.lean ====
module

public import proofs.«01_k».proof.Defs
public import proofs.«01_k».proof.Proof.AdamRows
public import proofs.«01_k».proof.Proof.Gen.AdamInIdeal.Frame
public import proofs.«01_k».proof.Proof.Gen.AdamInRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The optimiser's step of the weight of the input projection, whose gradient comes in two halves, from the eight devices' gradients. -/

namespace Cert.AdamInIdeal.Update

open Cert.AdamInIdeal Cert.AdamInIdeal.Gen Cert.Adam

theorem pay_m (g m) (i0 : Fin 256) (i1 : Fin 449) : k0_pay1 (F := Ideal) g m (ix2 i0 i1) = mom (g (ix2 i0 i1)) (m (ix2 i0 i1)) := by
  pointwise [k0_pay1, mom]
theorem pay_v (g v) (i0 : Fin 256) (i1 : Fin 449) : k0_pay2 (F := Ideal) g v (ix2 i0 i1) = vel (g (ix2 i0 i1)) (v (ix2 i0 i1)) := by
  pointwise [k0_pay2, vel]
theorem pay_d (g w m v) (i0 : Fin 256) (i1 : Fin 449) : k0_pay3 (F := Ideal) g w m v (ix2 i0 i1)
    = upd (g (ix2 i0 i1)) (w (ix2 i0 i1)) (m (ix2 i0 i1)) (v (ix2 i0 i1)) := by
  pointwise [k0_pay3, pay_m, pay_v, upd]
theorem pay_g0 (i x0 x1 w m v) (i0 : Fin 256) (i1 : Fin 449) : k0_pay6 (F := Ideal) i x0 x1 w m v (ix2 i0 i1) = ∑ s : Fin 8, x0 (ix3 s i0 i1) := by
  rw [← sum_eight]
  pointwise [k0_pay6, k0_pay4]
/-- Whether the point lies in the second half. -/
theorem late : ∀ k : Fin 4, Scalar.cmpi .sge (BitVec.ofNat 32 k.val) 2#32 = if 2 ≤ k.val then 1#1 else 0#1 := by decide
theorem pay_g (i : grid0.Coords) (x0 x1 w m v) (i0 : Fin 256) (i1 : Fin 449) : k0_pay7 (F := Ideal) i x0 x1 w m v (ix2 i0 i1)
    = if 2 ≤ (i 0).val then ∑ s : Fin 8, x1 (ix3 s i0 i1) else ∑ s : Fin 8, x0 (ix3 s i0 i1) := by
  rw [k0_pay7, late (i 0)]
  rcases Nat.lt_or_ge (i 0).val 2 with h | h
  · rw [if_neg (by omega), if_neg (by omega), ← pay_g0 i x0 x1 w m v]
    pointwise [k0_pay5]
  · rw [if_pos h, if_pos h, ← sum_eight]
    pointwise [k0_pay5]

section
variable (m : (ℓ : Loc nD τ sig) → Buf (Elt Ideal) ℓ) (c : Dev nD)

/-- The gradient of either half, summed over the devices, and the other arguments. -/
def half (i : S1024x449.Idx) (s : Fin 8) : EReal :=
  if h : (i 0).val < 512 then m ((c : Thread nD τ).loc main_arg0) (ix3 s ⟨(i 0).val, h⟩ (i 1))
  else m ((c : Thread nD τ).loc main_arg1) (ix3 s ⟨(i 0).val - 512, by have := (i 0).isLt; simp at this; omega⟩ (i 1))
def G (i : S1024x449.Idx) : EReal := ∑ s : Fin 8, half m c i s
abbrev W : S1024x449.Idx → EReal := m ((c : Thread nD τ).loc main_arg2)
abbrev M : S1024x449.Idx → EReal := m ((c : Thread nD τ).loc main_arg3)
abbrev V2 : S1024x449.Idx → EReal := m ((c : Thread nD τ).loc main_arg4)

theorem idx : ∀ t : Fin cfg0.N, win0_0.index t = ![0, min t.val 1, 0] ∧ win0_1.index t = ![0, t.val - 2, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)
theorem point : ∀ t : Fin cfg0.N, (grid0.coords t 0).val = t.val := (by decide +kernel : ∀ t : Fin grid0.N, _)

/-- The row of the whole that row `k` of the block of point `t` is. -/
def row (t : Fin cfg0.N) (k : Fin 256) : Fin 1024 :=
  ⟨t.val * 256 + k.val, by have := lt_of_lt_of_eq t.isLt (show cfg0.N = 4 from N_0); omega⟩

theorem blk2 (t : Fin cfg0.N) (k : Fin 256) (l : Fin 449) : iblk m c 2 t (ix2 k l) = W m c (ix2 (row t k) l) := by
  blk_point [iblk, V, W, row, idx t]
theorem blk3 (t : Fin cfg0.N) (k : Fin 256) (l : Fin 449) : iblk m c 3 t (ix2 k l) = M m c (ix2 (row t k) l) := by
  blk_point [iblk, V, M, row, idx t]
theorem blk4 (t : Fin cfg0.N) (k : Fin 256) (l : Fin 449) : iblk m c 4 t (ix2 k l) = V2 m c (ix2 (row t k) l) := by
  blk_point [iblk, V, V2, row, idx t]
theorem sumd (t : Fin cfg0.N) (k : Fin 256) (l : Fin 449) :
    k0_pay7 (F := Ideal) (grid0.coords t) (iblk m c 0 t) (iblk m c 1 t) (iblk m c 2 t) (iblk m c 3 t) (iblk m c 4 t) (ix2 k l) = G m c (ix2 (row t k) l) := by
  rw [pay_g, point]
  have ht := lt_of_lt_of_eq t.isLt (show cfg0.N = 4 from N_0)
  have hr : (row t k).val = t.val * 256 + k.val := rfl
  split
  · refine Finset.sum_congr rfl fun s _ => ?_
    rw [half, dif_neg (by simp only [ix2_0]; omega)]
    have e : (win0_1.blk t).view.emb (ix3 s k l) = ix3 s ⟨(row t k).val - 512, by omega⟩ l := by blk_ext [row, idx t]
    blk_simp [iblk]; rw [e]; rfl
  · refine Finset.sum_congr rfl fun s _ => ?_
    rw [half, dif_pos (by simp only [ix2_0]; omega)]
    have e : (win0_0.blk t).view.emb (ix3 s k l) = ix3 s ⟨(row t k).val, by omega⟩ l := by blk_ext [row, idx t]
    blk_simp [iblk]; rw [e]; rfl

theorem final_g : (dats m 0 c).arrAt 5 (cfgs 0).N = G m c := by
  refine (dats m 0 c).arrAt_eq_of_covers 5 _ (by decide +kernel) fun t hf y => ?_
  idx_vars y
  have e : (win0_5.blk t).view.emb (ix2 y0 y1) = ix2 (row t y0) y1 := by blk_ext [row, idx t]
  blk_simp
  rw [e, after0_5]
  refine Eq.trans ?_ (sumd m c t y0 y1)
  frame_out [k0_pay7]
theorem final_d : (dats m 0 c).arrAt 6 (cfgs 0).N = fun i => upd (G m c i) (W m c i) (M m c i) (V2 m c i) := by
  refine (dats m 0 c).arrAt_eq_of_covers 6 _ (by decide +kernel) fun t hf y => ?_
  idx_vars y
  have e : (win0_6.blk t).view.emb (ix2 y0 y1) = ix2 (row t y0) y1 := by blk_ext [row, idx t]
  blk_simp
  rw [e, after0_6]
  frame_out
  rw [pay_d, sumd, blk2, blk3, blk4]
theorem final_m : (dats m 0 c).arrAt 7 (cfgs 0).N = fun i => mom (G m c i) (M m c i) := by
  refine (dats m 0 c).arrAt_eq_of_covers 7 _ (by decide +kernel) fun t hf y => ?_
  idx_vars y
  have e : (win0_7.blk t).view.emb (ix2 y0 y1) = ix2 (row t y0) y1 := by blk_ext [row, idx t]
  blk_simp
  rw [e, after0_7]
  frame_out
  rw [pay_m, sumd, blk3]
theorem final_v : (dats m 0 c).arrAt 8 (cfgs 0).N = fun i => vel (G m c i) (V2 m c i) := by
  refine (dats m 0 c).arrAt_eq_of_covers 8 _ (by decide +kernel) fun t hf y => ?_
  idx_vars y
  have e : (win0_8.blk t).view.emb (ix2 y0 y1) = ix2 (row t y0) y1 := by blk_ext [row, idx t]
  blk_simp
  rw [e, after0_8]
  frame_out
  rw [pay_v, sumd, blk4]
end

theorem ref_cat (x y : (⟨3, ![8, 512, 449]⟩ : Shape).Idx → EReal) (h : Shape.Concatenates [⟨3, ![8, 512, 449]⟩, ⟨3, ![8, 512, 449]⟩] ⟨3, ![8, 1024, 449]⟩ 1) :
    concatenate ⟨3, ![8, 1024, 449]⟩ 1 [⟨⟨3, ![8, 512, 449]⟩, x⟩, ⟨⟨3, ![8, 512, 449]⟩, y⟩] h
      = fun i => if h : (i 1).val < 512 then x (ix3 (i 0) ⟨(i 1).val, h⟩ (i 2))
        else y (ix3 (i 0) ⟨(i 1).val - 512, by have := (i 1).isLt; simp at this; omega⟩ (i 2)) := by
  funext i
  idx_vars i
  pointwise

theorem algebraic : Cert.algebraic_AdamInIdeal_AdamInRefIdeal
    (hAdamInIdeal := Cert.AdamInIdeal.Gen.facts) (hAdamInRefIdeal := Cert.AdamInRefIdeal.Gen.facts) := by
  intro m g m' g' _ hagree
  refine ⟨fun c => (Gen.dats m 0 c).arrAt 5 (cfgs 0).N, fun c => (Gen.dats m 0 c).arrAt 6 (cfgs 0).N,
    fun c => (Gen.dats m 0 c).arrAt 7 (cfgs 0).N, fun c => (Gen.dats m 0 c).arrAt 8 (cfgs 0).N, ?_, ?_⟩
  · exact (θ_run defs _ _).mono (fun r h c => ⟨(h.1 c).1 5, (h.1 c).1 6, (h.1 c).1 7, (h.1 c).1 8, h.2 c⟩)
      (θ_run_and (Gen.run_main m g) (Gen.unchanged m g))
  · refine (θ_run Cert.AdamInRefIdeal.defs _ _).mono (fun r h c => ?_) (Cert.AdamInRefIdeal.Value.run m' g')
    obtain ⟨r0, r1, r2, r3, kept⟩ := h c
    obtain ⟨a0, a1, a2, a3, a4⟩ := hagree c
    rw [ref_cat, a0, a1] at r0
    rw [ref_cat, a0, a1, a2, a3, a4] at r1
    rw [ref_cat, a0, a1, a3] at r2
    rw [ref_cat, a0, a1, a4] at r3
    refine ⟨r0.trans (Eq.trans ?_ (final_g m c).symm), r1.trans (Eq.trans ?_ (final_d m c).symm), r2.trans (Eq.trans ?_ (final_m m c).symm),
      r3.trans (Eq.trans ?_ (final_v m c).symm), kept⟩ <;> clear r0 r1 r2 r3 kept a0 a1 a2 a3 a4
    · funext i; idx_vars i; pointwise [G, half]
    · funext i; idx_vars i; pointwise [upd, mom, vel, G, half, W, M, V2]
    · funext i; idx_vars i; pointwise [mom, G, half, M]
    · funext i; idx_vars i; pointwise [vel, G, half, V2]

end Cert.AdamInIdeal.Update
end
end
-- ==== Proof.AdamDownValue.lean ====
module

public import proofs.«01_k».proof.Defs
public import proofs.«01_k».proof.Proof.AdamRows
public import proofs.«01_k».proof.Proof.Gen.AdamDownIdeal.Frame
public import proofs.«01_k».proof.Proof.Gen.AdamDownRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The optimiser's step of a weight with 352 rows per device, from the eight devices' gradients. -/

namespace Cert.AdamDownIdeal.Update

open Cert.AdamDownIdeal Cert.AdamDownIdeal.Gen Cert.Adam

theorem pay_m (g m) (i0 : Fin 176) (i1 : Fin 1024) : k0_pay1 (F := Ideal) g m (ix2 i0 i1) = mom (g (ix2 i0 i1)) (m (ix2 i0 i1)) := by
  pointwise [k0_pay1, mom]
theorem pay_v (g v) (i0 : Fin 176) (i1 : Fin 1024) : k0_pay2 (F := Ideal) g v (ix2 i0 i1) = vel (g (ix2 i0 i1)) (v (ix2 i0 i1)) := by
  pointwise [k0_pay2, vel]
theorem pay_d (g w m v) (i0 : Fin 176) (i1 : Fin 1024) : k0_pay3 (F := Ideal) g w m v (ix2 i0 i1)
    = upd (g (ix2 i0 i1)) (w (ix2 i0 i1)) (m (ix2 i0 i1)) (v (ix2 i0 i1)) := by
  pointwise [k0_pay3, pay_m, pay_v, upd]
theorem pay_g (x w m v) (i0 : Fin 176) (i1 : Fin 1024) : k0_pay5 (F := Ideal) x w m v (ix2 i0 i1) = ∑ s : Fin 8, x (ix3 s i0 i1) := by
  rw [← sum_eight]
  pointwise [k0_pay5, k0_pay4]

section
variable (m : (ℓ : Loc nD τ sig) → Buf (Elt Ideal) ℓ) (c : Dev nD)

/-- The gradient summed over the devices, and the other arguments. -/
def G (i : S352x1024.Idx) : EReal := ∑ s : Fin 8, m ((c : Thread nD τ).loc main_arg0) (ix3 s (i 0) (i 1))
abbrev W : S352x1024.Idx → EReal := m ((c : Thread nD τ).loc main_arg1)
abbrev M : S352x1024.Idx → EReal := m ((c : Thread nD τ).loc main_arg2)
abbrev V2 : S352x1024.Idx → EReal := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the whole that row `k` of the block of point `t` is. -/
def row (t : Fin cfg0.N) (k : Fin 176) : Fin 352 :=
  ⟨t.val * 176 + k.val, by have := lt_of_lt_of_eq t.isLt (show cfg0.N = 2 from N_0); omega⟩

theorem blk1 (t : Fin cfg0.N) (k : Fin 176) (l : Fin 1024) : iblk m c 1 t (ix2 k l) = W m c (ix2 (row t k) l) := by
  blk_point [iblk, V, W, row, idx t]
theorem blk2 (t : Fin cfg0.N) (k : Fin 176) (l : Fin 1024) : iblk m c 2 t (ix2 k l) = M m c (ix2 (row t k) l) := by
  blk_point [iblk, V, M, row, idx t]
theorem blk3 (t : Fin cfg0.N) (k : Fin 176) (l : Fin 1024) : iblk m c 3 t (ix2 k l) = V2 m c (ix2 (row t k) l) := by
  blk_point [iblk, V, V2, row, idx t]
theorem sumd (t : Fin cfg0.N) (k : Fin 176) (l : Fin 1024) :
    k0_pay5 (F := Ideal) (iblk m c 0 t) (iblk m c 1 t) (iblk m c 2 t) (iblk m c 3 t) (ix2 k l) = G m c (ix2 (row t k) l) := by
  rw [pay_g]
  refine Finset.sum_congr rfl fun s _ => ?_
  blk_point [iblk, V, row, idx t]

theorem final_g : (dats m 0 c).arrAt 4 (cfgs 0).N = G m c := by
  refine (dats m 0 c).arrAt_eq_of_covers 4 _ (by decide +kernel) fun t hf y => ?_
  idx_vars y
  have e : (win0_4.blk t).view.emb (ix2 y0 y1) = ix2 (row t y0) y1 := by blk_ext [row, idx t]
  blk_simp
  rw [e, after0_4]
  refine Eq.trans ?_ (sumd m c t y0 y1)
  frame_out [k0_pay5]
theorem final_d : (dats m 0 c).arrAt 5 (cfgs 0).N = fun i => upd (G m c i) (W m c i) (M m c i) (V2 m c i) := by
  refine (dats m 0 c).arrAt_eq_of_covers 5 _ (by decide +kernel) fun t hf y => ?_
  idx_vars y
  have e : (win0_5.blk t).view.emb (ix2 y0 y1) = ix2 (row t y0) y1 := by blk_ext [row, idx t]
  blk_simp
  rw [e, after0_5]
  frame_out
  rw [pay_d, sumd, blk1, blk2, blk3]
theorem final_m : (dats m 0 c).arrAt 6 (cfgs 0).N = fun i => mom (G m c i) (M m c i) := by
  refine (dats m 0 c).arrAt_eq_of_covers 6 _ (by decide +kernel) fun t hf y => ?_
  idx_vars y
  have e : (win0_6.blk t).view.emb (ix2 y0 y1) = ix2 (row t y0) y1 := by blk_ext [row, idx t]
  blk_simp
  rw [e, after0_6]
  frame_out
  rw [pay_m, sumd, blk2]
theorem final_v : (dats m 0 c).arrAt 7 (cfgs 0).N = fun i => vel (G m c i) (V2 m c i) := by
  refine (dats m 0 c).arrAt_eq_of_covers 7 _ (by decide +kernel) fun t hf y => ?_
  idx_vars y
  have e : (win0_7.blk t).view.emb (ix2 y0 y1) = ix2 (row t y0) y1 := by blk_ext [row, idx t]
  blk_simp
  rw [e, after0_7]
  frame_out
  rw [pay_v, sumd, blk3]
end

theorem algebraic : Cert.algebraic_AdamDownIdeal_AdamDownRefIdeal
    (hAdamDownIdeal := Cert.AdamDownIdeal.Gen.facts) (hAdamDownRefIdeal := Cert.AdamDownRefIdeal.Gen.facts) := by
  intro m g m' g' _ hagree
  refine ⟨fun c => (Gen.dats m 0 c).arrAt 4 (cfgs 0).N, fun c => (Gen.dats m 0 c).arrAt 5 (cfgs 0).N,
    fun c => (Gen.dats m 0 c).arrAt 6 (cfgs 0).N, fun c => (Gen.dats m 0 c).arrAt 7 (cfgs 0).N, ?_, ?_⟩
  · exact (θ_run defs _ _).mono (fun r h c => ⟨(h.1 c).1 4, (h.1 c).1 5, (h.1 c).1 6, (h.1 c).1 7, h.2 c⟩)
      (θ_run_and (Gen.run_main m g) (Gen.unchanged m g))
  · refine (θ_run Cert.AdamDownRefIdeal.defs _ _).mono (fun r h c => ?_) (Cert.AdamDownRefIdeal.Value.run m' g')
    obtain ⟨r0, r1, r2, r3, kept⟩ := h c
    obtain ⟨a0, a1, a2, a3⟩ := hagree c
    rw [a0] at r0
    rw [a0, a1, a2, a3] at r1
    rw [a0, a2] at r2
    rw [a0, a3] at r3
    refine ⟨r0.trans (Eq.trans ?_ (final_g m c).symm), r1.trans (Eq.trans ?_ (final_d m c).symm), r2.trans (Eq.trans ?_ (final_m m c).symm),
      r3.trans (Eq.trans ?_ (final_v m c).symm), kept⟩ <;> clear r0 r1 r2 r3 kept a0 a1 a2 a3
    · funext i; idx_vars i; pointwise [G]
    · funext i; idx_vars i; pointwise [upd, mom, vel, G, W, M, V2]
    · funext i; idx_vars i; pointwise [mom, G, M]
    · funext i; idx_vars i; pointwise [vel, G, V2]

end Cert.AdamDownIdeal.Update
end
end
-- ==== Proof.AdamOutValue.lean ====
module

public import proofs.«01_k».proof.Defs
public import proofs.«01_k».proof.Proof.AdamRows
public import proofs.«01_k».proof.Proof.Gen.AdamOutIdeal.Frame
public import proofs.«01_k».proof.Proof.Gen.AdamOutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The optimiser's step of a weight with 128 rows per device, from the eight devices' gradients. -/

namespace Cert.AdamOutIdeal.Update

open Cert.AdamOutIdeal Cert.AdamOutIdeal.Gen Cert.Adam

theorem pay_m (g m) (i0 : Fin 64) (i1 : Fin 1024) : k0_pay1 (F := Ideal) g m (ix2 i0 i1) = mom (g (ix2 i0 i1)) (m (ix2 i0 i1)) := by
  pointwise [k0_pay1, mom]
theorem pay_v (g v) (i0 : Fin 64) (i1 : Fin 1024) : k0_pay2 (F := Ideal) g v (ix2 i0 i1) = vel (g (ix2 i0 i1)) (v (ix2 i0 i1)) := by
  pointwise [k0_pay2, vel]
theorem pay_d (g w m v) (i0 : Fin 64) (i1 : Fin 1024) : k0_pay3 (F := Ideal) g w m v (ix2 i0 i1)
    = upd (g (ix2 i0 i1)) (w (ix2 i0 i1)) (m (ix2 i0 i1)) (v (ix2 i0 i1)) := by
  pointwise [k0_pay3, pay_m, pay_v, upd]
theorem pay_g (x w m v) (i0 : Fin 64) (i1 : Fin 1024) : k0_pay5 (F := Ideal) x w m v (ix2 i0 i1) = ∑ s : Fin 8, x (ix3 s i0 i1) := by
  rw [← sum_eight]
  pointwise [k0_pay5, k0_pay4]

section
variable (m : (ℓ : Loc nD τ sig) → Buf (Elt Ideal) ℓ) (c : Dev nD)

/-- The gradient summed over the devices, and the other arguments. -/
def G (i : S128x1024.Idx) : EReal := ∑ s : Fin 8, m ((c : Thread nD τ).loc main_arg0) (ix3 s (i 0) (i 1))
abbrev W : S128x1024.Idx → EReal := m ((c : Thread nD τ).loc main_arg1)
abbrev M : S128x1024.Idx → EReal := m ((c : Thread nD τ).loc main_arg2)
abbrev V2 : S128x1024.Idx → EReal := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the whole that row `k` of the block of point `t` is. -/
def row (t : Fin cfg0.N) (k : Fin 64) : Fin 128 :=
  ⟨t.val * 64 + k.val, by have := lt_of_lt_of_eq t.isLt (show cfg0.N = 2 from N_0); omega⟩

theorem blk1 (t : Fin cfg0.N) (k : Fin 64) (l : Fin 1024) : iblk m c 1 t (ix2 k l) = W m c (ix2 (row t k) l) := by
  blk_point [iblk, V, W, row, idx t]
theorem blk2 (t : Fin cfg0.N) (k : Fin 64) (l : Fin 1024) : iblk m c 2 t (ix2 k l) = M m c (ix2 (row t k) l) := by
  blk_point [iblk, V, M, row, idx t]
theorem blk3 (t : Fin cfg0.N) (k : Fin 64) (l : Fin 1024) : iblk m c 3 t (ix2 k l) = V2 m c (ix2 (row t k) l) := by
  blk_point [iblk, V, V2, row, idx t]
theorem sumd (t : Fin cfg0.N) (k : Fin 64) (l : Fin 1024) :
    k0_pay5 (F := Ideal) (iblk m c 0 t) (iblk m c 1 t) (iblk m c 2 t) (iblk m c 3 t) (ix2 k l) = G m c (ix2 (row t k) l) := by
  rw [pay_g]
  refine Finset.sum_congr rfl fun s _ => ?_
  blk_point [iblk, V, row, idx t]

theorem final_g : (dats m 0 c).arrAt 4 (cfgs 0).N = G m c := by
  refine (dats m 0 c).arrAt_eq_of_covers 4 _ (by decide +kernel) fun t hf y => ?_
  idx_vars y
  have e : (win0_4.blk t).view.emb (ix2 y0 y1) = ix2 (row t y0) y1 := by blk_ext [row, idx t]
  blk_simp
  rw [e, after0_4]
  refine Eq.trans ?_ (sumd m c t y0 y1)
  frame_out [k0_pay5]
theorem final_d : (dats m 0 c).arrAt 5 (cfgs 0).N = fun i => upd (G m c i) (W m c i) (M m c i) (V2 m c i) := by
  refine (dats m 0 c).arrAt_eq_of_covers 5 _ (by decide +kernel) fun t hf y => ?_
  idx_vars y
  have e : (win0_5.blk t).view.emb (ix2 y0 y1) = ix2 (row t y0) y1 := by blk_ext [row, idx t]
  blk_simp
  rw [e, after0_5]
  frame_out
  rw [pay_d, sumd, blk1, blk2, blk3]
theorem final_m : (dats m 0 c).arrAt 6 (cfgs 0).N = fun i => mom (G m c i) (M m c i) := by
  refine (dats m 0 c).arrAt_eq_of_covers 6 _ (by decide +kernel) fun t hf y => ?_
  idx_vars y
  have e : (win0_6.blk t).view.emb (ix2 y0 y1) = ix2 (row t y0) y1 := by blk_ext [row, idx t]
  blk_simp
  rw [e, after0_6]
  frame_out
  rw [pay_m, sumd, blk2]
theorem final_v : (dats m 0 c).arrAt 7 (cfgs 0).N = fun i => vel (G m c i) (V2 m c i) := by
  refine (dats m 0 c).arrAt_eq_of_covers 7 _ (by decide +kernel) fun t hf y => ?_
  idx_vars y
  have e : (win0_7.blk t).view.emb (ix2 y0 y1) = ix2 (row t y0) y1 := by blk_ext [row, idx t]
  blk_simp
  rw [e, after0_7]
  frame_out
  rw [pay_v, sumd, blk3]
end

theorem algebraic : Cert.algebraic_AdamOutIdeal_AdamOutRefIdeal
    (hAdamOutIdeal := Cert.AdamOutIdeal.Gen.facts) (hAdamOutRefIdeal := Cert.AdamOutRefIdeal.Gen.facts) := by
  intro m g m' g' _ hagree
  refine ⟨fun c => (Gen.dats m 0 c).arrAt 4 (cfgs 0).N, fun c => (Gen.dats m 0 c).arrAt 5 (cfgs 0).N,
    fun c => (Gen.dats m 0 c).arrAt 6 (cfgs 0).N, fun c => (Gen.dats m 0 c).arrAt 7 (cfgs 0).N, ?_, ?_⟩
  · exact (θ_run defs _ _).mono (fun r h c => ⟨(h.1 c).1 4, (h.1 c).1 5, (h.1 c).1 6, (h.1 c).1 7, h.2 c⟩)
      (θ_run_and (Gen.run_main m g) (Gen.unchanged m g))
  · refine (θ_run Cert.AdamOutRefIdeal.defs _ _).mono (fun r h c => ?_) (Cert.AdamOutRefIdeal.Value.run m' g')
    obtain ⟨r0, r1, r2, r3, kept⟩ := h c
    obtain ⟨a0, a1, a2, a3⟩ := hagree c
    rw [a0] at r0
    rw [a0, a1, a2, a3] at r1
    rw [a0, a2] at r2
    rw [a0, a3] at r3
    refine ⟨r0.trans (Eq.trans ?_ (final_g m c).symm), r1.trans (Eq.trans ?_ (final_d m c).symm), r2.trans (Eq.trans ?_ (final_m m c).symm),
      r3.trans (Eq.trans ?_ (final_v m c).symm), kept⟩ <;> clear r0 r1 r2 r3 kept a0 a1 a2 a3
    · funext i; idx_vars i; pointwise [G]
    · funext i; idx_vars i; pointwise [upd, mom, vel, G, W, M, V2]
    · funext i; idx_vars i; pointwise [mom, G, M]
    · funext i; idx_vars i; pointwise [vel, G, V2]

end Cert.AdamOutIdeal.Update
end
end
-- ==== Proof.AdamProjValue.lean ====
module

public import proofs.«01_k».proof.Defs
public import proofs.«01_k».proof.Proof.AdamRows
public import proofs.«01_k».proof.Proof.Gen.AdamProjIdeal.Frame
public import proofs.«01_k».proof.Proof.Gen.AdamProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The optimiser's step of a weight with 256 rows per device, from the eight devices' gradients. -/

namespace Cert.AdamProjIdeal.Update

open Cert.AdamProjIdeal Cert.AdamProjIdeal.Gen Cert.Adam

theorem pay_m (g m) (i0 : Fin 256) (i1 : Fin 128) : k0_pay1 (F := Ideal) g m (ix2 i0 i1) = mom (g (ix2 i0 i1)) (m (ix2 i0 i1)) := by
  pointwise [k0_pay1, mom]
theorem pay_v (g v) (i0 : Fin 256) (i1 : Fin 128) : k0_pay2 (F := Ideal) g v (ix2 i0 i1) = vel (g (ix2 i0 i1)) (v (ix2 i0 i1)) := by
  pointwise [k0_pay2, vel]
theorem pay_d (g w m v) (i0 : Fin 256) (i1 : Fin 128) : k0_pay3 (F := Ideal) g w m v (ix2 i0 i1)
    = upd (g (ix2 i0 i1)) (w (ix2 i0 i1)) (m (ix2 i0 i1)) (v (ix2 i0 i1)) := by
  pointwise [k0_pay3, pay_m, pay_v, upd]
theorem pay_g (x w m v) (i0 : Fin 256) (i1 : Fin 128) : k0_pay5 (F := Ideal) x w m v (ix2 i0 i1) = ∑ s : Fin 8, x (ix3 s i0 i1) := by
  rw [← sum_eight]
  pointwise [k0_pay5, k0_pay4]

section
variable (m : (ℓ : Loc nD τ sig) → Buf (Elt Ideal) ℓ) (c : Dev nD)

/-- The gradient summed over the devices, and the other arguments. -/
def G (i : S256x128.Idx) : EReal := ∑ s : Fin 8, m ((c : Thread nD τ).loc main_arg0) (ix3 s (i 0) (i 1))
abbrev W : S256x128.Idx → EReal := m ((c : Thread nD τ).loc main_arg1)
abbrev M : S256x128.Idx → EReal := m ((c : Thread nD τ).loc main_arg2)
abbrev V2 : S256x128.Idx → EReal := m ((c : Thread nD τ).loc main_arg3)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the whole that row `k` of the block of point `t` is. -/
def row (t : Fin cfg0.N) (k : Fin 256) : Fin 256 :=
  ⟨t.val * 256 + k.val, by have := lt_of_lt_of_eq t.isLt (show cfg0.N = 1 from N_0); omega⟩

theorem blk1 (t : Fin cfg0.N) (k : Fin 256) (l : Fin 128) : iblk m c 1 t (ix2 k l) = W m c (ix2 (row t k) l) := by
  blk_point [iblk, V, W, row, idx t]
theorem blk2 (t : Fin cfg0.N) (k : Fin 256) (l : Fin 128) : iblk m c 2 t (ix2 k l) = M m c (ix2 (row t k) l) := by
  blk_point [iblk, V, M, row, idx t]
theorem blk3 (t : Fin cfg0.N) (k : Fin 256) (l : Fin 128) : iblk m c 3 t (ix2 k l) = V2 m c (ix2 (row t k) l) := by
  blk_point [iblk, V, V2, row, idx t]
theorem sumd (t : Fin cfg0.N) (k : Fin 256) (l : Fin 128) :
    k0_pay5 (F := Ideal) (iblk m c 0 t) (iblk m c 1 t) (iblk m c 2 t) (iblk m c 3 t) (ix2 k l) = G m c (ix2 (row t k) l) := by
  rw [pay_g]
  refine Finset.sum_congr rfl fun s _ => ?_
  blk_point [iblk, V, row, idx t]

theorem final_g : (dats m 0 c).arrAt 4 (cfgs 0).N = G m c := by
  refine (dats m 0 c).arrAt_eq_of_covers 4 _ (by decide +kernel) fun t hf y => ?_
  idx_vars y
  have e : (win0_4.blk t).view.emb (ix2 y0 y1) = ix2 (row t y0) y1 := by blk_ext [row, idx t]
  blk_simp
  rw [e, after0_4]
  refine Eq.trans ?_ (sumd m c t y0 y1)
  frame_out [k0_pay5]
theorem final_d : (dats m 0 c).arrAt 5 (cfgs 0).N = fun i => upd (G m c i) (W m c i) (M m c i) (V2 m c i) := by
  refine (dats m 0 c).arrAt_eq_of_covers 5 _ (by decide +kernel) fun t hf y => ?_
  idx_vars y
  have e : (win0_5.blk t).view.emb (ix2 y0 y1) = ix2 (row t y0) y1 := by blk_ext [row, idx t]
  blk_simp
  rw [e, after0_5]
  frame_out
  rw [pay_d, sumd, blk1, blk2, blk3]
theorem final_m : (dats m 0 c).arrAt 6 (cfgs 0).N = fun i => mom (G m c i) (M m c i) := by
  refine (dats m 0 c).arrAt_eq_of_covers 6 _ (by decide +kernel) fun t hf y => ?_
  idx_vars y
  have e : (win0_6.blk t).view.emb (ix2 y0 y1) = ix2 (row t y0) y1 := by blk_ext [row, idx t]
  blk_simp
  rw [e, after0_6]
  frame_out
  rw [pay_m, sumd, blk2]
theorem final_v : (dats m 0 c).arrAt 7 (cfgs 0).N = fun i => vel (G m c i) (V2 m c i) := by
  refine (dats m 0 c).arrAt_eq_of_covers 7 _ (by decide +kernel) fun t hf y => ?_
  idx_vars y
  have e : (win0_7.blk t).view.emb (ix2 y0 y1) = ix2 (row t y0) y1 := by blk_ext [row, idx t]
  blk_simp
  rw [e, after0_7]
  frame_out
  rw [pay_v, sumd, blk3]
end

theorem algebraic : Cert.algebraic_AdamProjIdeal_AdamProjRefIdeal
    (hAdamProjIdeal := Cert.AdamProjIdeal.Gen.facts) (hAdamProjRefIdeal := Cert.AdamProjRefIdeal.Gen.facts) := by
  intro m g m' g' _ hagree
  refine ⟨fun c => (Gen.dats m 0 c).arrAt 4 (cfgs 0).N, fun c => (Gen.dats m 0 c).arrAt 5 (cfgs 0).N,
    fun c => (Gen.dats m 0 c).arrAt 6 (cfgs 0).N, fun c => (Gen.dats m 0 c).arrAt 7 (cfgs 0).N, ?_, ?_⟩
  · exact (θ_run defs _ _).mono (fun r h c => ⟨(h.1 c).1 4, (h.1 c).1 5, (h.1 c).1 6, (h.1 c).1 7, h.2 c⟩)
      (θ_run_and (Gen.run_main m g) (Gen.unchanged m g))
  · refine (θ_run Cert.AdamProjRefIdeal.defs _ _).mono (fun r h c => ?_) (Cert.AdamProjRefIdeal.Value.run m' g')
    obtain ⟨r0, r1, r2, r3, kept⟩ := h c
    obtain ⟨a0, a1, a2, a3⟩ := hagree c
    rw [a0] at r0
    rw [a0, a1, a2, a3] at r1
    rw [a0, a2] at r2
    rw [a0, a3] at r3
    refine ⟨r0.trans (Eq.trans ?_ (final_g m c).symm), r1.trans (Eq.trans ?_ (final_d m c).symm), r2.trans (Eq.trans ?_ (final_m m c).symm),
      r3.trans (Eq.trans ?_ (final_v m c).symm), kept⟩ <;> clear r0 r1 r2 r3 kept a0 a1 a2 a3
    · funext i; idx_vars i; pointwise [G]
    · funext i; idx_vars i; pointwise [upd, mom, vel, G, W, M, V2]
    · funext i; idx_vars i; pointwise [mom, G, M]
    · funext i; idx_vars i; pointwise [vel, G, V2]

end Cert.AdamProjIdeal.Update
end
end
-- ==== Proof.SmallStep.lean ====
/- The optimiser's step of one small tensor, at any shape and any values: the sum of the eight devices' partial gradients, the
   two moments and the update. -/
module

public import Idealize.ShloMosaic.Lib.Pipeline.FrameBody

@[expose] public section

noncomputable section

namespace Cert.Small

open Idealize.ShloMosaic

variable {F : FTy → Type} [FloatOps F] {s u : Shape}

/-- The sum of eight slabs, in the devices' order. -/
def total (h : u.ShapeCasts s) (a0 a1 a2 a3 a4 a5 a6 a7 : Vec F u .f32) : FVec F s .f32 :=
  addf (addf (addf (addf (addf (addf (addf (shapeCast s a0 h) (shapeCast s a1 h)) (shapeCast s a2 h)) (shapeCast s a3 h))
    (shapeCast s a4 h)) (shapeCast s a5 h)) (shapeCast s a6 h)) (shapeCast s a7 h)

/-- The first moment after the step. -/
def mean (g m : FVec F s .f32) : FVec F s .f32 :=
  addf (mulf (broadcast s (Scalar.ofBits .f32 0x3F666666#32)) m) (mulf (broadcast s (Scalar.ofBits .f32 0x3DCCCCCD#32)) g)

/-- The second moment after the step. -/
def square (g v : FVec F s .f32) : FVec F s .f32 :=
  addf (mulf (broadcast s (Scalar.ofBits .f32 0x3F7FBE77#32)) v) (mulf (broadcast s (Scalar.ofBits .f32 0x3A83126F#32)) (mulf g g))

/-- The update of the weight. -/
def update (g w m v : FVec F s .f32) : FVec F s .f32 :=
  mulf (broadcast s (Scalar.ofBits .f32 0xBA83126F#32))
    (addf (divf (divf (mean g m) (broadcast s (Scalar.ofBits .f32 0x3F26BD02#32)))
        (addf (sqrt (divf (square g v) (broadcast s (Scalar.ofBits .f32 0x3C231ACC#32)))) (broadcast s (Scalar.ofBits .f32 0x322BCC77#32))))
      (mulf (broadcast s (Scalar.ofBits .f32 0x3C23D70A#32)) w))

end Cert.Small
-- ==== Proof.SmallIdealFrame.lean ====
/- The frame of the optimiser's step of the small tensors (`AdamSmallIdeal`): from any memory the call terminates and leaves its
   45 arguments as they were; each of its 45 results is what the body computes from the whole arguments. -/
module

public import proofs.«01_k».proof.Proof.Gen.AdamSmallIdeal.Launch
public import proofs.«01_k».proof.Proof.Gen.AdamSmallIdeal.Skeleton
public import proofs.«01_k».proof.Proof.Gen.AdamSmallIdeal.Points
public import proofs.«01_k».proof.Proof.SmallStep
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamSmallIdeal.Gen
open Cert.Small (total mean square update)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and their blocks -/

/-- The buffers when the region is entered: as launched. -/
abbrev V (c : Dev nD) (b : Ref sig .tc) : Buf (Elt F) ((c : Thread nD τ).loc b) := m ((c : Thread nD τ).loc b)

set_option maxHeartbeats 800000 in
/-- The program up to its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes: the eight slabs of a gradient, a whole tensor -/

abbrev r0_0 : Rect S8x1x1024 := Rect.unit (s := S8x1x1024) ![0, 0, 0] S1x1x1024.size inb_S8x1x1024_S1x1x1024_0_0_0
abbrev r0_1 : Rect S8x1x1024 := Rect.unit (s := S8x1x1024) ![1, 0, 0] S1x1x1024.size inb_S8x1x1024_S1x1x1024_1_0_0
abbrev r0_2 : Rect S8x1x1024 := Rect.unit (s := S8x1x1024) ![2, 0, 0] S1x1x1024.size inb_S8x1x1024_S1x1x1024_2_0_0
abbrev r0_3 : Rect S8x1x1024 := Rect.unit (s := S8x1x1024) ![3, 0, 0] S1x1x1024.size inb_S8x1x1024_S1x1x1024_3_0_0
abbrev r0_4 : Rect S8x1x1024 := Rect.unit (s := S8x1x1024) ![4, 0, 0] S1x1x1024.size inb_S8x1x1024_S1x1x1024_4_0_0
abbrev r0_5 : Rect S8x1x1024 := Rect.unit (s := S8x1x1024) ![5, 0, 0] S1x1x1024.size inb_S8x1x1024_S1x1x1024_5_0_0
abbrev r0_6 : Rect S8x1x1024 := Rect.unit (s := S8x1x1024) ![6, 0, 0] S1x1x1024.size inb_S8x1x1024_S1x1x1024_6_0_0
abbrev r0_7 : Rect S8x1x1024 := Rect.unit (s := S8x1x1024) ![7, 0, 0] S1x1x1024.size inb_S8x1x1024_S1x1x1024_7_0_0
abbrev r0_8 : Rect S1x1 := Rect.unit (s := S1x1) ![0, 0] S1x1.size inb_S1x1_S1x1_0_0
abbrev r0_9 : Rect S8x1x3592 := Rect.unit (s := S8x1x3592) ![0, 0, 0] S1x1x3592.size inb_S8x1x3592_S1x1x3592_0_0_0
abbrev r0_10 : Rect S8x1x3592 := Rect.unit (s := S8x1x3592) ![1, 0, 0] S1x1x3592.size inb_S8x1x3592_S1x1x3592_1_0_0
abbrev r0_11 : Rect S8x1x3592 := Rect.unit (s := S8x1x3592) ![2, 0, 0] S1x1x3592.size inb_S8x1x3592_S1x1x3592_2_0_0
abbrev r0_12 : Rect S8x1x3592 := Rect.unit (s := S8x1x3592) ![3, 0, 0] S1x1x3592.size inb_S8x1x3592_S1x1x3592_3_0_0
abbrev r0_13 : Rect S8x1x3592 := Rect.unit (s := S8x1x3592) ![4, 0, 0] S1x1x3592.size inb_S8x1x3592_S1x1x3592_4_0_0
abbrev r0_14 : Rect S8x1x3592 := Rect.unit (s := S8x1x3592) ![5, 0, 0] S1x1x3592.size inb_S8x1x3592_S1x1x3592_5_0_0
abbrev r0_15 : Rect S8x1x3592 := Rect.unit (s := S8x1x3592) ![6, 0, 0] S1x1x3592.size inb_S8x1x3592_S1x1x3592_6_0_0
abbrev r0_16 : Rect S8x1x3592 := Rect.unit (s := S8x1x3592) ![7, 0, 0] S1x1x3592.size inb_S8x1x3592_S1x1x3592_7_0_0
abbrev r0_17 : Rect S1x3592 := Rect.unit (s := S1x3592) ![0, 0] S1x3592.size inb_S1x3592_S1x3592_0_0
abbrev r0_18 : Rect S8x2x512 := Rect.unit (s := S8x2x512) ![0, 0, 0] S1x2x512.size inb_S8x2x512_S1x2x512_0_0_0
abbrev r0_19 : Rect S8x2x512 := Rect.unit (s := S8x2x512) ![1, 0, 0] S1x2x512.size inb_S8x2x512_S1x2x512_1_0_0
abbrev r0_20 : Rect S8x2x512 := Rect.unit (s := S8x2x512) ![2, 0, 0] S1x2x512.size inb_S8x2x512_S1x2x512_2_0_0
abbrev r0_21 : Rect S8x2x512 := Rect.unit (s := S8x2x512) ![3, 0, 0] S1x2x512.size inb_S8x2x512_S1x2x512_3_0_0
abbrev r0_22 : Rect S8x2x512 := Rect.unit (s := S8x2x512) ![4, 0, 0] S1x2x512.size inb_S8x2x512_S1x2x512_4_0_0
abbrev r0_23 : Rect S8x2x512 := Rect.unit (s := S8x2x512) ![5, 0, 0] S1x2x512.size inb_S8x2x512_S1x2x512_5_0_0
abbrev r0_24 : Rect S8x2x512 := Rect.unit (s := S8x2x512) ![6, 0, 0] S1x2x512.size inb_S8x2x512_S1x2x512_6_0_0
abbrev r0_25 : Rect S8x2x512 := Rect.unit (s := S8x2x512) ![7, 0, 0] S1x2x512.size inb_S8x2x512_S1x2x512_7_0_0
abbrev r0_26 : Rect S2x512 := Rect.unit (s := S2x512) ![0, 0] S2x512.size inb_S2x512_S2x512_0_0
abbrev r0_27 : Rect S8x4x64 := Rect.unit (s := S8x4x64) ![0, 0, 0] S1x4x64.size inb_S8x4x64_S1x4x64_0_0_0
abbrev r0_28 : Rect S8x4x64 := Rect.unit (s := S8x4x64) ![1, 0, 0] S1x4x64.size inb_S8x4x64_S1x4x64_1_0_0
abbrev r0_29 : Rect S8x4x64 := Rect.unit (s := S8x4x64) ![2, 0, 0] S1x4x64.size inb_S8x4x64_S1x4x64_2_0_0
abbrev r0_30 : Rect S8x4x64 := Rect.unit (s := S8x4x64) ![3, 0, 0] S1x4x64.size inb_S8x4x64_S1x4x64_3_0_0
abbrev r0_31 : Rect S8x4x64 := Rect.unit (s := S8x4x64) ![4, 0, 0] S1x4x64.size inb_S8x4x64_S1x4x64_4_0_0
abbrev r0_32 : Rect S8x4x64 := Rect.unit (s := S8x4x64) ![5, 0, 0] S1x4x64.size inb_S8x4x64_S1x4x64_5_0_0
abbrev r0_33 : Rect S8x4x64 := Rect.unit (s := S8x4x64) ![6, 0, 0] S1x4x64.size inb_S8x4x64_S1x4x64_6_0_0
abbrev r0_34 : Rect S8x4x64 := Rect.unit (s := S8x4x64) ![7, 0, 0] S1x4x64.size inb_S8x4x64_S1x4x64_7_0_0
abbrev r0_35 : Rect S4x64 := Rect.unit (s := S4x64) ![0, 0] S4x64.size inb_S4x64_S4x64_0_0
abbrev r0_36 : Rect S8x1x512 := Rect.unit (s := S8x1x512) ![0, 0, 0] S1x1x512.size inb_S8x1x512_S1x1x512_0_0_0
abbrev r0_37 : Rect S8x1x512 := Rect.unit (s := S8x1x512) ![1, 0, 0] S1x1x512.size inb_S8x1x512_S1x1x512_1_0_0
abbrev r0_38 : Rect S8x1x512 := Rect.unit (s := S8x1x512) ![2, 0, 0] S1x1x512.size inb_S8x1x512_S1x1x512_2_0_0
abbrev r0_39 : Rect S8x1x512 := Rect.unit (s := S8x1x512) ![3, 0, 0] S1x1x512.size inb_S8x1x512_S1x1x512_3_0_0
abbrev r0_40 : Rect S8x1x512 := Rect.unit (s := S8x1x512) ![4, 0, 0] S1x1x512.size inb_S8x1x512_S1x1x512_4_0_0
abbrev r0_41 : Rect S8x1x512 := Rect.unit (s := S8x1x512) ![5, 0, 0] S1x1x512.size inb_S8x1x512_S1x1x512_5_0_0
abbrev r0_42 : Rect S8x1x512 := Rect.unit (s := S8x1x512) ![6, 0, 0] S1x1x512.size inb_S8x1x512_S1x1x512_6_0_0
abbrev r0_43 : Rect S8x1x512 := Rect.unit (s := S8x1x512) ![7, 0, 0] S1x1x512.size inb_S8x1x512_S1x1x512_7_0_0
abbrev r0_44 : Rect S1x512 := Rect.unit (s := S1x512) ![0, 0] S1x512.size inb_S1x512_S1x512_0_0
abbrev r0_45 : Rect S1x1024 := Rect.unit (s := S1x1024) ![0, 0] S1x1024.size inb_S1x1024_S1x1024_0_0

/-! ## What the body leaves in each result -/

section outs

variable (x0 : Vec F S8x1x1024 .f32) (x1 : Vec F S8x1x3592 .f32) (x2 : Vec F S8x2x512 .f32) (x3 : Vec F S8x4x64 .f32) (x4 : Vec F S8x1x512 .f32) (x5 : Vec F S8x1x512 .f32) (x6 : Vec F S8x1x512 .f32) (x7 : Vec F S8x1x1024 .f32) (x8 : Vec F S8x1x1024 .f32) (x9 : Vec F S8x1x1024 .f32) (x10 : Vec F S8x1x1024 .f32) (x11 : Vec F S8x1x1024 .f32) (x12 : Vec F S1x3592 .f32) (x13 : Vec F S2x512 .f32) (x14 : Vec F S4x64 .f32) (x15 : Vec F S1x512 .f32) (x16 : Vec F S1x512 .f32) (x17 : Vec F S1x512 .f32) (x18 : Vec F S1x1024 .f32) (x19 : Vec F S1x1024 .f32) (x20 : Vec F S1x1024 .f32) (x21 : Vec F S1x1024 .f32) (x22 : Vec F S1x1024 .f32) (x23 : Vec F S1x3592 .f32) (x24 : Vec F S2x512 .f32) (x25 : Vec F S4x64 .f32) (x26 : Vec F S1x512 .f32) (x27 : Vec F S1x512 .f32) (x28 : Vec F S1x512 .f32) (x29 : Vec F S1x1024 .f32) (x30 : Vec F S1x1024 .f32) (x31 : Vec F S1x1024 .f32) (x32 : Vec F S1x1024 .f32) (x33 : Vec F S1x1024 .f32) (x34 : Vec F S1x3592 .f32) (x35 : Vec F S2x512 .f32) (x36 : Vec F S4x64 .f32) (x37 : Vec F S1x512 .f32) (x38 : Vec F S1x512 .f32) (x39 : Vec F S1x512 .f32) (x40 : Vec F S1x1024 .f32) (x41 : Vec F S1x1024 .f32) (x42 : Vec F S1x1024 .f32) (x43 : Vec F S1x1024 .f32) (x44 : Vec F S1x1024 .f32)

/-- The loss. -/
def out0_45 : Vec F S1x1 .f32 :=
  View.canon [⟨r0_8, k0_pay2 (View.ld x0 r0_0) (View.ld x0 r0_1) (View.ld x0 r0_2) (View.ld x0 r0_3) (View.ld x0 r0_4) (View.ld x0 r0_5) (View.ld x0 r0_6) (View.ld x0 r0_7)⟩]
/-- The summed gradient of tensor 0. -/
def g0 : FVec F S1x3592 .f32 :=
  total shapeCasts_S1x1x3592_S1x3592 (View.ld x1 r0_9) (View.ld x1 r0_10) (View.ld x1 r0_11) (View.ld x1 r0_12) (View.ld x1 r0_13) (View.ld x1 r0_14) (View.ld x1 r0_15) (View.ld x1 r0_16)
/-- The summed gradient of tensor 1. -/
def g1 : FVec F S2x512 .f32 :=
  total shapeCasts_S1x2x512_S2x512 (View.ld x2 r0_18) (View.ld x2 r0_19) (View.ld x2 r0_20) (View.ld x2 r0_21) (View.ld x2 r0_22) (View.ld x2 r0_23) (View.ld x2 r0_24) (View.ld x2 r0_25)
/-- The summed gradient of tensor 2. -/
def g2 : FVec F S4x64 .f32 :=
  total shapeCasts_S1x4x64_S4x64 (View.ld x3 r0_27) (View.ld x3 r0_28) (View.ld x3 r0_29) (View.ld x3 r0_30) (View.ld x3 r0_31) (View.ld x3 r0_32) (View.ld x3 r0_33) (View.ld x3 r0_34)
/-- The summed gradient of tensor 3. -/
def g3 : FVec F S1x512 .f32 :=
  total shapeCasts_S1x1x512_S1x512 (View.ld x4 r0_36) (View.ld x4 r0_37) (View.ld x4 r0_38) (View.ld x4 r0_39) (View.ld x4 r0_40) (View.ld x4 r0_41) (View.ld x4 r0_42) (View.ld x4 r0_43)
/-- The summed gradient of tensor 4. -/
def g4 : FVec F S1x512 .f32 :=
  total shapeCasts_S1x1x512_S1x512 (View.ld x5 r0_36) (View.ld x5 r0_37) (View.ld x5 r0_38) (View.ld x5 r0_39) (View.ld x5 r0_40) (View.ld x5 r0_41) (View.ld x5 r0_42) (View.ld x5 r0_43)
/-- The summed gradient of tensor 5. -/
def g5 : FVec F S1x512 .f32 :=
  total shapeCasts_S1x1x512_S1x512 (View.ld x6 r0_36) (View.ld x6 r0_37) (View.ld x6 r0_38) (View.ld x6 r0_39) (View.ld x6 r0_40) (View.ld x6 r0_41) (View.ld x6 r0_42) (View.ld x6 r0_43)
/-- The summed gradient of tensor 6. -/
def g6 : FVec F S1x1024 .f32 :=
  total shapeCasts_S1x1x1024_S1x1024 (View.ld x7 r0_0) (View.ld x7 r0_1) (View.ld x7 r0_2) (View.ld x7 r0_3) (View.ld x7 r0_4) (View.ld x7 r0_5) (View.ld x7 r0_6) (View.ld x7 r0_7)
/-- The summed gradient of tensor 7. -/
def g7 : FVec F S1x1024 .f32 :=
  total shapeCasts_S1x1x1024_S1x1024 (View.ld x8 r0_0) (View.ld x8 r0_1) (View.ld x8 r0_2) (View.ld x8 r0_3) (View.ld x8 r0_4) (View.ld x8 r0_5) (View.ld x8 r0_6) (View.ld x8 r0_7)
/-- The summed gradient of tensor 8. -/
def g8 : FVec F S1x1024 .f32 :=
  total shapeCasts_S1x1x1024_S1x1024 (View.ld x9 r0_0) (View.ld x9 r0_1) (View.ld x9 r0_2) (View.ld x9 r0_3) (View.ld x9 r0_4) (View.ld x9 r0_5) (View.ld x9 r0_6) (View.ld x9 r0_7)
/-- The summed gradient of tensor 9. -/
def g9 : FVec F S1x1024 .f32 :=
  total shapeCasts_S1x1x1024_S1x1024 (View.ld x10 r0_0) (View.ld x10 r0_1) (View.ld x10 r0_2) (View.ld x10 r0_3) (View.ld x10 r0_4) (View.ld x10 r0_5) (View.ld x10 r0_6) (View.ld x10 r0_7)
/-- The summed gradient of tensor 10. -/
def g10 : FVec F S1x1024 .f32 :=
  total shapeCasts_S1x1x1024_S1x1024 (View.ld x11 r0_0) (View.ld x11 r0_1) (View.ld x11 r0_2) (View.ld x11 r0_3) (View.ld x11 r0_4) (View.ld x11 r0_5) (View.ld x11 r0_6) (View.ld x11 r0_7)
def out0_46 : Vec F S1x3592 .f32 := View.canon [⟨r0_17, g0 x1⟩]
def out0_47 : Vec F S2x512 .f32 := View.canon [⟨r0_26, g1 x2⟩]
def out0_48 : Vec F S4x64 .f32 := View.canon [⟨r0_35, g2 x3⟩]
def out0_49 : Vec F S1x512 .f32 := View.canon [⟨r0_44, g3 x4⟩]
def out0_50 : Vec F S1x512 .f32 := View.canon [⟨r0_44, g4 x5⟩]
def out0_51 : Vec F S1x512 .f32 := View.canon [⟨r0_44, g5 x6⟩]
def out0_52 : Vec F S1x1024 .f32 := View.canon [⟨r0_45, g6 x7⟩]
def out0_53 : Vec F S1x1024 .f32 := View.canon [⟨r0_45, g7 x8⟩]
def out0_54 : Vec F S1x1024 .f32 := View.canon [⟨r0_45, g8 x9⟩]
def out0_55 : Vec F S1x1024 .f32 := View.canon [⟨r0_45, g9 x10⟩]
def out0_56 : Vec F S1x1024 .f32 := View.canon [⟨r0_45, g10 x11⟩]
def out0_57 : Vec F S1x3592 .f32 := View.canon [⟨r0_17, update (g0 x1) (View.ld x12 r0_17) (View.ld x23 r0_17) (View.ld x34 r0_17)⟩]
def out0_58 : Vec F S2x512 .f32 := View.canon [⟨r0_26, update (g1 x2) (View.ld x13 r0_26) (View.ld x24 r0_26) (View.ld x35 r0_26)⟩]
def out0_59 : Vec F S4x64 .f32 := View.canon [⟨r0_35, update (g2 x3) (View.ld x14 r0_35) (View.ld x25 r0_35) (View.ld x36 r0_35)⟩]
def out0_60 : Vec F S1x512 .f32 := View.canon [⟨r0_44, update (g3 x4) (View.ld x15 r0_44) (View.ld x26 r0_44) (View.ld x37 r0_44)⟩]
def out0_61 : Vec F S1x512 .f32 := View.canon [⟨r0_44, update (g4 x5) (View.ld x16 r0_44) (View.ld x27 r0_44) (View.ld x38 r0_44)⟩]
def out0_62 : Vec F S1x512 .f32 := View.canon [⟨r0_44, update (g5 x6) (View.ld x17 r0_44) (View.ld x28 r0_44) (View.ld x39 r0_44)⟩]
def out0_63 : Vec F S1x1024 .f32 := View.canon [⟨r0_45, update (g6 x7) (View.ld x18 r0_45) (View.ld x29 r0_45) (View.ld x40 r0_45)⟩]
def out0_64 : Vec F S1x1024 .f32 := View.canon [⟨r0_45, update (g7 x8) (View.ld x19 r0_45) (View.ld x30 r0_45) (View.ld x41 r0_45)⟩]
def out0_65 : Vec F S1x1024 .f32 := View.canon [⟨r0_45, update (g8 x9) (View.ld x20 r0_45) (View.ld x31 r0_45) (View.ld x42 r0_45)⟩]
def out0_66 : Vec F S1x1024 .f32 := View.canon [⟨r0_45, update (g9 x10) (View.ld x21 r0_45) (View.ld x32 r0_45) (View.ld x43 r0_45)⟩]
def out0_67 : Vec F S1x1024 .f32 := View.canon [⟨r0_45, update (g10 x11) (View.ld x22 r0_45) (View.ld x33 r0_45) (View.ld x44 r0_45)⟩]
def out0_68 : Vec F S1x3592 .f32 := View.canon [⟨r0_17, mean (g0 x1) (View.ld x23 r0_17)⟩]
def out0_69 : Vec F S2x512 .f32 := View.canon [⟨r0_26, mean (g1 x2) (View.ld x24 r0_26)⟩]
def out0_70 : Vec F S4x64 .f32 := View.canon [⟨r0_35, mean (g2 x3) (View.ld x25 r0_35)⟩]
def out0_71 : Vec F S1x512 .f32 := View.canon [⟨r0_44, mean (g3 x4) (View.ld x26 r0_44)⟩]
def out0_72 : Vec F S1x512 .f32 := View.canon [⟨r0_44, mean (g4 x5) (View.ld x27 r0_44)⟩]
def out0_73 : Vec F S1x512 .f32 := View.canon [⟨r0_44, mean (g5 x6) (View.ld x28 r0_44)⟩]
def out0_74 : Vec F S1x1024 .f32 := View.canon [⟨r0_45, mean (g6 x7) (View.ld x29 r0_45)⟩]
def out0_75 : Vec F S1x1024 .f32 := View.canon [⟨r0_45, mean (g7 x8) (View.ld x30 r0_45)⟩]
def out0_76 : Vec F S1x1024 .f32 := View.canon [⟨r0_45, mean (g8 x9) (View.ld x31 r0_45)⟩]
def out0_77 : Vec F S1x1024 .f32 := View.canon [⟨r0_45, mean (g9 x10) (View.ld x32 r0_45)⟩]
def out0_78 : Vec F S1x1024 .f32 := View.canon [⟨r0_45, mean (g10 x11) (View.ld x33 r0_45)⟩]
def out0_79 : Vec F S1x3592 .f32 := View.canon [⟨r0_17, square (g0 x1) (View.ld x34 r0_17)⟩]
def out0_80 : Vec F S2x512 .f32 := View.canon [⟨r0_26, square (g1 x2) (View.ld x35 r0_26)⟩]
def out0_81 : Vec F S4x64 .f32 := View.canon [⟨r0_35, square (g2 x3) (View.ld x36 r0_35)⟩]
def out0_82 : Vec F S1x512 .f32 := View.canon [⟨r0_44, square (g3 x4) (View.ld x37 r0_44)⟩]
def out0_83 : Vec F S1x512 .f32 := View.canon [⟨r0_44, square (g4 x5) (View.ld x38 r0_44)⟩]
def out0_84 : Vec F S1x512 .f32 := View.canon [⟨r0_44, square (g5 x6) (View.ld x39 r0_44)⟩]
def out0_85 : Vec F S1x1024 .f32 := View.canon [⟨r0_45, square (g6 x7) (View.ld x40 r0_45)⟩]
def out0_86 : Vec F S1x1024 .f32 := View.canon [⟨r0_45, square (g7 x8) (View.ld x41 r0_45)⟩]
def out0_87 : Vec F S1x1024 .f32 := View.canon [⟨r0_45, square (g8 x9) (View.ld x42 r0_45)⟩]
def out0_88 : Vec F S1x1024 .f32 := View.canon [⟨r0_45, square (g9 x10) (View.ld x43 r0_45)⟩]
def out0_89 : Vec F S1x1024 .f32 := View.canon [⟨r0_45, square (g10 x11) (View.ld x44 r0_45)⟩]

end outs

theorem cover_S1x1 (p : Vec F S1x1 .f32) (y : S1x1.Idx) : ∃ pc ∈ ([⟨r0_8, p⟩] : List (View.Piece (Elt F) S1x1 .f32)), y ∈ pc.1.set :=
  View.cover_of_tiled [⟨r0_8, p⟩] S1x1.size (by rfl) y
theorem cover_S1x3592 (p : Vec F S1x3592 .f32) (y : S1x3592.Idx) : ∃ pc ∈ ([⟨r0_17, p⟩] : List (View.Piece (Elt F) S1x3592 .f32)), y ∈ pc.1.set :=
  View.cover_of_tiled [⟨r0_17, p⟩] S1x3592.size (by rfl) y
theorem cover_S2x512 (p : Vec F S2x512 .f32) (y : S2x512.Idx) : ∃ pc ∈ ([⟨r0_26, p⟩] : List (View.Piece (Elt F) S2x512 .f32)), y ∈ pc.1.set :=
  View.cover_of_tiled [⟨r0_26, p⟩] S2x512.size (by rfl) y
theorem cover_S4x64 (p : Vec F S4x64 .f32) (y : S4x64.Idx) : ∃ pc ∈ ([⟨r0_35, p⟩] : List (View.Piece (Elt F) S4x64 .f32)), y ∈ pc.1.set :=
  View.cover_of_tiled [⟨r0_35, p⟩] S4x64.size (by rfl) y
theorem cover_S1x512 (p : Vec F S1x512 .f32) (y : S1x512.Idx) : ∃ pc ∈ ([⟨r0_44, p⟩] : List (View.Piece (Elt F) S1x512 .f32)), y ∈ pc.1.set :=
  View.cover_of_tiled [⟨r0_44, p⟩] S1x512.size (by rfl) y
theorem cover_S1x1024 (p : Vec F S1x1024 .f32) (y : S1x1024.Idx) : ∃ pc ∈ ([⟨r0_45, p⟩] : List (View.Piece (Elt F) S1x1024 .f32)), y ∈ pc.1.set :=
  View.cover_of_tiled [⟨r0_45, p⟩] S1x1024.size (by rfl) y

/-! ## The body's triple -/

set_option maxHeartbeats 4000000 in
/-- The body on whole staging buffers: the arguments' stay, each result's is left at its function of the arguments. -/
theorem sound_kernel (c : Dev nD) (E : Set ℕ) (arg0 : Memref sig .tc .vmem S8x1x1024 .f32) (harg0 : arg0.IsWhole) (arg1 : Memref sig .tc .vmem S8x1x3592 .f32) (harg1 : arg1.IsWhole) (arg2 : Memref sig .tc .vmem S8x2x512 .f32) (harg2 : arg2.IsWhole) (arg3 : Memref sig .tc .vmem S8x4x64 .f32) (harg3 : arg3.IsWhole) (arg4 : Memref sig .tc .vmem S8x1x512 .f32) (harg4 : arg4.IsWhole) (arg5 : Memref sig .tc .vmem S8x1x512 .f32) (harg5 : arg5.IsWhole) (arg6 : Memref sig .tc .vmem S8x1x512 .f32) (harg6 : arg6.IsWhole) (arg7 : Memref sig .tc .vmem S8x1x1024 .f32) (harg7 : arg7.IsWhole) (arg8 : Memref sig .tc .vmem S8x1x1024 .f32) (harg8 : arg8.IsWhole) (arg9 : Memref sig .tc .vmem S8x1x1024 .f32) (harg9 : arg9.IsWhole) (arg10 : Memref sig .tc .vmem S8x1x1024 .f32) (harg10 : arg10.IsWhole) (arg11 : Memref sig .tc .vmem S8x1x1024 .f32) (harg11 : arg11.IsWhole) (arg12 : Memref sig .tc .vmem S1x3592 .f32) (harg12 : arg12.IsWhole) (arg13 : Memref sig .tc .vmem S2x512 .f32) (harg13 : arg13.IsWhole) (arg14 : Memref sig .tc .vmem S4x64 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x3592 .f32) (harg23 : arg23.IsWhole) (arg24 : Memref sig .tc .vmem S2x512 .f32) (harg24 : arg24.IsWhole) (arg25 : Memref sig .tc .vmem S4x64 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S1x1024 .f32) (harg31 : arg31.IsWhole) (arg32 : Memref sig .tc .vmem S1x1024 .f32) (harg32 : arg32.IsWhole) (arg33 : Memref sig .tc .vmem S1x1024 .f32) (harg33 : arg33.IsWhole) (arg34 : Memref sig .tc .vmem S1x3592 .f32) (harg34 : arg34.IsWhole) (arg35 : Memref sig .tc .vmem S2x512 .f32) (harg35 : arg35.IsWhole) (arg36 : Memref sig .tc .vmem S4x64 .f32) (harg36 : arg36.IsWhole) (arg37 : Memref sig .tc .vmem S1x512 .f32) (harg37 : arg37.IsWhole) (arg38 : Memref sig .tc .vmem S1x512 .f32) (harg38 : arg38.IsWhole) (arg39 : Memref sig .tc .vmem S1x512 .f32) (harg39 : arg39.IsWhole) (arg40 : Memref sig .tc .vmem S1x1024 .f32) (harg40 : arg40.IsWhole) (arg41 : Memref sig .tc .vmem S1x1024 .f32) (harg41 : arg41.IsWhole) (arg42 : Memref sig .tc .vmem S1x1024 .f32) (harg42 : arg42.IsWhole) (arg43 : Memref sig .tc .vmem S1x1024 .f32) (harg43 : arg43.IsWhole) (arg44 : Memref sig .tc .vmem S1x1024 .f32) (harg44 : arg44.IsWhole) (arg45 : Memref sig .tc .vmem S1x1 .f32) (harg45 : arg45.IsWhole) (arg46 : Memref sig .tc .vmem S1x3592 .f32) (harg46 : arg46.IsWhole) (arg47 : Memref sig .tc .vmem S2x512 .f32) (harg47 : arg47.IsWhole) (arg48 : Memref sig .tc .vmem S4x64 .f32) (harg48 : arg48.IsWhole) (arg49 : Memref sig .tc .vmem S1x512 .f32) (harg49 : arg49.IsWhole) (arg50 : Memref sig .tc .vmem S1x512 .f32) (harg50 : arg50.IsWhole) (arg51 : Memref sig .tc .vmem S1x512 .f32) (harg51 : arg51.IsWhole) (arg52 : Memref sig .tc .vmem S1x1024 .f32) (harg52 : arg52.IsWhole) (arg53 : Memref sig .tc .vmem S1x1024 .f32) (harg53 : arg53.IsWhole) (arg54 : Memref sig .tc .vmem S1x1024 .f32) (harg54 : arg54.IsWhole) (arg55 : Memref sig .tc .vmem S1x1024 .f32) (harg55 : arg55.IsWhole) (arg56 : Memref sig .tc .vmem S1x1024 .f32) (harg56 : arg56.IsWhole) (arg57 : Memref sig .tc .vmem S1x3592 .f32) (harg57 : arg57.IsWhole) (arg58 : Memref sig .tc .vmem S2x512 .f32) (harg58 : arg58.IsWhole) (arg59 : Memref sig .tc .vmem S4x64 .f32) (harg59 : arg59.IsWhole) (arg60 : Memref sig .tc .vmem S1x512 .f32) (harg60 : arg60.IsWhole) (arg61 : Memref sig .tc .vmem S1x512 .f32) (harg61 : arg61.IsWhole) (arg62 : Memref sig .tc .vmem S1x512 .f32) (harg62 : arg62.IsWhole) (arg63 : Memref sig .tc .vmem S1x1024 .f32) (harg63 : arg63.IsWhole) (arg64 : Memref sig .tc .vmem S1x1024 .f32) (harg64 : arg64.IsWhole) (arg65 : Memref sig .tc .vmem S1x1024 .f32) (harg65 : arg65.IsWhole) (arg66 : Memref sig .tc .vmem S1x1024 .f32) (harg66 : arg66.IsWhole) (arg67 : Memref sig .tc .vmem S1x1024 .f32) (harg67 : arg67.IsWhole) (arg68 : Memref sig .tc .vmem S1x3592 .f32) (harg68 : arg68.IsWhole) (arg69 : Memref sig .tc .vmem S2x512 .f32) (harg69 : arg69.IsWhole) (arg70 : Memref sig .tc .vmem S4x64 .f32) (harg70 : arg70.IsWhole) (arg71 : Memref sig .tc .vmem S1x512 .f32) (harg71 : arg71.IsWhole) (arg72 : Memref sig .tc .vmem S1x512 .f32) (harg72 : arg72.IsWhole) (arg73 : Memref sig .tc .vmem S1x512 .f32) (harg73 : arg73.IsWhole) (arg74 : Memref sig .tc .vmem S1x1024 .f32) (harg74 : arg74.IsWhole) (arg75 : Memref sig .tc .vmem S1x1024 .f32) (harg75 : arg75.IsWhole) (arg76 : Memref sig .tc .vmem S1x1024 .f32) (harg76 : arg76.IsWhole) (arg77 : Memref sig .tc .vmem S1x1024 .f32) (harg77 : arg77.IsWhole) (arg78 : Memref sig .tc .vmem S1x1024 .f32) (harg78 : arg78.IsWhole) (arg79 : Memref sig .tc .vmem S1x3592 .f32) (harg79 : arg79.IsWhole) (arg80 : Memref sig .tc .vmem S2x512 .f32) (harg80 : arg80.IsWhole) (arg81 : Memref sig .tc .vmem S4x64 .f32) (harg81 : arg81.IsWhole) (arg82 : Memref sig .tc .vmem S1x512 .f32) (harg82 : arg82.IsWhole) (arg83 : Memref sig .tc .vmem S1x512 .f32) (harg83 : arg83.IsWhole) (arg84 : Memref sig .tc .vmem S1x512 .f32) (harg84 : arg84.IsWhole) (arg85 : Memref sig .tc .vmem S1x1024 .f32) (harg85 : arg85.IsWhole) (arg86 : Memref sig .tc .vmem S1x1024 .f32) (harg86 : arg86.IsWhole) (arg87 : Memref sig .tc .vmem S1x1024 .f32) (harg87 : arg87.IsWhole) (arg88 : Memref sig .tc .vmem S1x1024 .f32) (harg88 : arg88.IsWhole) (arg89 : Memref sig .tc .vmem S1x1024 .f32) (harg89 : arg89.IsWhole)
    (x0 : Vec F S8x1x1024 .f32) (x1 : Vec F S8x1x3592 .f32) (x2 : Vec F S8x2x512 .f32) (x3 : Vec F S8x4x64 .f32) (x4 : Vec F S8x1x512 .f32) (x5 : Vec F S8x1x512 .f32) (x6 : Vec F S8x1x512 .f32) (x7 : Vec F S8x1x1024 .f32) (x8 : Vec F S8x1x1024 .f32) (x9 : Vec F S8x1x1024 .f32) (x10 : Vec F S8x1x1024 .f32) (x11 : Vec F S8x1x1024 .f32) (x12 : Vec F S1x3592 .f32) (x13 : Vec F S2x512 .f32) (x14 : Vec F S4x64 .f32) (x15 : Vec F S1x512 .f32) (x16 : Vec F S1x512 .f32) (x17 : Vec F S1x512 .f32) (x18 : Vec F S1x1024 .f32) (x19 : Vec F S1x1024 .f32) (x20 : Vec F S1x1024 .f32) (x21 : Vec F S1x1024 .f32) (x22 : Vec F S1x1024 .f32) (x23 : Vec F S1x3592 .f32) (x24 : Vec F S2x512 .f32) (x25 : Vec F S4x64 .f32) (x26 : Vec F S1x512 .f32) (x27 : Vec F S1x512 .f32) (x28 : Vec F S1x512 .f32) (x29 : Vec F S1x1024 .f32) (x30 : Vec F S1x1024 .f32) (x31 : Vec F S1x1024 .f32) (x32 : Vec F S1x1024 .f32) (x33 : Vec F S1x1024 .f32) (x34 : Vec F S1x3592 .f32) (x35 : Vec F S2x512 .f32) (x36 : Vec F S4x64 .f32) (x37 : Vec F S1x512 .f32) (x38 : Vec F S1x512 .f32) (x39 : Vec F S1x512 .f32) (x40 : Vec F S1x1024 .f32) (x41 : Vec F S1x1024 .f32) (x42 : Vec F S1x1024 .f32) (x43 : Vec F S1x1024 .f32) (x44 : Vec F S1x1024 .f32) (K : PUnit → sProp 𝕄) :
    iprop((owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare x44 ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d) ∗ (∃ d, owns (c : Thread nD τ) arg66 fullShare d) ∗ (∃ d, owns (c : Thread nD τ) arg67 fullShare d) ∗ (∃ d, owns (c : Thread nD τ) arg68 fullShare d) ∗ (∃ d, owns (c : Thread nD τ) arg69 fullShare d) ∗ (∃ d, owns (c : Thread nD τ) arg70 fullShare d) ∗ (∃ d, owns (c : Thread nD τ) arg71 fullShare d) ∗ (∃ d, owns (c : Thread nD τ) arg72 fullShare d) ∗ (∃ d, owns (c : Thread nD τ) arg73 fullShare d) ∗ (∃ d, owns (c : Thread nD τ) arg74 fullShare d) ∗ (∃ d, owns (c : Thread nD τ) arg75 fullShare d) ∗ (∃ d, owns (c : Thread nD τ) arg76 fullShare d) ∗ (∃ d, owns (c : Thread nD τ) arg77 fullShare d) ∗ (∃ d, owns (c : Thread nD τ) arg78 fullShare d) ∗ (∃ d, owns (c : Thread nD τ) arg79 fullShare d) ∗ (∃ d, owns (c : Thread nD τ) arg80 fullShare d) ∗ (∃ d, owns (c : Thread nD τ) arg81 fullShare d) ∗ (∃ d, owns (c : Thread nD τ) arg82 fullShare d) ∗ (∃ d, owns (c : Thread nD τ) arg83 fullShare d) ∗ (∃ d, owns (c : Thread nD τ) arg84 fullShare d) ∗ (∃ d, owns (c : Thread nD τ) arg85 fullShare d) ∗ (∃ d, owns (c : Thread nD τ) arg86 fullShare d) ∗ (∃ d, owns (c : Thread nD τ) arg87 fullShare d) ∗ (∃ d, owns (c : Thread nD τ) arg88 fullShare d) ∗ (∃ d, owns (c : Thread nD τ) arg89 fullShare d))
        ∗ ((owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare x44 ∗ owns (c : Thread nD τ) arg45 fullShare (out0_45 x0) ∗ owns (c : Thread nD τ) arg46 fullShare (out0_46 x1) ∗ owns (c : Thread nD τ) arg47 fullShare (out0_47 x2) ∗ owns (c : Thread nD τ) arg48 fullShare (out0_48 x3) ∗ owns (c : Thread nD τ) arg49 fullShare (out0_49 x4) ∗ owns (c : Thread nD τ) arg50 fullShare (out0_50 x5) ∗ owns (c : Thread nD τ) arg51 fullShare (out0_51 x6) ∗ owns (c : Thread nD τ) arg52 fullShare (out0_52 x7) ∗ owns (c : Thread nD τ) arg53 fullShare (out0_53 x8) ∗ owns (c : Thread nD τ) arg54 fullShare (out0_54 x9) ∗ owns (c : Thread nD τ) arg55 fullShare (out0_55 x10) ∗ owns (c : Thread nD τ) arg56 fullShare (out0_56 x11) ∗ owns (c : Thread nD τ) arg57 fullShare (out0_57 x1 x12 x23 x34) ∗ owns (c : Thread nD τ) arg58 fullShare (out0_58 x2 x13 x24 x35) ∗ owns (c : Thread nD τ) arg59 fullShare (out0_59 x3 x14 x25 x36) ∗ owns (c : Thread nD τ) arg60 fullShare (out0_60 x4 x15 x26 x37) ∗ owns (c : Thread nD τ) arg61 fullShare (out0_61 x5 x16 x27 x38) ∗ owns (c : Thread nD τ) arg62 fullShare (out0_62 x6 x17 x28 x39) ∗ owns (c : Thread nD τ) arg63 fullShare (out0_63 x7 x18 x29 x40) ∗ owns (c : Thread nD τ) arg64 fullShare (out0_64 x8 x19 x30 x41) ∗ owns (c : Thread nD τ) arg65 fullShare (out0_65 x9 x20 x31 x42) ∗ owns (c : Thread nD τ) arg66 fullShare (out0_66 x10 x21 x32 x43) ∗ owns (c : Thread nD τ) arg67 fullShare (out0_67 x11 x22 x33 x44) ∗ owns (c : Thread nD τ) arg68 fullShare (out0_68 x1 x23) ∗ owns (c : Thread nD τ) arg69 fullShare (out0_69 x2 x24) ∗ owns (c : Thread nD τ) arg70 fullShare (out0_70 x3 x25) ∗ owns (c : Thread nD τ) arg71 fullShare (out0_71 x4 x26) ∗ owns (c : Thread nD τ) arg72 fullShare (out0_72 x5 x27) ∗ owns (c : Thread nD τ) arg73 fullShare (out0_73 x6 x28) ∗ owns (c : Thread nD τ) arg74 fullShare (out0_74 x7 x29) ∗ owns (c : Thread nD τ) arg75 fullShare (out0_75 x8 x30) ∗ owns (c : Thread nD τ) arg76 fullShare (out0_76 x9 x31) ∗ owns (c : Thread nD τ) arg77 fullShare (out0_77 x10 x32) ∗ owns (c : Thread nD τ) arg78 fullShare (out0_78 x11 x33) ∗ owns (c : Thread nD τ) arg79 fullShare (out0_79 x1 x34) ∗ owns (c : Thread nD τ) arg80 fullShare (out0_80 x2 x35) ∗ owns (c : Thread nD τ) arg81 fullShare (out0_81 x3 x36) ∗ owns (c : Thread nD τ) arg82 fullShare (out0_82 x4 x37) ∗ owns (c : Thread nD τ) arg83 fullShare (out0_83 x5 x38) ∗ owns (c : Thread nD τ) arg84 fullShare (out0_84 x6 x39) ∗ owns (c : Thread nD τ) arg85 fullShare (out0_85 x7 x40) ∗ owns (c : Thread nD τ) arg86 fullShare (out0_86 x8 x41) ∗ owns (c : Thread nD τ) arg87 fullShare (out0_87 x9 x42) ∗ owns (c : Thread nD τ) arg88 fullShare (out0_88 x10 x43) ∗ owns (c : Thread nD τ) arg89 fullShare (out0_89 x11 x44)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83 arg84 harg84 arg85 harg85 arg86 harg86 arg87 harg87 arg88 harg88 arg89 harg89) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩, ⟨%d76, %f76, -, H76⟩, ⟨%d77, %f77, -, H77⟩, ⟨%d78, %f78, -, H78⟩, ⟨%d79, %f79, -, H79⟩, ⟨%d80, %f80, -, H80⟩, ⟨%d81, %f81, -, H81⟩, ⟨%d82, %f82, -, H82⟩, ⟨%d83, %f83, -, H83⟩, ⟨%d84, %f84, -, H84⟩, ⟨%d85, %f85, -, H85⟩, ⟨%d86, %f86, -, H86⟩, ⟨%d87, %f87, -, H87⟩, ⟨%d88, %f88, -, H88⟩, ⟨%d89, %f89, -, H89⟩⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38 hf39 hf40 hf41 hf42 hf43 hf44
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists f40; isplitr; · ipureintro; rfl
    iexact H40
  isplitl [H41]
  · iexists f41; isplitr; · ipureintro; rfl
    iexact H41
  isplitl [H42]
  · iexists f42; isplitr; · ipureintro; rfl
    iexact H42
  isplitl [H43]
  · iexists f43; isplitr; · ipureintro; rfl
    iexact H43
  isplitl [H44]
  · iexists f44; isplitr; · ipureintro; rfl
    iexact H44
  isplitl [H45]
  · iexists _; isplitr
    swap; · iexact H45
    ipureintro; exact (View.read_writes_eq_canon _ _ _ (cover_S1x1 _)).trans rfl
  isplitl [H46]
  · iexists _; isplitr
    swap; · iexact H46
    ipureintro; exact (View.read_writes_eq_canon _ _ _ (cover_S1x3592 _)).trans rfl
  isplitl [H47]
  · iexists _; isplitr
    swap; · iexact H47
    ipureintro; exact (View.read_writes_eq_canon _ _ _ (cover_S2x512 _)).trans rfl
  isplitl [H48]
  · iexists _; isplitr
    swap; · iexact H48
    ipureintro; exact (View.read_writes_eq_canon _ _ _ (cover_S4x64 _)).trans rfl
  isplitl [H49]
  · iexists _; isplitr
    swap; · iexact H49
    ipureintro; exact (View.read_writes_eq_canon _ _ _ (cover_S1x512 _)).trans rfl
  isplitl [H50]
  · iexists _; isplitr
    swap; · iexact H50
    ipureintro; exact (View.read_writes_eq_canon _ _ _ (cover_S1x512 _)).trans rfl
  isplitl [H51]
  · iexists _; isplitr
    swap; · iexact H51
    ipureintro; exact (View.read_writes_eq_canon _ _ _ (cover_S1x512 _)).trans rfl
  isplitl [H52]
  · iexists _; isplitr
    swap; · iexact H52
    ipureintro; exact (View.read_writes_eq_canon _ _ _ (cover_S1x1024 _)).trans rfl
  isplitl [H53]
  · iexists _; isplitr
    swap; · iexact H53
    ipureintro; exact (View.read_writes_eq_canon _ _ _ (cover_S1x1024 _)).trans rfl
  isplitl [H54]
  · iexists _; isplitr
    swap; · iexact H54
    ipureintro; exact (View.read_writes_eq_canon _ _ _ (cover_S1x1024 _)).trans rfl
  isplitl [H55]
  · iexists _; isplitr
    swap; · iexact H55
    ipureintro; exact (View.read_writes_eq_canon _ _ _ (cover_S1x1024 _)).trans rfl
  isplitl [H56]
  · iexists _; isplitr
    swap; · iexact H56
    ipureintro; exact (View.read_writes_eq_canon _ _ _ (cover_S1x1024 _)).trans rfl
  isplitl [H57]
  · iexists _; isplitr
    swap; · iexact H57
    ipureintro; exact (View.read_writes_eq_canon _ _ _ (cover_S1x3592 _)).trans rfl
  isplitl [H58]
  · iexists _; isplitr
    swap; · iexact H58
    ipureintro; exact (View.read_writes_eq_canon _ _ _ (cover_S2x512 _)).trans rfl
  isplitl [H59]
  · iexists _; isplitr
    swap; · iexact H59
    ipureintro; exact (View.read_writes_eq_canon _ _ _ (cover_S4x64 _)).trans rfl
  isplitl [H60]
  · iexists _; isplitr
    swap; · iexact H60
    ipureintro; exact (View.read_writes_eq_canon _ _ _ (cover_S1x512 _)).trans rfl
  isplitl [H61]
  · iexists _; isplitr
    swap; · iexact H61
    ipureintro; exact (View.read_writes_eq_canon _ _ _ (cover_S1x512 _)).trans rfl
  isplitl [H62]
  · iexists _; isplitr
    swap; · iexact H62
    ipureintro; exact (View.read_writes_eq_canon _ _ _ (cover_S1x512 _)).trans rfl
  isplitl [H63]
  · iexists _; isplitr
    swap; · iexact H63
    ipureintro; exact (View.read_writes_eq_canon _ _ _ (cover_S1x1024 _)).trans rfl
  isplitl [H64]
  · iexists _; isplitr
    swap; · iexact H64
    ipureintro; exact (View.read_writes_eq_canon _ _ _ (cover_S1x1024 _)).trans rfl
  isplitl [H65]
  · iexists _; isplitr
    swap; · iexact H65
    ipureintro; exact (View.read_writes_eq_canon _ _ _ (cover_S1x1024 _)).trans rfl
  isplitl [H66]
  · iexists _; isplitr
    swap; · iexact H66
    ipureintro; exact (View.read_writes_eq_canon _ _ _ (cover_S1x1024 _)).trans rfl
  isplitl [H67]
  · iexists _; isplitr
    swap; · iexact H67
    ipureintro; exact (View.read_writes_eq_canon _ _ _ (cover_S1x1024 _)).trans rfl
  isplitl [H68]
  · iexists _; isplitr
    swap; · iexact H68
    ipureintro; exact (View.read_writes_eq_canon _ _ _ (cover_S1x3592 _)).trans rfl
  isplitl [H69]
  · iexists _; isplitr
    swap; · iexact H69
    ipureintro; exact (View.read_writes_eq_canon _ _ _ (cover_S2x512 _)).trans rfl
  isplitl [H70]
  · iexists _; isplitr
    swap; · iexact H70
    ipureintro; exact (View.read_writes_eq_canon _ _ _ (cover_S4x64 _)).trans rfl
  isplitl [H71]
  · iexists _; isplitr
    swap; · iexact H71
    ipureintro; exact (View.read_writes_eq_canon _ _ _ (cover_S1x512 _)).trans rfl
  isplitl [H72]
  · iexists _; isplitr
    swap; · iexact H72
    ipureintro; exact (View.read_writes_eq_canon _ _ _ (cover_S1x512 _)).trans rfl
  isplitl [H73]
  · iexists _; isplitr
    swap; · iexact H73
    ipureintro; exact (View.read_writes_eq_canon _ _ _ (cover_S1x512 _)).trans rfl
  isplitl [H74]
  · iexists _; isplitr
    swap; · iexact H74
    ipureintro; exact (View.read_writes_eq_canon _ _ _ (cover_S1x1024 _)).trans rfl
  isplitl [H75]
  · iexists _; isplitr
    swap; · iexact H75
    ipureintro; exact (View.read_writes_eq_canon _ _ _ (cover_S1x1024 _)).trans rfl
  isplitl [H76]
  · iexists _; isplitr
    swap; · iexact H76
    ipureintro; exact (View.read_writes_eq_canon _ _ _ (cover_S1x1024 _)).trans rfl
  isplitl [H77]
  · iexists _; isplitr
    swap; · iexact H77
    ipureintro; exact (View.read_writes_eq_canon _ _ _ (cover_S1x1024 _)).trans rfl
  isplitl [H78]
  · iexists _; isplitr
    swap; · iexact H78
    ipureintro; exact (View.read_writes_eq_canon _ _ _ (cover_S1x1024 _)).trans rfl
  isplitl [H79]
  · iexists _; isplitr
    swap; · iexact H79
    ipureintro; exact (View.read_writes_eq_canon _ _ _ (cover_S1x3592 _)).trans rfl
  isplitl [H80]
  · iexists _; isplitr
    swap; · iexact H80
    ipureintro; exact (View.read_writes_eq_canon _ _ _ (cover_S2x512 _)).trans rfl
  isplitl [H81]
  · iexists _; isplitr
    swap; · iexact H81
    ipureintro; exact (View.read_writes_eq_canon _ _ _ (cover_S4x64 _)).trans rfl
  isplitl [H82]
  · iexists _; isplitr
    swap; · iexact H82
    ipureintro; exact (View.read_writes_eq_canon _ _ _ (cover_S1x512 _)).trans rfl
  isplitl [H83]
  · iexists _; isplitr
    swap; · iexact H83
    ipureintro; exact (View.read_writes_eq_canon _ _ _ (cover_S1x512 _)).trans rfl
  isplitl [H84]
  · iexists _; isplitr
    swap; · iexact H84
    ipureintro; exact (View.read_writes_eq_canon _ _ _ (cover_S1x512 _)).trans rfl
  isplitl [H85]
  · iexists _; isplitr
    swap; · iexact H85
    ipureintro; exact (View.read_writes_eq_canon _ _ _ (cover_S1x1024 _)).trans rfl
  isplitl [H86]
  · iexists _; isplitr
    swap; · iexact H86
    ipureintro; exact (View.read_writes_eq_canon _ _ _ (cover_S1x1024 _)).trans rfl
  isplitl [H87]
  · iexists _; isplitr
    swap; · iexact H87
    ipureintro; exact (View.read_writes_eq_canon _ _ _ (cover_S1x1024 _)).trans rfl
  isplitl [H88]
  · iexists _; isplitr
    swap; · iexact H88
    ipureintro; exact (View.read_writes_eq_canon _ _ _ (cover_S1x1024 _)).trans rfl
  iexists _; isplitr
  swap; · iexact H89
  ipureintro; exact (View.read_writes_eq_canon _ _ _ (cover_S1x1024 _)).trans rfl

/-! ## The proof data -/

/-- The arrays as the region finds them; after the body each argument's buffer at its block, each result's at its function. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => iblk m c 44 t
    | ⟨45, _⟩ => out0_45 (iblk m c 0 t)
    | ⟨46, _⟩ => out0_46 (iblk m c 1 t)
    | ⟨47, _⟩ => out0_47 (iblk m c 2 t)
    | ⟨48, _⟩ => out0_48 (iblk m c 3 t)
    | ⟨49, _⟩ => out0_49 (iblk m c 4 t)
    | ⟨50, _⟩ => out0_50 (iblk m c 5 t)
    | ⟨51, _⟩ => out0_51 (iblk m c 6 t)
    | ⟨52, _⟩ => out0_52 (iblk m c 7 t)
    | ⟨53, _⟩ => out0_53 (iblk m c 8 t)
    | ⟨54, _⟩ => out0_54 (iblk m c 9 t)
    | ⟨55, _⟩ => out0_55 (iblk m c 10 t)
    | ⟨56, _⟩ => out0_56 (iblk m c 11 t)
    | ⟨57, _⟩ => out0_57 (iblk m c 1 t) (iblk m c 12 t) (iblk m c 23 t) (iblk m c 34 t)
    | ⟨58, _⟩ => out0_58 (iblk m c 2 t) (iblk m c 13 t) (iblk m c 24 t) (iblk m c 35 t)
    | ⟨59, _⟩ => out0_59 (iblk m c 3 t) (iblk m c 14 t) (iblk m c 25 t) (iblk m c 36 t)
    | ⟨60, _⟩ => out0_60 (iblk m c 4 t) (iblk m c 15 t) (iblk m c 26 t) (iblk m c 37 t)
    | ⟨61, _⟩ => out0_61 (iblk m c 5 t) (iblk m c 16 t) (iblk m c 27 t) (iblk m c 38 t)
    | ⟨62, _⟩ => out0_62 (iblk m c 6 t) (iblk m c 17 t) (iblk m c 28 t) (iblk m c 39 t)
    | ⟨63, _⟩ => out0_63 (iblk m c 7 t) (iblk m c 18 t) (iblk m c 29 t) (iblk m c 40 t)
    | ⟨64, _⟩ => out0_64 (iblk m c 8 t) (iblk m c 19 t) (iblk m c 30 t) (iblk m c 41 t)
    | ⟨65, _⟩ => out0_65 (iblk m c 9 t) (iblk m c 20 t) (iblk m c 31 t) (iblk m c 42 t)
    | ⟨66, _⟩ => out0_66 (iblk m c 10 t) (iblk m c 21 t) (iblk m c 32 t) (iblk m c 43 t)
    | ⟨67, _⟩ => out0_67 (iblk m c 11 t) (iblk m c 22 t) (iblk m c 33 t) (iblk m c 44 t)
    | ⟨68, _⟩ => out0_68 (iblk m c 1 t) (iblk m c 23 t)
    | ⟨69, _⟩ => out0_69 (iblk m c 2 t) (iblk m c 24 t)
    | ⟨70, _⟩ => out0_70 (iblk m c 3 t) (iblk m c 25 t)
    | ⟨71, _⟩ => out0_71 (iblk m c 4 t) (iblk m c 26 t)
    | ⟨72, _⟩ => out0_72 (iblk m c 5 t) (iblk m c 27 t)
    | ⟨73, _⟩ => out0_73 (iblk m c 6 t) (iblk m c 28 t)
    | ⟨74, _⟩ => out0_74 (iblk m c 7 t) (iblk m c 29 t)
    | ⟨75, _⟩ => out0_75 (iblk m c 8 t) (iblk m c 30 t)
    | ⟨76, _⟩ => out0_76 (iblk m c 9 t) (iblk m c 31 t)
    | ⟨77, _⟩ => out0_77 (iblk m c 10 t) (iblk m c 32 t)
    | ⟨78, _⟩ => out0_78 (iblk m c 11 t) (iblk m c 33 t)
    | ⟨79, _⟩ => out0_79 (iblk m c 1 t) (iblk m c 34 t)
    | ⟨80, _⟩ => out0_80 (iblk m c 2 t) (iblk m c 35 t)
    | ⟨81, _⟩ => out0_81 (iblk m c 3 t) (iblk m c 36 t)
    | ⟨82, _⟩ => out0_82 (iblk m c 4 t) (iblk m c 37 t)
    | ⟨83, _⟩ => out0_83 (iblk m c 5 t) (iblk m c 38 t)
    | ⟨84, _⟩ => out0_84 (iblk m c 6 t) (iblk m c 39 t)
    | ⟨85, _⟩ => out0_85 (iblk m c 7 t) (iblk m c 40 t)
    | ⟨86, _⟩ => out0_86 (iblk m c 8 t) (iblk m c 41 t)
    | ⟨87, _⟩ => out0_87 (iblk m c 9 t) (iblk m c 42 t)
    | ⟨88, _⟩ => out0_88 (iblk m c 10 t) (iblk m c 43 t)
    | ⟨89, _⟩ => out0_89 (iblk m c 11 t) (iblk m c 44 t)
    | ⟨_ + 90, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_45 (c : Dev nD) (t : Fin cfg0.N) : (dats m 0 c).after 45 t = out0_45 (iblk m c 0 t) := by dsimp only [dats]
theorem after0_46 (c : Dev nD) (t : Fin cfg0.N) : (dats m 0 c).after 46 t = out0_46 (iblk m c 1 t) := by dsimp only [dats]
theorem after0_47 (c : Dev nD) (t : Fin cfg0.N) : (dats m 0 c).after 47 t = out0_47 (iblk m c 2 t) := by dsimp only [dats]
theorem after0_48 (c : Dev nD) (t : Fin cfg0.N) : (dats m 0 c).after 48 t = out0_48 (iblk m c 3 t) := by dsimp only [dats]
theorem after0_49 (c : Dev nD) (t : Fin cfg0.N) : (dats m 0 c).after 49 t = out0_49 (iblk m c 4 t) := by dsimp only [dats]
theorem after0_50 (c : Dev nD) (t : Fin cfg0.N) : (dats m 0 c).after 50 t = out0_50 (iblk m c 5 t) := by dsimp only [dats]
theorem after0_51 (c : Dev nD) (t : Fin cfg0.N) : (dats m 0 c).after 51 t = out0_51 (iblk m c 6 t) := by dsimp only [dats]
theorem after0_52 (c : Dev nD) (t : Fin cfg0.N) : (dats m 0 c).after 52 t = out0_52 (iblk m c 7 t) := by dsimp only [dats]
theorem after0_53 (c : Dev nD) (t : Fin cfg0.N) : (dats m 0 c).after 53 t = out0_53 (iblk m c 8 t) := by dsimp only [dats]
theorem after0_54 (c : Dev nD) (t : Fin cfg0.N) : (dats m 0 c).after 54 t = out0_54 (iblk m c 9 t) := by dsimp only [dats]
theorem after0_55 (c : Dev nD) (t : Fin cfg0.N) : (dats m 0 c).after 55 t = out0_55 (iblk m c 10 t) := by dsimp only [dats]
theorem after0_56 (c : Dev nD) (t : Fin cfg0.N) : (dats m 0 c).after 56 t = out0_56 (iblk m c 11 t) := by dsimp only [dats]
theorem after0_57 (c : Dev nD) (t : Fin cfg0.N) : (dats m 0 c).after 57 t = out0_57 (iblk m c 1 t) (iblk m c 12 t) (iblk m c 23 t) (iblk m c 34 t) := by dsimp only [dats]
theorem after0_58 (c : Dev nD) (t : Fin cfg0.N) : (dats m 0 c).after 58 t = out0_58 (iblk m c 2 t) (iblk m c 13 t) (iblk m c 24 t) (iblk m c 35 t) := by dsimp only [dats]
theorem after0_59 (c : Dev nD) (t : Fin cfg0.N) : (dats m 0 c).after 59 t = out0_59 (iblk m c 3 t) (iblk m c 14 t) (iblk m c 25 t) (iblk m c 36 t) := by dsimp only [dats]
theorem after0_60 (c : Dev nD) (t : Fin cfg0.N) : (dats m 0 c).after 60 t = out0_60 (iblk m c 4 t) (iblk m c 15 t) (iblk m c 26 t) (iblk m c 37 t) := by dsimp only [dats]
theorem after0_61 (c : Dev nD) (t : Fin cfg0.N) : (dats m 0 c).after 61 t = out0_61 (iblk m c 5 t) (iblk m c 16 t) (iblk m c 27 t) (iblk m c 38 t) := by dsimp only [dats]
theorem after0_62 (c : Dev nD) (t : Fin cfg0.N) : (dats m 0 c).after 62 t = out0_62 (iblk m c 6 t) (iblk m c 17 t) (iblk m c 28 t) (iblk m c 39 t) := by dsimp only [dats]
theorem after0_63 (c : Dev nD) (t : Fin cfg0.N) : (dats m 0 c).after 63 t = out0_63 (iblk m c 7 t) (iblk m c 18 t) (iblk m c 29 t) (iblk m c 40 t) := by dsimp only [dats]
theorem after0_64 (c : Dev nD) (t : Fin cfg0.N) : (dats m 0 c).after 64 t = out0_64 (iblk m c 8 t) (iblk m c 19 t) (iblk m c 30 t) (iblk m c 41 t) := by dsimp only [dats]
theorem after0_65 (c : Dev nD) (t : Fin cfg0.N) : (dats m 0 c).after 65 t = out0_65 (iblk m c 9 t) (iblk m c 20 t) (iblk m c 31 t) (iblk m c 42 t) := by dsimp only [dats]
theorem after0_66 (c : Dev nD) (t : Fin cfg0.N) : (dats m 0 c).after 66 t = out0_66 (iblk m c 10 t) (iblk m c 21 t) (iblk m c 32 t) (iblk m c 43 t) := by dsimp only [dats]
theorem after0_67 (c : Dev nD) (t : Fin cfg0.N) : (dats m 0 c).after 67 t = out0_67 (iblk m c 11 t) (iblk m c 22 t) (iblk m c 33 t) (iblk m c 44 t) := by dsimp only [dats]
theorem after0_68 (c : Dev nD) (t : Fin cfg0.N) : (dats m 0 c).after 68 t = out0_68 (iblk m c 1 t) (iblk m c 23 t) := by dsimp only [dats]
theorem after0_69 (c : Dev nD) (t : Fin cfg0.N) : (dats m 0 c).after 69 t = out0_69 (iblk m c 2 t) (iblk m c 24 t) := by dsimp only [dats]
theorem after0_70 (c : Dev nD) (t : Fin cfg0.N) : (dats m 0 c).after 70 t = out0_70 (iblk m c 3 t) (iblk m c 25 t) := by dsimp only [dats]
theorem after0_71 (c : Dev nD) (t : Fin cfg0.N) : (dats m 0 c).after 71 t = out0_71 (iblk m c 4 t) (iblk m c 26 t) := by dsimp only [dats]
theorem after0_72 (c : Dev nD) (t : Fin cfg0.N) : (dats m 0 c).after 72 t = out0_72 (iblk m c 5 t) (iblk m c 27 t) := by dsimp only [dats]
theorem after0_73 (c : Dev nD) (t : Fin cfg0.N) : (dats m 0 c).after 73 t = out0_73 (iblk m c 6 t) (iblk m c 28 t) := by dsimp only [dats]
theorem after0_74 (c : Dev nD) (t : Fin cfg0.N) : (dats m 0 c).after 74 t = out0_74 (iblk m c 7 t) (iblk m c 29 t) := by dsimp only [dats]
theorem after0_75 (c : Dev nD) (t : Fin cfg0.N) : (dats m 0 c).after 75 t = out0_75 (iblk m c 8 t) (iblk m c 30 t) := by dsimp only [dats]
theorem after0_76 (c : Dev nD) (t : Fin cfg0.N) : (dats m 0 c).after 76 t = out0_76 (iblk m c 9 t) (iblk m c 31 t) := by dsimp only [dats]
theorem after0_77 (c : Dev nD) (t : Fin cfg0.N) : (dats m 0 c).after 77 t = out0_77 (iblk m c 10 t) (iblk m c 32 t) := by dsimp only [dats]
theorem after0_78 (c : Dev nD) (t : Fin cfg0.N) : (dats m 0 c).after 78 t = out0_78 (iblk m c 11 t) (iblk m c 33 t) := by dsimp only [dats]
theorem after0_79 (c : Dev nD) (t : Fin cfg0.N) : (dats m 0 c).after 79 t = out0_79 (iblk m c 1 t) (iblk m c 34 t) := by dsimp only [dats]
theorem after0_80 (c : Dev nD) (t : Fin cfg0.N) : (dats m 0 c).after 80 t = out0_80 (iblk m c 2 t) (iblk m c 35 t) := by dsimp only [dats]
theorem after0_81 (c : Dev nD) (t : Fin cfg0.N) : (dats m 0 c).after 81 t = out0_81 (iblk m c 3 t) (iblk m c 36 t) := by dsimp only [dats]
theorem after0_82 (c : Dev nD) (t : Fin cfg0.N) : (dats m 0 c).after 82 t = out0_82 (iblk m c 4 t) (iblk m c 37 t) := by dsimp only [dats]
theorem after0_83 (c : Dev nD) (t : Fin cfg0.N) : (dats m 0 c).after 83 t = out0_83 (iblk m c 5 t) (iblk m c 38 t) := by dsimp only [dats]
theorem after0_84 (c : Dev nD) (t : Fin cfg0.N) : (dats m 0 c).after 84 t = out0_84 (iblk m c 6 t) (iblk m c 39 t) := by dsimp only [dats]
theorem after0_85 (c : Dev nD) (t : Fin cfg0.N) : (dats m 0 c).after 85 t = out0_85 (iblk m c 7 t) (iblk m c 40 t) := by dsimp only [dats]
theorem after0_86 (c : Dev nD) (t : Fin cfg0.N) : (dats m 0 c).after 86 t = out0_86 (iblk m c 8 t) (iblk m c 41 t) := by dsimp only [dats]
theorem after0_87 (c : Dev nD) (t : Fin cfg0.N) : (dats m 0 c).after 87 t = out0_87 (iblk m c 9 t) (iblk m c 42 t) := by dsimp only [dats]
theorem after0_88 (c : Dev nD) (t : Fin cfg0.N) : (dats m 0 c).after 88 t = out0_88 (iblk m c 10 t) (iblk m c 43 t) := by dsimp only [dats]
theorem after0_89 (c : Dev nD) (t : Fin cfg0.N) : (dats m 0 c).after 89 t = out0_89 (iblk m c 11 t) (iblk m c 44 t) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = iblk m c 37 t := by dsimp only [dats]
theorem after0_38 (c : Dev nD) (t : Fin cfg0.N) : (dats m 0 c).after 38 t = iblk m c 38 t := by dsimp only [dats]
theorem after0_39 (c : Dev nD) (t : Fin cfg0.N) : (dats m 0 c).after 39 t = iblk m c 39 t := by dsimp only [dats]
theorem after0_40 (c : Dev nD) (t : Fin cfg0.N) : (dats m 0 c).after 40 t = iblk m c 40 t := by dsimp only [dats]
theorem after0_41 (c : Dev nD) (t : Fin cfg0.N) : (dats m 0 c).after 41 t = iblk m c 41 t := by dsimp only [dats]
theorem after0_42 (c : Dev nD) (t : Fin cfg0.N) : (dats m 0 c).after 42 t = iblk m c 42 t := by dsimp only [dats]
theorem after0_43 (c : Dev nD) (t : Fin cfg0.N) : (dats m 0 c).after 43 t = iblk m c 43 t := by dsimp only [dats]
theorem after0_44 (c : Dev nD) (t : Fin cfg0.N) : (dats m 0 c).after 44 t = iblk m c 44 t := by dsimp only [dats]

/-! An argument's staging buffer holds before the body what the body leaves there: its block. -/

theorem before0_0 (c : Dev nD) (t : Fin cfg0.N) (d) : (dats m 0 c).before 0 t d = (dats m 0 c).after 0 t :=
  ((dats m 0 c).before_in_eq_fetched 0 rfl (fun _ => rfl) (fun _ _ _ => rfl)
    (fun t => by rw [after0_0]; unfold Dat.blockOf iblk; rw [A_eq]; try rfl) t d).trans
    (by rw [after0_0]; unfold Dat.fetched Dat.blockOf iblk; rw [A_eq]; try rfl)
theorem before0_1 (c : Dev nD) (t : Fin cfg0.N) (d) : (dats m 0 c).before 1 t d = (dats m 0 c).after 1 t :=
  ((dats m 0 c).before_in_eq_fetched 1 rfl (fun _ => rfl) (fun _ _ _ => rfl)
    (fun t => by rw [after0_1]; unfold Dat.blockOf iblk; rw [A_eq]; try rfl) t d).trans
    (by rw [after0_1]; unfold Dat.fetched Dat.blockOf iblk; rw [A_eq]; try rfl)
theorem before0_2 (c : Dev nD) (t : Fin cfg0.N) (d) : (dats m 0 c).before 2 t d = (dats m 0 c).after 2 t :=
  ((dats m 0 c).before_in_eq_fetched 2 rfl (fun _ => rfl) (fun _ _ _ => rfl)
    (fun t => by rw [after0_2]; unfold Dat.blockOf iblk; rw [A_eq]; try rfl) t d).trans
    (by rw [after0_2]; unfold Dat.fetched Dat.blockOf iblk; rw [A_eq]; try rfl)
theorem before0_3 (c : Dev nD) (t : Fin cfg0.N) (d) : (dats m 0 c).before 3 t d = (dats m 0 c).after 3 t :=
  ((dats m 0 c).before_in_eq_fetched 3 rfl (fun _ => rfl) (fun _ _ _ => rfl)
    (fun t => by rw [after0_3]; unfold Dat.blockOf iblk; rw [A_eq]; try rfl) t d).trans
    (by rw [after0_3]; unfold Dat.fetched Dat.blockOf iblk; rw [A_eq]; try rfl)
theorem before0_4 (c : Dev nD) (t : Fin cfg0.N) (d) : (dats m 0 c).before 4 t d = (dats m 0 c).after 4 t :=
  ((dats m 0 c).before_in_eq_fetched 4 rfl (fun _ => rfl) (fun _ _ _ => rfl)
    (fun t => by rw [after0_4]; unfold Dat.blockOf iblk; rw [A_eq]; try rfl) t d).trans
    (by rw [after0_4]; unfold Dat.fetched Dat.blockOf iblk; rw [A_eq]; try rfl)
theorem before0_5 (c : Dev nD) (t : Fin cfg0.N) (d) : (dats m 0 c).before 5 t d = (dats m 0 c).after 5 t :=
  ((dats m 0 c).before_in_eq_fetched 5 rfl (fun _ => rfl) (fun _ _ _ => rfl)
    (fun t => by rw [after0_5]; unfold Dat.blockOf iblk; rw [A_eq]; try rfl) t d).trans
    (by rw [after0_5]; unfold Dat.fetched Dat.blockOf iblk; rw [A_eq]; try rfl)
theorem before0_6 (c : Dev nD) (t : Fin cfg0.N) (d) : (dats m 0 c).before 6 t d = (dats m 0 c).after 6 t :=
  ((dats m 0 c).before_in_eq_fetched 6 rfl (fun _ => rfl) (fun _ _ _ => rfl)
    (fun t => by rw [after0_6]; unfold Dat.blockOf iblk; rw [A_eq]; try rfl) t d).trans
    (by rw [after0_6]; unfold Dat.fetched Dat.blockOf iblk; rw [A_eq]; try rfl)
theorem before0_7 (c : Dev nD) (t : Fin cfg0.N) (d) : (dats m 0 c).before 7 t d = (dats m 0 c).after 7 t :=
  ((dats m 0 c).before_in_eq_fetched 7 rfl (fun _ => rfl) (fun _ _ _ => rfl)
    (fun t => by rw [after0_7]; unfold Dat.blockOf iblk; rw [A_eq]; try rfl) t d).trans
    (by rw [after0_7]; unfold Dat.fetched Dat.blockOf iblk; rw [A_eq]; try rfl)
theorem before0_8 (c : Dev nD) (t : Fin cfg0.N) (d) : (dats m 0 c).before 8 t d = (dats m 0 c).after 8 t :=
  ((dats m 0 c).before_in_eq_fetched 8 rfl (fun _ => rfl) (fun _ _ _ => rfl)
    (fun t => by rw [after0_8]; unfold Dat.blockOf iblk; rw [A_eq]; try rfl) t d).trans
    (by rw [after0_8]; unfold Dat.fetched Dat.blockOf iblk; rw [A_eq]; try rfl)
theorem before0_9 (c : Dev nD) (t : Fin cfg0.N) (d) : (dats m 0 c).before 9 t d = (dats m 0 c).after 9 t :=
  ((dats m 0 c).before_in_eq_fetched 9 rfl (fun _ => rfl) (fun _ _ _ => rfl)
    (fun t => by rw [after0_9]; unfold Dat.blockOf iblk; rw [A_eq]; try rfl) t d).trans
    (by rw [after0_9]; unfold Dat.fetched Dat.blockOf iblk; rw [A_eq]; try rfl)
theorem before0_10 (c : Dev nD) (t : Fin cfg0.N) (d) : (dats m 0 c).before 10 t d = (dats m 0 c).after 10 t :=
  ((dats m 0 c).before_in_eq_fetched 10 rfl (fun _ => rfl) (fun _ _ _ => rfl)
    (fun t => by rw [after0_10]; unfold Dat.blockOf iblk; rw [A_eq]; try rfl) t d).trans
    (by rw [after0_10]; unfold Dat.fetched Dat.blockOf iblk; rw [A_eq]; try rfl)
theorem before0_11 (c : Dev nD) (t : Fin cfg0.N) (d) : (dats m 0 c).before 11 t d = (dats m 0 c).after 11 t :=
  ((dats m 0 c).before_in_eq_fetched 11 rfl (fun _ => rfl) (fun _ _ _ => rfl)
    (fun t => by rw [after0_11]; unfold Dat.blockOf iblk; rw [A_eq]; try rfl) t d).trans
    (by rw [after0_11]; unfold Dat.fetched Dat.blockOf iblk; rw [A_eq]; try rfl)
theorem before0_12 (c : Dev nD) (t : Fin cfg0.N) (d) : (dats m 0 c).before 12 t d = (dats m 0 c).after 12 t :=
  ((dats m 0 c).before_in_eq_fetched 12 rfl (fun _ => rfl) (fun _ _ _ => rfl)
    (fun t => by rw [after0_12]; unfold Dat.blockOf iblk; rw [A_eq]; try rfl) t d).trans
    (by rw [after0_12]; unfold Dat.fetched Dat.blockOf iblk; rw [A_eq]; try rfl)
theorem before0_13 (c : Dev nD) (t : Fin cfg0.N) (d) : (dats m 0 c).before 13 t d = (dats m 0 c).after 13 t :=
  ((dats m 0 c).before_in_eq_fetched 13 rfl (fun _ => rfl) (fun _ _ _ => rfl)
    (fun t => by rw [after0_13]; unfold Dat.blockOf iblk; rw [A_eq]; try rfl) t d).trans
    (by rw [after0_13]; unfold Dat.fetched Dat.blockOf iblk; rw [A_eq]; try rfl)
theorem before0_14 (c : Dev nD) (t : Fin cfg0.N) (d) : (dats m 0 c).before 14 t d = (dats m 0 c).after 14 t :=
  ((dats m 0 c).before_in_eq_fetched 14 rfl (fun _ => rfl) (fun _ _ _ => rfl)
    (fun t => by rw [after0_14]; unfold Dat.blockOf iblk; rw [A_eq]; try rfl) t d).trans
    (by rw [after0_14]; unfold Dat.fetched Dat.blockOf iblk; rw [A_eq]; try rfl)
theorem before0_15 (c : Dev nD) (t : Fin cfg0.N) (d) : (dats m 0 c).before 15 t d = (dats m 0 c).after 15 t :=
  ((dats m 0 c).before_in_eq_fetched 15 rfl (fun _ => rfl) (fun _ _ _ => rfl)
    (fun t => by rw [after0_15]; unfold Dat.blockOf iblk; rw [A_eq]; try rfl) t d).trans
    (by rw [after0_15]; unfold Dat.fetched Dat.blockOf iblk; rw [A_eq]; try rfl)
theorem before0_16 (c : Dev nD) (t : Fin cfg0.N) (d) : (dats m 0 c).before 16 t d = (dats m 0 c).after 16 t :=
  ((dats m 0 c).before_in_eq_fetched 16 rfl (fun _ => rfl) (fun _ _ _ => rfl)
    (fun t => by rw [after0_16]; unfold Dat.blockOf iblk; rw [A_eq]; try rfl) t d).trans
    (by rw [after0_16]; unfold Dat.fetched Dat.blockOf iblk; rw [A_eq]; try rfl)
theorem before0_17 (c : Dev nD) (t : Fin cfg0.N) (d) : (dats m 0 c).before 17 t d = (dats m 0 c).after 17 t :=
  ((dats m 0 c).before_in_eq_fetched 17 rfl (fun _ => rfl) (fun _ _ _ => rfl)
    (fun t => by rw [after0_17]; unfold Dat.blockOf iblk; rw [A_eq]; try rfl) t d).trans
    (by rw [after0_17]; unfold Dat.fetched Dat.blockOf iblk; rw [A_eq]; try rfl)
theorem before0_18 (c : Dev nD) (t : Fin cfg0.N) (d) : (dats m 0 c).before 18 t d = (dats m 0 c).after 18 t :=
  ((dats m 0 c).before_in_eq_fetched 18 rfl (fun _ => rfl) (fun _ _ _ => rfl)
    (fun t => by rw [after0_18]; unfold Dat.blockOf iblk; rw [A_eq]; try rfl) t d).trans
    (by rw [after0_18]; unfold Dat.fetched Dat.blockOf iblk; rw [A_eq]; try rfl)
theorem before0_19 (c : Dev nD) (t : Fin cfg0.N) (d) : (dats m 0 c).before 19 t d = (dats m 0 c).after 19 t :=
  ((dats m 0 c).before_in_eq_fetched 19 rfl (fun _ => rfl) (fun _ _ _ => rfl)
    (fun t => by rw [after0_19]; unfold Dat.blockOf iblk; rw [A_eq]; try rfl) t d).trans
    (by rw [after0_19]; unfold Dat.fetched Dat.blockOf iblk; rw [A_eq]; try rfl)
theorem before0_20 (c : Dev nD) (t : Fin cfg0.N) (d) : (dats m 0 c).before 20 t d = (dats m 0 c).after 20 t :=
  ((dats m 0 c).before_in_eq_fetched 20 rfl (fun _ => rfl) (fun _ _ _ => rfl)
    (fun t => by rw [after0_20]; unfold Dat.blockOf iblk; rw [A_eq]; try rfl) t d).trans
    (by rw [after0_20]; unfold Dat.fetched Dat.blockOf iblk; rw [A_eq]; try rfl)
theorem before0_21 (c : Dev nD) (t : Fin cfg0.N) (d) : (dats m 0 c).before 21 t d = (dats m 0 c).after 21 t :=
  ((dats m 0 c).before_in_eq_fetched 21 rfl (fun _ => rfl) (fun _ _ _ => rfl)
    (fun t => by rw [after0_21]; unfold Dat.blockOf iblk; rw [A_eq]; try rfl) t d).trans
    (by rw [after0_21]; unfold Dat.fetched Dat.blockOf iblk; rw [A_eq]; try rfl)
theorem before0_22 (c : Dev nD) (t : Fin cfg0.N) (d) : (dats m 0 c).before 22 t d = (dats m 0 c).after 22 t :=
  ((dats m 0 c).before_in_eq_fetched 22 rfl (fun _ => rfl) (fun _ _ _ => rfl)
    (fun t => by rw [after0_22]; unfold Dat.blockOf iblk; rw [A_eq]; try rfl) t d).trans
    (by rw [after0_22]; unfold Dat.fetched Dat.blockOf iblk; rw [A_eq]; try rfl)
theorem before0_23 (c : Dev nD) (t : Fin cfg0.N) (d) : (dats m 0 c).before 23 t d = (dats m 0 c).after 23 t :=
  ((dats m 0 c).before_in_eq_fetched 23 rfl (fun _ => rfl) (fun _ _ _ => rfl)
    (fun t => by rw [after0_23]; unfold Dat.blockOf iblk; rw [A_eq]; try rfl) t d).trans
    (by rw [after0_23]; unfold Dat.fetched Dat.blockOf iblk; rw [A_eq]; try rfl)
theorem before0_24 (c : Dev nD) (t : Fin cfg0.N) (d) : (dats m 0 c).before 24 t d = (dats m 0 c).after 24 t :=
  ((dats m 0 c).before_in_eq_fetched 24 rfl (fun _ => rfl) (fun _ _ _ => rfl)
    (fun t => by rw [after0_24]; unfold Dat.blockOf iblk; rw [A_eq]; try rfl) t d).trans
    (by rw [after0_24]; unfold Dat.fetched Dat.blockOf iblk; rw [A_eq]; try rfl)
theorem before0_25 (c : Dev nD) (t : Fin cfg0.N) (d) : (dats m 0 c).before 25 t d = (dats m 0 c).after 25 t :=
  ((dats m 0 c).before_in_eq_fetched 25 rfl (fun _ => rfl) (fun _ _ _ => rfl)
    (fun t => by rw [after0_25]; unfold Dat.blockOf iblk; rw [A_eq]; try rfl) t d).trans
    (by rw [after0_25]; unfold Dat.fetched Dat.blockOf iblk; rw [A_eq]; try rfl)
theorem before0_26 (c : Dev nD) (t : Fin cfg0.N) (d) : (dats m 0 c).before 26 t d = (dats m 0 c).after 26 t :=
  ((dats m 0 c).before_in_eq_fetched 26 rfl (fun _ => rfl) (fun _ _ _ => rfl)
    (fun t => by rw [after0_26]; unfold Dat.blockOf iblk; rw [A_eq]; try rfl) t d).trans
    (by rw [after0_26]; unfold Dat.fetched Dat.blockOf iblk; rw [A_eq]; try rfl)
theorem before0_27 (c : Dev nD) (t : Fin cfg0.N) (d) : (dats m 0 c).before 27 t d = (dats m 0 c).after 27 t :=
  ((dats m 0 c).before_in_eq_fetched 27 rfl (fun _ => rfl) (fun _ _ _ => rfl)
    (fun t => by rw [after0_27]; unfold Dat.blockOf iblk; rw [A_eq]; try rfl) t d).trans
    (by rw [after0_27]; unfold Dat.fetched Dat.blockOf iblk; rw [A_eq]; try rfl)
theorem before0_28 (c : Dev nD) (t : Fin cfg0.N) (d) : (dats m 0 c).before 28 t d = (dats m 0 c).after 28 t :=
  ((dats m 0 c).before_in_eq_fetched 28 rfl (fun _ => rfl) (fun _ _ _ => rfl)
    (fun t => by rw [after0_28]; unfold Dat.blockOf iblk; rw [A_eq]; try rfl) t d).trans
    (by rw [after0_28]; unfold Dat.fetched Dat.blockOf iblk; rw [A_eq]; try rfl)
theorem before0_29 (c : Dev nD) (t : Fin cfg0.N) (d) : (dats m 0 c).before 29 t d = (dats m 0 c).after 29 t :=
  ((dats m 0 c).before_in_eq_fetched 29 rfl (fun _ => rfl) (fun _ _ _ => rfl)
    (fun t => by rw [after0_29]; unfold Dat.blockOf iblk; rw [A_eq]; try rfl) t d).trans
    (by rw [after0_29]; unfold Dat.fetched Dat.blockOf iblk; rw [A_eq]; try rfl)
theorem before0_30 (c : Dev nD) (t : Fin cfg0.N) (d) : (dats m 0 c).before 30 t d = (dats m 0 c).after 30 t :=
  ((dats m 0 c).before_in_eq_fetched 30 rfl (fun _ => rfl) (fun _ _ _ => rfl)
    (fun t => by rw [after0_30]; unfold Dat.blockOf iblk; rw [A_eq]; try rfl) t d).trans
    (by rw [after0_30]; unfold Dat.fetched Dat.blockOf iblk; rw [A_eq]; try rfl)
theorem before0_31 (c : Dev nD) (t : Fin cfg0.N) (d) : (dats m 0 c).before 31 t d = (dats m 0 c).after 31 t :=
  ((dats m 0 c).before_in_eq_fetched 31 rfl (fun _ => rfl) (fun _ _ _ => rfl)
    (fun t => by rw [after0_31]; unfold Dat.blockOf iblk; rw [A_eq]; try rfl) t d).trans
    (by rw [after0_31]; unfold Dat.fetched Dat.blockOf iblk; rw [A_eq]; try rfl)
theorem before0_32 (c : Dev nD) (t : Fin cfg0.N) (d) : (dats m 0 c).before 32 t d = (dats m 0 c).after 32 t :=
  ((dats m 0 c).before_in_eq_fetched 32 rfl (fun _ => rfl) (fun _ _ _ => rfl)
    (fun t => by rw [after0_32]; unfold Dat.blockOf iblk; rw [A_eq]; try rfl) t d).trans
    (by rw [after0_32]; unfold Dat.fetched Dat.blockOf iblk; rw [A_eq]; try rfl)
theorem before0_33 (c : Dev nD) (t : Fin cfg0.N) (d) : (dats m 0 c).before 33 t d = (dats m 0 c).after 33 t :=
  ((dats m 0 c).before_in_eq_fetched 33 rfl (fun _ => rfl) (fun _ _ _ => rfl)
    (fun t => by rw [after0_33]; unfold Dat.blockOf iblk; rw [A_eq]; try rfl) t d).trans
    (by rw [after0_33]; unfold Dat.fetched Dat.blockOf iblk; rw [A_eq]; try rfl)
theorem before0_34 (c : Dev nD) (t : Fin cfg0.N) (d) : (dats m 0 c).before 34 t d = (dats m 0 c).after 34 t :=
  ((dats m 0 c).before_in_eq_fetched 34 rfl (fun _ => rfl) (fun _ _ _ => rfl)
    (fun t => by rw [after0_34]; unfold Dat.blockOf iblk; rw [A_eq]; try rfl) t d).trans
    (by rw [after0_34]; unfold Dat.fetched Dat.blockOf iblk; rw [A_eq]; try rfl)
theorem before0_35 (c : Dev nD) (t : Fin cfg0.N) (d) : (dats m 0 c).before 35 t d = (dats m 0 c).after 35 t :=
  ((dats m 0 c).before_in_eq_fetched 35 rfl (fun _ => rfl) (fun _ _ _ => rfl)
    (fun t => by rw [after0_35]; unfold Dat.blockOf iblk; rw [A_eq]; try rfl) t d).trans
    (by rw [after0_35]; unfold Dat.fetched Dat.blockOf iblk; rw [A_eq]; try rfl)
theorem before0_36 (c : Dev nD) (t : Fin cfg0.N) (d) : (dats m 0 c).before 36 t d = (dats m 0 c).after 36 t :=
  ((dats m 0 c).before_in_eq_fetched 36 rfl (fun _ => rfl) (fun _ _ _ => rfl)
    (fun t => by rw [after0_36]; unfold Dat.blockOf iblk; rw [A_eq]; try rfl) t d).trans
    (by rw [after0_36]; unfold Dat.fetched Dat.blockOf iblk; rw [A_eq]; try rfl)
theorem before0_37 (c : Dev nD) (t : Fin cfg0.N) (d) : (dats m 0 c).before 37 t d = (dats m 0 c).after 37 t :=
  ((dats m 0 c).before_in_eq_fetched 37 rfl (fun _ => rfl) (fun _ _ _ => rfl)
    (fun t => by rw [after0_37]; unfold Dat.blockOf iblk; rw [A_eq]; try rfl) t d).trans
    (by rw [after0_37]; unfold Dat.fetched Dat.blockOf iblk; rw [A_eq]; try rfl)
theorem before0_38 (c : Dev nD) (t : Fin cfg0.N) (d) : (dats m 0 c).before 38 t d = (dats m 0 c).after 38 t :=
  ((dats m 0 c).before_in_eq_fetched 38 rfl (fun _ => rfl) (fun _ _ _ => rfl)
    (fun t => by rw [after0_38]; unfold Dat.blockOf iblk; rw [A_eq]; try rfl) t d).trans
    (by rw [after0_38]; unfold Dat.fetched Dat.blockOf iblk; rw [A_eq]; try rfl)
theorem before0_39 (c : Dev nD) (t : Fin cfg0.N) (d) : (dats m 0 c).before 39 t d = (dats m 0 c).after 39 t :=
  ((dats m 0 c).before_in_eq_fetched 39 rfl (fun _ => rfl) (fun _ _ _ => rfl)
    (fun t => by rw [after0_39]; unfold Dat.blockOf iblk; rw [A_eq]; try rfl) t d).trans
    (by rw [after0_39]; unfold Dat.fetched Dat.blockOf iblk; rw [A_eq]; try rfl)
theorem before0_40 (c : Dev nD) (t : Fin cfg0.N) (d) : (dats m 0 c).before 40 t d = (dats m 0 c).after 40 t :=
  ((dats m 0 c).before_in_eq_fetched 40 rfl (fun _ => rfl) (fun _ _ _ => rfl)
    (fun t => by rw [after0_40]; unfold Dat.blockOf iblk; rw [A_eq]; try rfl) t d).trans
    (by rw [after0_40]; unfold Dat.fetched Dat.blockOf iblk; rw [A_eq]; try rfl)
theorem before0_41 (c : Dev nD) (t : Fin cfg0.N) (d) : (dats m 0 c).before 41 t d = (dats m 0 c).after 41 t :=
  ((dats m 0 c).before_in_eq_fetched 41 rfl (fun _ => rfl) (fun _ _ _ => rfl)
    (fun t => by rw [after0_41]; unfold Dat.blockOf iblk; rw [A_eq]; try rfl) t d).trans
    (by rw [after0_41]; unfold Dat.fetched Dat.blockOf iblk; rw [A_eq]; try rfl)
theorem before0_42 (c : Dev nD) (t : Fin cfg0.N) (d) : (dats m 0 c).before 42 t d = (dats m 0 c).after 42 t :=
  ((dats m 0 c).before_in_eq_fetched 42 rfl (fun _ => rfl) (fun _ _ _ => rfl)
    (fun t => by rw [after0_42]; unfold Dat.blockOf iblk; rw [A_eq]; try rfl) t d).trans
    (by rw [after0_42]; unfold Dat.fetched Dat.blockOf iblk; rw [A_eq]; try rfl)
theorem before0_43 (c : Dev nD) (t : Fin cfg0.N) (d) : (dats m 0 c).before 43 t d = (dats m 0 c).after 43 t :=
  ((dats m 0 c).before_in_eq_fetched 43 rfl (fun _ => rfl) (fun _ _ _ => rfl)
    (fun t => by rw [after0_43]; unfold Dat.blockOf iblk; rw [A_eq]; try rfl) t d).trans
    (by rw [after0_43]; unfold Dat.fetched Dat.blockOf iblk; rw [A_eq]; try rfl)
theorem before0_44 (c : Dev nD) (t : Fin cfg0.N) (d) : (dats m 0 c).before 44 t d = (dats m 0 c).after 44 t :=
  ((dats m 0 c).before_in_eq_fetched 44 rfl (fun _ => rfl) (fun _ _ _ => rfl)
    (fun t => by rw [after0_44]; unfold Dat.blockOf iblk; rw [A_eq]; try rfl) t d).trans
    (by rw [after0_44]; unfold Dat.fetched Dat.blockOf iblk; rw [A_eq]; try rfl)

/-- The results' windows are the last 45. -/
theorem isOut_of : ∀ w : Fin 90, 45 ≤ w.val → (win0 w).isOut = true := by decide +kernel

set_option maxHeartbeats 4000000 in
theorem before_in (c : Dev nD) (t : Fin cfg0.N) : ∀ (w : Fin cfg0.W), (cfg0.win w).isOut = false → ∀ d,
    (dats m 0 c).before w t d = (dats m 0 c).after w t
  | ⟨0, _⟩, _, d => before0_0 m c t d
  | ⟨1, _⟩, _, d => before0_1 m c t d
  | ⟨2, _⟩, _, d => before0_2 m c t d
  | ⟨3, _⟩, _, d => before0_3 m c t d
  | ⟨4, _⟩, _, d => before0_4 m c t d
  | ⟨5, _⟩, _, d => before0_5 m c t d
  | ⟨6, _⟩, _, d => before0_6 m c t d
  | ⟨7, _⟩, _, d => before0_7 m c t d
  | ⟨8, _⟩, _, d => before0_8 m c t d
  | ⟨9, _⟩, _, d => before0_9 m c t d
  | ⟨10, _⟩, _, d => before0_10 m c t d
  | ⟨11, _⟩, _, d => before0_11 m c t d
  | ⟨12, _⟩, _, d => before0_12 m c t d
  | ⟨13, _⟩, _, d => before0_13 m c t d
  | ⟨14, _⟩, _, d => before0_14 m c t d
  | ⟨15, _⟩, _, d => before0_15 m c t d
  | ⟨16, _⟩, _, d => before0_16 m c t d
  | ⟨17, _⟩, _, d => before0_17 m c t d
  | ⟨18, _⟩, _, d => before0_18 m c t d
  | ⟨19, _⟩, _, d => before0_19 m c t d
  | ⟨20, _⟩, _, d => before0_20 m c t d
  | ⟨21, _⟩, _, d => before0_21 m c t d
  | ⟨22, _⟩, _, d => before0_22 m c t d
  | ⟨23, _⟩, _, d => before0_23 m c t d
  | ⟨24, _⟩, _, d => before0_24 m c t d
  | ⟨25, _⟩, _, d => before0_25 m c t d
  | ⟨26, _⟩, _, d => before0_26 m c t d
  | ⟨27, _⟩, _, d => before0_27 m c t d
  | ⟨28, _⟩, _, d => before0_28 m c t d
  | ⟨29, _⟩, _, d => before0_29 m c t d
  | ⟨30, _⟩, _, d => before0_30 m c t d
  | ⟨31, _⟩, _, d => before0_31 m c t d
  | ⟨32, _⟩, _, d => before0_32 m c t d
  | ⟨33, _⟩, _, d => before0_33 m c t d
  | ⟨34, _⟩, _, d => before0_34 m c t d
  | ⟨35, _⟩, _, d => before0_35 m c t d
  | ⟨36, _⟩, _, d => before0_36 m c t d
  | ⟨37, _⟩, _, d => before0_37 m c t d
  | ⟨38, _⟩, _, d => before0_38 m c t d
  | ⟨39, _⟩, _, d => before0_39 m c t d
  | ⟨40, _⟩, _, d => before0_40 m c t d
  | ⟨41, _⟩, _, d => before0_41 m c t d
  | ⟨42, _⟩, _, d => before0_42 m c t d
  | ⟨43, _⟩, _, d => before0_43 m c t d
  | ⟨44, _⟩, _, d => before0_44 m c t d
  | ⟨n + 45, hn⟩, h, _ => absurd (isOut_of ⟨n + 45, hn⟩ (Nat.le_add_left _ _)) (by rw [show (win0 ⟨n + 45, hn⟩).isOut = false from h]; exact Bool.false_ne_true)

/-! ## The body obligation -/

/-- What the body finds in a window's staging buffer: an argument's block, anything for a result. -/
def found (c : Dev nD) (t : Fin cfg0.N) (w : Fin cfg0.W) : sProp 𝕄 :=
  if (cfg0.win w).isOut = true then iprop(∃ X, owns (c : Thread nD τ) ((cfg0.win w).stage (cfg0.slots t w)) fullShare X)
  else owns (c : Thread nD τ) ((cfg0.win w).stage (cfg0.slots t w)) fullShare ((dats m 0 c).after w t)

/-- What it leaves there. -/
def left (c : Dev nD) (t : Fin cfg0.N) (w : Fin cfg0.W) : sProp 𝕄 :=
  owns (c : Thread nD τ) ((cfg0.win w).stage (cfg0.slots t w)) fullShare ((dats m 0 c).after w t)

theorem found_of (c : Dev nD) (t : Fin cfg0.N) (w : Fin cfg0.W) :
    iprop(∃ d, owns (c : Thread nD τ) ((cfg0.win w).stage (cfg0.slots t w)) fullShare ((dats m 0 c).before w t d)) ⊢ found m c t w := by
  unfold found
  by_cases h : (cfg0.win w).isOut = true
  · rw [if_pos h]
    iintro ⟨%d, H⟩
    iexists _
    iexact H
  · rw [if_neg h]
    iintro ⟨%d, H⟩
    rw [before_in m c t w (by simpa using h) d]
    iexact H

section windows

variable (c : Dev nD) (t : Fin cfg0.N)

theorem found_0 : found m c t 0 = owns (c : Thread nD τ) (st0_0 t) fullShare (iblk m c 0 t) :=
  (if_neg Bool.false_ne_true).trans (by rw [after0_0])
theorem found_1 : found m c t 1 = owns (c : Thread nD τ) (st0_1 t) fullShare (iblk m c 1 t) :=
  (if_neg Bool.false_ne_true).trans (by rw [after0_1])
theorem found_2 : found m c t 2 = owns (c : Thread nD τ) (st0_2 t) fullShare (iblk m c 2 t) :=
  (if_neg Bool.false_ne_true).trans (by rw [after0_2])
theorem found_3 : found m c t 3 = owns (c : Thread nD τ) (st0_3 t) fullShare (iblk m c 3 t) :=
  (if_neg Bool.false_ne_true).trans (by rw [after0_3])
theorem found_4 : found m c t 4 = owns (c : Thread nD τ) (st0_4 t) fullShare (iblk m c 4 t) :=
  (if_neg Bool.false_ne_true).trans (by rw [after0_4])
theorem found_5 : found m c t 5 = owns (c : Thread nD τ) (st0_5 t) fullShare (iblk m c 5 t) :=
  (if_neg Bool.false_ne_true).trans (by rw [after0_5])
theorem found_6 : found m c t 6 = owns (c : Thread nD τ) (st0_6 t) fullShare (iblk m c 6 t) :=
  (if_neg Bool.false_ne_true).trans (by rw [after0_6])
theorem found_7 : found m c t 7 = owns (c : Thread nD τ) (st0_7 t) fullShare (iblk m c 7 t) :=
  (if_neg Bool.false_ne_true).trans (by rw [after0_7])
theorem found_8 : found m c t 8 = owns (c : Thread nD τ) (st0_8 t) fullShare (iblk m c 8 t) :=
  (if_neg Bool.false_ne_true).trans (by rw [after0_8])
theorem found_9 : found m c t 9 = owns (c : Thread nD τ) (st0_9 t) fullShare (iblk m c 9 t) :=
  (if_neg Bool.false_ne_true).trans (by rw [after0_9])
theorem found_10 : found m c t 10 = owns (c : Thread nD τ) (st0_10 t) fullShare (iblk m c 10 t) :=
  (if_neg Bool.false_ne_true).trans (by rw [after0_10])
theorem found_11 : found m c t 11 = owns (c : Thread nD τ) (st0_11 t) fullShare (iblk m c 11 t) :=
  (if_neg Bool.false_ne_true).trans (by rw [after0_11])
theorem found_12 : found m c t 12 = owns (c : Thread nD τ) (st0_12 t) fullShare (iblk m c 12 t) :=
  (if_neg Bool.false_ne_true).trans (by rw [after0_12])
theorem found_13 : found m c t 13 = owns (c : Thread nD τ) (st0_13 t) fullShare (iblk m c 13 t) :=
  (if_neg Bool.false_ne_true).trans (by rw [after0_13])
theorem found_14 : found m c t 14 = owns (c : Thread nD τ) (st0_14 t) fullShare (iblk m c 14 t) :=
  (if_neg Bool.false_ne_true).trans (by rw [after0_14])
theorem found_15 : found m c t 15 = owns (c : Thread nD τ) (st0_15 t) fullShare (iblk m c 15 t) :=
  (if_neg Bool.false_ne_true).trans (by rw [after0_15])
theorem found_16 : found m c t 16 = owns (c : Thread nD τ) (st0_16 t) fullShare (iblk m c 16 t) :=
  (if_neg Bool.false_ne_true).trans (by rw [after0_16])
theorem found_17 : found m c t 17 = owns (c : Thread nD τ) (st0_17 t) fullShare (iblk m c 17 t) :=
  (if_neg Bool.false_ne_true).trans (by rw [after0_17])
theorem found_18 : found m c t 18 = owns (c : Thread nD τ) (st0_18 t) fullShare (iblk m c 18 t) :=
  (if_neg Bool.false_ne_true).trans (by rw [after0_18])
theorem found_19 : found m c t 19 = owns (c : Thread nD τ) (st0_19 t) fullShare (iblk m c 19 t) :=
  (if_neg Bool.false_ne_true).trans (by rw [after0_19])
theorem found_20 : found m c t 20 = owns (c : Thread nD τ) (st0_20 t) fullShare (iblk m c 20 t) :=
  (if_neg Bool.false_ne_true).trans (by rw [after0_20])
theorem found_21 : found m c t 21 = owns (c : Thread nD τ) (st0_21 t) fullShare (iblk m c 21 t) :=
  (if_neg Bool.false_ne_true).trans (by rw [after0_21])
theorem found_22 : found m c t 22 = owns (c : Thread nD τ) (st0_22 t) fullShare (iblk m c 22 t) :=
  (if_neg Bool.false_ne_true).trans (by rw [after0_22])
theorem found_23 : found m c t 23 = owns (c : Thread nD τ) (st0_23 t) fullShare (iblk m c 23 t) :=
  (if_neg Bool.false_ne_true).trans (by rw [after0_23])
theorem found_24 : found m c t 24 = owns (c : Thread nD τ) (st0_24 t) fullShare (iblk m c 24 t) :=
  (if_neg Bool.false_ne_true).trans (by rw [after0_24])
theorem found_25 : found m c t 25 = owns (c : Thread nD τ) (st0_25 t) fullShare (iblk m c 25 t) :=
  (if_neg Bool.false_ne_true).trans (by rw [after0_25])
theorem found_26 : found m c t 26 = owns (c : Thread nD τ) (st0_26 t) fullShare (iblk m c 26 t) :=
  (if_neg Bool.false_ne_true).trans (by rw [after0_26])
theorem found_27 : found m c t 27 = owns (c : Thread nD τ) (st0_27 t) fullShare (iblk m c 27 t) :=
  (if_neg Bool.false_ne_true).trans (by rw [after0_27])
theorem found_28 : found m c t 28 = owns (c : Thread nD τ) (st0_28 t) fullShare (iblk m c 28 t) :=
  (if_neg Bool.false_ne_true).trans (by rw [after0_28])
theorem found_29 : found m c t 29 = owns (c : Thread nD τ) (st0_29 t) fullShare (iblk m c 29 t) :=
  (if_neg Bool.false_ne_true).trans (by rw [after0_29])
theorem found_30 : found m c t 30 = owns (c : Thread nD τ) (st0_30 t) fullShare (iblk m c 30 t) :=
  (if_neg Bool.false_ne_true).trans (by rw [after0_30])
theorem found_31 : found m c t 31 = owns (c : Thread nD τ) (st0_31 t) fullShare (iblk m c 31 t) :=
  (if_neg Bool.false_ne_true).trans (by rw [after0_31])
theorem found_32 : found m c t 32 = owns (c : Thread nD τ) (st0_32 t) fullShare (iblk m c 32 t) :=
  (if_neg Bool.false_ne_true).trans (by rw [after0_32])
theorem found_33 : found m c t 33 = owns (c : Thread nD τ) (st0_33 t) fullShare (iblk m c 33 t) :=
  (if_neg Bool.false_ne_true).trans (by rw [after0_33])
theorem found_34 : found m c t 34 = owns (c : Thread nD τ) (st0_34 t) fullShare (iblk m c 34 t) :=
  (if_neg Bool.false_ne_true).trans (by rw [after0_34])
theorem found_35 : found m c t 35 = owns (c : Thread nD τ) (st0_35 t) fullShare (iblk m c 35 t) :=
  (if_neg Bool.false_ne_true).trans (by rw [after0_35])
theorem found_36 : found m c t 36 = owns (c : Thread nD τ) (st0_36 t) fullShare (iblk m c 36 t) :=
  (if_neg Bool.false_ne_true).trans (by rw [after0_36])
theorem found_37 : found m c t 37 = owns (c : Thread nD τ) (st0_37 t) fullShare (iblk m c 37 t) :=
  (if_neg Bool.false_ne_true).trans (by rw [after0_37])
theorem found_38 : found m c t 38 = owns (c : Thread nD τ) (st0_38 t) fullShare (iblk m c 38 t) :=
  (if_neg Bool.false_ne_true).trans (by rw [after0_38])
theorem found_39 : found m c t 39 = owns (c : Thread nD τ) (st0_39 t) fullShare (iblk m c 39 t) :=
  (if_neg Bool.false_ne_true).trans (by rw [after0_39])
theorem found_40 : found m c t 40 = owns (c : Thread nD τ) (st0_40 t) fullShare (iblk m c 40 t) :=
  (if_neg Bool.false_ne_true).trans (by rw [after0_40])
theorem found_41 : found m c t 41 = owns (c : Thread nD τ) (st0_41 t) fullShare (iblk m c 41 t) :=
  (if_neg Bool.false_ne_true).trans (by rw [after0_41])
theorem found_42 : found m c t 42 = owns (c : Thread nD τ) (st0_42 t) fullShare (iblk m c 42 t) :=
  (if_neg Bool.false_ne_true).trans (by rw [after0_42])
theorem found_43 : found m c t 43 = owns (c : Thread nD τ) (st0_43 t) fullShare (iblk m c 43 t) :=
  (if_neg Bool.false_ne_true).trans (by rw [after0_43])
theorem found_44 : found m c t 44 = owns (c : Thread nD τ) (st0_44 t) fullShare (iblk m c 44 t) :=
  (if_neg Bool.false_ne_true).trans (by rw [after0_44])
theorem found_45 : found m c t 45 = iprop(∃ d, owns (c : Thread nD τ) (st0_45 t) fullShare d) := if_pos rfl
theorem found_46 : found m c t 46 = iprop(∃ d, owns (c : Thread nD τ) (st0_46 t) fullShare d) := if_pos rfl
theorem found_47 : found m c t 47 = iprop(∃ d, owns (c : Thread nD τ) (st0_47 t) fullShare d) := if_pos rfl
theorem found_48 : found m c t 48 = iprop(∃ d, owns (c : Thread nD τ) (st0_48 t) fullShare d) := if_pos rfl
theorem found_49 : found m c t 49 = iprop(∃ d, owns (c : Thread nD τ) (st0_49 t) fullShare d) := if_pos rfl
theorem found_50 : found m c t 50 = iprop(∃ d, owns (c : Thread nD τ) (st0_50 t) fullShare d) := if_pos rfl
theorem found_51 : found m c t 51 = iprop(∃ d, owns (c : Thread nD τ) (st0_51 t) fullShare d) := if_pos rfl
theorem found_52 : found m c t 52 = iprop(∃ d, owns (c : Thread nD τ) (st0_52 t) fullShare d) := if_pos rfl
theorem found_53 : found m c t 53 = iprop(∃ d, owns (c : Thread nD τ) (st0_53 t) fullShare d) := if_pos rfl
theorem found_54 : found m c t 54 = iprop(∃ d, owns (c : Thread nD τ) (st0_54 t) fullShare d) := if_pos rfl
theorem found_55 : found m c t 55 = iprop(∃ d, owns (c : Thread nD τ) (st0_55 t) fullShare d) := if_pos rfl
theorem found_56 : found m c t 56 = iprop(∃ d, owns (c : Thread nD τ) (st0_56 t) fullShare d) := if_pos rfl
theorem found_57 : found m c t 57 = iprop(∃ d, owns (c : Thread nD τ) (st0_57 t) fullShare d) := if_pos rfl
theorem found_58 : found m c t 58 = iprop(∃ d, owns (c : Thread nD τ) (st0_58 t) fullShare d) := if_pos rfl
theorem found_59 : found m c t 59 = iprop(∃ d, owns (c : Thread nD τ) (st0_59 t) fullShare d) := if_pos rfl
theorem found_60 : found m c t 60 = iprop(∃ d, owns (c : Thread nD τ) (st0_60 t) fullShare d) := if_pos rfl
theorem found_61 : found m c t 61 = iprop(∃ d, owns (c : Thread nD τ) (st0_61 t) fullShare d) := if_pos rfl
theorem found_62 : found m c t 62 = iprop(∃ d, owns (c : Thread nD τ) (st0_62 t) fullShare d) := if_pos rfl
theorem found_63 : found m c t 63 = iprop(∃ d, owns (c : Thread nD τ) (st0_63 t) fullShare d) := if_pos rfl
theorem found_64 : found m c t 64 = iprop(∃ d, owns (c : Thread nD τ) (st0_64 t) fullShare d) := if_pos rfl
theorem found_65 : found m c t 65 = iprop(∃ d, owns (c : Thread nD τ) (st0_65 t) fullShare d) := if_pos rfl
theorem found_66 : found m c t 66 = iprop(∃ d, owns (c : Thread nD τ) (st0_66 t) fullShare d) := if_pos rfl
theorem found_67 : found m c t 67 = iprop(∃ d, owns (c : Thread nD τ) (st0_67 t) fullShare d) := if_pos rfl
theorem found_68 : found m c t 68 = iprop(∃ d, owns (c : Thread nD τ) (st0_68 t) fullShare d) := if_pos rfl
theorem found_69 : found m c t 69 = iprop(∃ d, owns (c : Thread nD τ) (st0_69 t) fullShare d) := if_pos rfl
theorem found_70 : found m c t 70 = iprop(∃ d, owns (c : Thread nD τ) (st0_70 t) fullShare d) := if_pos rfl
theorem found_71 : found m c t 71 = iprop(∃ d, owns (c : Thread nD τ) (st0_71 t) fullShare d) := if_pos rfl
theorem found_72 : found m c t 72 = iprop(∃ d, owns (c : Thread nD τ) (st0_72 t) fullShare d) := if_pos rfl
theorem found_73 : found m c t 73 = iprop(∃ d, owns (c : Thread nD τ) (st0_73 t) fullShare d) := if_pos rfl
theorem found_74 : found m c t 74 = iprop(∃ d, owns (c : Thread nD τ) (st0_74 t) fullShare d) := if_pos rfl
theorem found_75 : found m c t 75 = iprop(∃ d, owns (c : Thread nD τ) (st0_75 t) fullShare d) := if_pos rfl
theorem found_76 : found m c t 76 = iprop(∃ d, owns (c : Thread nD τ) (st0_76 t) fullShare d) := if_pos rfl
theorem found_77 : found m c t 77 = iprop(∃ d, owns (c : Thread nD τ) (st0_77 t) fullShare d) := if_pos rfl
theorem found_78 : found m c t 78 = iprop(∃ d, owns (c : Thread nD τ) (st0_78 t) fullShare d) := if_pos rfl
theorem found_79 : found m c t 79 = iprop(∃ d, owns (c : Thread nD τ) (st0_79 t) fullShare d) := if_pos rfl
theorem found_80 : found m c t 80 = iprop(∃ d, owns (c : Thread nD τ) (st0_80 t) fullShare d) := if_pos rfl
theorem found_81 : found m c t 81 = iprop(∃ d, owns (c : Thread nD τ) (st0_81 t) fullShare d) := if_pos rfl
theorem found_82 : found m c t 82 = iprop(∃ d, owns (c : Thread nD τ) (st0_82 t) fullShare d) := if_pos rfl
theorem found_83 : found m c t 83 = iprop(∃ d, owns (c : Thread nD τ) (st0_83 t) fullShare d) := if_pos rfl
theorem found_84 : found m c t 84 = iprop(∃ d, owns (c : Thread nD τ) (st0_84 t) fullShare d) := if_pos rfl
theorem found_85 : found m c t 85 = iprop(∃ d, owns (c : Thread nD τ) (st0_85 t) fullShare d) := if_pos rfl
theorem found_86 : found m c t 86 = iprop(∃ d, owns (c : Thread nD τ) (st0_86 t) fullShare d) := if_pos rfl
theorem found_87 : found m c t 87 = iprop(∃ d, owns (c : Thread nD τ) (st0_87 t) fullShare d) := if_pos rfl
theorem found_88 : found m c t 88 = iprop(∃ d, owns (c : Thread nD τ) (st0_88 t) fullShare d) := if_pos rfl
theorem found_89 : found m c t 89 = iprop(∃ d, owns (c : Thread nD τ) (st0_89 t) fullShare d) := if_pos rfl
theorem left_0 : left m c t 0 = owns (c : Thread nD τ) (st0_0 t) fullShare (iblk m c 0 t) := by rw [left, after0_0]
theorem left_1 : left m c t 1 = owns (c : Thread nD τ) (st0_1 t) fullShare (iblk m c 1 t) := by rw [left, after0_1]
theorem left_2 : left m c t 2 = owns (c : Thread nD τ) (st0_2 t) fullShare (iblk m c 2 t) := by rw [left, after0_2]
theorem left_3 : left m c t 3 = owns (c : Thread nD τ) (st0_3 t) fullShare (iblk m c 3 t) := by rw [left, after0_3]
theorem left_4 : left m c t 4 = owns (c : Thread nD τ) (st0_4 t) fullShare (iblk m c 4 t) := by rw [left, after0_4]
theorem left_5 : left m c t 5 = owns (c : Thread nD τ) (st0_5 t) fullShare (iblk m c 5 t) := by rw [left, after0_5]
theorem left_6 : left m c t 6 = owns (c : Thread nD τ) (st0_6 t) fullShare (iblk m c 6 t) := by rw [left, after0_6]
theorem left_7 : left m c t 7 = owns (c : Thread nD τ) (st0_7 t) fullShare (iblk m c 7 t) := by rw [left, after0_7]
theorem left_8 : left m c t 8 = owns (c : Thread nD τ) (st0_8 t) fullShare (iblk m c 8 t) := by rw [left, after0_8]
theorem left_9 : left m c t 9 = owns (c : Thread nD τ) (st0_9 t) fullShare (iblk m c 9 t) := by rw [left, after0_9]
theorem left_10 : left m c t 10 = owns (c : Thread nD τ) (st0_10 t) fullShare (iblk m c 10 t) := by rw [left, after0_10]
theorem left_11 : left m c t 11 = owns (c : Thread nD τ) (st0_11 t) fullShare (iblk m c 11 t) := by rw [left, after0_11]
theorem left_12 : left m c t 12 = owns (c : Thread nD τ) (st0_12 t) fullShare (iblk m c 12 t) := by rw [left, after0_12]
theorem left_13 : left m c t 13 = owns (c : Thread nD τ) (st0_13 t) fullShare (iblk m c 13 t) := by rw [left, after0_13]
theorem left_14 : left m c t 14 = owns (c : Thread nD τ) (st0_14 t) fullShare (iblk m c 14 t) := by rw [left, after0_14]
theorem left_15 : left m c t 15 = owns (c : Thread nD τ) (st0_15 t) fullShare (iblk m c 15 t) := by rw [left, after0_15]
theorem left_16 : left m c t 16 = owns (c : Thread nD τ) (st0_16 t) fullShare (iblk m c 16 t) := by rw [left, after0_16]
theorem left_17 : left m c t 17 = owns (c : Thread nD τ) (st0_17 t) fullShare (iblk m c 17 t) := by rw [left, after0_17]
theorem left_18 : left m c t 18 = owns (c : Thread nD τ) (st0_18 t) fullShare (iblk m c 18 t) := by rw [left, after0_18]
theorem left_19 : left m c t 19 = owns (c : Thread nD τ) (st0_19 t) fullShare (iblk m c 19 t) := by rw [left, after0_19]
theorem left_20 : left m c t 20 = owns (c : Thread nD τ) (st0_20 t) fullShare (iblk m c 20 t) := by rw [left, after0_20]
theorem left_21 : left m c t 21 = owns (c : Thread nD τ) (st0_21 t) fullShare (iblk m c 21 t) := by rw [left, after0_21]
theorem left_22 : left m c t 22 = owns (c : Thread nD τ) (st0_22 t) fullShare (iblk m c 22 t) := by rw [left, after0_22]
theorem left_23 : left m c t 23 = owns (c : Thread nD τ) (st0_23 t) fullShare (iblk m c 23 t) := by rw [left, after0_23]
theorem left_24 : left m c t 24 = owns (c : Thread nD τ) (st0_24 t) fullShare (iblk m c 24 t) := by rw [left, after0_24]
theorem left_25 : left m c t 25 = owns (c : Thread nD τ) (st0_25 t) fullShare (iblk m c 25 t) := by rw [left, after0_25]
theorem left_26 : left m c t 26 = owns (c : Thread nD τ) (st0_26 t) fullShare (iblk m c 26 t) := by rw [left, after0_26]
theorem left_27 : left m c t 27 = owns (c : Thread nD τ) (st0_27 t) fullShare (iblk m c 27 t) := by rw [left, after0_27]
theorem left_28 : left m c t 28 = owns (c : Thread nD τ) (st0_28 t) fullShare (iblk m c 28 t) := by rw [left, after0_28]
theorem left_29 : left m c t 29 = owns (c : Thread nD τ) (st0_29 t) fullShare (iblk m c 29 t) := by rw [left, after0_29]
theorem left_30 : left m c t 30 = owns (c : Thread nD τ) (st0_30 t) fullShare (iblk m c 30 t) := by rw [left, after0_30]
theorem left_31 : left m c t 31 = owns (c : Thread nD τ) (st0_31 t) fullShare (iblk m c 31 t) := by rw [left, after0_31]
theorem left_32 : left m c t 32 = owns (c : Thread nD τ) (st0_32 t) fullShare (iblk m c 32 t) := by rw [left, after0_32]
theorem left_33 : left m c t 33 = owns (c : Thread nD τ) (st0_33 t) fullShare (iblk m c 33 t) := by rw [left, after0_33]
theorem left_34 : left m c t 34 = owns (c : Thread nD τ) (st0_34 t) fullShare (iblk m c 34 t) := by rw [left, after0_34]
theorem left_35 : left m c t 35 = owns (c : Thread nD τ) (st0_35 t) fullShare (iblk m c 35 t) := by rw [left, after0_35]
theorem left_36 : left m c t 36 = owns (c : Thread nD τ) (st0_36 t) fullShare (iblk m c 36 t) := by rw [left, after0_36]
theorem left_37 : left m c t 37 = owns (c : Thread nD τ) (st0_37 t) fullShare (iblk m c 37 t) := by rw [left, after0_37]
theorem left_38 : left m c t 38 = owns (c : Thread nD τ) (st0_38 t) fullShare (iblk m c 38 t) := by rw [left, after0_38]
theorem left_39 : left m c t 39 = owns (c : Thread nD τ) (st0_39 t) fullShare (iblk m c 39 t) := by rw [left, after0_39]
theorem left_40 : left m c t 40 = owns (c : Thread nD τ) (st0_40 t) fullShare (iblk m c 40 t) := by rw [left, after0_40]
theorem left_41 : left m c t 41 = owns (c : Thread nD τ) (st0_41 t) fullShare (iblk m c 41 t) := by rw [left, after0_41]
theorem left_42 : left m c t 42 = owns (c : Thread nD τ) (st0_42 t) fullShare (iblk m c 42 t) := by rw [left, after0_42]
theorem left_43 : left m c t 43 = owns (c : Thread nD τ) (st0_43 t) fullShare (iblk m c 43 t) := by rw [left, after0_43]
theorem left_44 : left m c t 44 = owns (c : Thread nD τ) (st0_44 t) fullShare (iblk m c 44 t) := by rw [left, after0_44]
theorem left_45 : left m c t 45 = owns (c : Thread nD τ) (st0_45 t) fullShare (out0_45 (iblk m c 0 t)) := by rw [left, after0_45]
theorem left_46 : left m c t 46 = owns (c : Thread nD τ) (st0_46 t) fullShare (out0_46 (iblk m c 1 t)) := by rw [left, after0_46]
theorem left_47 : left m c t 47 = owns (c : Thread nD τ) (st0_47 t) fullShare (out0_47 (iblk m c 2 t)) := by rw [left, after0_47]
theorem left_48 : left m c t 48 = owns (c : Thread nD τ) (st0_48 t) fullShare (out0_48 (iblk m c 3 t)) := by rw [left, after0_48]
theorem left_49 : left m c t 49 = owns (c : Thread nD τ) (st0_49 t) fullShare (out0_49 (iblk m c 4 t)) := by rw [left, after0_49]
theorem left_50 : left m c t 50 = owns (c : Thread nD τ) (st0_50 t) fullShare (out0_50 (iblk m c 5 t)) := by rw [left, after0_50]
theorem left_51 : left m c t 51 = owns (c : Thread nD τ) (st0_51 t) fullShare (out0_51 (iblk m c 6 t)) := by rw [left, after0_51]
theorem left_52 : left m c t 52 = owns (c : Thread nD τ) (st0_52 t) fullShare (out0_52 (iblk m c 7 t)) := by rw [left, after0_52]
theorem left_53 : left m c t 53 = owns (c : Thread nD τ) (st0_53 t) fullShare (out0_53 (iblk m c 8 t)) := by rw [left, after0_53]
theorem left_54 : left m c t 54 = owns (c : Thread nD τ) (st0_54 t) fullShare (out0_54 (iblk m c 9 t)) := by rw [left, after0_54]
theorem left_55 : left m c t 55 = owns (c : Thread nD τ) (st0_55 t) fullShare (out0_55 (iblk m c 10 t)) := by rw [left, after0_55]
theorem left_56 : left m c t 56 = owns (c : Thread nD τ) (st0_56 t) fullShare (out0_56 (iblk m c 11 t)) := by rw [left, after0_56]
theorem left_57 : left m c t 57 = owns (c : Thread nD τ) (st0_57 t) fullShare (out0_57 (iblk m c 1 t) (iblk m c 12 t) (iblk m c 23 t) (iblk m c 34 t)) := by rw [left, after0_57]
theorem left_58 : left m c t 58 = owns (c : Thread nD τ) (st0_58 t) fullShare (out0_58 (iblk m c 2 t) (iblk m c 13 t) (iblk m c 24 t) (iblk m c 35 t)) := by rw [left, after0_58]
theorem left_59 : left m c t 59 = owns (c : Thread nD τ) (st0_59 t) fullShare (out0_59 (iblk m c 3 t) (iblk m c 14 t) (iblk m c 25 t) (iblk m c 36 t)) := by rw [left, after0_59]
theorem left_60 : left m c t 60 = owns (c : Thread nD τ) (st0_60 t) fullShare (out0_60 (iblk m c 4 t) (iblk m c 15 t) (iblk m c 26 t) (iblk m c 37 t)) := by rw [left, after0_60]
theorem left_61 : left m c t 61 = owns (c : Thread nD τ) (st0_61 t) fullShare (out0_61 (iblk m c 5 t) (iblk m c 16 t) (iblk m c 27 t) (iblk m c 38 t)) := by rw [left, after0_61]
theorem left_62 : left m c t 62 = owns (c : Thread nD τ) (st0_62 t) fullShare (out0_62 (iblk m c 6 t) (iblk m c 17 t) (iblk m c 28 t) (iblk m c 39 t)) := by rw [left, after0_62]
theorem left_63 : left m c t 63 = owns (c : Thread nD τ) (st0_63 t) fullShare (out0_63 (iblk m c 7 t) (iblk m c 18 t) (iblk m c 29 t) (iblk m c 40 t)) := by rw [left, after0_63]
theorem left_64 : left m c t 64 = owns (c : Thread nD τ) (st0_64 t) fullShare (out0_64 (iblk m c 8 t) (iblk m c 19 t) (iblk m c 30 t) (iblk m c 41 t)) := by rw [left, after0_64]
theorem left_65 : left m c t 65 = owns (c : Thread nD τ) (st0_65 t) fullShare (out0_65 (iblk m c 9 t) (iblk m c 20 t) (iblk m c 31 t) (iblk m c 42 t)) := by rw [left, after0_65]
theorem left_66 : left m c t 66 = owns (c : Thread nD τ) (st0_66 t) fullShare (out0_66 (iblk m c 10 t) (iblk m c 21 t) (iblk m c 32 t) (iblk m c 43 t)) := by rw [left, after0_66]
theorem left_67 : left m c t 67 = owns (c : Thread nD τ) (st0_67 t) fullShare (out0_67 (iblk m c 11 t) (iblk m c 22 t) (iblk m c 33 t) (iblk m c 44 t)) := by rw [left, after0_67]
theorem left_68 : left m c t 68 = owns (c : Thread nD τ) (st0_68 t) fullShare (out0_68 (iblk m c 1 t) (iblk m c 23 t)) := by rw [left, after0_68]
theorem left_69 : left m c t 69 = owns (c : Thread nD τ) (st0_69 t) fullShare (out0_69 (iblk m c 2 t) (iblk m c 24 t)) := by rw [left, after0_69]
theorem left_70 : left m c t 70 = owns (c : Thread nD τ) (st0_70 t) fullShare (out0_70 (iblk m c 3 t) (iblk m c 25 t)) := by rw [left, after0_70]
theorem left_71 : left m c t 71 = owns (c : Thread nD τ) (st0_71 t) fullShare (out0_71 (iblk m c 4 t) (iblk m c 26 t)) := by rw [left, after0_71]
theorem left_72 : left m c t 72 = owns (c : Thread nD τ) (st0_72 t) fullShare (out0_72 (iblk m c 5 t) (iblk m c 27 t)) := by rw [left, after0_72]
theorem left_73 : left m c t 73 = owns (c : Thread nD τ) (st0_73 t) fullShare (out0_73 (iblk m c 6 t) (iblk m c 28 t)) := by rw [left, after0_73]
theorem left_74 : left m c t 74 = owns (c : Thread nD τ) (st0_74 t) fullShare (out0_74 (iblk m c 7 t) (iblk m c 29 t)) := by rw [left, after0_74]
theorem left_75 : left m c t 75 = owns (c : Thread nD τ) (st0_75 t) fullShare (out0_75 (iblk m c 8 t) (iblk m c 30 t)) := by rw [left, after0_75]
theorem left_76 : left m c t 76 = owns (c : Thread nD τ) (st0_76 t) fullShare (out0_76 (iblk m c 9 t) (iblk m c 31 t)) := by rw [left, after0_76]
theorem left_77 : left m c t 77 = owns (c : Thread nD τ) (st0_77 t) fullShare (out0_77 (iblk m c 10 t) (iblk m c 32 t)) := by rw [left, after0_77]
theorem left_78 : left m c t 78 = owns (c : Thread nD τ) (st0_78 t) fullShare (out0_78 (iblk m c 11 t) (iblk m c 33 t)) := by rw [left, after0_78]
theorem left_79 : left m c t 79 = owns (c : Thread nD τ) (st0_79 t) fullShare (out0_79 (iblk m c 1 t) (iblk m c 34 t)) := by rw [left, after0_79]
theorem left_80 : left m c t 80 = owns (c : Thread nD τ) (st0_80 t) fullShare (out0_80 (iblk m c 2 t) (iblk m c 35 t)) := by rw [left, after0_80]
theorem left_81 : left m c t 81 = owns (c : Thread nD τ) (st0_81 t) fullShare (out0_81 (iblk m c 3 t) (iblk m c 36 t)) := by rw [left, after0_81]
theorem left_82 : left m c t 82 = owns (c : Thread nD τ) (st0_82 t) fullShare (out0_82 (iblk m c 4 t) (iblk m c 37 t)) := by rw [left, after0_82]
theorem left_83 : left m c t 83 = owns (c : Thread nD τ) (st0_83 t) fullShare (out0_83 (iblk m c 5 t) (iblk m c 38 t)) := by rw [left, after0_83]
theorem left_84 : left m c t 84 = owns (c : Thread nD τ) (st0_84 t) fullShare (out0_84 (iblk m c 6 t) (iblk m c 39 t)) := by rw [left, after0_84]
theorem left_85 : left m c t 85 = owns (c : Thread nD τ) (st0_85 t) fullShare (out0_85 (iblk m c 7 t) (iblk m c 40 t)) := by rw [left, after0_85]
theorem left_86 : left m c t 86 = owns (c : Thread nD τ) (st0_86 t) fullShare (out0_86 (iblk m c 8 t) (iblk m c 41 t)) := by rw [left, after0_86]
theorem left_87 : left m c t 87 = owns (c : Thread nD τ) (st0_87 t) fullShare (out0_87 (iblk m c 9 t) (iblk m c 42 t)) := by rw [left, after0_87]
theorem left_88 : left m c t 88 = owns (c : Thread nD τ) (st0_88 t) fullShare (out0_88 (iblk m c 10 t) (iblk m c 43 t)) := by rw [left, after0_88]
theorem left_89 : left m c t 89 = owns (c : Thread nD τ) (st0_89 t) fullShare (out0_89 (iblk m c 11 t) (iblk m c 44 t)) := by rw [left, after0_89]

end windows

/-- The body table's row is the body. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body at a point. -/
theorem sound_body (c : Dev nD) (t : Fin cfg0.N) :
    iprop((dats m 0 c).Φ t.castSucc ∗ (dats m 0 c).owesAt () t.castSucc ∗ bigSep Finset.univ (found m c t)) ⊢
      wp frame (wpE (defs₀ (F := F)) Variants.none c none) Set.univ (bodyAt0 t)
        (fun _ => iprop((dats m 0 c).Φ t.castSucc ∗ (dats m 0 c).owesAt () t.castSucc ∗ bigSep Finset.univ (left m c t))) := by
  unfold bodyAt0
  rw [bigSep_W0, bigSep_W0]
  simp only [found_0, found_1, found_2, found_3, found_4, found_5, found_6, found_7, found_8, found_9, found_10, found_11, found_12, found_13, found_14, found_15, found_16, found_17, found_18, found_19, found_20, found_21, found_22, found_23, found_24, found_25, found_26, found_27, found_28, found_29, found_30, found_31, found_32, found_33, found_34, found_35, found_36, found_37, found_38, found_39, found_40, found_41, found_42, found_43, found_44, found_45, found_46, found_47, found_48, found_49, found_50, found_51, found_52, found_53, found_54, found_55, found_56, found_57, found_58, found_59, found_60, found_61, found_62, found_63, found_64, found_65, found_66, found_67, found_68, found_69, found_70, found_71, found_72, found_73, found_74, found_75, found_76, found_77, found_78, found_79, found_80, found_81, found_82, found_83, found_84, found_85, found_86, found_87, found_88, found_89, left_0, left_1, left_2, left_3, left_4, left_5, left_6, left_7, left_8, left_9, left_10, left_11, left_12, left_13, left_14, left_15, left_16, left_17, left_18, left_19, left_20, left_21, left_22, left_23, left_24, left_25, left_26, left_27, left_28, left_29, left_30, left_31, left_32, left_33, left_34, left_35, left_36, left_37, left_38, left_39, left_40, left_41, left_42, left_43, left_44, left_45, left_46, left_47, left_48, left_49, left_50, left_51, left_52, left_53, left_54, left_55, left_56, left_57, left_58, left_59, left_60, left_61, left_62, left_63, left_64, left_65, left_66, left_67, left_68, left_69, left_70, left_71, left_72, left_73, left_74, left_75, left_76, left_77, left_78, left_79, left_80, left_81, left_82, left_83, left_84, left_85, left_86, left_87, left_88, left_89]
  iintro ⟨HΦ, Ho, H⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H]; · iexact H
  iintro H
  isplitl [HΦ]; · iexact HΦ
  isplitl [Ho]; · iexact Ho
  iexact H

set_option maxHeartbeats 4000000 in
/-- The body obligation. -/
theorem body_obligation (c : Dev nD) : BodyObligation (dats (F := F) m 0 c) (defs₀ (F := F)) Variants.none () Set.univ := fun t => by
  rw [defs₀_row]
  exact triple_restated (sound_body m c t) rfl (sep_mono .rfl (sep_mono .rfl (bigSep_mono fun w _ => found_of m c t w))) fun _ => .rfl

/-! ## The run and the frame -/

set_option backward.isDefEq.respectTransparency.types false in
set_option maxHeartbeats 4000000 in
/-- Every execution terminates with each array at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument's array ends as launched. -/
theorem stays {r} (h : Pipeline.FramePost cfgs (dats m) 0 (V m) r) (c : Dev nD) (w : Fin cfg0.W) (hw : (cfg0.win w).isOut = false) :
    r.2.mem ((c.tc : Thread nD τ).loc (Pipeline.arrRef spec0 w)) = m ((c.tc : Thread nD τ).loc (Pipeline.arrRef spec0 w)) :=
  ((h c).1 w).trans (((dats m 0 c).arrAt_in w hw _).trans (A_eq m c w))

set_option maxHeartbeats 5400000 in
/-- The 45 arguments end as launched. -/
theorem kept {r} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44) :=
  ⟨stays m h c 0 rfl, stays m h c 1 rfl, stays m h c 2 rfl, stays m h c 3 rfl, stays m h c 4 rfl, stays m h c 5 rfl, stays m h c 6 rfl, stays m h c 7 rfl, stays m h c 8 rfl, stays m h c 9 rfl, stays m h c 10 rfl, stays m h c 11 rfl, stays m h c 12 rfl, stays m h c 13 rfl, stays m h c 14 rfl, stays m h c 15 rfl, stays m h c 16 rfl, stays m h c 17 rfl, stays m h c 18 rfl, stays m h c 19 rfl, stays m h c 20 rfl, stays m h c 21 rfl, stays m h c 22 rfl, stays m h c 23 rfl, stays m h c 24 rfl, stays m h c 25 rfl, stays m h c 26 rfl, stays m h c 27 rfl, stays m h c 28 rfl, stays m h c 29 rfl, stays m h c 30 rfl, stays m h c 31 rfl, stays m h c 32 rfl, stays m h c 33 rfl, stays m h c 34 rfl, stays m h c 35 rfl, stays m h c 36 rfl, stays m h c 37 rfl, stays m h c 38 rfl, stays m h c 39 rfl, stays m h c 40 rfl, stays m h c 41 rfl, stays m h c 42 rfl, stays m h c 43 rfl, stays m h c 44 rfl⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44))
      ∧ r.2.sem = fun _ => 0) :=
  (θ_run defs _ _).mono (fun _ h => ⟨fun c => kept m h.1 c, h.2⟩) (run_main_quiescent m ρ)

end Cert.AdamSmallIdeal.Whole
-- ==== Proof.AdamSmallArrays.lean ====
/- The results of the optimiser's step of the small tensors: the loss, and each tensor's gradient, update and moments. -/
module

public import proofs.«01_k».proof.Defs
public import proofs.«01_k».proof.Proof.SmallIdealFrame
public import proofs.«01_k».proof.Proof.Gen.AdamSmallRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Small

/-! ## Any shape -/

/-- The sum over the eight devices of a gathered tensor. -/
def slabs {a b : ℕ} (x : Vec Ideal ⟨3, ![8, a, b]⟩ .f32) : Vec Ideal ⟨2, ![a, b]⟩ .f32 := fun i => ∑ s : Fin 8, x (ix3 s (i 0) (i 1))

theorem eight (f : Fin 8 → EReal) : f 0 + f 1 + f 2 + f 3 + f 4 + f 5 + f 6 + f 7 = ∑ s, f s :=
  (Fin.sum_univ_eight f).symm

theorem mean_congr {s : Shape} {g g' m m' : FVec Ideal s .f32} (hg : g = g') (hm : m = m') : mean g m = mean g' m' := by
  rw [hg, hm]
theorem square_congr {s : Shape} {g g' v v' : FVec Ideal s .f32} (hg : g = g') (hv : v = v') : square g v = square g' v' := by
  rw [hg, hv]
theorem update_congr {s : Shape} {g g' x x' m m' v v' : FVec Ideal s .f32} (hg : g = g') (hx : x = x') (hm : m = m') (hv : v = v') :
    update g x m v = update g' x' m' v' := by
  rw [hg, hx, hm, hv]

section
open Cert.AdamSmallRefIdeal (S_)
variable {s : Shape} {d : Fin 0 → Fin s.rank} (h : S_.BroadcastsInDim s d) (g x m v : FVec Ideal s .f32)

/-- The reference's first moment, second moment and update. -/
theorem ref_mean : addf (mulf (broadcastInDim s d h (constant S_ .f32 0x3F666666#32)) m) (mulf (broadcastInDim s d h (constant S_ .f32 0x3DCCCCCD#32)) g)
    = mean g m := rfl
theorem ref_square : addf (mulf (broadcastInDim s d h (constant S_ .f32 0x3F7FBE77#32)) v)
      (mulf (broadcastInDim s d h (constant S_ .f32 0x3A83126F#32)) (mulf g g)) = square g v := rfl
theorem ref_update : mulf (broadcastInDim s d h (constant S_ .f32 0xBA83126F#32))
      (addf (Host.divf (Host.divf (mean g m) (broadcastInDim s d h (constant S_ .f32 0x3F26BD02#32)))
          (addf (Host.sqrt (Host.divf (square g v) (broadcastInDim s d h (constant S_ .f32 0x3C231ACC#32))))
            (broadcastInDim s d h (constant S_ .f32 0x322BCC77#32))))
        (mulf (broadcastInDim s d h (constant S_ .f32 0x3C23D70A#32)) x)) = update g x m v := rfl
end

/-! ## The loss: a positive factor passes through a sum -/

theorem mul_sum {ι : Type} (s : Finset ι) {c : ℝ} (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem c_half : Ideal.ofBits .f32 0x3F000000#32 = ((1 / 2 : ℝ) : EReal) := by
  simp [Ideal.ofBits, Ideal.ieee, -EReal.coe_mul]; norm_num
theorem c_rows : Ideal.ofBits .f32 0x44800000#32 = ((1024 : ℝ) : EReal) := by
  simp [Ideal.ofBits, Ideal.ieee, -EReal.coe_mul]; norm_num
theorem c_both : Ideal.ofBits .f32 0x3A000000#32 = ((1 / 2048 : ℝ) : EReal) := by
  simp [Ideal.ofBits, Ideal.ieee, -EReal.coe_mul]; norm_num

/-- Half the sum of the quotients by 1024 is the sum over 2048. -/
theorem half_sum {n : ℕ} (f : Fin n → EReal) : Ideal.ofBits .f32 0x3F000000#32 * ∑ i, Ideal.div (f i) (Ideal.ofBits .f32 0x44800000#32)
    = Ideal.ofBits .f32 0x3A000000#32 * ∑ i, f i := by
  rw [c_half, c_rows, c_both, mul_sum _ (by norm_num), mul_sum _ (by norm_num)]
  refine Finset.sum_congr rfl fun i _ => ?_
  rw [Ideal.div_coe (by norm_num), mul_comm (f i), ← mul_assoc, ← EReal.coe_mul]
  norm_num

end Cert.Small

namespace Cert.AdamSmallIdeal.Whole

open Cert.AdamSmallIdeal Cert.AdamSmallIdeal.Gen Cert.Small

theorem zero2 : (![0, 0] : Fin 2 → ℕ) = fun _ => 0 := by decide

/-! ## The summed gradients -/

theorem sum_0 (x : Vec Ideal S8x1x3592 .f32) : g0 (F := Ideal) x = slabs x := by
  funext i; idx_vars i
  obtain rfl : i0 = 0 := Subsingleton.elim _ _
  rw [slabs, ← eight]
  pointwise [g0, total]
theorem sum_1 (x : Vec Ideal S8x2x512 .f32) : g1 (F := Ideal) x = slabs x := by
  funext i; idx_vars i
  rw [slabs, ← eight]
  pointwise [g1, total]
theorem sum_2 (x : Vec Ideal S8x4x64 .f32) : g2 (F := Ideal) x = slabs x := by
  funext i; idx_vars i
  rw [slabs, ← eight]
  pointwise [g2, total]
theorem sum_3 (x : Vec Ideal S8x1x512 .f32) : g3 (F := Ideal) x = slabs x := by
  funext i; idx_vars i
  obtain rfl : i0 = 0 := Subsingleton.elim _ _
  rw [slabs, ← eight]
  pointwise [g3, total]
theorem sum_4 (x : Vec Ideal S8x1x512 .f32) : g4 (F := Ideal) x = slabs x := sum_3 x
theorem sum_5 (x : Vec Ideal S8x1x512 .f32) : g5 (F := Ideal) x = slabs x := sum_3 x
theorem sum_6 (x : Vec Ideal S8x1x1024 .f32) : g6 (F := Ideal) x = slabs x := by
  funext i; idx_vars i
  obtain rfl : i0 = 0 := Subsingleton.elim _ _
  rw [slabs, ← eight]
  pointwise [g6, total]
theorem sum_7 (x : Vec Ideal S8x1x1024 .f32) : g7 (F := Ideal) x = slabs x := sum_6 x
theorem sum_8 (x : Vec Ideal S8x1x1024 .f32) : g8 (F := Ideal) x = slabs x := sum_6 x
theorem sum_9 (x : Vec Ideal S8x1x1024 .f32) : g9 (F := Ideal) x = slabs x := sum_6 x
theorem sum_10 (x : Vec Ideal S8x1x1024 .f32) : g10 (F := Ideal) x = slabs x := sum_6 x

/-- The loss over all devices. -/
def loss (x : Vec Ideal S8x1x1024 .f32) : Vec Ideal S1x1 .f32 := fun _ => Ideal.ofBits .f32 0x3A000000#32 * ∑ l : Fin 1024, ∑ s : Fin 8, x (ix3 s 0 l)

theorem loss_eq (x : Vec Ideal S8x1x1024 .f32) : out0_45 (F := Ideal) x = loss x := by
  refine (View.canon_unit_zero zero2 _ _).trans ?_
  funext i; idx_vars i
  simp only [loss, ← eight]
  pointwise [k0_pay2]
  exact congrArg (Ideal.ofBits .f32 0x3A000000#32 * ·) (Fin.sum_univ_one _)

/-! ## The arrays after the run -/

section
variable (m : (ℓ : Loc nD τ sig) → Buf (Elt Ideal) ℓ) (c : Dev nD)

/-- The one point of the grid. -/
abbrev pt : Fin cfg0.N := ⟨0, by decide⟩

theorem idx_0 : ∀ t : Fin cfg0.N, win0_0.index t = ![0, 0, 0] := (by decide +kernel : ∀ t : Fin grid0.N, _)
theorem blk_0 : iblk m c 0 pt = m ((c : Thread nD τ).loc main_arg0) := by
  funext i; idx_vars i; blk_point [iblk, V, idx_0 pt]
theorem idx_1 : ∀ t : Fin cfg0.N, win0_1.index t = ![0, 0, 0] := (by decide +kernel : ∀ t : Fin grid0.N, _)
theorem blk_1 : iblk m c 1 pt = m ((c : Thread nD τ).loc main_arg1) := by
  funext i; idx_vars i; blk_point [iblk, V, idx_1 pt]
theorem idx_2 : ∀ t : Fin cfg0.N, win0_2.index t = ![0, 0, 0] := (by decide +kernel : ∀ t : Fin grid0.N, _)
theorem blk_2 : iblk m c 2 pt = m ((c : Thread nD τ).loc main_arg2) := by
  funext i; idx_vars i; blk_point [iblk, V, idx_2 pt]
theorem idx_3 : ∀ t : Fin cfg0.N, win0_3.index t = ![0, 0, 0] := (by decide +kernel : ∀ t : Fin grid0.N, _)
theorem blk_3 : iblk m c 3 pt = m ((c : Thread nD τ).loc main_arg3) := by
  funext i; idx_vars i; blk_point [iblk, V, idx_3 pt]
theorem idx_4 : ∀ t : Fin cfg0.N, win0_4.index t = ![0, 0, 0] := (by decide +kernel : ∀ t : Fin grid0.N, _)
theorem blk_4 : iblk m c 4 pt = m ((c : Thread nD τ).loc main_arg4) := by
  funext i; idx_vars i; blk_point [iblk, V, idx_4 pt]
theorem idx_5 : ∀ t : Fin cfg0.N, win0_5.index t = ![0, 0, 0] := (by decide +kernel : ∀ t : Fin grid0.N, _)
theorem blk_5 : iblk m c 5 pt = m ((c : Thread nD τ).loc main_arg5) := by
  funext i; idx_vars i; blk_point [iblk, V, idx_5 pt]
theorem idx_6 : ∀ t : Fin cfg0.N, win0_6.index t = ![0, 0, 0] := (by decide +kernel : ∀ t : Fin grid0.N, _)
theorem blk_6 : iblk m c 6 pt = m ((c : Thread nD τ).loc main_arg6) := by
  funext i; idx_vars i; blk_point [iblk, V, idx_6 pt]
theorem idx_7 : ∀ t : Fin cfg0.N, win0_7.index t = ![0, 0, 0] := (by decide +kernel : ∀ t : Fin grid0.N, _)
theorem blk_7 : iblk m c 7 pt = m ((c : Thread nD τ).loc main_arg7) := by
  funext i; idx_vars i; blk_point [iblk, V, idx_7 pt]
theorem idx_8 : ∀ t : Fin cfg0.N, win0_8.index t = ![0, 0, 0] := (by decide +kernel : ∀ t : Fin grid0.N, _)
theorem blk_8 : iblk m c 8 pt = m ((c : Thread nD τ).loc main_arg8) := by
  funext i; idx_vars i; blk_point [iblk, V, idx_8 pt]
theorem idx_9 : ∀ t : Fin cfg0.N, win0_9.index t = ![0, 0, 0] := (by decide +kernel : ∀ t : Fin grid0.N, _)
theorem blk_9 : iblk m c 9 pt = m ((c : Thread nD τ).loc main_arg9) := by
  funext i; idx_vars i; blk_point [iblk, V, idx_9 pt]
theorem idx_10 : ∀ t : Fin cfg0.N, win0_10.index t = ![0, 0, 0] := (by decide +kernel : ∀ t : Fin grid0.N, _)
theorem blk_10 : iblk m c 10 pt = m ((c : Thread nD τ).loc main_arg10) := by
  funext i; idx_vars i; blk_point [iblk, V, idx_10 pt]
theorem idx_11 : ∀ t : Fin cfg0.N, win0_11.index t = ![0, 0, 0] := (by decide +kernel : ∀ t : Fin grid0.N, _)
theorem blk_11 : iblk m c 11 pt = m ((c : Thread nD τ).loc main_arg11) := by
  funext i; idx_vars i; blk_point [iblk, V, idx_11 pt]
theorem idx_12 : ∀ t : Fin cfg0.N, win0_12.index t = ![0, 0] := (by decide +kernel : ∀ t : Fin grid0.N, _)
theorem blk_12 : iblk m c 12 pt = m ((c : Thread nD τ).loc main_arg12) := by
  funext i; idx_vars i; blk_point [iblk, V, idx_12 pt]
theorem idx_13 : ∀ t : Fin cfg0.N, win0_13.index t = ![0, 0] := (by decide +kernel : ∀ t : Fin grid0.N, _)
theorem blk_13 : iblk m c 13 pt = m ((c : Thread nD τ).loc main_arg13) := by
  funext i; idx_vars i; blk_point [iblk, V, idx_13 pt]
theorem idx_14 : ∀ t : Fin cfg0.N, win0_14.index t = ![0, 0] := (by decide +kernel : ∀ t : Fin grid0.N, _)
theorem blk_14 : iblk m c 14 pt = m ((c : Thread nD τ).loc main_arg14) := by
  funext i; idx_vars i; blk_point [iblk, V, idx_14 pt]
theorem idx_15 : ∀ t : Fin cfg0.N, win0_15.index t = ![0, 0] := (by decide +kernel : ∀ t : Fin grid0.N, _)
theorem blk_15 : iblk m c 15 pt = m ((c : Thread nD τ).loc main_arg15) := by
  funext i; idx_vars i; blk_point [iblk, V, idx_15 pt]
theorem idx_16 : ∀ t : Fin cfg0.N, win0_16.index t = ![0, 0] := (by decide +kernel : ∀ t : Fin grid0.N, _)
theorem blk_16 : iblk m c 16 pt = m ((c : Thread nD τ).loc main_arg16) := by
  funext i; idx_vars i; blk_point [iblk, V, idx_16 pt]
theorem idx_17 : ∀ t : Fin cfg0.N, win0_17.index t = ![0, 0] := (by decide +kernel : ∀ t : Fin grid0.N, _)
theorem blk_17 : iblk m c 17 pt = m ((c : Thread nD τ).loc main_arg17) := by
  funext i; idx_vars i; blk_point [iblk, V, idx_17 pt]
theorem idx_18 : ∀ t : Fin cfg0.N, win0_18.index t = ![0, 0] := (by decide +kernel : ∀ t : Fin grid0.N, _)
theorem blk_18 : iblk m c 18 pt = m ((c : Thread nD τ).loc main_arg18) := by
  funext i; idx_vars i; blk_point [iblk, V, idx_18 pt]
theorem idx_19 : ∀ t : Fin cfg0.N, win0_19.index t = ![0, 0] := (by decide +kernel : ∀ t : Fin grid0.N, _)
theorem blk_19 : iblk m c 19 pt = m ((c : Thread nD τ).loc main_arg19) := by
  funext i; idx_vars i; blk_point [iblk, V, idx_19 pt]
theorem idx_20 : ∀ t : Fin cfg0.N, win0_20.index t = ![0, 0] := (by decide +kernel : ∀ t : Fin grid0.N, _)
theorem blk_20 : iblk m c 20 pt = m ((c : Thread nD τ).loc main_arg20) := by
  funext i; idx_vars i; blk_point [iblk, V, idx_20 pt]
theorem idx_21 : ∀ t : Fin cfg0.N, win0_21.index t = ![0, 0] := (by decide +kernel : ∀ t : Fin grid0.N, _)
theorem blk_21 : iblk m c 21 pt = m ((c : Thread nD τ).loc main_arg21) := by
  funext i; idx_vars i; blk_point [iblk, V, idx_21 pt]
theorem idx_22 : ∀ t : Fin cfg0.N, win0_22.index t = ![0, 0] := (by decide +kernel : ∀ t : Fin grid0.N, _)
theorem blk_22 : iblk m c 22 pt = m ((c : Thread nD τ).loc main_arg22) := by
  funext i; idx_vars i; blk_point [iblk, V, idx_22 pt]
theorem idx_23 : ∀ t : Fin cfg0.N, win0_23.index t = ![0, 0] := (by decide +kernel : ∀ t : Fin grid0.N, _)
theorem blk_23 : iblk m c 23 pt = m ((c : Thread nD τ).loc main_arg23) := by
  funext i; idx_vars i; blk_point [iblk, V, idx_23 pt]
theorem idx_24 : ∀ t : Fin cfg0.N, win0_24.index t = ![0, 0] := (by decide +kernel : ∀ t : Fin grid0.N, _)
theorem blk_24 : iblk m c 24 pt = m ((c : Thread nD τ).loc main_arg24) := by
  funext i; idx_vars i; blk_point [iblk, V, idx_24 pt]
theorem idx_25 : ∀ t : Fin cfg0.N, win0_25.index t = ![0, 0] := (by decide +kernel : ∀ t : Fin grid0.N, _)
theorem blk_25 : iblk m c 25 pt = m ((c : Thread nD τ).loc main_arg25) := by
  funext i; idx_vars i; blk_point [iblk, V, idx_25 pt]
theorem idx_26 : ∀ t : Fin cfg0.N, win0_26.index t = ![0, 0] := (by decide +kernel : ∀ t : Fin grid0.N, _)
theorem blk_26 : iblk m c 26 pt = m ((c : Thread nD τ).loc main_arg26) := by
  funext i; idx_vars i; blk_point [iblk, V, idx_26 pt]
theorem idx_27 : ∀ t : Fin cfg0.N, win0_27.index t = ![0, 0] := (by decide +kernel : ∀ t : Fin grid0.N, _)
theorem blk_27 : iblk m c 27 pt = m ((c : Thread nD τ).loc main_arg27) := by
  funext i; idx_vars i; blk_point [iblk, V, idx_27 pt]
theorem idx_28 : ∀ t : Fin cfg0.N, win0_28.index t = ![0, 0] := (by decide +kernel : ∀ t : Fin grid0.N, _)
theorem blk_28 : iblk m c 28 pt = m ((c : Thread nD τ).loc main_arg28) := by
  funext i; idx_vars i; blk_point [iblk, V, idx_28 pt]
theorem idx_29 : ∀ t : Fin cfg0.N, win0_29.index t = ![0, 0] := (by decide +kernel : ∀ t : Fin grid0.N, _)
theorem blk_29 : iblk m c 29 pt = m ((c : Thread nD τ).loc main_arg29) := by
  funext i; idx_vars i; blk_point [iblk, V, idx_29 pt]
theorem idx_30 : ∀ t : Fin cfg0.N, win0_30.index t = ![0, 0] := (by decide +kernel : ∀ t : Fin grid0.N, _)
theorem blk_30 : iblk m c 30 pt = m ((c : Thread nD τ).loc main_arg30) := by
  funext i; idx_vars i; blk_point [iblk, V, idx_30 pt]
theorem idx_31 : ∀ t : Fin cfg0.N, win0_31.index t = ![0, 0] := (by decide +kernel : ∀ t : Fin grid0.N, _)
theorem blk_31 : iblk m c 31 pt = m ((c : Thread nD τ).loc main_arg31) := by
  funext i; idx_vars i; blk_point [iblk, V, idx_31 pt]
theorem idx_32 : ∀ t : Fin cfg0.N, win0_32.index t = ![0, 0] := (by decide +kernel : ∀ t : Fin grid0.N, _)
theorem blk_32 : iblk m c 32 pt = m ((c : Thread nD τ).loc main_arg32) := by
  funext i; idx_vars i; blk_point [iblk, V, idx_32 pt]
theorem idx_33 : ∀ t : Fin cfg0.N, win0_33.index t = ![0, 0] := (by decide +kernel : ∀ t : Fin grid0.N, _)
theorem blk_33 : iblk m c 33 pt = m ((c : Thread nD τ).loc main_arg33) := by
  funext i; idx_vars i; blk_point [iblk, V, idx_33 pt]
theorem idx_34 : ∀ t : Fin cfg0.N, win0_34.index t = ![0, 0] := (by decide +kernel : ∀ t : Fin grid0.N, _)
theorem blk_34 : iblk m c 34 pt = m ((c : Thread nD τ).loc main_arg34) := by
  funext i; idx_vars i; blk_point [iblk, V, idx_34 pt]
theorem idx_35 : ∀ t : Fin cfg0.N, win0_35.index t = ![0, 0] := (by decide +kernel : ∀ t : Fin grid0.N, _)
theorem blk_35 : iblk m c 35 pt = m ((c : Thread nD τ).loc main_arg35) := by
  funext i; idx_vars i; blk_point [iblk, V, idx_35 pt]
theorem idx_36 : ∀ t : Fin cfg0.N, win0_36.index t = ![0, 0] := (by decide +kernel : ∀ t : Fin grid0.N, _)
theorem blk_36 : iblk m c 36 pt = m ((c : Thread nD τ).loc main_arg36) := by
  funext i; idx_vars i; blk_point [iblk, V, idx_36 pt]
theorem idx_37 : ∀ t : Fin cfg0.N, win0_37.index t = ![0, 0] := (by decide +kernel : ∀ t : Fin grid0.N, _)
theorem blk_37 : iblk m c 37 pt = m ((c : Thread nD τ).loc main_arg37) := by
  funext i; idx_vars i; blk_point [iblk, V, idx_37 pt]
theorem idx_38 : ∀ t : Fin cfg0.N, win0_38.index t = ![0, 0] := (by decide +kernel : ∀ t : Fin grid0.N, _)
theorem blk_38 : iblk m c 38 pt = m ((c : Thread nD τ).loc main_arg38) := by
  funext i; idx_vars i; blk_point [iblk, V, idx_38 pt]
theorem idx_39 : ∀ t : Fin cfg0.N, win0_39.index t = ![0, 0] := (by decide +kernel : ∀ t : Fin grid0.N, _)
theorem blk_39 : iblk m c 39 pt = m ((c : Thread nD τ).loc main_arg39) := by
  funext i; idx_vars i; blk_point [iblk, V, idx_39 pt]
theorem idx_40 : ∀ t : Fin cfg0.N, win0_40.index t = ![0, 0] := (by decide +kernel : ∀ t : Fin grid0.N, _)
theorem blk_40 : iblk m c 40 pt = m ((c : Thread nD τ).loc main_arg40) := by
  funext i; idx_vars i; blk_point [iblk, V, idx_40 pt]
theorem idx_41 : ∀ t : Fin cfg0.N, win0_41.index t = ![0, 0] := (by decide +kernel : ∀ t : Fin grid0.N, _)
theorem blk_41 : iblk m c 41 pt = m ((c : Thread nD τ).loc main_arg41) := by
  funext i; idx_vars i; blk_point [iblk, V, idx_41 pt]
theorem idx_42 : ∀ t : Fin cfg0.N, win0_42.index t = ![0, 0] := (by decide +kernel : ∀ t : Fin grid0.N, _)
theorem blk_42 : iblk m c 42 pt = m ((c : Thread nD τ).loc main_arg42) := by
  funext i; idx_vars i; blk_point [iblk, V, idx_42 pt]
theorem idx_43 : ∀ t : Fin cfg0.N, win0_43.index t = ![0, 0] := (by decide +kernel : ∀ t : Fin grid0.N, _)
theorem blk_43 : iblk m c 43 pt = m ((c : Thread nD τ).loc main_arg43) := by
  funext i; idx_vars i; blk_point [iblk, V, idx_43 pt]
theorem idx_44 : ∀ t : Fin cfg0.N, win0_44.index t = ![0, 0] := (by decide +kernel : ∀ t : Fin grid0.N, _)
theorem blk_44 : iblk m c 44 pt = m ((c : Thread nD τ).loc main_arg44) := by
  funext i; idx_vars i; blk_point [iblk, V, idx_44 pt]
theorem final_45 : (dats m 0 c).arrAt 45 (cfgs 0).N = loss (m ((c : Thread nD τ).loc main_arg0)) := by
  refine ((dats m 0 c).arrAt_eq_of_after_last 45 pt (by decide +kernel) (out0_45 (F := Ideal) (iblk m c 0 pt)) fun i => by rw [after0_45]; generalize out0_45 (F := Ideal) (iblk m c 0 pt) = X; rfl).trans ?_
  rw [loss_eq, blk_0]
theorem final_46 : (dats m 0 c).arrAt 46 (cfgs 0).N = slabs (m ((c : Thread nD τ).loc main_arg1)) := by
  refine ((dats m 0 c).arrAt_eq_of_after_last 46 pt (by decide +kernel) (out0_46 (F := Ideal) (iblk m c 1 pt)) fun i => by rw [after0_46]; generalize out0_46 (F := Ideal) (iblk m c 1 pt) = X; rfl).trans ?_
  refine (View.canon_unit_zero zero2 _ _).trans ?_
  rw [sum_0, blk_1]
theorem final_57 : (dats m 0 c).arrAt 57 (cfgs 0).N = update (F := Ideal) (s := S1x3592) (slabs (m ((c : Thread nD τ).loc main_arg1))) (m ((c : Thread nD τ).loc main_arg12)) (m ((c : Thread nD τ).loc main_arg23)) (m ((c : Thread nD τ).loc main_arg34)) := by
  refine ((dats m 0 c).arrAt_eq_of_after_last 57 pt (by decide +kernel) (out0_57 (F := Ideal) (iblk m c 1 pt) (iblk m c 12 pt) (iblk m c 23 pt) (iblk m c 34 pt)) fun i => by rw [after0_57]; generalize out0_57 (F := Ideal) (iblk m c 1 pt) (iblk m c 12 pt) (iblk m c 23 pt) (iblk m c 34 pt) = X; rfl).trans ?_
  refine (View.canon_unit_zero zero2 _ _).trans ?_
  rw [View.ld_unit_zero zero2, View.ld_unit_zero zero2, View.ld_unit_zero zero2, sum_0, blk_1, blk_12, blk_23, blk_34]
theorem final_68 : (dats m 0 c).arrAt 68 (cfgs 0).N = mean (F := Ideal) (s := S1x3592) (slabs (m ((c : Thread nD τ).loc main_arg1))) (m ((c : Thread nD τ).loc main_arg23)) := by
  refine ((dats m 0 c).arrAt_eq_of_after_last 68 pt (by decide +kernel) (out0_68 (F := Ideal) (iblk m c 1 pt) (iblk m c 23 pt)) fun i => by rw [after0_68]; generalize out0_68 (F := Ideal) (iblk m c 1 pt) (iblk m c 23 pt) = X; rfl).trans ?_
  refine (View.canon_unit_zero zero2 _ _).trans ?_
  rw [View.ld_unit_zero zero2, sum_0, blk_1, blk_23]
theorem final_79 : (dats m 0 c).arrAt 79 (cfgs 0).N = square (F := Ideal) (s := S1x3592) (slabs (m ((c : Thread nD τ).loc main_arg1))) (m ((c : Thread nD τ).loc main_arg34)) := by
  refine ((dats m 0 c).arrAt_eq_of_after_last 79 pt (by decide +kernel) (out0_79 (F := Ideal) (iblk m c 1 pt) (iblk m c 34 pt)) fun i => by rw [after0_79]; generalize out0_79 (F := Ideal) (iblk m c 1 pt) (iblk m c 34 pt) = X; rfl).trans ?_
  refine (View.canon_unit_zero zero2 _ _).trans ?_
  rw [View.ld_unit_zero zero2, sum_0, blk_1, blk_34]
theorem final_47 : (dats m 0 c).arrAt 47 (cfgs 0).N = slabs (m ((c : Thread nD τ).loc main_arg2)) := by
  refine ((dats m 0 c).arrAt_eq_of_after_last 47 pt (by decide +kernel) (out0_47 (F := Ideal) (iblk m c 2 pt)) fun i => by rw [after0_47]; generalize out0_47 (F := Ideal) (iblk m c 2 pt) = X; rfl).trans ?_
  refine (View.canon_unit_zero zero2 _ _).trans ?_
  rw [sum_1, blk_2]
theorem final_58 : (dats m 0 c).arrAt 58 (cfgs 0).N = update (F := Ideal) (s := S2x512) (slabs (m ((c : Thread nD τ).loc main_arg2))) (m ((c : Thread nD τ).loc main_arg13)) (m ((c : Thread nD τ).loc main_arg24)) (m ((c : Thread nD τ).loc main_arg35)) := by
  refine ((dats m 0 c).arrAt_eq_of_after_last 58 pt (by decide +kernel) (out0_58 (F := Ideal) (iblk m c 2 pt) (iblk m c 13 pt) (iblk m c 24 pt) (iblk m c 35 pt)) fun i => by rw [after0_58]; generalize out0_58 (F := Ideal) (iblk m c 2 pt) (iblk m c 13 pt) (iblk m c 24 pt) (iblk m c 35 pt) = X; rfl).trans ?_
  refine (View.canon_unit_zero zero2 _ _).trans ?_
  rw [View.ld_unit_zero zero2, View.ld_unit_zero zero2, View.ld_unit_zero zero2, sum_1, blk_2, blk_13, blk_24, blk_35]
theorem final_69 : (dats m 0 c).arrAt 69 (cfgs 0).N = mean (F := Ideal) (s := S2x512) (slabs (m ((c : Thread nD τ).loc main_arg2))) (m ((c : Thread nD τ).loc main_arg24)) := by
  refine ((dats m 0 c).arrAt_eq_of_after_last 69 pt (by decide +kernel) (out0_69 (F := Ideal) (iblk m c 2 pt) (iblk m c 24 pt)) fun i => by rw [after0_69]; generalize out0_69 (F := Ideal) (iblk m c 2 pt) (iblk m c 24 pt) = X; rfl).trans ?_
  refine (View.canon_unit_zero zero2 _ _).trans ?_
  rw [View.ld_unit_zero zero2, sum_1, blk_2, blk_24]
theorem final_80 : (dats m 0 c).arrAt 80 (cfgs 0).N = square (F := Ideal) (s := S2x512) (slabs (m ((c : Thread nD τ).loc main_arg2))) (m ((c : Thread nD τ).loc main_arg35)) := by
  refine ((dats m 0 c).arrAt_eq_of_after_last 80 pt (by decide +kernel) (out0_80 (F := Ideal) (iblk m c 2 pt) (iblk m c 35 pt)) fun i => by rw [after0_80]; generalize out0_80 (F := Ideal) (iblk m c 2 pt) (iblk m c 35 pt) = X; rfl).trans ?_
  refine (View.canon_unit_zero zero2 _ _).trans ?_
  rw [View.ld_unit_zero zero2, sum_1, blk_2, blk_35]
theorem final_48 : (dats m 0 c).arrAt 48 (cfgs 0).N = slabs (m ((c : Thread nD τ).loc main_arg3)) := by
  refine ((dats m 0 c).arrAt_eq_of_after_last 48 pt (by decide +kernel) (out0_48 (F := Ideal) (iblk m c 3 pt)) fun i => by rw [after0_48]; generalize out0_48 (F := Ideal) (iblk m c 3 pt) = X; rfl).trans ?_
  refine (View.canon_unit_zero zero2 _ _).trans ?_
  rw [sum_2, blk_3]
theorem final_59 : (dats m 0 c).arrAt 59 (cfgs 0).N = update (F := Ideal) (s := S4x64) (slabs (m ((c : Thread nD τ).loc main_arg3))) (m ((c : Thread nD τ).loc main_arg14)) (m ((c : Thread nD τ).loc main_arg25)) (m ((c : Thread nD τ).loc main_arg36)) := by
  refine ((dats m 0 c).arrAt_eq_of_after_last 59 pt (by decide +kernel) (out0_59 (F := Ideal) (iblk m c 3 pt) (iblk m c 14 pt) (iblk m c 25 pt) (iblk m c 36 pt)) fun i => by rw [after0_59]; generalize out0_59 (F := Ideal) (iblk m c 3 pt) (iblk m c 14 pt) (iblk m c 25 pt) (iblk m c 36 pt) = X; rfl).trans ?_
  refine (View.canon_unit_zero zero2 _ _).trans ?_
  rw [View.ld_unit_zero zero2, View.ld_unit_zero zero2, View.ld_unit_zero zero2, sum_2, blk_3, blk_14, blk_25, blk_36]
theorem final_70 : (dats m 0 c).arrAt 70 (cfgs 0).N = mean (F := Ideal) (s := S4x64) (slabs (m ((c : Thread nD τ).loc main_arg3))) (m ((c : Thread nD τ).loc main_arg25)) := by
  refine ((dats m 0 c).arrAt_eq_of_after_last 70 pt (by decide +kernel) (out0_70 (F := Ideal) (iblk m c 3 pt) (iblk m c 25 pt)) fun i => by rw [after0_70]; generalize out0_70 (F := Ideal) (iblk m c 3 pt) (iblk m c 25 pt) = X; rfl).trans ?_
  refine (View.canon_unit_zero zero2 _ _).trans ?_
  rw [View.ld_unit_zero zero2, sum_2, blk_3, blk_25]
theorem final_81 : (dats m 0 c).arrAt 81 (cfgs 0).N = square (F := Ideal) (s := S4x64) (slabs (m ((c : Thread nD τ).loc main_arg3))) (m ((c : Thread nD τ).loc main_arg36)) := by
  refine ((dats m 0 c).arrAt_eq_of_after_last 81 pt (by decide +kernel) (out0_81 (F := Ideal) (iblk m c 3 pt) (iblk m c 36 pt)) fun i => by rw [after0_81]; generalize out0_81 (F := Ideal) (iblk m c 3 pt) (iblk m c 36 pt) = X; rfl).trans ?_
  refine (View.canon_unit_zero zero2 _ _).trans ?_
  rw [View.ld_unit_zero zero2, sum_2, blk_3, blk_36]
theorem final_49 : (dats m 0 c).arrAt 49 (cfgs 0).N = slabs (m ((c : Thread nD τ).loc main_arg4)) := by
  refine ((dats m 0 c).arrAt_eq_of_after_last 49 pt (by decide +kernel) (out0_49 (F := Ideal) (iblk m c 4 pt)) fun i => by rw [after0_49]; generalize out0_49 (F := Ideal) (iblk m c 4 pt) = X; rfl).trans ?_
  refine (View.canon_unit_zero zero2 _ _).trans ?_
  rw [sum_3, blk_4]
theorem final_60 : (dats m 0 c).arrAt 60 (cfgs 0).N = update (F := Ideal) (s := S1x512) (slabs (m ((c : Thread nD τ).loc main_arg4))) (m ((c : Thread nD τ).loc main_arg15)) (m ((c : Thread nD τ).loc main_arg26)) (m ((c : Thread nD τ).loc main_arg37)) := by
  refine ((dats m 0 c).arrAt_eq_of_after_last 60 pt (by decide +kernel) (out0_60 (F := Ideal) (iblk m c 4 pt) (iblk m c 15 pt) (iblk m c 26 pt) (iblk m c 37 pt)) fun i => by rw [after0_60]; generalize out0_60 (F := Ideal) (iblk m c 4 pt) (iblk m c 15 pt) (iblk m c 26 pt) (iblk m c 37 pt) = X; rfl).trans ?_
  refine (View.canon_unit_zero zero2 _ _).trans ?_
  rw [View.ld_unit_zero zero2, View.ld_unit_zero zero2, View.ld_unit_zero zero2, sum_3, blk_4, blk_15, blk_26, blk_37]
theorem final_71 : (dats m 0 c).arrAt 71 (cfgs 0).N = mean (F := Ideal) (s := S1x512) (slabs (m ((c : Thread nD τ).loc main_arg4))) (m ((c : Thread nD τ).loc main_arg26)) := by
  refine ((dats m 0 c).arrAt_eq_of_after_last 71 pt (by decide +kernel) (out0_71 (F := Ideal) (iblk m c 4 pt) (iblk m c 26 pt)) fun i => by rw [after0_71]; generalize out0_71 (F := Ideal) (iblk m c 4 pt) (iblk m c 26 pt) = X; rfl).trans ?_
  refine (View.canon_unit_zero zero2 _ _).trans ?_
  rw [View.ld_unit_zero zero2, sum_3, blk_4, blk_26]
theorem final_82 : (dats m 0 c).arrAt 82 (cfgs 0).N = square (F := Ideal) (s := S1x512) (slabs (m ((c : Thread nD τ).loc main_arg4))) (m ((c : Thread nD τ).loc main_arg37)) := by
  refine ((dats m 0 c).arrAt_eq_of_after_last 82 pt (by decide +kernel) (out0_82 (F := Ideal) (iblk m c 4 pt) (iblk m c 37 pt)) fun i => by rw [after0_82]; generalize out0_82 (F := Ideal) (iblk m c 4 pt) (iblk m c 37 pt) = X; rfl).trans ?_
  refine (View.canon_unit_zero zero2 _ _).trans ?_
  rw [View.ld_unit_zero zero2, sum_3, blk_4, blk_37]
theorem final_50 : (dats m 0 c).arrAt 50 (cfgs 0).N = slabs (m ((c : Thread nD τ).loc main_arg5)) := by
  refine ((dats m 0 c).arrAt_eq_of_after_last 50 pt (by decide +kernel) (out0_50 (F := Ideal) (iblk m c 5 pt)) fun i => by rw [after0_50]; generalize out0_50 (F := Ideal) (iblk m c 5 pt) = X; rfl).trans ?_
  refine (View.canon_unit_zero zero2 _ _).trans ?_
  rw [sum_4, blk_5]
theorem final_61 : (dats m 0 c).arrAt 61 (cfgs 0).N = update (F := Ideal) (s := S1x512) (slabs (m ((c : Thread nD τ).loc main_arg5))) (m ((c : Thread nD τ).loc main_arg16)) (m ((c : Thread nD τ).loc main_arg27)) (m ((c : Thread nD τ).loc main_arg38)) := by
  refine ((dats m 0 c).arrAt_eq_of_after_last 61 pt (by decide +kernel) (out0_61 (F := Ideal) (iblk m c 5 pt) (iblk m c 16 pt) (iblk m c 27 pt) (iblk m c 38 pt)) fun i => by rw [after0_61]; generalize out0_61 (F := Ideal) (iblk m c 5 pt) (iblk m c 16 pt) (iblk m c 27 pt) (iblk m c 38 pt) = X; rfl).trans ?_
  refine (View.canon_unit_zero zero2 _ _).trans ?_
  rw [View.ld_unit_zero zero2, View.ld_unit_zero zero2, View.ld_unit_zero zero2, sum_4, blk_5, blk_16, blk_27, blk_38]
theorem final_72 : (dats m 0 c).arrAt 72 (cfgs 0).N = mean (F := Ideal) (s := S1x512) (slabs (m ((c : Thread nD τ).loc main_arg5))) (m ((c : Thread nD τ).loc main_arg27)) := by
  refine ((dats m 0 c).arrAt_eq_of_after_last 72 pt (by decide +kernel) (out0_72 (F := Ideal) (iblk m c 5 pt) (iblk m c 27 pt)) fun i => by rw [after0_72]; generalize out0_72 (F := Ideal) (iblk m c 5 pt) (iblk m c 27 pt) = X; rfl).trans ?_
  refine (View.canon_unit_zero zero2 _ _).trans ?_
  rw [View.ld_unit_zero zero2, sum_4, blk_5, blk_27]
theorem final_83 : (dats m 0 c).arrAt 83 (cfgs 0).N = square (F := Ideal) (s := S1x512) (slabs (m ((c : Thread nD τ).loc main_arg5))) (m ((c : Thread nD τ).loc main_arg38)) := by
  refine ((dats m 0 c).arrAt_eq_of_after_last 83 pt (by decide +kernel) (out0_83 (F := Ideal) (iblk m c 5 pt) (iblk m c 38 pt)) fun i => by rw [after0_83]; generalize out0_83 (F := Ideal) (iblk m c 5 pt) (iblk m c 38 pt) = X; rfl).trans ?_
  refine (View.canon_unit_zero zero2 _ _).trans ?_
  rw [View.ld_unit_zero zero2, sum_4, blk_5, blk_38]
theorem final_51 : (dats m 0 c).arrAt 51 (cfgs 0).N = slabs (m ((c : Thread nD τ).loc main_arg6)) := by
  refine ((dats m 0 c).arrAt_eq_of_after_last 51 pt (by decide +kernel) (out0_51 (F := Ideal) (iblk m c 6 pt)) fun i => by rw [after0_51]; generalize out0_51 (F := Ideal) (iblk m c 6 pt) = X; rfl).trans ?_
  refine (View.canon_unit_zero zero2 _ _).trans ?_
  rw [sum_5, blk_6]
theorem final_62 : (dats m 0 c).arrAt 62 (cfgs 0).N = update (F := Ideal) (s := S1x512) (slabs (m ((c : Thread nD τ).loc main_arg6))) (m ((c : Thread nD τ).loc main_arg17)) (m ((c : Thread nD τ).loc main_arg28)) (m ((c : Thread nD τ).loc main_arg39)) := by
  refine ((dats m 0 c).arrAt_eq_of_after_last 62 pt (by decide +kernel) (out0_62 (F := Ideal) (iblk m c 6 pt) (iblk m c 17 pt) (iblk m c 28 pt) (iblk m c 39 pt)) fun i => by rw [after0_62]; generalize out0_62 (F := Ideal) (iblk m c 6 pt) (iblk m c 17 pt) (iblk m c 28 pt) (iblk m c 39 pt) = X; rfl).trans ?_
  refine (View.canon_unit_zero zero2 _ _).trans ?_
  rw [View.ld_unit_zero zero2, View.ld_unit_zero zero2, View.ld_unit_zero zero2, sum_5, blk_6, blk_17, blk_28, blk_39]
theorem final_73 : (dats m 0 c).arrAt 73 (cfgs 0).N = mean (F := Ideal) (s := S1x512) (slabs (m ((c : Thread nD τ).loc main_arg6))) (m ((c : Thread nD τ).loc main_arg28)) := by
  refine ((dats m 0 c).arrAt_eq_of_after_last 73 pt (by decide +kernel) (out0_73 (F := Ideal) (iblk m c 6 pt) (iblk m c 28 pt)) fun i => by rw [after0_73]; generalize out0_73 (F := Ideal) (iblk m c 6 pt) (iblk m c 28 pt) = X; rfl).trans ?_
  refine (View.canon_unit_zero zero2 _ _).trans ?_
  rw [View.ld_unit_zero zero2, sum_5, blk_6, blk_28]
theorem final_84 : (dats m 0 c).arrAt 84 (cfgs 0).N = square (F := Ideal) (s := S1x512) (slabs (m ((c : Thread nD τ).loc main_arg6))) (m ((c : Thread nD τ).loc main_arg39)) := by
  refine ((dats m 0 c).arrAt_eq_of_after_last 84 pt (by decide +kernel) (out0_84 (F := Ideal) (iblk m c 6 pt) (iblk m c 39 pt)) fun i => by rw [after0_84]; generalize out0_84 (F := Ideal) (iblk m c 6 pt) (iblk m c 39 pt) = X; rfl).trans ?_
  refine (View.canon_unit_zero zero2 _ _).trans ?_
  rw [View.ld_unit_zero zero2, sum_5, blk_6, blk_39]
theorem final_52 : (dats m 0 c).arrAt 52 (cfgs 0).N = slabs (m ((c : Thread nD τ).loc main_arg7)) := by
  refine ((dats m 0 c).arrAt_eq_of_after_last 52 pt (by decide +kernel) (out0_52 (F := Ideal) (iblk m c 7 pt)) fun i => by rw [after0_52]; generalize out0_52 (F := Ideal) (iblk m c 7 pt) = X; rfl).trans ?_
  refine (View.canon_unit_zero zero2 _ _).trans ?_
  rw [sum_6, blk_7]
theorem final_63 : (dats m 0 c).arrAt 63 (cfgs 0).N = update (F := Ideal) (s := S1x1024) (slabs (m ((c : Thread nD τ).loc main_arg7))) (m ((c : Thread nD τ).loc main_arg18)) (m ((c : Thread nD τ).loc main_arg29)) (m ((c : Thread nD τ).loc main_arg40)) := by
  refine ((dats m 0 c).arrAt_eq_of_after_last 63 pt (by decide +kernel) (out0_63 (F := Ideal) (iblk m c 7 pt) (iblk m c 18 pt) (iblk m c 29 pt) (iblk m c 40 pt)) fun i => by rw [after0_63]; generalize out0_63 (F := Ideal) (iblk m c 7 pt) (iblk m c 18 pt) (iblk m c 29 pt) (iblk m c 40 pt) = X; rfl).trans ?_
  refine (View.canon_unit_zero zero2 _ _).trans ?_
  rw [View.ld_unit_zero zero2, View.ld_unit_zero zero2, View.ld_unit_zero zero2, sum_6, blk_7, blk_18, blk_29, blk_40]
theorem final_74 : (dats m 0 c).arrAt 74 (cfgs 0).N = mean (F := Ideal) (s := S1x1024) (slabs (m ((c : Thread nD τ).loc main_arg7))) (m ((c : Thread nD τ).loc main_arg29)) := by
  refine ((dats m 0 c).arrAt_eq_of_after_last 74 pt (by decide +kernel) (out0_74 (F := Ideal) (iblk m c 7 pt) (iblk m c 29 pt)) fun i => by rw [after0_74]; generalize out0_74 (F := Ideal) (iblk m c 7 pt) (iblk m c 29 pt) = X; rfl).trans ?_
  refine (View.canon_unit_zero zero2 _ _).trans ?_
  rw [View.ld_unit_zero zero2, sum_6, blk_7, blk_29]
theorem final_85 : (dats m 0 c).arrAt 85 (cfgs 0).N = square (F := Ideal) (s := S1x1024) (slabs (m ((c : Thread nD τ).loc main_arg7))) (m ((c : Thread nD τ).loc main_arg40)) := by
  refine ((dats m 0 c).arrAt_eq_of_after_last 85 pt (by decide +kernel) (out0_85 (F := Ideal) (iblk m c 7 pt) (iblk m c 40 pt)) fun i => by rw [after0_85]; generalize out0_85 (F := Ideal) (iblk m c 7 pt) (iblk m c 40 pt) = X; rfl).trans ?_
  refine (View.canon_unit_zero zero2 _ _).trans ?_
  rw [View.ld_unit_zero zero2, sum_6, blk_7, blk_40]
theorem final_53 : (dats m 0 c).arrAt 53 (cfgs 0).N = slabs (m ((c : Thread nD τ).loc main_arg8)) := by
  refine ((dats m 0 c).arrAt_eq_of_after_last 53 pt (by decide +kernel) (out0_53 (F := Ideal) (iblk m c 8 pt)) fun i => by rw [after0_53]; generalize out0_53 (F := Ideal) (iblk m c 8 pt) = X; rfl).trans ?_
  refine (View.canon_unit_zero zero2 _ _).trans ?_
  rw [sum_7, blk_8]
theorem final_64 : (dats m 0 c).arrAt 64 (cfgs 0).N = update (F := Ideal) (s := S1x1024) (slabs (m ((c : Thread nD τ).loc main_arg8))) (m ((c : Thread nD τ).loc main_arg19)) (m ((c : Thread nD τ).loc main_arg30)) (m ((c : Thread nD τ).loc main_arg41)) := by
  refine ((dats m 0 c).arrAt_eq_of_after_last 64 pt (by decide +kernel) (out0_64 (F := Ideal) (iblk m c 8 pt) (iblk m c 19 pt) (iblk m c 30 pt) (iblk m c 41 pt)) fun i => by rw [after0_64]; generalize out0_64 (F := Ideal) (iblk m c 8 pt) (iblk m c 19 pt) (iblk m c 30 pt) (iblk m c 41 pt) = X; rfl).trans ?_
  refine (View.canon_unit_zero zero2 _ _).trans ?_
  rw [View.ld_unit_zero zero2, View.ld_unit_zero zero2, View.ld_unit_zero zero2, sum_7, blk_8, blk_19, blk_30, blk_41]
theorem final_75 : (dats m 0 c).arrAt 75 (cfgs 0).N = mean (F := Ideal) (s := S1x1024) (slabs (m ((c : Thread nD τ).loc main_arg8))) (m ((c : Thread nD τ).loc main_arg30)) := by
  refine ((dats m 0 c).arrAt_eq_of_after_last 75 pt (by decide +kernel) (out0_75 (F := Ideal) (iblk m c 8 pt) (iblk m c 30 pt)) fun i => by rw [after0_75]; generalize out0_75 (F := Ideal) (iblk m c 8 pt) (iblk m c 30 pt) = X; rfl).trans ?_
  refine (View.canon_unit_zero zero2 _ _).trans ?_
  rw [View.ld_unit_zero zero2, sum_7, blk_8, blk_30]
theorem final_86 : (dats m 0 c).arrAt 86 (cfgs 0).N = square (F := Ideal) (s := S1x1024) (slabs (m ((c : Thread nD τ).loc main_arg8))) (m ((c : Thread nD τ).loc main_arg41)) := by
  refine ((dats m 0 c).arrAt_eq_of_after_last 86 pt (by decide +kernel) (out0_86 (F := Ideal) (iblk m c 8 pt) (iblk m c 41 pt)) fun i => by rw [after0_86]; generalize out0_86 (F := Ideal) (iblk m c 8 pt) (iblk m c 41 pt) = X; rfl).trans ?_
  refine (View.canon_unit_zero zero2 _ _).trans ?_
  rw [View.ld_unit_zero zero2, sum_7, blk_8, blk_41]
theorem final_54 : (dats m 0 c).arrAt 54 (cfgs 0).N = slabs (m ((c : Thread nD τ).loc main_arg9)) := by
  refine ((dats m 0 c).arrAt_eq_of_after_last 54 pt (by decide +kernel) (out0_54 (F := Ideal) (iblk m c 9 pt)) fun i => by rw [after0_54]; generalize out0_54 (F := Ideal) (iblk m c 9 pt) = X; rfl).trans ?_
  refine (View.canon_unit_zero zero2 _ _).trans ?_
  rw [sum_8, blk_9]
theorem final_65 : (dats m 0 c).arrAt 65 (cfgs 0).N = update (F := Ideal) (s := S1x1024) (slabs (m ((c : Thread nD τ).loc main_arg9))) (m ((c : Thread nD τ).loc main_arg20)) (m ((c : Thread nD τ).loc main_arg31)) (m ((c : Thread nD τ).loc main_arg42)) := by
  refine ((dats m 0 c).arrAt_eq_of_after_last 65 pt (by decide +kernel) (out0_65 (F := Ideal) (iblk m c 9 pt) (iblk m c 20 pt) (iblk m c 31 pt) (iblk m c 42 pt)) fun i => by rw [after0_65]; generalize out0_65 (F := Ideal) (iblk m c 9 pt) (iblk m c 20 pt) (iblk m c 31 pt) (iblk m c 42 pt) = X; rfl).trans ?_
  refine (View.canon_unit_zero zero2 _ _).trans ?_
  rw [View.ld_unit_zero zero2, View.ld_unit_zero zero2, View.ld_unit_zero zero2, sum_8, blk_9, blk_20, blk_31, blk_42]
theorem final_76 : (dats m 0 c).arrAt 76 (cfgs 0).N = mean (F := Ideal) (s := S1x1024) (slabs (m ((c : Thread nD τ).loc main_arg9))) (m ((c : Thread nD τ).loc main_arg31)) := by
  refine ((dats m 0 c).arrAt_eq_of_after_last 76 pt (by decide +kernel) (out0_76 (F := Ideal) (iblk m c 9 pt) (iblk m c 31 pt)) fun i => by rw [after0_76]; generalize out0_76 (F := Ideal) (iblk m c 9 pt) (iblk m c 31 pt) = X; rfl).trans ?_
  refine (View.canon_unit_zero zero2 _ _).trans ?_
  rw [View.ld_unit_zero zero2, sum_8, blk_9, blk_31]
theorem final_87 : (dats m 0 c).arrAt 87 (cfgs 0).N = square (F := Ideal) (s := S1x1024) (slabs (m ((c : Thread nD τ).loc main_arg9))) (m ((c : Thread nD τ).loc main_arg42)) := by
  refine ((dats m 0 c).arrAt_eq_of_after_last 87 pt (by decide +kernel) (out0_87 (F := Ideal) (iblk m c 9 pt) (iblk m c 42 pt)) fun i => by rw [after0_87]; generalize out0_87 (F := Ideal) (iblk m c 9 pt) (iblk m c 42 pt) = X; rfl).trans ?_
  refine (View.canon_unit_zero zero2 _ _).trans ?_
  rw [View.ld_unit_zero zero2, sum_8, blk_9, blk_42]
theorem final_55 : (dats m 0 c).arrAt 55 (cfgs 0).N = slabs (m ((c : Thread nD τ).loc main_arg10)) := by
  refine ((dats m 0 c).arrAt_eq_of_after_last 55 pt (by decide +kernel) (out0_55 (F := Ideal) (iblk m c 10 pt)) fun i => by rw [after0_55]; generalize out0_55 (F := Ideal) (iblk m c 10 pt) = X; rfl).trans ?_
  refine (View.canon_unit_zero zero2 _ _).trans ?_
  rw [sum_9, blk_10]
theorem final_66 : (dats m 0 c).arrAt 66 (cfgs 0).N = update (F := Ideal) (s := S1x1024) (slabs (m ((c : Thread nD τ).loc main_arg10))) (m ((c : Thread nD τ).loc main_arg21)) (m ((c : Thread nD τ).loc main_arg32)) (m ((c : Thread nD τ).loc main_arg43)) := by
  refine ((dats m 0 c).arrAt_eq_of_after_last 66 pt (by decide +kernel) (out0_66 (F := Ideal) (iblk m c 10 pt) (iblk m c 21 pt) (iblk m c 32 pt) (iblk m c 43 pt)) fun i => by rw [after0_66]; generalize out0_66 (F := Ideal) (iblk m c 10 pt) (iblk m c 21 pt) (iblk m c 32 pt) (iblk m c 43 pt) = X; rfl).trans ?_
  refine (View.canon_unit_zero zero2 _ _).trans ?_
  rw [View.ld_unit_zero zero2, View.ld_unit_zero zero2, View.ld_unit_zero zero2, sum_9, blk_10, blk_21, blk_32, blk_43]
theorem final_77 : (dats m 0 c).arrAt 77 (cfgs 0).N = mean (F := Ideal) (s := S1x1024) (slabs (m ((c : Thread nD τ).loc main_arg10))) (m ((c : Thread nD τ).loc main_arg32)) := by
  refine ((dats m 0 c).arrAt_eq_of_after_last 77 pt (by decide +kernel) (out0_77 (F := Ideal) (iblk m c 10 pt) (iblk m c 32 pt)) fun i => by rw [after0_77]; generalize out0_77 (F := Ideal) (iblk m c 10 pt) (iblk m c 32 pt) = X; rfl).trans ?_
  refine (View.canon_unit_zero zero2 _ _).trans ?_
  rw [View.ld_unit_zero zero2, sum_9, blk_10, blk_32]
theorem final_88 : (dats m 0 c).arrAt 88 (cfgs 0).N = square (F := Ideal) (s := S1x1024) (slabs (m ((c : Thread nD τ).loc main_arg10))) (m ((c : Thread nD τ).loc main_arg43)) := by
  refine ((dats m 0 c).arrAt_eq_of_after_last 88 pt (by decide +kernel) (out0_88 (F := Ideal) (iblk m c 10 pt) (iblk m c 43 pt)) fun i => by rw [after0_88]; generalize out0_88 (F := Ideal) (iblk m c 10 pt) (iblk m c 43 pt) = X; rfl).trans ?_
  refine (View.canon_unit_zero zero2 _ _).trans ?_
  rw [View.ld_unit_zero zero2, sum_9, blk_10, blk_43]
theorem final_56 : (dats m 0 c).arrAt 56 (cfgs 0).N = slabs (m ((c : Thread nD τ).loc main_arg11)) := by
  refine ((dats m 0 c).arrAt_eq_of_after_last 56 pt (by decide +kernel) (out0_56 (F := Ideal) (iblk m c 11 pt)) fun i => by rw [after0_56]; generalize out0_56 (F := Ideal) (iblk m c 11 pt) = X; rfl).trans ?_
  refine (View.canon_unit_zero zero2 _ _).trans ?_
  rw [sum_10, blk_11]
theorem final_67 : (dats m 0 c).arrAt 67 (cfgs 0).N = update (F := Ideal) (s := S1x1024) (slabs (m ((c : Thread nD τ).loc main_arg11))) (m ((c : Thread nD τ).loc main_arg22)) (m ((c : Thread nD τ).loc main_arg33)) (m ((c : Thread nD τ).loc main_arg44)) := by
  refine ((dats m 0 c).arrAt_eq_of_after_last 67 pt (by decide +kernel) (out0_67 (F := Ideal) (iblk m c 11 pt) (iblk m c 22 pt) (iblk m c 33 pt) (iblk m c 44 pt)) fun i => by rw [after0_67]; generalize out0_67 (F := Ideal) (iblk m c 11 pt) (iblk m c 22 pt) (iblk m c 33 pt) (iblk m c 44 pt) = X; rfl).trans ?_
  refine (View.canon_unit_zero zero2 _ _).trans ?_
  rw [View.ld_unit_zero zero2, View.ld_unit_zero zero2, View.ld_unit_zero zero2, sum_10, blk_11, blk_22, blk_33, blk_44]
theorem final_78 : (dats m 0 c).arrAt 78 (cfgs 0).N = mean (F := Ideal) (s := S1x1024) (slabs (m ((c : Thread nD τ).loc main_arg11))) (m ((c : Thread nD τ).loc main_arg33)) := by
  refine ((dats m 0 c).arrAt_eq_of_after_last 78 pt (by decide +kernel) (out0_78 (F := Ideal) (iblk m c 11 pt) (iblk m c 33 pt)) fun i => by rw [after0_78]; generalize out0_78 (F := Ideal) (iblk m c 11 pt) (iblk m c 33 pt) = X; rfl).trans ?_
  refine (View.canon_unit_zero zero2 _ _).trans ?_
  rw [View.ld_unit_zero zero2, sum_10, blk_11, blk_33]
theorem final_89 : (dats m 0 c).arrAt 89 (cfgs 0).N = square (F := Ideal) (s := S1x1024) (slabs (m ((c : Thread nD τ).loc main_arg11))) (m ((c : Thread nD τ).loc main_arg44)) := by
  refine ((dats m 0 c).arrAt_eq_of_after_last 89 pt (by decide +kernel) (out0_89 (F := Ideal) (iblk m c 11 pt) (iblk m c 44 pt)) fun i => by rw [after0_89]; generalize out0_89 (F := Ideal) (iblk m c 11 pt) (iblk m c 44 pt) = X; rfl).trans ?_
  refine (View.canon_unit_zero zero2 _ _).trans ?_
  rw [View.ld_unit_zero zero2, sum_10, blk_11, blk_44]
end

end Cert.AdamSmallIdeal.Whole
end
end
-- ==== Proof.AdamSmallValue.lean ====
/- The optimiser's step of the small tensors computes its reference. -/
module

public import proofs.«01_k».proof.Proof.AdamSmallArrays

@[expose] public section

set_option maxRecDepth 16384

noncomputable section

open Idealize.ShloMosaic Idealize.ShloMosaic.TcCoe Idealize.SL.Sem
open Idealize.ShloMosaic.Pipeline (Dat)

namespace Cert.AdamSmallIdeal.Whole

open Cert.AdamSmallIdeal Cert.AdamSmallIdeal.Gen Cert.Small

/-! ## The reference -/

section
open Cert.AdamSmallRefIdeal.Value
variable (V0 : Valuation Cert.AdamSmallRefIdeal.τ Cert.AdamSmallRefIdeal.sig (Elt Ideal))

theorem red_S1x3592 (x : Vec Ideal Cert.AdamSmallRefIdeal.S8x1x3592 .f32) : Host.reduceAdd (F := Ideal) x (constant Cert.AdamSmallRefIdeal.S_ .f32 0x00000000#32)
    Cert.AdamSmallRefIdeal.Gen.reducesTo_S8x1x3592_S1x3592_d0 Cert.AdamSmallRefIdeal.Gen.h_S_ = slabs x := by
  funext i; idx_vars i
  obtain rfl : i0 = 0 := Subsingleton.elim _ _
  pointwise [slabs]
theorem red_S2x512 (x : Vec Ideal Cert.AdamSmallRefIdeal.S8x2x512 .f32) : Host.reduceAdd (F := Ideal) x (constant Cert.AdamSmallRefIdeal.S_ .f32 0x00000000#32)
    Cert.AdamSmallRefIdeal.Gen.reducesTo_S8x2x512_S2x512_d0 Cert.AdamSmallRefIdeal.Gen.h_S_ = slabs x := by
  funext i; idx_vars i
  pointwise [slabs]
theorem red_S4x64 (x : Vec Ideal Cert.AdamSmallRefIdeal.S8x4x64 .f32) : Host.reduceAdd (F := Ideal) x (constant Cert.AdamSmallRefIdeal.S_ .f32 0x00000000#32)
    Cert.AdamSmallRefIdeal.Gen.reducesTo_S8x4x64_S4x64_d0 Cert.AdamSmallRefIdeal.Gen.h_S_ = slabs x := by
  funext i; idx_vars i
  pointwise [slabs]
theorem red_S1x512 (x : Vec Ideal Cert.AdamSmallRefIdeal.S8x1x512 .f32) : Host.reduceAdd (F := Ideal) x (constant Cert.AdamSmallRefIdeal.S_ .f32 0x00000000#32)
    Cert.AdamSmallRefIdeal.Gen.reducesTo_S8x1x512_S1x512_d0 Cert.AdamSmallRefIdeal.Gen.h_S_ = slabs x := by
  funext i; idx_vars i
  obtain rfl : i0 = 0 := Subsingleton.elim _ _
  pointwise [slabs]
theorem red_S1x1024 (x : Vec Ideal Cert.AdamSmallRefIdeal.S8x1x1024 .f32) : Host.reduceAdd (F := Ideal) x (constant Cert.AdamSmallRefIdeal.S_ .f32 0x00000000#32)
    Cert.AdamSmallRefIdeal.Gen.reducesTo_S8x1x1024_S1x1024_d0 Cert.AdamSmallRefIdeal.Gen.h_S_ = slabs x := by
  funext i; idx_vars i
  obtain rfl : i0 = 0 := Subsingleton.elim _ _
  pointwise [slabs]
theorem res_0 : res_main_v0 V0 = slabs (V0 (Proc.devRef .tc Cert.AdamSmallRefIdeal.main_arg1)) := red_S1x3592 _
theorem res_1 : res_main_v25 V0 = slabs (V0 (Proc.devRef .tc Cert.AdamSmallRefIdeal.main_arg2)) := red_S2x512 _
theorem res_2 : res_main_v50 V0 = slabs (V0 (Proc.devRef .tc Cert.AdamSmallRefIdeal.main_arg3)) := red_S4x64 _
theorem res_3 : res_main_v75 V0 = slabs (V0 (Proc.devRef .tc Cert.AdamSmallRefIdeal.main_arg4)) := red_S1x512 _
theorem res_4 : res_main_v100 V0 = slabs (V0 (Proc.devRef .tc Cert.AdamSmallRefIdeal.main_arg5)) := red_S1x512 _
theorem res_5 : res_main_v125 V0 = slabs (V0 (Proc.devRef .tc Cert.AdamSmallRefIdeal.main_arg6)) := red_S1x512 _
theorem res_6 : res_main_v150 V0 = slabs (V0 (Proc.devRef .tc Cert.AdamSmallRefIdeal.main_arg7)) := red_S1x1024 _
theorem res_7 : res_main_v175 V0 = slabs (V0 (Proc.devRef .tc Cert.AdamSmallRefIdeal.main_arg8)) := red_S1x1024 _
theorem res_8 : res_main_v200 V0 = slabs (V0 (Proc.devRef .tc Cert.AdamSmallRefIdeal.main_arg9)) := red_S1x1024 _
theorem res_9 : res_main_v225 V0 = slabs (V0 (Proc.devRef .tc Cert.AdamSmallRefIdeal.main_arg10)) := red_S1x1024 _
theorem res_10 : res_main_v250 V0 = slabs (V0 (Proc.devRef .tc Cert.AdamSmallRefIdeal.main_arg11)) := red_S1x1024 _
end

section
open Cert.AdamSmallRefIdeal Cert.AdamSmallRefIdeal.Gen

theorem ref_loss (x : Vec Ideal S8x1x1024 .f32) : shapeCast S1x1 (mulf (constant (F := Ideal) S_ .f32 0x3F000000#32)
      (Host.reduceAdd (Host.divf (Host.reduceAdd x (constant S_ .f32 0x00000000#32) reducesTo_S8x1x1024_S1x1024_d0 h_S_)
        (broadcastInDim S1x1024 ![] bcast_S_S1x1024 (constant S_ .f32 0x44800000#32))) (constant S_ .f32 0x00000000#32)
        reducesTo_S1x1024_S_d0_1 h_S_)) shapeCasts_S_S1x1 = loss x := by
  funext i; idx_vars i
  rw [loss, ← half_sum]
  pointwise
  exact congrArg (Ideal.ofBits .f32 0x3F000000#32 * ·) (Fin.sum_univ_one _)

end

set_option maxHeartbeats 20000000 in
/-- From the same arguments kernel and reference compute the same 45 results. -/
theorem algebraic : Cert.algebraic_AdamSmallIdeal_AdamSmallRefIdeal
    (hAdamSmallIdeal := Cert.AdamSmallIdeal.Gen.facts) (hAdamSmallRefIdeal := Cert.AdamSmallRefIdeal.Gen.facts) := by
  intro m g m' g' _ hagree
  refine ⟨fun c => (dats m 0 c).arrAt 45 (cfgs 0).N,
    fun c => (dats m 0 c).arrAt 46 (cfgs 0).N,
    fun c => (dats m 0 c).arrAt 47 (cfgs 0).N,
    fun c => (dats m 0 c).arrAt 48 (cfgs 0).N,
    fun c => (dats m 0 c).arrAt 49 (cfgs 0).N,
    fun c => (dats m 0 c).arrAt 50 (cfgs 0).N,
    fun c => (dats m 0 c).arrAt 51 (cfgs 0).N,
    fun c => (dats m 0 c).arrAt 52 (cfgs 0).N,
    fun c => (dats m 0 c).arrAt 53 (cfgs 0).N,
    fun c => (dats m 0 c).arrAt 54 (cfgs 0).N,
    fun c => (dats m 0 c).arrAt 55 (cfgs 0).N,
    fun c => (dats m 0 c).arrAt 56 (cfgs 0).N,
    fun c => (dats m 0 c).arrAt 57 (cfgs 0).N,
    fun c => (dats m 0 c).arrAt 58 (cfgs 0).N,
    fun c => (dats m 0 c).arrAt 59 (cfgs 0).N,
    fun c => (dats m 0 c).arrAt 60 (cfgs 0).N,
    fun c => (dats m 0 c).arrAt 61 (cfgs 0).N,
    fun c => (dats m 0 c).arrAt 62 (cfgs 0).N,
    fun c => (dats m 0 c).arrAt 63 (cfgs 0).N,
    fun c => (dats m 0 c).arrAt 64 (cfgs 0).N,
    fun c => (dats m 0 c).arrAt 65 (cfgs 0).N,
    fun c => (dats m 0 c).arrAt 66 (cfgs 0).N,
    fun c => (dats m 0 c).arrAt 67 (cfgs 0).N,
    fun c => (dats m 0 c).arrAt 68 (cfgs 0).N,
    fun c => (dats m 0 c).arrAt 69 (cfgs 0).N,
    fun c => (dats m 0 c).arrAt 70 (cfgs 0).N,
    fun c => (dats m 0 c).arrAt 71 (cfgs 0).N,
    fun c => (dats m 0 c).arrAt 72 (cfgs 0).N,
    fun c => (dats m 0 c).arrAt 73 (cfgs 0).N,
    fun c => (dats m 0 c).arrAt 74 (cfgs 0).N,
    fun c => (dats m 0 c).arrAt 75 (cfgs 0).N,
    fun c => (dats m 0 c).arrAt 76 (cfgs 0).N,
    fun c => (dats m 0 c).arrAt 77 (cfgs 0).N,
    fun c => (dats m 0 c).arrAt 78 (cfgs 0).N,
    fun c => (dats m 0 c).arrAt 79 (cfgs 0).N,
    fun c => (dats m 0 c).arrAt 80 (cfgs 0).N,
    fun c => (dats m 0 c).arrAt 81 (cfgs 0).N,
    fun c => (dats m 0 c).arrAt 82 (cfgs 0).N,
    fun c => (dats m 0 c).arrAt 83 (cfgs 0).N,
    fun c => (dats m 0 c).arrAt 84 (cfgs 0).N,
    fun c => (dats m 0 c).arrAt 85 (cfgs 0).N,
    fun c => (dats m 0 c).arrAt 86 (cfgs 0).N,
    fun c => (dats m 0 c).arrAt 87 (cfgs 0).N,
    fun c => (dats m 0 c).arrAt 88 (cfgs 0).N,
    fun c => (dats m 0 c).arrAt 89 (cfgs 0).N, ?_, ?_⟩
  · exact (θ_run defs _ _).mono (fun r h c => ⟨(h.1 c).1 45, (h.1 c).1 46, (h.1 c).1 47, (h.1 c).1 48, (h.1 c).1 49, (h.1 c).1 50, (h.1 c).1 51, (h.1 c).1 52, (h.1 c).1 53, (h.1 c).1 54, (h.1 c).1 55, (h.1 c).1 56, (h.1 c).1 57, (h.1 c).1 58, (h.1 c).1 59, (h.1 c).1 60, (h.1 c).1 61, (h.1 c).1 62, (h.1 c).1 63, (h.1 c).1 64, (h.1 c).1 65, (h.1 c).1 66, (h.1 c).1 67, (h.1 c).1 68, (h.1 c).1 69, (h.1 c).1 70, (h.1 c).1 71, (h.1 c).1 72, (h.1 c).1 73, (h.1 c).1 74, (h.1 c).1 75, (h.1 c).1 76, (h.1 c).1 77, (h.1 c).1 78, (h.1 c).1 79, (h.1 c).1 80, (h.1 c).1 81, (h.1 c).1 82, (h.1 c).1 83, (h.1 c).1 84, (h.1 c).1 85, (h.1 c).1 86, (h.1 c).1 87, (h.1 c).1 88, (h.1 c).1 89, kept m h.1 c⟩) (run_main_quiescent m g)
  · refine (θ_run Cert.AdamSmallRefIdeal.defs _ _).mono (fun r h c => ?_) (Cert.AdamSmallRefIdeal.Value.run m' g')
    obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, keep⟩ := h c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44⟩ := hagree c
    have s0 := (res_0 (StableHlo.launchContents m' c)).trans (congrArg slabs a1)
    have s1 := (res_1 (StableHlo.launchContents m' c)).trans (congrArg slabs a2)
    have s2 := (res_2 (StableHlo.launchContents m' c)).trans (congrArg slabs a3)
    have s3 := (res_3 (StableHlo.launchContents m' c)).trans (congrArg slabs a4)
    have s4 := (res_4 (StableHlo.launchContents m' c)).trans (congrArg slabs a5)
    have s5 := (res_5 (StableHlo.launchContents m' c)).trans (congrArg slabs a6)
    have s6 := (res_6 (StableHlo.launchContents m' c)).trans (congrArg slabs a7)
    have s7 := (res_7 (StableHlo.launchContents m' c)).trans (congrArg slabs a8)
    have s8 := (res_8 (StableHlo.launchContents m' c)).trans (congrArg slabs a9)
    have s9 := (res_9 (StableHlo.launchContents m' c)).trans (congrArg slabs a10)
    have s10 := (res_10 (StableHlo.launchContents m' c)).trans (congrArg slabs a11)
    exact ⟨r0.trans (((ref_loss _).trans (congrArg loss a0)).trans (final_45 m c).symm),
      r1.trans ((s0).trans (final_46 m c).symm),
      r2.trans ((s1).trans (final_47 m c).symm),
      r3.trans ((s2).trans (final_48 m c).symm),
      r4.trans ((s3).trans (final_49 m c).symm),
      r5.trans ((s4).trans (final_50 m c).symm),
      r6.trans ((s5).trans (final_51 m c).symm),
      r7.trans ((s6).trans (final_52 m c).symm),
      r8.trans ((s7).trans (final_53 m c).symm),
      r9.trans ((s8).trans (final_54 m c).symm),
      r10.trans ((s9).trans (final_55 m c).symm),
      r11.trans ((s10).trans (final_56 m c).symm),
      r12.trans (((ref_update _ _ _ _ _).trans (update_congr s0 a12 a23 a34)).trans (final_57 m c).symm),
      r13.trans (((ref_update _ _ _ _ _).trans (update_congr s1 a13 a24 a35)).trans (final_58 m c).symm),
      r14.trans (((ref_update _ _ _ _ _).trans (update_congr s2 a14 a25 a36)).trans (final_59 m c).symm),
      r15.trans (((ref_update _ _ _ _ _).trans (update_congr s3 a15 a26 a37)).trans (final_60 m c).symm),
      r16.trans (((ref_update _ _ _ _ _).trans (update_congr s4 a16 a27 a38)).trans (final_61 m c).symm),
      r17.trans (((ref_update _ _ _ _ _).trans (update_congr s5 a17 a28 a39)).trans (final_62 m c).symm),
      r18.trans (((ref_update _ _ _ _ _).trans (update_congr s6 a18 a29 a40)).trans (final_63 m c).symm),
      r19.trans (((ref_update _ _ _ _ _).trans (update_congr s7 a19 a30 a41)).trans (final_64 m c).symm),
      r20.trans (((ref_update _ _ _ _ _).trans (update_congr s8 a20 a31 a42)).trans (final_65 m c).symm),
      r21.trans (((ref_update _ _ _ _ _).trans (update_congr s9 a21 a32 a43)).trans (final_66 m c).symm),
      r22.trans (((ref_update _ _ _ _ _).trans (update_congr s10 a22 a33 a44)).trans (final_67 m c).symm),
      r23.trans (((ref_mean _ _ _).trans (mean_congr s0 a23)).trans (final_68 m c).symm),
      r24.trans (((ref_mean _ _ _).trans (mean_congr s1 a24)).trans (final_69 m c).symm),
      r25.trans (((ref_mean _ _ _).trans (mean_congr s2 a25)).trans (final_70 m c).symm),
      r26.trans (((ref_mean _ _ _).trans (mean_congr s3 a26)).trans (final_71 m c).symm),
      r27.trans (((ref_mean _ _ _).trans (mean_congr s4 a27)).trans (final_72 m c).symm),
      r28.trans (((ref_mean _ _ _).trans (mean_congr s5 a28)).trans (final_73 m c).symm),
      r29.trans (((ref_mean _ _ _).trans (mean_congr s6 a29)).trans (final_74 m c).symm),
      r30.trans (((ref_mean _ _ _).trans (mean_congr s7 a30)).trans (final_75 m c).symm),
      r31.trans (((ref_mean _ _ _).trans (mean_congr s8 a31)).trans (final_76 m c).symm),
      r32.trans (((ref_mean _ _ _).trans (mean_congr s9 a32)).trans (final_77 m c).symm),
      r33.trans (((ref_mean _ _ _).trans (mean_congr s10 a33)).trans (final_78 m c).symm),
      r34.trans (((ref_square _ _ _).trans (square_congr s0 a34)).trans (final_79 m c).symm),
      r35.trans (((ref_square _ _ _).trans (square_congr s1 a35)).trans (final_80 m c).symm),
      r36.trans (((ref_square _ _ _).trans (square_congr s2 a36)).trans (final_81 m c).symm),
      r37.trans (((ref_square _ _ _).trans (square_congr s3 a37)).trans (final_82 m c).symm),
      r38.trans (((ref_square _ _ _).trans (square_congr s4 a38)).trans (final_83 m c).symm),
      r39.trans (((ref_square _ _ _).trans (square_congr s5 a39)).trans (final_84 m c).symm),
      r40.trans (((ref_square _ _ _).trans (square_congr s6 a40)).trans (final_85 m c).symm),
      r41.trans (((ref_square _ _ _).trans (square_congr s7 a41)).trans (final_86 m c).symm),
      r42.trans (((ref_square _ _ _).trans (square_congr s8 a42)).trans (final_87 m c).symm),
      r43.trans (((ref_square _ _ _).trans (square_congr s9 a43)).trans (final_88 m c).symm),
      r44.trans (((ref_square _ _ _).trans (square_congr s10 a44)).trans (final_89 m c).symm), keep⟩

end Cert.AdamSmallIdeal.Whole
end
end
-- ==== Proof.InFwdValue.lean ====
module

public import proofs.«01_k».proof.Defs
public import proofs.«01_k».proof.Proof.Gen.InFwdIdeal.Frame
public import proofs.«01_k».proof.Proof.Gen.InFwdRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The input projection, and the causal convolution of four rows under its activation, each block of rows taking the last
rows of the block before it. -/

namespace Cert.InFwdIdeal.Conv

open Cert.InFwdIdeal Cert.InFwdIdeal.Gen

/-- A block moved down by `s` rows, its first rows taken from the last rows of the block before. -/
def moved (s : BitVec 32) (u : FVec Ideal S512x512 .f32) (p : FVec Ideal S8x512 .f32) : FVec Ideal S512x512 .f32 :=
  concatenate S512x512 0 [⟨S8x512, select (cmpi .slt (iota .tc S8x512 32 [0] iota_S8x512_d0_w32) (broadcast S8x512 s))
      (dynamicRotate 0 s none p rotates_S8x512_d0)
      (extractStridedSlice S8x512 ![0, 0] (dynamicRotate 0 s none u rotates_S512x512_d0) slices_S512x512_o0_0_S8x512)⟩,
    ⟨S504x512, extractStridedSlice S504x512 ![8, 0] (dynamicRotate 0 s none u rotates_S512x512_d0) slices_S512x512_o8_0_S504x512⟩]
    concatenates_S8x512_S504x512_S512x512_d0

theorem pay7_eq (x w b p w3 cb w2) : k0_pay7 (F := Ideal) x w b p w3 cb w2 =
    addf (addf (mulf (k0_pay6 x w b) (broadcastTo S512x512 w3 broadcasts_S1x512_S512x512)) (broadcastTo S512x512 cb broadcasts_S1x512_S512x512))
      (mulf (moved 1#32 (k0_pay6 x w b) p) (broadcastTo S512x512 w2 broadcasts_S1x512_S512x512)) := rfl

theorem pay1_eq (u p a w1 w0) : k0_pay1 (F := Ideal) u p (iota .tc S8x512 32 [0] iota_S8x512_d0_w32) a 2#32 w1 w0 =
    addf (addf a (mulf (moved 2#32 u p) (broadcastTo S512x512 w1 broadcasts_S1x512_S512x512)))
      (mulf (moved 3#32 u p) (broadcastTo S512x512 w0 broadcasts_S1x512_S512x512)) := rfl

/-- Row `i0` of a block moved down by `s` rows. -/
def down (s : ℕ) (u : FVec Ideal S512x512 .f32) (p : FVec Ideal S8x512 .f32) (i0 i1 : Fin 512) : EReal :=
  if i0.val < s then p (ix2 ⟨(i0.val + 8 - s) % 8, Nat.mod_lt _ (by decide)⟩ i1) else u (ix2 ⟨(i0.val + 512 - s) % 512, Nat.mod_lt _ (by decide)⟩ i1)

theorem sel (a b : EReal) (n : ℕ) (s : BitVec 32) (hn : n < 512) (hs : s.toNat < 8) :
    Scalar.select (IntOp.cmpi CmpIPredicate.slt (BitVec.ofNat 32 n) s) a b = if n < s.toNat then a else b := by
  have e : (BitVec.ofNat 32 n).toInt = n := by
    rw [BitVec.toInt_eq_toNat_of_lt] <;> simp only [BitVec.toNat_ofNat] <;> omega
  have e' : s.toInt = s.toNat := by rw [BitVec.toInt_eq_toNat_of_lt]; omega
  by_cases h : n < s.toNat
  · have : (BitVec.ofNat 32 n).slt s = true := by simp only [BitVec.slt, e, e', decide_eq_true_eq]; omega
    simp [Scalar.select, IntOp.cmpi, this, h]
  · have : (BitVec.ofNat 32 n).slt s = false := by simp only [BitVec.slt, e, e', decide_eq_false_iff_not]; omega
    simp [Scalar.select, IntOp.cmpi, this, h]

theorem moved1 (u p) (i0 i1 : Fin 512) : moved 1#32 u p (ix2 i0 i1) = down 1 u p i0 i1 := by
  by_cases h : i0.val < 8
  · pointwise [moved, down, h]
    exact sel _ _ _ 1#32 i0.isLt (by decide)
  · have h' : ¬i0.val < 1 := by omega
    have e : 8 + (i0.val - 8) + 512 - 1 = i0.val + 512 - 1 := by omega
    pointwise [moved, down, h, h', e]
theorem moved2 (u p) (i0 i1 : Fin 512) : moved 2#32 u p (ix2 i0 i1) = down 2 u p i0 i1 := by
  by_cases h : i0.val < 8
  · pointwise [moved, down, h]
    exact sel _ _ _ 2#32 i0.isLt (by decide)
  · have h' : ¬i0.val < 2 := by omega
    have e : 8 + (i0.val - 8) + 512 - 2 = i0.val + 512 - 2 := by omega
    pointwise [moved, down, h, h', e]
theorem moved3 (u p) (i0 i1 : Fin 512) : moved 3#32 u p (ix2 i0 i1) = down 3 u p i0 i1 := by
  by_cases h : i0.val < 8
  · pointwise [moved, down, h]
    exact sel _ _ _ 3#32 i0.isLt (by decide)
  · have h' : ¬i0.val < 3 := by omega
    have e : 8 + (i0.val - 8) + 512 - 3 = i0.val + 512 - 3 := by omega
    pointwise [moved, down, h, h', e]
theorem pay5 (x w b) (i0 : Fin 512) (i1 : Fin 3712) : k0_pay5 (F := Ideal) x w b (ix2 i0 i1)
    = (∑ k : Fin 1024, x (ix2 i0 k) * w (ix2 k i1)) + b (ix2 0 i1) := by
  pointwise [k0_pay5]
theorem pay6 (x w b) (i0 : Fin 512) (i1 : Fin 512) : k0_pay6 (F := Ideal) x w b (ix2 i0 i1)
    = k0_pay5 (F := Ideal) x w b (ix2 i0 ⟨2048 + i1.val, by omega⟩) := by
  pointwise [k0_pay6]
theorem pay3 (u) (i0 : Fin 8) (i1 : Fin 512) : k0_pay3 (F := Ideal) u (ix2 i0 i1) = u (ix2 ⟨504 + i0.val, by omega⟩ i1) := by
  pointwise [k0_pay3]
theorem pay4 (i0 : Fin 8) (i1 : Fin 512) : k0_pay4 (F := Ideal) (ix2 i0 i1) = 0 := by
  pointwise [k0_pay4]

/-- The convolution of a block by its four taps, over the rows before it. -/
def conv (u : FVec Ideal S512x512 .f32) (p : FVec Ideal S8x512 .f32) (w3 cb w2 w1 w0 : FVec Ideal S1x512 .f32) : FVec Ideal S512x512 .f32 :=
  k0_pay1 u p (iota .tc S8x512 32 [0] iota_S8x512_d0_w32)
    (addf (addf (mulf u (broadcastTo S512x512 w3 broadcasts_S1x512_S512x512)) (broadcastTo S512x512 cb broadcasts_S1x512_S512x512))
      (mulf (moved 1#32 u p) (broadcastTo S512x512 w2 broadcasts_S1x512_S512x512))) 2#32 w1 w0

theorem conv_row (u p w3 cb w2 w1 w0) (i0 i1 : Fin 512) : conv u p w3 cb w2 w1 w0 (ix2 i0 i1) =
    u (ix2 i0 i1) * w3 (ix2 0 i1) + cb (ix2 0 i1) + down 1 u p i0 i1 * w2 (ix2 0 i1) + down 2 u p i0 i1 * w1 (ix2 0 i1)
      + down 3 u p i0 i1 * w0 (ix2 0 i1) := by
  rw [conv, pay1_eq]
  pointwise [moved1, moved2, moved3]

theorem pay2_row (u p i a c w1 w0) (i0 i1 : Fin 512) : k0_pay2 (F := Ideal) u p i a c w1 w0 (ix2 i0 i1) =
    k0_pay1 (F := Ideal) u p i a c w1 w0 (ix2 i0 i1) * Ideal.logistic (k0_pay1 (F := Ideal) u p i a c w1 w0 (ix2 i0 i1)) := by
  pointwise [k0_pay2]

/-- A row of the product by a weight and a bias, the columns past the weight's zero. -/
def lin (x : FVec Ideal S8192x1024 .f32) (w : FVec Ideal S1024x3592 .f32) (b : FVec Ideal S1x3592 .f32) (r : Fin 8192) (j : Fin 3712) : EReal :=
  (∑ k : Fin 1024, x (ix2 r k) * (if h : (j : ℕ) < 3592 then w (ix2 k ⟨j, h⟩) else (0 : EReal)))
    + (if h : (j : ℕ) < 3592 then b (ix2 0 ⟨j, h⟩) else (0 : EReal))

section
variable (m : (ℓ : Loc nD τ sig) → Buf (Elt Ideal) ℓ) (c : Dev nD)

theorem carry (t : Fin cfg0.N) : (outsAt0 m c t.val t.isLt).2.2.2 = k0_pay3 (F := Ideal) (k0_pay6 (iblk m c 0 t) (iblk m c 1 t) (iblk m c 2 t)) := by
  by_cases h : t.val % 16 = 0
  · rw [outsAt0_A m c t h]; frame_out
  · rw [outsAt0_B m c t h]; frame_out

/-- The rows a point finds carried: none at the first point, else the last rows of the block before. -/
def before (t : Fin cfg0.N) : FVec Ideal S8x512 .f32 :=
  if h : t.val % 16 = 0 then k0_pay4 else (outsAt0 m c (t.val - 1) (lt_of_le_of_lt (Nat.sub_le _ _) t.isLt)).2.2.2

/-- The convolved columns of point `t`. -/
abbrev U (t : Fin cfg0.N) : FVec Ideal S512x512 .f32 := k0_pay6 (F := Ideal) (iblk m c 0 t) (iblk m c 1 t) (iblk m c 2 t)
abbrev C (t : Fin cfg0.N) : FVec Ideal S512x512 .f32 := conv (U m c t) (before m c t)
  (View.ld (iblk m c 3 t) (Rect.unit ![3, 0] ![1, 512] inb_S4x512_S1x512_3_0)) (iblk m c 4 t)
  (View.ld (iblk m c 3 t) (Rect.unit ![2, 0] ![1, 512] inb_S4x512_S1x512_2_0))
  (View.ld (iblk m c 3 t) (Rect.unit ![1, 0] ![1, 512] inb_S4x512_S1x512_1_0))
  (View.ld (iblk m c 3 t) (Rect.unit ![0, 0] ![1, 512] inb_S4x512_S1x512_0_0))

theorem out5 (t : Fin cfg0.N) : (outsAt0 m c t.val t.isLt).1 = k0_pay5 (F := Ideal) (iblk m c 0 t) (iblk m c 1 t) (iblk m c 2 t) := by
  by_cases h : t.val % 16 = 0
  · rw [outsAt0_A m c t h]; frame_out
  · rw [outsAt0_B m c t h]; frame_out
theorem out6 (t : Fin cfg0.N) : (outsAt0 m c t.val t.isLt).2.1 = C m c t := by
  by_cases h : t.val % 16 = 0
  · rw [outsAt0_A m c t h]; frame_out; rw [pay7_eq]; simp only [C, U, before, dif_pos h, conv]; rfl
  · rw [outsAt0_B m c t h]; frame_out; rw [pay7_eq, read_unread_whole]; simp only [C, U, before, dif_neg h, conv]; rfl
theorem out7 (t : Fin cfg0.N) (i0 i1 : Fin 512) : (outsAt0 m c t.val t.isLt).2.2.1 (ix2 i0 i1)
    = C m c t (ix2 i0 i1) * Ideal.logistic (C m c t (ix2 i0 i1)) := by
  by_cases h : t.val % 16 = 0
  · rw [outsAt0_A m c t h]; frame_out; rw [pay2_row, pay7_eq]; simp only [C, U, before, dif_pos h, conv]; rfl
  · rw [outsAt0_B m c t h]; frame_out; rw [pay2_row, pay7_eq, read_unread_whole]; simp only [C, U, before, dif_neg h, conv]; rfl

theorem pad_w (x : S1024x3592.Idx → EReal) (i0 : Fin 1024) (i1 : Fin 3712) :
    pad S1024x3712 ![0, 0] ![0, 120] ![0, 0] x (sitofp (F := Ideal) .f32 (constantI S_ 32 0#32)) pads_S1024x3592_S1024x3712_000_01200 h_S_ (ix2 i0 i1)
      = if h : (i1 : ℕ) < 3592 then x (ix2 i0 ⟨i1, h⟩) else 0 := by
  have : FloatOps.sitofp (F := Ideal) FTy.f32 0#32 = (0 : EReal) := by simp [FloatOps.sitofp]
  pointwise [this]
theorem pad_b (x : S1x3592.Idx → EReal) (i1 : Fin 3712) :
    pad S1x3712 ![0, 0] ![0, 120] ![0, 0] x (sitofp (F := Ideal) .f32 (constantI S_ 32 0#32)) pads_S1x3592_S1x3712_000_01200 h_S_ (ix2 0 i1)
      = if h : (i1 : ℕ) < 3592 then x (ix2 0 ⟨i1, h⟩) else 0 := by
  have : FloatOps.sitofp (F := Ideal) FTy.f32 0#32 = (0 : EReal) := by simp [FloatOps.sitofp]
  pointwise [this]
theorem V_w (i0 : Fin 1024) (i1 : Fin 3712) : V m c main_v1 (ix2 i0 i1)
    = if h : (i1 : ℕ) < 3592 then m ((c : Thread nD τ).loc main_arg1) (ix2 i0 ⟨i1, h⟩) else (0 : EReal) := by
  unfold V
  simp only [List.flatten_cons, List.flatten_nil, List.append_nil, List.cons_append, List.nil_append]
  after_results
  exact pad_w _ i0 i1
theorem V_b (i1 : Fin 3712) : V m c main_v2 (ix2 0 i1)
    = if h : (i1 : ℕ) < 3592 then m ((c : Thread nD τ).loc main_arg2) (ix2 0 ⟨i1, h⟩) else (0 : EReal) := by
  unfold V
  simp only [List.flatten_cons, List.flatten_nil, List.append_nil, List.cons_append, List.nil_append]
  after_results
  exact pad_b _ i1

/-- Row `r` of the projection with its bias, its columns past the weight's zero. -/
def rU (r : Fin 8192) (j : Fin 3712) : EReal :=
  lin (m ((c : Thread nD τ).loc main_arg0)) (m ((c : Thread nD τ).loc main_arg1)) (m ((c : Thread nD τ).loc main_arg2)) r j
/-- The convolved column `j` of the row `n` above row `r`, zero above the first. -/
def rL (n : ℕ) (r : Fin 8192) (j : Fin 512) : EReal :=
  if n ≤ r.val then rU m c ⟨r.val - n, by omega⟩ ⟨2048 + j, by omega⟩ else 0
/-- Row `r` of the causal convolution, and under the activation. -/
def rC (r : Fin 8192) (j : Fin 512) : EReal :=
  rL m c 3 r j * m ((c : Thread nD τ).loc main_arg3) (ix2 0 j) + rL m c 2 r j * m ((c : Thread nD τ).loc main_arg3) (ix2 1 j)
    + rL m c 1 r j * m ((c : Thread nD τ).loc main_arg3) (ix2 2 j) + rL m c 0 r j * m ((c : Thread nD τ).loc main_arg3) (ix2 3 j)
    + m ((c : Thread nD τ).loc main_arg4) (ix2 0 j)
def rS (r : Fin 8192) (j : Fin 512) : EReal := rC m c r j * Ideal.logistic (rC m c r j)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)
/-- The row of the whole that row `k` of the block of point `t` is. -/
def row (t : Fin cfg0.N) (k : Fin 512) : Fin 8192 :=
  ⟨t.val * 512 + k.val, by have := lt_of_lt_of_eq t.isLt (show cfg0.N = 16 from N_0); omega⟩

theorem blk0 (t : Fin cfg0.N) (k : Fin 512) (l : Fin 1024) :
    iblk m c 0 t (ix2 k l) = m ((c : Thread nD τ).loc main_arg0) (ix2 (row t k) l) := by blk_point [iblk, V, row, idx t]
theorem blk1 (t : Fin cfg0.N) (f : Fin 1024) (j : Fin 3712) : iblk m c 1 t (ix2 f j)
    = if h : (j : ℕ) < 3592 then m ((c : Thread nD τ).loc main_arg1) (ix2 f ⟨j, h⟩) else (0 : EReal) := by
  have e : (win0_1.blk t).view.emb (ix2 f j) = ix2 f j := by blk_ext [idx t]
  blk_simp [iblk]; rw [e]; exact V_w m c f j
theorem blk2 (t : Fin cfg0.N) (j : Fin 3712) : iblk m c 2 t (ix2 0 j)
    = if h : (j : ℕ) < 3592 then m ((c : Thread nD τ).loc main_arg2) (ix2 0 ⟨j, h⟩) else (0 : EReal) := by
  have e : (win0_2.blk t).view.emb (ix2 0 j) = ix2 0 j := by blk_ext [idx t]
  blk_simp [iblk]; rw [e]; exact V_b m c j
theorem blk3 (t : Fin cfg0.N) (k : Fin 4) (l : Fin 512) :
    iblk m c 3 t (ix2 k l) = m ((c : Thread nD τ).loc main_arg3) (ix2 k l) := by blk_point [iblk, V, idx t]
theorem blk4 (t : Fin cfg0.N) (l : Fin 512) :
    iblk m c 4 t (ix2 0 l) = m ((c : Thread nD τ).loc main_arg4) (ix2 0 l) := by blk_point [iblk, V, idx t]
theorem tap0 (t : Fin cfg0.N) (l : Fin 512) : View.ld (iblk m c 3 t) (Rect.unit ![0, 0] ![1, 512] inb_S4x512_S1x512_0_0) (ix2 0 l)
    = m ((c : Thread nD τ).loc main_arg3) (ix2 0 l) := by
  rw [← blk3 m c t 0 l]
  pointwise [View.ld]
theorem tap1 (t : Fin cfg0.N) (l : Fin 512) : View.ld (iblk m c 3 t) (Rect.unit ![1, 0] ![1, 512] inb_S4x512_S1x512_1_0) (ix2 0 l)
    = m ((c : Thread nD τ).loc main_arg3) (ix2 1 l) := by
  rw [← blk3 m c t 1 l]
  pointwise [View.ld]
theorem tap2 (t : Fin cfg0.N) (l : Fin 512) : View.ld (iblk m c 3 t) (Rect.unit ![2, 0] ![1, 512] inb_S4x512_S1x512_2_0) (ix2 0 l)
    = m ((c : Thread nD τ).loc main_arg3) (ix2 2 l) := by
  rw [← blk3 m c t 2 l]
  pointwise [View.ld]
theorem tap3 (t : Fin cfg0.N) (l : Fin 512) : View.ld (iblk m c 3 t) (Rect.unit ![3, 0] ![1, 512] inb_S4x512_S1x512_3_0) (ix2 0 l)
    = m ((c : Thread nD τ).loc main_arg3) (ix2 3 l) := by
  rw [← blk3 m c t 3 l]
  pointwise [View.ld]

theorem bU (t : Fin cfg0.N) (k : Fin 512) (j : Fin 3712) :
    k0_pay5 (F := Ideal) (iblk m c 0 t) (iblk m c 1 t) (iblk m c 2 t) (ix2 k j) = rU m c (row t k) j := by
  rw [pay5]; simp only [blk0, blk1, blk2]; rfl
theorem bX (t : Fin cfg0.N) (k : Fin 512) (j : Fin 512) : U m c t (ix2 k j) = rU m c (row t k) ⟨2048 + j, by omega⟩ := by
  rw [U, pay6, bU]
theorem bL (s : ℕ) (hs : s < 8) (t : Fin cfg0.N) (k : Fin 512) (j : Fin 512) :
    down s (U m c t) (before m c t) k j = rL m c s (row t k) j := by
  have ht : t.val < 16 := lt_of_lt_of_eq t.isLt (show cfg0.N = 16 from N_0)
  unfold down rL
  by_cases h : k.val < s
  · rw [if_pos h]
    by_cases h0 : t.val % 16 = 0
    · rw [if_neg (by simp only [row]; omega), before, dif_pos h0, pay4]
    · rw [if_pos (by simp only [row]; omega), before, dif_neg h0,
        carry m c ⟨t.val - 1, lt_of_le_of_lt (Nat.sub_le _ _) t.isLt⟩, pay3]
      refine (bX m c ⟨t.val - 1, lt_of_le_of_lt (Nat.sub_le _ _) t.isLt⟩ _ j).trans ?_
      congr 1
      apply Fin.ext; simp only [row]; omega
  · rw [if_neg h, if_pos (by simp only [row]; omega), bX]
    congr 1
    apply Fin.ext; simp only [row]; omega
theorem bC (t : Fin cfg0.N) (k : Fin 512) (j : Fin 512) : C m c t (ix2 k j) = rC m c (row t k) j := by
  rw [C, conv_row, bL m c 1 (by decide), bL m c 2 (by decide), bL m c 3 (by decide), tap0, tap1, tap2, tap3, blk4, bX]
  have e : rU m c (row t k) ⟨2048 + j, by omega⟩ = rL m c 0 (row t k) j := by simp [rL]
  rw [e, rC]
  ac_rfl

theorem final5 : (dats m 0 c).arrAt 5 (cfgs 0).N = fun i => rU m c (i 0) (i 1) := by
  refine (dats m 0 c).arrAt_eq_of_covers 5 _ (by decide +kernel) fun t hf y => ?_
  idx_vars y
  have e : (win0_5.blk t).view.emb (ix2 y0 y1) = ix2 (row t y0) y1 := by blk_ext [row, idx t]
  blk_simp
  rw [e, after0_5, out5]
  exact bU m c t y0 y1
theorem final6 : (dats m 0 c).arrAt 6 (cfgs 0).N = fun i => rC m c (i 0) (i 1) := by
  refine (dats m 0 c).arrAt_eq_of_covers 6 _ (by decide +kernel) fun t hf y => ?_
  idx_vars y
  have e : (win0_6.blk t).view.emb (ix2 y0 y1) = ix2 (row t y0) y1 := by blk_ext [row, idx t]
  blk_simp
  rw [e, after0_6, out6]
  exact bC m c t y0 y1
theorem final7 : (dats m 0 c).arrAt 7 (cfgs 0).N = fun i => rS m c (i 0) (i 1) := by
  refine (dats m 0 c).arrAt_eq_of_covers 7 _ (by decide +kernel) fun t hf y => ?_
  idx_vars y
  have e : (win0_7.blk t).view.emb (ix2 y0 y1) = ix2 (row t y0) y1 := by blk_ext [row, idx t]
  blk_simp
  rw [e, after0_7]
  refine (out7 m c t y0 y1).trans ?_
  rw [bC]; rfl
end
end Cert.InFwdIdeal.Conv

namespace Cert.InFwdRefIdeal.Conv
open Cert.InFwdRefIdeal Cert.InFwdRefIdeal.Gen

def Lin (x : FVec Ideal S8192x1024 .f32) (w : FVec Ideal S1024x3592 .f32) (b : FVec Ideal S1x3592 .f32) : FVec Ideal S8192x3712 .f32 :=
  addf (Host.dotGeneral dot_S8192x1024_S1024x3712_S8192x3712_1_0_0_1_n_n none x (pad S1024x3712 ![0, 0] ![0, 120] ![0, 0] w (sitofp .f32 (constantI S_ 32 0#32)) pads_S1024x3592_S1024x3712_000_01200 h_S_)) (broadcastInDim S8192x3712 ![0, 1] bcast_S1x3712_S8192x3712_0_1 (pad S1x3712 ![0, 0] ![0, 120] ![0, 0] b (sitofp .f32 (constantI S_ 32 0#32)) pads_S1x3592_S1x3712_000_01200 h_S_))
def Pad (u : FVec Ideal S8192x3712 .f32) : FVec Ideal S8195x512 .f32 :=
  pad S8195x512 ![3, 0] ![0, 0] ![0, 0] (extractStridedSlice S8192x512 ![0, 2048] u slices_S8192x3712_S8192x512_0_2048) (sitofp .f32 (constantI S_ 32 0#32)) pads_S8192x512_S8195x512_300_000 h_S_
def Con (p : FVec Ideal S8195x512 .f32) (w : FVec Ideal S4x512 .f32) (b : FVec Ideal S1x512 .f32) : FVec Ideal S8192x512 .f32 :=
  addf (addf (addf (addf (mulf (extractStridedSlice S8192x512 ![0, 0] p slices_S8195x512_S8192x512_0_0) (broadcastInDim S8192x512 ![0, 1] bcast_S1x512_S8192x512_0_1 (broadcastInDim S1x512 ![1] bcast_S512_S1x512_1 (shapeCast _ (extractStridedSlice S1x512 ![0, 0] w slices_S4x512_S1x512_0_0) shapeCasts_S1x512_S512)))) (mulf (extractStridedSlice S8192x512 ![1, 0] p slices_S8195x512_S8192x512_1_0) (broadcastInDim S8192x512 ![0, 1] bcast_S1x512_S8192x512_0_1 (broadcastInDim S1x512 ![1] bcast_S512_S1x512_1 (shapeCast _ (extractStridedSlice S1x512 ![1, 0] w slices_S4x512_S1x512_1_0) shapeCasts_S1x512_S512))))) (mulf (extractStridedSlice S8192x512 ![2, 0] p slices_S8195x512_S8192x512_2_0) (broadcastInDim S8192x512 ![0, 1] bcast_S1x512_S8192x512_0_1 (broadcastInDim S1x512 ![1] bcast_S512_S1x512_1 (shapeCast _ (extractStridedSlice S1x512 ![2, 0] w slices_S4x512_S1x512_2_0) shapeCasts_S1x512_S512))))) (mulf (extractStridedSlice S8192x512 ![3, 0] p slices_S8195x512_S8192x512_3_0) (broadcastInDim S8192x512 ![0, 1] bcast_S1x512_S8192x512_0_1 (broadcastInDim S1x512 ![1] bcast_S512_S1x512_1 (shapeCast _ (extractStridedSlice S1x512 ![3, 0] w slices_S4x512_S1x512_3_0) shapeCasts_S1x512_S512))))) (broadcastInDim S8192x512 ![0, 1] bcast_S1x512_S8192x512_0_1 b)
def Act (a : FVec Ideal S8192x512 .f32) : FVec Ideal S8192x512 .f32 :=
  mulf a (Host.divf (broadcastInDim S8192x512 ![] bcast_S_S8192x512 (constant S_ .f32 0x3F800000#32)) (addf (broadcastInDim S8192x512 ![] bcast_S_S8192x512 (constant S_ .f32 0x3F800000#32)) (Host.exp (Host.negf a))))

theorem Lin_row (x w b) (i0 : Fin 8192) (i1 : Fin 3712) : Lin x w b (ix2 i0 i1)
    = (∑ k : Fin 1024, x (ix2 i0 k) * (if h : (i1 : ℕ) < 3592 then w (ix2 k ⟨i1, h⟩) else (0 : EReal)))
      + (if h : (i1 : ℕ) < 3592 then b (ix2 0 ⟨i1, h⟩) else (0 : EReal)) := by
  have : FloatOps.sitofp (F := Ideal) FTy.f32 0#32 = (0 : EReal) := by simp [FloatOps.sitofp]
  pointwise [Lin, this]
theorem Pad_row (u) (i0 : Fin 8195) (i1 : Fin 512) : Pad u (ix2 i0 i1)
    = if h : 3 ≤ i0.val then u (ix2 ⟨i0.val - 3, by omega⟩ ⟨2048 + i1, by omega⟩) else (0 : EReal) := by
  have : FloatOps.sitofp (F := Ideal) FTy.f32 0#32 = (0 : EReal) := by simp [FloatOps.sitofp]
  have e : (3 ≤ i0.val ∧ i0.val - 3 < 8192) ↔ 3 ≤ i0.val := ⟨fun h => h.1, fun h => ⟨h, by omega⟩⟩
  pointwise [Pad, this, e]
theorem Con_row (p w b) (i0 : Fin 8192) (i1 : Fin 512) : Con p w b (ix2 i0 i1)
    = p (ix2 ⟨0 + i0, by omega⟩ i1) * w (ix2 0 i1) + p (ix2 ⟨1 + i0, by omega⟩ i1) * w (ix2 1 i1)
      + p (ix2 ⟨2 + i0, by omega⟩ i1) * w (ix2 2 i1) + p (ix2 ⟨3 + i0, by omega⟩ i1) * w (ix2 3 i1) + b (ix2 0 i1) := by
  pointwise [Con]
theorem Act_row (a) (i0 : Fin 8192) (i1 : Fin 512) : Act a (ix2 i0 i1) = a (ix2 i0 i1) * Ideal.logistic (a (ix2 i0 i1)) := by
  pointwise [Act, Ideal.logistic]
end Cert.InFwdRefIdeal.Conv

namespace Cert.InFwdIdeal.Conv
open Cert.InFwdIdeal Cert.InFwdIdeal.Gen

open Cert.InFwdRefIdeal.Conv in
theorem algebraic : Cert.algebraic_InFwdIdeal_InFwdRefIdeal
    (hInFwdIdeal := Cert.InFwdIdeal.Gen.facts) (hInFwdRefIdeal := Cert.InFwdRefIdeal.Gen.facts) := by
  intro m g m' g' _ hagree
  refine ⟨fun c => (Gen.dats m 0 c).arrAt 5 (cfgs 0).N, fun c => (Gen.dats m 0 c).arrAt 6 (cfgs 0).N,
    fun c => (Gen.dats m 0 c).arrAt 7 (cfgs 0).N, ?_, ?_⟩
  · exact (θ_run defs _ _).mono (fun r h c => ⟨(h.1 c).1 5, (h.1 c).1 6, (h.1 c).1 7, h.2 c⟩)
      (θ_run_and (Gen.run_main m g) (Gen.unchanged m g))
  · refine (θ_run Cert.InFwdRefIdeal.defs _ _).mono (fun r h c => ?_) (Cert.InFwdRefIdeal.Value.run m' g')
    obtain ⟨r0, r1, r2, kept⟩ := h c
    obtain ⟨a0, a1, a2, a3, a4⟩ := hagree c
    let L := Lin (m' ((c.tc : Thread _ _).loc Cert.InFwdRefIdeal.main_arg0)) (m' ((c.tc : Thread _ _).loc Cert.InFwdRefIdeal.main_arg1))
      (m' ((c.tc : Thread _ _).loc Cert.InFwdRefIdeal.main_arg2))
    let D := Con (Pad L) (m' ((c.tc : Thread _ _).loc Cert.InFwdRefIdeal.main_arg3)) (m' ((c.tc : Thread _ _).loc Cert.InFwdRefIdeal.main_arg4))
    have hU (i0 : Fin 8192) (i1 : Fin 3712) : L (ix2 i0 i1) = rU m c i0 i1 := by
      refine (Lin_row _ _ _ i0 i1).trans ?_
      rw [a0, a1, a2]; rfl
    have hL (s n : ℕ) (hs : n + s = 3) (i0 : Fin 8192) (i1 : Fin 512) : Pad L (ix2 ⟨n + i0, by omega⟩ i1) = rL m c s i0 i1 := by
      rw [Pad_row, rL]
      by_cases h : s ≤ i0.val
      · rw [dif_pos (by show 3 ≤ n + i0.val; omega), if_pos h, hU]
        congr 1
        apply Fin.ext; show n + i0.val - 3 = i0.val - s; omega
      · rw [dif_neg (by show ¬3 ≤ n + i0.val; omega), if_neg h]
    have hC (i0 : Fin 8192) (i1 : Fin 512) : D (ix2 i0 i1) = rC m c i0 i1 := by
      refine (Con_row _ _ _ i0 i1).trans ?_
      rw [hL 3 0 rfl, hL 2 1 rfl, hL 1 2 rfl, hL 0 3 rfl, a3, a4]; rfl
    refine ⟨r0.trans ?_, r1.trans ?_, r2.trans ?_, kept⟩
    · refine Eq.trans ?_ (final5 m c).symm
      funext i; idx_vars i; exact hU i0 i1
    · refine Eq.trans ?_ (final6 m c).symm
      funext i; idx_vars i; exact hC i0 i1
    · refine Eq.trans ?_ (final7 m c).symm
      funext i; idx_vars i
      refine (Act_row D i0 i1).trans ?_
      rw [hC]; rfl

end Cert.InFwdIdeal.Conv
end
end
-- ==== Proof.HeadNorm.lean ====
module

public import Idealize.ShloMosaic.Lib.Pipeline.ValueKit

@[expose] public section

noncomputable section

open Idealize.ShloMosaic

/-! One row of the norm of four heads of 128 columns, of its gates and of the sum with a product. -/

namespace Cert.Heads

/-- The reciprocal root of the mean square of head `h`. -/
def rsh (o : Fin 512 → EReal) (h : Fin 4) : EReal :=
  Ideal.rsqrt (Ideal.div (∑ k : Fin 128, o ⟨h * 128 + k, by omega⟩ * o ⟨h * 128 + k, by omega⟩) (Ideal.ofBits .f32 0x43000000#32)
    + Ideal.ofBits .f32 0x358637BD#32)
/-- A row divided by each head's root mean square. -/
def hn (o : Fin 512 → EReal) (j : Fin 512) : EReal := o j * rsh o ⟨j / 128, by omega⟩

/-- Four rows of 128 numbers side by side. -/
def cat4 (f0 f1 f2 f3 : Fin 128 → EReal) (j : Fin 512) : EReal :=
  if h : (j : ℕ) < 128 then f0 ⟨j, h⟩ else if h : (j : ℕ) - 128 < 128 then f1 ⟨j - 128, h⟩
  else if h : (j : ℕ) - 128 - 128 < 128 then f2 ⟨j - 128 - 128, h⟩ else f3 ⟨j - 128 - 128 - 128, by omega⟩

/-- The four heads' rows side by side are the row. -/
theorem cat4_eq (f : Fin 4 → Fin 128 → EReal) (j : Fin 512) :
    cat4 (f 0) (f 1) (f 2) (f 3) j = f ⟨j / 128, by omega⟩ ⟨j % 128, by omega⟩ := by
  unfold cat4
  split
  · congr 1 <;> ext <;> simp <;> omega
  split
  · congr 1 <;> ext <;> simp <;> omega
  split
  · congr 1 <;> ext <;> simp <;> omega
  · congr 1 <;> ext <;> simp <;> omega
/-- One head's part of the norm. -/
def part (o : Fin 512 → EReal) (h : Fin 4) (k : Fin 128) : EReal := o ⟨h * 128 + k, by omega⟩ * rsh o h
theorem cat4_part (o : Fin 512 → EReal) (j : Fin 512) : cat4 (part o 0) (part o 1) (part o 2) (part o 3) j = hn o j := by
  rw [cat4_eq, part, hn]
  congr 2
  ext
  show (j : ℕ) / 128 * 128 + j % 128 = j
  omega

/-- Two rows of 512 numbers side by side. -/
def cat2 (a b : Fin 512 → EReal) (j : Fin 1024) : EReal := if h : (j : ℕ) < 512 then a ⟨j, h⟩ else b ⟨j - 512, by omega⟩

/-- The row of a head's norm, scaled and gated: by the gate times its logistic, or by the logistic alone. -/
def gateA (u o g : Fin 512 → EReal) (j : Fin 512) : EReal := hn o j * g j * (u j * Ideal.logistic (u j))
def gateB (u o g : Fin 512 → EReal) (j : Fin 512) : EReal := hn o j * g j * Ideal.logistic (u j)

end Cert.Heads
end
end
-- ==== Proof.OutFwdValue.lean ====
module

public import proofs.«01_k».proof.Defs
public import proofs.«01_k».proof.Proof.HeadNorm
public import proofs.«01_k».proof.Proof.Gen.OutFwdIdeal.Frame
public import proofs.«01_k».proof.Proof.Gen.OutFwdRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The output projection: the two groups of heads normalised, gated and multiplied by the weight. -/

namespace Cert.OutFwdIdeal.Rows

open Cert.OutFwdIdeal Cert.OutFwdIdeal.Gen Cert.Heads

theorem pay4 (o) (i0 : Fin 512) (i1 : Fin 128) : k0_pay4 (F := Ideal) o (ix2 i0 i1) = part (fun j => o (ix2 i0 j)) 0 i1 := by
  pointwise [k0_pay4, part, rsh]
theorem pay5 (o) (i0 : Fin 512) (i1 : Fin 128) : k0_pay5 (F := Ideal) o (ix2 i0 i1) = part (fun j => o (ix2 i0 j)) 1 i1 := by
  pointwise [k0_pay5, part, rsh]
theorem pay6 (o) (i0 : Fin 512) (i1 : Fin 128) : k0_pay6 (F := Ideal) o (ix2 i0 i1) = part (fun j => o (ix2 i0 j)) 2 i1 := by
  pointwise [k0_pay6, part, rsh]
theorem pay10 (o) (i0 : Fin 512) (i1 : Fin 128) : k0_pay10 (F := Ideal) o (ix2 i0 i1) = part (fun j => o (ix2 i0 j)) 0 i1 := pay4 o i0 i1
theorem pay11 (o) (i0 : Fin 512) (i1 : Fin 128) : k0_pay11 (F := Ideal) o (ix2 i0 i1) = part (fun j => o (ix2 i0 j)) 1 i1 := pay5 o i0 i1
theorem pay12 (o) (i0 : Fin 512) (i1 : Fin 128) : k0_pay12 (F := Ideal) o (ix2 i0 i1) = part (fun j => o (ix2 i0 j)) 2 i1 := pay6 o i0 i1
/-- The last head's part, as it is computed: the reciprocal root of its mean square under every column. -/
theorem part3 (o : FVec Ideal S512x512 .f32) (i0 : Fin 512) (i1 : Fin 128) :
    k0_pay7 (F := Ideal) o (ix2 i0 i1) * Ideal.rsqrt (k0_pay8 (F := Ideal) o (ix2 i0 0)) = part (fun j => o (ix2 i0 j)) 3 i1 := by
  pointwise [k0_pay7, k0_pay8, part, rsh]
theorem pay9 (u o g) (i0 : Fin 512) (i1 : Fin 512) :
    k0_pay9 (F := Ideal) u (k0_pay4 o) (k0_pay5 o) (k0_pay6 o) (k0_pay7 o) (k0_pay8 o) g (ix2 i0 i1)
    = gateA (fun j => u (ix2 i0 j)) (fun j => o (ix2 i0 j)) (fun j => g (ix2 0 j)) i1 := by
  have e : k0_pay9 (F := Ideal) u (k0_pay4 o) (k0_pay5 o) (k0_pay6 o) (k0_pay7 o) (k0_pay8 o) g (ix2 i0 i1)
      = cat4 (fun k => k0_pay4 (F := Ideal) o (ix2 i0 k)) (fun k => k0_pay5 (F := Ideal) o (ix2 i0 k)) (fun k => k0_pay6 (F := Ideal) o (ix2 i0 k))
        (fun k => k0_pay7 (F := Ideal) o (ix2 i0 k) * Ideal.rsqrt (k0_pay8 (F := Ideal) o (ix2 i0 0))) i1 * g (ix2 0 i1)
        * (u (ix2 i0 i1) * Ideal.logistic (u (ix2 i0 i1))) := by pointwise [k0_pay9, cat4]
  rw [e]
  simp only [pay4, pay5, pay6, part3]
  rw [gateA, ← cat4_part]
theorem pay1 (a o g u) (i0 : Fin 512) (i1 : Fin 1024) :
    k0_pay1 (F := Ideal) a (k0_pay10 o) (k0_pay11 o) (k0_pay12 o) (k0_pay13 o) (k0_pay14 o) g u (ix2 i0 i1)
    = cat2 (fun j => a (ix2 i0 j)) (gateB (fun j => u (ix2 i0 j)) (fun j => o (ix2 i0 j)) fun j => g (ix2 0 j)) i1 := by
  have e : k0_pay1 (F := Ideal) a (k0_pay10 o) (k0_pay11 o) (k0_pay12 o) (k0_pay13 o) (k0_pay14 o) g u (ix2 i0 i1)
      = cat2 (fun j => a (ix2 i0 j)) (fun j =>
        cat4 (fun k => k0_pay10 (F := Ideal) o (ix2 i0 k)) (fun k => k0_pay11 (F := Ideal) o (ix2 i0 k)) (fun k => k0_pay12 (F := Ideal) o (ix2 i0 k))
        (fun k => k0_pay7 (F := Ideal) o (ix2 i0 k) * Ideal.rsqrt (k0_pay8 (F := Ideal) o (ix2 i0 0))) j * g (ix2 0 j)
        * Ideal.logistic (u (ix2 i0 j))) i1 := by pointwise [k0_pay1, k0_pay13, k0_pay14, k0_pay7, k0_pay8, cat4, cat2]
  rw [e]
  simp only [pay10, pay11, pay12, part3]
  unfold gateB
  simp only [← cat4_part]
theorem pay3 (a p q r s t g u x w) (i0 : Fin 512) (i1 : Fin 1024) : k0_pay3 (F := Ideal) a p q r s t g u x w (ix2 i0 i1)
    = Ideal.ofBits .f32 0x3F9837F0#32 * x (ix2 i0 i1) + ∑ k : Fin 1024, k0_pay1 (F := Ideal) a p q r s t g u (ix2 i0 k) * w (ix2 k i1) := by
  pointwise [k0_pay3]

section
variable (m : (ℓ : Loc nD τ sig) → Buf (Elt Ideal) ℓ) (c : Dev nD)

/-- Row `r` of the gated heads and of the sum with their product by the weight. -/
def rM (r : Fin 8192) : Fin 1024 → EReal :=
  cat2 (gateA (fun j => m ((c : Thread nD τ).loc main_arg1) (ix2 r ⟨1536 + j, by omega⟩)) (fun j => m ((c : Thread nD τ).loc main_arg2) (ix2 r j))
      fun j => m ((c : Thread nD τ).loc main_arg4) (ix2 0 j))
    (gateB (fun j => m ((c : Thread nD τ).loc main_arg1) (ix2 r ⟨3072 + j, by omega⟩)) (fun j => m ((c : Thread nD τ).loc main_arg3) (ix2 r j))
      fun j => m ((c : Thread nD τ).loc main_arg5) (ix2 0 j))
def rZ (r : Fin 8192) (j : Fin 1024) : EReal :=
  Ideal.ofBits .f32 0x3F9837F0#32 * m ((c : Thread nD τ).loc main_arg0) (ix2 r j)
    + ∑ k : Fin 1024, rM m c r k * m ((c : Thread nD τ).loc main_arg6) (ix2 k j)

theorem V_w (k : Fin 1024) (j : Fin 1024) : V m c main_v0 (ix2 k j) = m ((c : Thread nD τ).loc main_arg6) (ix2 k j) := by
  entry_read
  rfl

theorem idx : ∀ t : Fin cfg0.N, win0_0.index t = ![t.val, 0] ∧ win0_1.index t = ![t.val, 3] ∧ win0_2.index t = ![t.val, 6]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

/-- The row of the whole that row `k` of the block of point `t` is. -/
def row (t : Fin cfg0.N) (k : Fin 512) : Fin 8192 :=
  ⟨t.val * 512 + k.val, by have := lt_of_lt_of_eq t.isLt (show cfg0.N = 16 from N_0); omega⟩

theorem blk0 (t : Fin cfg0.N) (k : Fin 512) (l : Fin 1024) :
    iblk m c 0 t (ix2 k l) = m ((c : Thread nD τ).loc main_arg0) (ix2 (row t k) l) := by blk_point [iblk, V, row, idx t]
theorem blk1 (t : Fin cfg0.N) (k : Fin 512) (l : Fin 512) :
    X0_1 m c t (ix2 k l) = m ((c : Thread nD τ).loc main_arg1) (ix2 (row t k) ⟨1536 + l, by omega⟩) := by
  unfold X0_1 Pipeline.Window.fill
  rw [dif_pos (moved0_1 t _)]
  blk_point [iblk, V, row, idx t]
theorem blk2 (t : Fin cfg0.N) (k : Fin 512) (l : Fin 512) :
    X0_2 m c t (ix2 k l) = m ((c : Thread nD τ).loc main_arg1) (ix2 (row t k) ⟨3072 + l, by omega⟩) := by
  unfold X0_2 Pipeline.Window.fill
  rw [dif_pos (moved0_2 t _)]
  blk_point [iblk, V, row, idx t]
theorem blk3 (t : Fin cfg0.N) (k : Fin 512) (l : Fin 512) :
    iblk m c 3 t (ix2 k l) = m ((c : Thread nD τ).loc main_arg2) (ix2 (row t k) l) := by blk_point [iblk, V, row, idx t]
theorem blk4 (t : Fin cfg0.N) (k : Fin 512) (l : Fin 512) :
    iblk m c 4 t (ix2 k l) = m ((c : Thread nD τ).loc main_arg3) (ix2 (row t k) l) := by blk_point [iblk, V, row, idx t]
theorem blk5 (t : Fin cfg0.N) (l : Fin 512) :
    iblk m c 5 t (ix2 0 l) = m ((c : Thread nD τ).loc main_arg4) (ix2 0 l) := by blk_point [iblk, V, idx t]
theorem blk6 (t : Fin cfg0.N) (l : Fin 512) :
    iblk m c 6 t (ix2 0 l) = m ((c : Thread nD τ).loc main_arg5) (ix2 0 l) := by blk_point [iblk, V, idx t]
theorem blk7 (t : Fin cfg0.N) (f : Fin 1024) (j : Fin 1024) :
    iblk m c 7 t (ix2 f j) = m ((c : Thread nD τ).loc main_arg6) (ix2 f j) := by
  have e : (win0_7.blk t).view.emb (ix2 f j) = ix2 f j := by blk_ext [idx t]
  blk_simp [iblk]; rw [e]; exact V_w m c f j

/-- The gated heads of point `t`. -/
abbrev gA (t : Fin cfg0.N) := k0_pay9 (F := Ideal) (X0_1 m c t) (k0_pay4 (iblk m c 3 t)) (k0_pay5 (iblk m c 3 t)) (k0_pay6 (iblk m c 3 t))
  (k0_pay7 (iblk m c 3 t)) (k0_pay8 (iblk m c 3 t)) (iblk m c 5 t)
theorem bM (t : Fin cfg0.N) (k : Fin 512) (j : Fin 1024) :
    k0_pay1 (F := Ideal) (gA m c t) (k0_pay10 (iblk m c 4 t)) (k0_pay11 (iblk m c 4 t)) (k0_pay12 (iblk m c 4 t)) (k0_pay13 (iblk m c 4 t))
      (k0_pay14 (iblk m c 4 t)) (iblk m c 6 t) (X0_2 m c t) (ix2 k j) = rM m c (row t k) j := by
  rw [pay1]; simp only [pay9, blk1, blk2, blk3, blk4, blk5, blk6]; rfl
theorem bZ (t : Fin cfg0.N) (k : Fin 512) (j : Fin 1024) :
    k0_pay3 (F := Ideal) (gA m c t) (k0_pay10 (iblk m c 4 t)) (k0_pay11 (iblk m c 4 t)) (k0_pay12 (iblk m c 4 t)) (k0_pay13 (iblk m c 4 t))
      (k0_pay14 (iblk m c 4 t)) (iblk m c 6 t) (X0_2 m c t) (iblk m c 0 t) (iblk m c 7 t) (ix2 k j) = rZ m c (row t k) j := by
  rw [pay3]; simp only [bM, blk0, blk7]; rfl

theorem final8 : (dats m 0 c).arrAt 8 (cfgs 0).N = fun i => rM m c (i 0) (i 1) := by
  refine (dats m 0 c).arrAt_eq_of_covers 8 _ (by decide +kernel) fun t hf y => ?_
  idx_vars y
  have e : (win0_8.blk t).view.emb (ix2 y0 y1) = ix2 (row t y0) y1 := by blk_ext [row, idx t]
  blk_simp
  rw [e, after0_8]
  unfold outsAt0
  frame_out
  exact bM m c t y0 y1
theorem final9 : (dats m 0 c).arrAt 9 (cfgs 0).N = fun i => rZ m c (i 0) (i 1) := by
  refine (dats m 0 c).arrAt_eq_of_covers 9 _ (by decide +kernel) fun t hf y => ?_
  idx_vars y
  have e : (win0_9.blk t).view.emb (ix2 y0 y1) = ix2 (row t y0) y1 := by blk_ext [row, idx t]
  blk_simp
  rw [e, after0_9]
  unfold outsAt0
  frame_out
  exact bZ m c t y0 y1
end
end Cert.OutFwdIdeal.Rows

namespace Cert.OutFwdRefIdeal.Rows
open Cert.OutFwdRefIdeal Cert.OutFwdRefIdeal.Gen Cert.Heads

/-- The norm of the four heads, and their gates. -/
def HN (o : FVec Ideal S8192x512 .f32) : FVec Ideal S8192x512 .f32 :=
  shapeCast S8192x512 (mulf (shapeCast _ o shapeCasts_S8192x512_S8192x4x128) (broadcastInDim S8192x4x128 ![0, 1, 2] bcast_S8192x4x1_S8192x4x128_0_1_2 (Host.rsqrt (addf (Host.divf (broadcastInDim S8192x4x1 ![0, 1] bcast_S8192x4_S8192x4x1_0_1 (Host.reduceAdd (mulf (shapeCast _ o shapeCasts_S8192x512_S8192x4x128) (shapeCast _ o shapeCasts_S8192x512_S8192x4x128)) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32)))))) shapeCasts_S8192x4x128_S8192x512
def GA (o u : FVec Ideal S8192x512 .f32) (g : FVec Ideal S1x512 .f32) : FVec Ideal S8192x512 .f32 :=
  mulf (mulf (HN o) (broadcastInDim S8192x512 ![0, 1] bcast_S1x512_S8192x512_0_1 g)) (mulf u (Host.divf (broadcastInDim S8192x512 ![] bcast_S_S8192x512 (constant S_ .f32 0x3F800000#32)) (addf (broadcastInDim S8192x512 ![] bcast_S_S8192x512 (constant S_ .f32 0x3F800000#32)) (Host.exp (Host.negf u)))))
def GB (o u : FVec Ideal S8192x512 .f32) (g : FVec Ideal S1x512 .f32) : FVec Ideal S8192x512 .f32 :=
  mulf (mulf (HN o) (broadcastInDim S8192x512 ![0, 1] bcast_S1x512_S8192x512_0_1 g)) (Host.divf (broadcastInDim S8192x512 ![] bcast_S_S8192x512 (constant S_ .f32 0x3F800000#32)) (addf (broadcastInDim S8192x512 ![] bcast_S_S8192x512 (constant S_ .f32 0x3F800000#32)) (Host.exp (Host.negf u))))
def Mix (m : (ℓ : Loc nD τ sig) → Buf (Elt Ideal) ℓ) (c : Dev nD) : FVec Ideal S8192x1024 .f32 :=
  concatenate S8192x1024 1 [⟨S8192x512, GA (m ((c.tc : Thread nD τ).loc main_arg2)) (extractStridedSlice S8192x512 ![0, 1536] (m ((c.tc : Thread nD τ).loc main_arg1)) slices_S8192x3712_S8192x512_0_1536) (m ((c.tc : Thread nD τ).loc main_arg4))⟩, ⟨S8192x512, GB (m ((c.tc : Thread nD τ).loc main_arg3)) (extractStridedSlice S8192x512 ![0, 3072] (m ((c.tc : Thread nD τ).loc main_arg1)) slices_S8192x3712_S8192x512_0_3072) (m ((c.tc : Thread nD τ).loc main_arg5))⟩] concatenates_S8192x512_S8192x512_S8192x1024_d1
def Z (x y : FVec Ideal S8192x1024 .f32) (w : FVec Ideal S1024x1024 .f32) : FVec Ideal S8192x1024 .f32 :=
  addf (mulf (broadcastInDim S8192x1024 ![] bcast_S_S8192x1024 (constant S_ .f32 0x3F9837F0#32)) x) (Host.dotGeneral dot_S8192x1024_S1024x1024_S8192x1024_1_0_0_1_n_n none y w)

theorem HN_row (o) (i0 : Fin 8192) (i1 : Fin 512) : HN o (ix2 i0 i1) = hn (fun j => o (ix2 i0 j)) i1 := by
  pointwise [HN, hn, rsh]
theorem GA_row (o u g) (i0 : Fin 8192) (i1 : Fin 512) :
    GA o u g (ix2 i0 i1) = gateA (fun j => u (ix2 i0 j)) (fun j => o (ix2 i0 j)) (fun j => g (ix2 0 j)) i1 := by
  have e : GA o u g (ix2 i0 i1) = HN o (ix2 i0 i1) * g (ix2 0 i1) * (u (ix2 i0 i1) * Ideal.logistic (u (ix2 i0 i1))) := by
    pointwise [GA, Ideal.logistic]
  rw [e, HN_row]; rfl
theorem GB_row (o u g) (i0 : Fin 8192) (i1 : Fin 512) :
    GB o u g (ix2 i0 i1) = gateB (fun j => u (ix2 i0 j)) (fun j => o (ix2 i0 j)) (fun j => g (ix2 0 j)) i1 := by
  have e : GB o u g (ix2 i0 i1) = HN o (ix2 i0 i1) * g (ix2 0 i1) * Ideal.logistic (u (ix2 i0 i1)) := by
    pointwise [GB, Ideal.logistic]
  rw [e, HN_row]; rfl
theorem cat_row (a b : FVec Ideal S8192x512 .f32) (i0 : Fin 8192) (i1 : Fin 1024) :
    concatenate S8192x1024 1 [⟨S8192x512, a⟩, ⟨S8192x512, b⟩] concatenates_S8192x512_S8192x512_S8192x1024_d1 (ix2 i0 i1)
      = cat2 (fun j => a (ix2 i0 j)) (fun j => b (ix2 i0 j)) i1 := by
  pointwise [cat2]
theorem sl_row (n : ℕ) (u : FVec Ideal S8192x3712 .f32) (h) (hn : n + 512 ≤ 3712) (i0 : Fin 8192) (j : Fin 512) :
    extractStridedSlice S8192x512 ![0, n] u h (ix2 i0 j) = u (ix2 i0 ⟨n + j, by omega⟩) := by
  pointwise
theorem Z_row (x y w) (i0 : Fin 8192) (i1 : Fin 1024) : Z x y w (ix2 i0 i1)
    = Ideal.ofBits .f32 0x3F9837F0#32 * x (ix2 i0 i1) + ∑ k : Fin 1024, y (ix2 i0 k) * w (ix2 k i1) := by
  pointwise [Z]
end Cert.OutFwdRefIdeal.Rows

namespace Cert.OutFwdIdeal.Rows
open Cert.OutFwdIdeal Cert.OutFwdIdeal.Gen Cert.Heads

open Cert.OutFwdRefIdeal.Rows in
theorem algebraic : Cert.algebraic_OutFwdIdeal_OutFwdRefIdeal
    (hOutFwdIdeal := Cert.OutFwdIdeal.Gen.facts) (hOutFwdRefIdeal := Cert.OutFwdRefIdeal.Gen.facts) := by
  intro m g m' g' _ hagree
  refine ⟨fun c => (Gen.dats m 0 c).arrAt 8 (cfgs 0).N, fun c => (Gen.dats m 0 c).arrAt 9 (cfgs 0).N, ?_, ?_⟩
  · exact (θ_run defs _ _).mono (fun r h c => ⟨(h.1 c).1 8, (h.1 c).1 9, h.2 c⟩)
      (θ_run_and (Gen.run_main m g) (Gen.unchanged m g))
  · refine (θ_run Cert.OutFwdRefIdeal.defs _ _).mono (fun r h c => ?_) (Cert.OutFwdRefIdeal.Value.run m' g')
    obtain ⟨r0, r1, kept⟩ := h c
    obtain ⟨a0, a1, a2, a3, a4, a5, a6⟩ := hagree c
    have hM (i0 : Fin 8192) (i1 : Fin 1024) : Mix m' c (ix2 i0 i1) = rM m c i0 i1 := by
      rw [Mix, cat_row]
      simp only [GA_row, GB_row]
      simp only [sl_row 1536 _ _ (by decide), sl_row 3072 _ _ (by decide)]
      rw [a1, a2, a3, a4, a5]
      rfl
    refine ⟨r0.trans ?_, r1.trans ?_, kept⟩
    · refine Eq.trans ?_ (final8 m c).symm
      funext i; idx_vars i; exact hM i0 i1
    · refine Eq.trans ?_ (final9 m c).symm
      funext i; idx_vars i
      refine (Z_row _ (Mix m' c) _ i0 i1).trans ?_
      rw [a0, a6]; simp only [hM]; rfl

end Cert.OutFwdIdeal.Rows
end
end
-- ==== Proof.lean ====
/- Each claim cites the module that proves it: the frames are the generated ones (by hand for the optimiser's small tensors), a reference's
   frame is its run, and the equality of kernel and reference is proved by hand. -/
module

public import proofs.«01_k».proof.Defs
public import proofs.«01_k».proof.Proof.Gen.Hgrn2.Frame
public import proofs.«01_k».proof.Proof.Gen.Hgrn2Ideal.Frame
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnFwd.Frame
public import proofs.«01_k».proof.Proof.Gen.FfnFwdIdeal.Frame
public import proofs.«01_k».proof.Proof.Gen.FfnFwdRefIdeal.Run
public import proofs.«01_k».proof.Proof.Gen.WGate.Frame
public import proofs.«01_k».proof.Proof.Gen.WGateIdeal.Frame
public import proofs.«01_k».proof.Proof.Gen.WGateRefIdeal.Run
public import proofs.«01_k».proof.Proof.Gen.WGateIdeal.Value
public import proofs.«01_k».proof.Proof.Gen.WDown.Frame
public import proofs.«01_k».proof.Proof.Gen.WDownIdeal.Frame
public import proofs.«01_k».proof.Proof.Gen.WDownRefIdeal.Run
public import proofs.«01_k».proof.Proof.Gen.WDownIdeal.Value
public import proofs.«01_k».proof.Proof.Gen.WOut.Frame
public import proofs.«01_k».proof.Proof.Gen.WOutIdeal.Frame
public import proofs.«01_k».proof.Proof.Gen.WOutRefIdeal.Run
public import proofs.«01_k».proof.Proof.Gen.WOutIdeal.Value
public import proofs.«01_k».proof.Proof.Gen.WPle.Frame
public import proofs.«01_k».proof.Proof.Gen.WPleIdeal.Frame
public import proofs.«01_k».proof.Proof.Gen.WPleRefIdeal.Run
public import proofs.«01_k».proof.Proof.Gen.WPleIdeal.Value
public import proofs.«01_k».proof.Proof.Gen.WProj.Frame
public import proofs.«01_k».proof.Proof.Gen.WProjIdeal.Frame
public import proofs.«01_k».proof.Proof.Gen.WProjRefIdeal.Run
public import proofs.«01_k».proof.Proof.Gen.WProjIdeal.Value
public import proofs.«01_k».proof.Proof.Gen.InBwd.Frame
public import proofs.«01_k».proof.Proof.Gen.InBwdIdeal.Frame
public import proofs.«01_k».proof.Proof.Gen.InBwdRefIdeal.Run
public import proofs.«01_k».proof.Proof.Gen.InBwdIdeal.Value
public import proofs.«01_k».proof.Proof.Gen.WIn0.Frame
public import proofs.«01_k».proof.Proof.Gen.WIn0Ideal.Frame
public import proofs.«01_k».proof.Proof.Gen.WIn0RefIdeal.Run
public import proofs.«01_k».proof.Proof.Gen.WIn0Ideal.Value
public import proofs.«01_k».proof.Proof.Gen.WIn1.Frame
public import proofs.«01_k».proof.Proof.Gen.WIn1Ideal.Frame
public import proofs.«01_k».proof.Proof.Gen.WIn1RefIdeal.Run
public import proofs.«01_k».proof.Proof.Gen.WIn1Ideal.Value
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamDown.Frame
public import proofs.«01_k».proof.Proof.Gen.AdamDownIdeal.Frame
public import proofs.«01_k».proof.Proof.Gen.AdamDownRefIdeal.Run
public import proofs.«01_k».proof.Proof.Gen.AdamOut.Frame
public import proofs.«01_k».proof.Proof.Gen.AdamOutIdeal.Frame
public import proofs.«01_k».proof.Proof.Gen.AdamOutRefIdeal.Run
public import proofs.«01_k».proof.Proof.Gen.AdamProj.Frame
public import proofs.«01_k».proof.Proof.Gen.AdamProjIdeal.Frame
public import proofs.«01_k».proof.Proof.Gen.AdamProjRefIdeal.Run
public import proofs.«01_k».proof.Proof.Gen.AdamSmallRefIdeal.Run
public import proofs.«01_k».proof.Proof.Gen.InFwd.Frame
public import proofs.«01_k».proof.Proof.Gen.InFwdIdeal.Frame
public import proofs.«01_k».proof.Proof.Gen.InFwdRefIdeal.Run
public import proofs.«01_k».proof.Proof.Gen.OutFwd.Frame
public import proofs.«01_k».proof.Proof.Gen.OutFwdIdeal.Frame
public import proofs.«01_k».proof.Proof.Gen.OutFwdRefIdeal.Run
public import proofs.«01_k».proof.Proof.Gen.Ple.Frame
public import proofs.«01_k».proof.Proof.Gen.PleIdeal.Frame
public import proofs.«01_k».proof.Proof.Gen.OutBwd.Frame
public import proofs.«01_k».proof.Proof.Gen.OutBwdIdeal.Frame
public import proofs.«01_k».proof.Proof.Gen.HgFwd.Frame
public import proofs.«01_k».proof.Proof.Gen.HgFwdIdeal.Frame
public import proofs.«01_k».proof.Proof.Gen.MlFwd.Frame
public import proofs.«01_k».proof.Proof.Gen.MlFwdIdeal.Frame
public import proofs.«01_k».proof.Proof.FfnValue
public import proofs.«01_k».proof.Proof.FfnFwdValue
public import proofs.«01_k».proof.Proof.GradGate
public import proofs.«01_k».proof.Proof.GradDown
public import proofs.«01_k».proof.Proof.GradOut
public import proofs.«01_k».proof.Proof.GradPle
public import proofs.«01_k».proof.Proof.GradProj
public import proofs.«01_k».proof.Proof.InBwdValue
public import proofs.«01_k».proof.Proof.GradIn0
public import proofs.«01_k».proof.Proof.GradIn1
public import proofs.«01_k».proof.Proof.AdamInValue
public import proofs.«01_k».proof.Proof.AdamDownValue
public import proofs.«01_k».proof.Proof.AdamOutValue
public import proofs.«01_k».proof.Proof.AdamProjValue
public import proofs.«01_k».proof.Proof.SmallFrame
public import proofs.«01_k».proof.Proof.SmallIdealFrame
public import proofs.«01_k».proof.Proof.AdamSmallValue
public import proofs.«01_k».proof.Proof.InFwdValue
public import proofs.«01_k».proof.Proof.OutFwdValue
public import Idealize.ShloMosaic.Adequacy
public import Idealize.ShloMosaic.Init
public import Idealize.ShloMosaic.Lib.Quiescent

@[expose] public section

noncomputable section

namespace Cert.Proof

open Idealize.ShloMosaic Idealize.SL.Sem

theorem ffn_ref_frame : quiescent_FfnRefIdeal (hFfnRefIdeal := Cert.FfnRefIdeal.Gen.facts) := fun m ρ _ =>
  (θ_run Cert.FfnRefIdeal.defs _ _).mono (fun _ h => ⟨fun c => (h c).2.2.2.2.2, sem_eq_zero_of_no_sems (by decide) _⟩)
    (Cert.FfnRefIdeal.Value.run (F := Ideal) m ρ)

theorem ffnFwd_ref_frame : quiescent_FfnFwdRefIdeal (hFfnFwdRefIdeal := Cert.FfnFwdRefIdeal.Gen.facts) := fun m ρ _ =>
  (θ_run Cert.FfnFwdRefIdeal.defs _ _).mono (fun _ h => ⟨fun c => (h c).2.2.2.2.2.2, sem_eq_zero_of_no_sems (by decide) _⟩)
    (Cert.FfnFwdRefIdeal.Value.run (F := Ideal) m ρ)

theorem wGate_ref_frame : quiescent_WGateRefIdeal (hWGateRefIdeal := Cert.WGateRefIdeal.Gen.facts) := fun m ρ _ =>
  (θ_run Cert.WGateRefIdeal.defs _ _).mono (fun _ h => ⟨fun c => (h c).2, sem_eq_zero_of_no_sems (by decide) _⟩)
    (Cert.WGateRefIdeal.Value.run (F := Ideal) m ρ)

theorem wDown_ref_frame : quiescent_WDownRefIdeal (hWDownRefIdeal := Cert.WDownRefIdeal.Gen.facts) := fun m ρ _ =>
  (θ_run Cert.WDownRefIdeal.defs _ _).mono (fun _ h => ⟨fun c => (h c).2, sem_eq_zero_of_no_sems (by decide) _⟩)
    (Cert.WDownRefIdeal.Value.run (F := Ideal) m ρ)

theorem wOut_ref_frame : quiescent_WOutRefIdeal (hWOutRefIdeal := Cert.WOutRefIdeal.Gen.facts) := fun m ρ _ =>
  (θ_run Cert.WOutRefIdeal.defs _ _).mono (fun _ h => ⟨fun c => (h c).2, sem_eq_zero_of_no_sems (by decide) _⟩)
    (Cert.WOutRefIdeal.Value.run (F := Ideal) m ρ)

theorem wPle_ref_frame : quiescent_WPleRefIdeal (hWPleRefIdeal := Cert.WPleRefIdeal.Gen.facts) := fun m ρ _ =>
  (θ_run Cert.WPleRefIdeal.defs _ _).mono (fun _ h => ⟨fun c => (h c).2, sem_eq_zero_of_no_sems (by decide) _⟩)
    (Cert.WPleRefIdeal.Value.run (F := Ideal) m ρ)

theorem wProj_ref_frame : quiescent_WProjRefIdeal (hWProjRefIdeal := Cert.WProjRefIdeal.Gen.facts) := fun m ρ _ =>
  (θ_run Cert.WProjRefIdeal.defs _ _).mono (fun _ h => ⟨fun c => (h c).2, sem_eq_zero_of_no_sems (by decide) _⟩)
    (Cert.WProjRefIdeal.Value.run (F := Ideal) m ρ)

theorem inBwd_ref_frame : quiescent_InBwdRefIdeal (hInBwdRefIdeal := Cert.InBwdRefIdeal.Gen.facts) := fun m ρ _ =>
  (θ_run Cert.InBwdRefIdeal.defs _ _).mono (fun _ h => ⟨fun c => (h c).2, sem_eq_zero_of_no_sems (by decide) _⟩)
    (Cert.InBwdRefIdeal.Value.run (F := Ideal) m ρ)

theorem wIn0_ref_frame : quiescent_WIn0RefIdeal (hWIn0RefIdeal := Cert.WIn0RefIdeal.Gen.facts) := fun m ρ _ =>
  (θ_run Cert.WIn0RefIdeal.defs _ _).mono (fun _ h => ⟨fun c => (h c).2.2, sem_eq_zero_of_no_sems (by decide) _⟩)
    (Cert.WIn0RefIdeal.Value.run (F := Ideal) m ρ)

theorem wIn1_ref_frame : quiescent_WIn1RefIdeal (hWIn1RefIdeal := Cert.WIn1RefIdeal.Gen.facts) := fun m ρ _ =>
  (θ_run Cert.WIn1RefIdeal.defs _ _).mono (fun _ h => ⟨fun c => (h c).2.2, sem_eq_zero_of_no_sems (by decide) _⟩)
    (Cert.WIn1RefIdeal.Value.run (F := Ideal) m ρ)

theorem adamIn_ref_frame : quiescent_AdamInRefIdeal (hAdamInRefIdeal := Cert.AdamInRefIdeal.Gen.facts) := fun m ρ _ =>
  (θ_run Cert.AdamInRefIdeal.defs _ _).mono (fun _ h => ⟨fun c => (h c).2.2.2.2, sem_eq_zero_of_no_sems (by decide) _⟩)
    (Cert.AdamInRefIdeal.Value.run (F := Ideal) m ρ)

theorem adamDown_ref_frame : quiescent_AdamDownRefIdeal (hAdamDownRefIdeal := Cert.AdamDownRefIdeal.Gen.facts) := fun m ρ _ =>
  (θ_run Cert.AdamDownRefIdeal.defs _ _).mono (fun _ h => ⟨fun c => (h c).2.2.2.2, sem_eq_zero_of_no_sems (by decide) _⟩)
    (Cert.AdamDownRefIdeal.Value.run (F := Ideal) m ρ)

theorem adamOut_ref_frame : quiescent_AdamOutRefIdeal (hAdamOutRefIdeal := Cert.AdamOutRefIdeal.Gen.facts) := fun m ρ _ =>
  (θ_run Cert.AdamOutRefIdeal.defs _ _).mono (fun _ h => ⟨fun c => (h c).2.2.2.2, sem_eq_zero_of_no_sems (by decide) _⟩)
    (Cert.AdamOutRefIdeal.Value.run (F := Ideal) m ρ)

theorem adamProj_ref_frame : quiescent_AdamProjRefIdeal (hAdamProjRefIdeal := Cert.AdamProjRefIdeal.Gen.facts) := fun m ρ _ =>
  (θ_run Cert.AdamProjRefIdeal.defs _ _).mono (fun _ h => ⟨fun c => (h c).2.2.2.2, sem_eq_zero_of_no_sems (by decide) _⟩)
    (Cert.AdamProjRefIdeal.Value.run (F := Ideal) m ρ)

theorem adamSmall_ref_frame : quiescent_AdamSmallRefIdeal (hAdamSmallRefIdeal := Cert.AdamSmallRefIdeal.Gen.facts) := fun m ρ _ =>
  (θ_run Cert.AdamSmallRefIdeal.defs _ _).mono (fun _ h => ⟨fun c => (h c).2.2.2.2.2.2.2.2.2.2.2.2.2.2.2.2.2.2.2.2.2.2.2.2.2.2.2.2.2.2.2.2.2.2.2.2.2.2.2.2.2.2.2.2.2, sem_eq_zero_of_no_sems (by decide) _⟩)
    (Cert.AdamSmallRefIdeal.Value.run (F := Ideal) m ρ)

theorem inFwd_ref_frame : quiescent_InFwdRefIdeal (hInFwdRefIdeal := Cert.InFwdRefIdeal.Gen.facts) := fun m ρ _ =>
  (θ_run Cert.InFwdRefIdeal.defs _ _).mono (fun _ h => ⟨fun c => (h c).2.2.2, sem_eq_zero_of_no_sems (by decide) _⟩)
    (Cert.InFwdRefIdeal.Value.run (F := Ideal) m ρ)

theorem outFwd_ref_frame : quiescent_OutFwdRefIdeal (hOutFwdRefIdeal := Cert.OutFwdRefIdeal.Gen.facts) := fun m ρ _ =>
  (θ_run Cert.OutFwdRefIdeal.defs _ _).mono (fun _ h => ⟨fun c => (h c).2.2, sem_eq_zero_of_no_sems (by decide) _⟩)
    (Cert.OutFwdRefIdeal.Value.run (F := Ideal) m ρ)

instance ffn_finite_facts : Cert.Pre_ffn_finite.Facts :=
  ⟨by decide, by decide, by decide, by decide⟩

theorem claim : Cert.Claim :=
  ⟨
    Cert.Hgrn2.Gen.facts, Cert.Hgrn2Ideal.Gen.facts, Cert.Ffn.Gen.facts, Cert.FfnIdeal.Gen.facts, Cert.FfnRefIdeal.Gen.facts,
    Cert.FfnFwd.Gen.facts, Cert.FfnFwdIdeal.Gen.facts, Cert.FfnFwdRefIdeal.Gen.facts, Cert.WGate.Gen.facts,
    Cert.WGateIdeal.Gen.facts, Cert.WGateRefIdeal.Gen.facts, Cert.WDown.Gen.facts, Cert.WDownIdeal.Gen.facts,
    Cert.WDownRefIdeal.Gen.facts, Cert.WOut.Gen.facts, Cert.WOutIdeal.Gen.facts, Cert.WOutRefIdeal.Gen.facts,
    Cert.WPle.Gen.facts, Cert.WPleIdeal.Gen.facts, Cert.WPleRefIdeal.Gen.facts, Cert.WProj.Gen.facts,
    Cert.WProjIdeal.Gen.facts, Cert.WProjRefIdeal.Gen.facts, Cert.InBwd.Gen.facts, Cert.InBwdIdeal.Gen.facts,
    Cert.InBwdRefIdeal.Gen.facts, Cert.WIn0.Gen.facts, Cert.WIn0Ideal.Gen.facts, Cert.WIn0RefIdeal.Gen.facts,
    Cert.WIn1.Gen.facts, Cert.WIn1Ideal.Gen.facts, Cert.WIn1RefIdeal.Gen.facts, Cert.AdamIn.Gen.facts,
    Cert.AdamInIdeal.Gen.facts, Cert.AdamInRefIdeal.Gen.facts, Cert.AdamDown.Gen.facts, Cert.AdamDownIdeal.Gen.facts,
    Cert.AdamDownRefIdeal.Gen.facts, Cert.AdamOut.Gen.facts, Cert.AdamOutIdeal.Gen.facts, Cert.AdamOutRefIdeal.Gen.facts,
    Cert.AdamProj.Gen.facts, Cert.AdamProjIdeal.Gen.facts, Cert.AdamProjRefIdeal.Gen.facts, Cert.AdamSmall.Gen.facts,
    Cert.AdamSmallIdeal.Gen.facts, Cert.AdamSmallRefIdeal.Gen.facts, Cert.InFwd.Gen.facts, Cert.InFwdIdeal.Gen.facts,
    Cert.InFwdRefIdeal.Gen.facts, Cert.OutFwd.Gen.facts, Cert.OutFwdIdeal.Gen.facts, Cert.OutFwdRefIdeal.Gen.facts,
    Cert.Ple.Gen.facts, Cert.PleIdeal.Gen.facts, Cert.OutBwd.Gen.facts, Cert.OutBwdIdeal.Gen.facts, Cert.HgFwd.Gen.facts,
    Cert.HgFwdIdeal.Gen.facts, Cert.MlFwd.Gen.facts, Cert.MlFwdIdeal.Gen.facts, ffn_finite_facts,
    fun m ρ _ => Cert.Hgrn2.Gen.frame m ρ, fun m ρ _ => Cert.Hgrn2Ideal.Gen.frame m ρ, fun m ρ _ => Cert.Ffn.Gen.frame m ρ,
    fun m ρ _ => Cert.FfnIdeal.Gen.frame m ρ, fun m ρ _ => Cert.FfnIdeal.Gen.frame m ρ, ffn_ref_frame,
    fun m ρ _ => ffn_ref_frame m ρ trivial, fun m ρ _ => Cert.FfnFwd.Gen.frame m ρ,
    fun m ρ _ => Cert.FfnFwdIdeal.Gen.frame m ρ, ffnFwd_ref_frame, fun m ρ _ => Cert.WGate.Gen.frame m ρ,
    fun m ρ _ => Cert.WGateIdeal.Gen.frame m ρ, wGate_ref_frame, fun m ρ _ => Cert.WDown.Gen.frame m ρ,
    fun m ρ _ => Cert.WDownIdeal.Gen.frame m ρ, wDown_ref_frame, fun m ρ _ => Cert.WOut.Gen.frame m ρ,
    fun m ρ _ => Cert.WOutIdeal.Gen.frame m ρ, wOut_ref_frame, fun m ρ _ => Cert.WPle.Gen.frame m ρ,
    fun m ρ _ => Cert.WPleIdeal.Gen.frame m ρ, wPle_ref_frame, fun m ρ _ => Cert.WProj.Gen.frame m ρ,
    fun m ρ _ => Cert.WProjIdeal.Gen.frame m ρ, wProj_ref_frame, fun m ρ _ => Cert.InBwd.Gen.frame m ρ,
    fun m ρ _ => Cert.InBwdIdeal.Gen.frame m ρ, inBwd_ref_frame, fun m ρ _ => Cert.WIn0.Gen.frame m ρ,
    fun m ρ _ => Cert.WIn0Ideal.Gen.frame m ρ, wIn0_ref_frame, fun m ρ _ => Cert.WIn1.Gen.frame m ρ,
    fun m ρ _ => Cert.WIn1Ideal.Gen.frame m ρ, wIn1_ref_frame, fun m ρ _ => Cert.AdamIn.Gen.frame m ρ,
    fun m ρ _ => Cert.AdamInIdeal.Gen.frame m ρ, adamIn_ref_frame, fun m ρ _ => Cert.AdamDown.Gen.frame m ρ,
    fun m ρ _ => Cert.AdamDownIdeal.Gen.frame m ρ, adamDown_ref_frame, fun m ρ _ => Cert.AdamOut.Gen.frame m ρ,
    fun m ρ _ => Cert.AdamOutIdeal.Gen.frame m ρ, adamOut_ref_frame, fun m ρ _ => Cert.AdamProj.Gen.frame m ρ,
    fun m ρ _ => Cert.AdamProjIdeal.Gen.frame m ρ, adamProj_ref_frame, fun m ρ _ => Cert.AdamSmall.Whole.frame m ρ,
    fun m ρ _ => Cert.AdamSmallIdeal.Whole.frame m ρ, adamSmall_ref_frame, fun m ρ _ => Cert.InFwd.Gen.frame m ρ,
    fun m ρ _ => Cert.InFwdIdeal.Gen.frame m ρ, inFwd_ref_frame, fun m ρ _ => Cert.OutFwd.Gen.frame m ρ,
    fun m ρ _ => Cert.OutFwdIdeal.Gen.frame m ρ, outFwd_ref_frame, fun m ρ _ => Cert.Ple.Gen.frame m ρ,
    fun m ρ _ => Cert.PleIdeal.Gen.frame m ρ, fun m ρ _ => Cert.OutBwd.Gen.frame m ρ,
    fun m ρ _ => Cert.OutBwdIdeal.Gen.frame m ρ, fun m ρ _ => Cert.HgFwd.Gen.frame m ρ,
    fun m ρ _ => Cert.HgFwdIdeal.Gen.frame m ρ, fun m ρ _ => Cert.MlFwd.Gen.frame m ρ,
    fun m ρ _ => Cert.MlFwdIdeal.Gen.frame m ρ, trivial, trivial, Cert.FfnIdeal.Blocks.algebraic, trivial,
    Cert.FfnFwdIdeal.Rows.algebraic, trivial, Cert.WGateIdeal.Product.algebraic, trivial, Cert.WDownIdeal.Product.algebraic,
    trivial, Cert.WOutIdeal.Product.algebraic, trivial, Cert.WPleIdeal.Product.algebraic, trivial,
    Cert.WProjIdeal.Product.algebraic, trivial, Cert.InBwdIdeal.Product.algebraic, trivial, Cert.WIn0Ideal.Product.algebraic,
    trivial, Cert.WIn1Ideal.Product.algebraic, trivial, Cert.AdamInIdeal.Update.algebraic, trivial,
    Cert.AdamDownIdeal.Update.algebraic, trivial, Cert.AdamOutIdeal.Update.algebraic, trivial,
    Cert.AdamProjIdeal.Update.algebraic, trivial, Cert.AdamSmallIdeal.Whole.algebraic, trivial,
    Cert.InFwdIdeal.Conv.algebraic, trivial, Cert.OutFwdIdeal.Rows.algebraic, trivial, trivial, trivial, trivial⟩

end Cert.Proof

end
